-- ==== Defs.lean ====
def Pre_Mla [hPre_finite : Cert.Pre_finite.Facts] (m : (ℓ : Loc Cert.Mla.nD Cert.Mla.τ Cert.Mla.sig) → Buf (Elt Bits) ℓ) : Prop :=
  ∀ c : Dev Cert.Mla.nD,
    (Cert.Pre_finite.fn (F := Bits) (m ((c.tc : Thread Cert.Mla.nD Cert.Mla.τ).loc Cert.Mla.main_arg0)) (m ((c.tc : Thread Cert.Mla.nD Cert.Mla.τ).loc Cert.Mla.main_arg1)) (m ((c.tc : Thread Cert.Mla.nD Cert.Mla.τ).loc Cert.Mla.main_arg2)) (m ((c.tc : Thread Cert.Mla.nD Cert.Mla.τ).loc Cert.Mla.main_arg3))) = (fun _ => 1#1)

def Pre_Mla_none (m : (ℓ : Loc Cert.Mla.nD Cert.Mla.τ Cert.Mla.sig) → Buf (Elt Bits) ℓ) : Prop :=
  True

def Pre_MlaIdeal [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaIdeal_none (m : (ℓ : Loc Cert.MlaIdeal.nD Cert.MlaIdeal.τ Cert.MlaIdeal.sig) → Buf (Elt Ideal) ℓ) : Prop :=
  True

def Pre_MlaRefIdeal [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastRefIdeal (m : (ℓ : Loc Cert.MlpLastRefIdeal.nD Cert.MlpLastRefIdeal.τ Cert.MlpLastRefIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstRefIdeal (m : (ℓ : Loc Cert.MlpFirstRefIdeal.nD Cert.MlpFirstRefIdeal.τ Cert.MlpFirstRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_MlpCtx (m : (ℓ : Loc Cert.MlpCtx.nD Cert.MlpCtx.τ Cert.MlpCtx.sig) → Buf (Elt Bits) ℓ) : Prop :=
  True

def Pre_MlpCtxIdeal (m : (ℓ : Loc Cert.MlpCtxIdeal.nD Cert.MlpCtxIdeal.τ Cert.MlpCtxIdeal.sig) → Buf (Elt Ideal) ℓ) : Prop :=
  True

def Pre_MlpCtxRefIdeal (m : (ℓ : Loc Cert.MlpCtxRefIdeal.nD Cert.MlpCtxRefIdeal.τ Cert.MlpCtxRefIdeal.sig) → Buf (Elt Ideal) ℓ) : Prop :=
  True

def Pre_OutCtx (m : (ℓ : Loc Cert.OutCtx.nD Cert.OutCtx.τ Cert.OutCtx.sig) → Buf (Elt Bits) ℓ) : Prop :=
  True

def Pre_OutCtxIdeal (m : (ℓ : Loc Cert.OutCtxIdeal.nD Cert.OutCtxIdeal.τ Cert.OutCtxIdeal.sig) → Buf (Elt Ideal) ℓ) : Prop :=
  True

def Pre_OutCtxRefIdeal (m : (ℓ : Loc Cert.OutCtxRefIdeal.nD Cert.OutCtxRefIdeal.τ Cert.OutCtxRefIdeal.sig) → Buf (Elt Ideal) ℓ) : Prop :=
  True

def Pre_OddCtx (m : (ℓ : Loc Cert.OddCtx.nD Cert.OddCtx.τ Cert.OddCtx.sig) → Buf (Elt Bits) ℓ) : Prop :=
  True

def Pre_OddCtxIdeal (m : (ℓ : Loc Cert.OddCtxIdeal.nD Cert.OddCtxIdeal.τ Cert.OddCtxIdeal.sig) → Buf (Elt Ideal) ℓ) : Prop :=
  True

def Pre_OddCtxRefIdeal (m : (ℓ : Loc Cert.OddCtxRefIdeal.nD Cert.OddCtxRefIdeal.τ Cert.OddCtxRefIdeal.sig) → Buf (Elt Ideal) ℓ) : Prop :=
  True

def Pre_EvenCtx (m : (ℓ : Loc Cert.EvenCtx.nD Cert.EvenCtx.τ Cert.EvenCtx.sig) → Buf (Elt Bits) ℓ) : Prop :=
  True

def Pre_EvenCtxIdeal (m : (ℓ : Loc Cert.EvenCtxIdeal.nD Cert.EvenCtxIdeal.τ Cert.EvenCtxIdeal.sig) → Buf (Elt Ideal) ℓ) : Prop :=
  True

def Pre_EvenCtxRefIdeal (m : (ℓ : Loc Cert.EvenCtxRefIdeal.nD Cert.EvenCtxRefIdeal.τ Cert.EvenCtxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_OddCtxLast (m : (ℓ : Loc Cert.OddCtxLast.nD Cert.OddCtxLast.τ Cert.OddCtxLast.sig) → Buf (Elt Bits) ℓ) : Prop :=
  True

def Pre_OddCtxLastIdeal (m : (ℓ : Loc Cert.OddCtxLastIdeal.nD Cert.OddCtxLastIdeal.τ Cert.OddCtxLastIdeal.sig) → Buf (Elt Ideal) ℓ) : Prop :=
  True

def Pre_OddCtxLastRefIdeal (m : (ℓ : Loc Cert.OddCtxLastRefIdeal.nD Cert.OddCtxLastRefIdeal.τ Cert.OddCtxLastRefIdeal.sig) → Buf (Elt Ideal) ℓ) : Prop :=
  True

def Pre_CtxAttn [hPre_finite_ctx : Cert.Pre_finite_ctx.Facts] (m : (ℓ : Loc Cert.CtxAttn.nD Cert.CtxAttn.τ Cert.CtxAttn.sig) → Buf (Elt Bits) ℓ) : Prop :=
  ∀ c : Dev Cert.CtxAttn.nD,
    (Cert.Pre_finite_ctx.fn (F := Bits) (m ((c.tc : Thread Cert.CtxAttn.nD Cert.CtxAttn.τ).loc Cert.CtxAttn.main_arg0)) (m ((c.tc : Thread Cert.CtxAttn.nD Cert.CtxAttn.τ).loc Cert.CtxAttn.main_arg1))) = (fun _ => 1#1)

def Pre_CtxAttn_none (m : (ℓ : Loc Cert.CtxAttn.nD Cert.CtxAttn.τ Cert.CtxAttn.sig) → Buf (Elt Bits) ℓ) : Prop :=
  True

def Pre_CtxAttnIdeal [hPre_finite_ctx : Cert.Pre_finite_ctx.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_finite_ctx.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1))) = (fun _ => 1#1)

def Pre_CtxAttnIdeal_none (m : (ℓ : Loc Cert.CtxAttnIdeal.nD Cert.CtxAttnIdeal.τ Cert.CtxAttnIdeal.sig) → Buf (Elt Ideal) ℓ) : Prop :=
  True

def Pre_CtxAttnRefIdeal [hPre_finite_ctx : Cert.Pre_finite_ctx.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_finite_ctx.fn (F := Ideal) (m ((c.tc : Thread Cert.CtxAttnRefIdeal.nD Cert.CtxAttnRefIdeal.τ).loc Cert.CtxAttnRefIdeal.main_arg0)) (m ((c.tc : Thread Cert.CtxAttnRefIdeal.nD Cert.CtxAttnRefIdeal.τ).loc Cert.CtxAttnRefIdeal.main_arg1))) = (fun _ => 1#1)

def quiescent_Mla [hMla : Cert.Mla.Facts] [hPre_finite : Cert.Pre_finite.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_Mla_pre_none [hMla : Cert.Mla.Facts] : Prop :=
  ∀ (m : (ℓ : Loc Cert.Mla.nD Cert.Mla.τ Cert.Mla.sig) → Buf (Elt Bits) ℓ) (g : Dev Cert.Mla.nD → PrngReg), Pre_Mla_none m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_none [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_none m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4)
      ∧ r.2.mem ((c.tc : Thread Cert.MlpLast.nD Cert.MlpLast.τ).loc Cert.MlpLast.main_arg5) = m ((c.tc : Thread Cert.MlpLast.nD Cert.MlpLast.τ).loc Cert.MlpLast.main_arg5))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4)
      ∧ r.2.mem ((c.tc : Thread Cert.MlpLastRefIdeal.nD Cert.MlpLastRefIdeal.τ).loc Cert.MlpLastRefIdeal.main_arg5) = m ((c.tc : Thread Cert.MlpLastRefIdeal.nD Cert.MlpLastRefIdeal.τ).loc Cert.MlpLastRefIdeal.main_arg5))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstRefIdeal [hMlpFirstRefIdeal : Cert.MlpFirstRefIdeal.Facts] : Prop :=
  ∀ (m : (ℓ : Loc Cert.MlpFirstRefIdeal.nD Cert.MlpFirstRefIdeal.τ Cert.MlpFirstRefIdeal.sig) → Buf (Elt Ideal) ℓ) (g : Dev Cert.MlpFirstRefIdeal.nD → PrngReg), Pre_MlpFirstRefIdeal m →
    θ_run (Cert.MlpFirstRefIdeal.defs (F := Ideal)) (onTc (τ := Cert.MlpFirstRefIdeal.τ) (Cert.MlpFirstRefIdeal.main (F := Ideal))) ⟨m, fun _ => 0, g⟩ (fun r => (∀ c : Dev Cert.MlpFirstRefIdeal.nD,
      r.2.mem ((c.tc : Thread Cert.MlpFirstRefIdeal.nD Cert.MlpFirstRefIdeal.τ).loc Cert.MlpFirstRefIdeal.main_arg0) = m ((c.tc : Thread Cert.MlpFirstRefIdeal.nD Cert.MlpFirstRefIdeal.τ).loc Cert.MlpFirstRefIdeal.main_arg0)
      ∧ r.2.mem ((c.tc : Thread Cert.MlpFirstRefIdeal.nD Cert.MlpFirstRefIdeal.τ).loc Cert.MlpFirstRefIdeal.main_arg1) = m ((c.tc : Thread Cert.MlpFirstRefIdeal.nD Cert.MlpFirstRefIdeal.τ).loc Cert.MlpFirstRefIdeal.main_arg1)
      ∧ r.2.mem ((c.tc : Thread Cert.MlpFirstRefIdeal.nD Cert.MlpFirstRefIdeal.τ).loc Cert.MlpFirstRefIdeal.main_arg2) = m ((c.tc : Thread Cert.MlpFirstRefIdeal.nD Cert.MlpFirstRefIdeal.τ).loc Cert.MlpFirstRefIdeal.main_arg2)
      ∧ r.2.mem ((c.tc : Thread Cert.MlpFirstRefIdeal.nD Cert.MlpFirstRefIdeal.τ).loc Cert.MlpFirstRefIdeal.main_arg3) = m ((c.tc : Thread Cert.MlpFirstRefIdeal.nD Cert.MlpFirstRefIdeal.τ).loc Cert.MlpFirstRefIdeal.main_arg3)
      ∧ r.2.mem ((c.tc : Thread Cert.MlpFirstRefIdeal.nD Cert.MlpFirstRefIdeal.τ).loc Cert.MlpFirstRefIdeal.main_arg4) = m ((c.tc : Thread Cert.MlpFirstRefIdeal.nD Cert.MlpFirstRefIdeal.τ).loc Cert.MlpFirstRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2)
      ∧ r.2.mem ((c.tc : Thread Cert.OddProj.nD Cert.OddProj.τ).loc Cert.OddProj.main_arg3) = m ((c.tc : Thread Cert.OddProj.nD Cert.OddProj.τ).loc Cert.OddProj.main_arg3))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
      ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2)
      ∧ r.2.mem ((c.tc : Thread Cert.OddProjRefIdeal.nD Cert.OddProjRefIdeal.τ).loc Cert.OddProjRefIdeal.main_arg3) = m ((c.tc : Thread Cert.OddProjRefIdeal.nD Cert.OddProjRefIdeal.τ).loc Cert.OddProjRefIdeal.main_arg3))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4)
      ∧ r.2.mem ((c.tc : Thread Cert.EvenProj.nD Cert.EvenProj.τ).loc Cert.EvenProj.main_arg5) = m ((c.tc : Thread Cert.EvenProj.nD Cert.EvenProj.τ).loc Cert.EvenProj.main_arg5))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
      ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4)
      ∧ r.2.mem ((c.tc : Thread Cert.EvenProjRefIdeal.nD Cert.EvenProjRefIdeal.τ).loc Cert.EvenProjRefIdeal.main_arg5) = m ((c.tc : Thread Cert.EvenProjRefIdeal.nD Cert.EvenProjRefIdeal.τ).loc Cert.EvenProjRefIdeal.main_arg5))
      ∧ r.2.sem = fun _ => 0)

def quiescent_MlpCtx [hMlpCtx : Cert.MlpCtx.Facts] : Prop :=
  ∀ (m : (ℓ : Loc Cert.MlpCtx.nD Cert.MlpCtx.τ Cert.MlpCtx.sig) → Buf (Elt Bits) ℓ) (g : Dev Cert.MlpCtx.nD → PrngReg), Pre_MlpCtx m →
    θ_run (Cert.MlpCtx.defs (F := Bits)) (onTc (τ := Cert.MlpCtx.τ) (Cert.MlpCtx.main (F := Bits))) ⟨m, fun _ => 0, g⟩ (fun r => (∀ c : Dev Cert.MlpCtx.nD,
      r.2.mem ((c.tc : Thread Cert.MlpCtx.nD Cert.MlpCtx.τ).loc Cert.MlpCtx.main_arg0) = m ((c.tc : Thread Cert.MlpCtx.nD Cert.MlpCtx.τ).loc Cert.MlpCtx.main_arg0)
      ∧ r.2.mem ((c.tc : Thread Cert.MlpCtx.nD Cert.MlpCtx.τ).loc Cert.MlpCtx.main_arg1) = m ((c.tc : Thread Cert.MlpCtx.nD Cert.MlpCtx.τ).loc Cert.MlpCtx.main_arg1)
      ∧ r.2.mem ((c.tc : Thread Cert.MlpCtx.nD Cert.MlpCtx.τ).loc Cert.MlpCtx.main_arg2) = m ((c.tc : Thread Cert.MlpCtx.nD Cert.MlpCtx.τ).loc Cert.MlpCtx.main_arg2)
      ∧ r.2.mem ((c.tc : Thread Cert.MlpCtx.nD Cert.MlpCtx.τ).loc Cert.MlpCtx.main_arg3) = m ((c.tc : Thread Cert.MlpCtx.nD Cert.MlpCtx.τ).loc Cert.MlpCtx.main_arg3)
      ∧ r.2.mem ((c.tc : Thread Cert.MlpCtx.nD Cert.MlpCtx.τ).loc Cert.MlpCtx.main_arg4) = m ((c.tc : Thread Cert.MlpCtx.nD Cert.MlpCtx.τ).loc Cert.MlpCtx.main_arg4))
      ∧ r.2.sem = fun _ => 0)

def quiescent_MlpCtxIdeal [hMlpCtxIdeal : Cert.MlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg), Pre_MlpCtxIdeal m →
    θ_run (Cert.MlpCtxIdeal.defs (F := Ideal)) (onTc (τ := Cert.MlpCtxIdeal.τ) (Cert.MlpCtxIdeal.main (F := Ideal))) ⟨m, fun _ => 0, g⟩ (fun r => (∀ c : Dev Cert.MlpCtxIdeal.nD,
      r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
      ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
      ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
      ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
      ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ r.2.sem = fun _ => 0)

def quiescent_MlpCtxRefIdeal [hMlpCtxRefIdeal : Cert.MlpCtxRefIdeal.Facts] : Prop :=
  ∀ (m : (ℓ : Loc Cert.MlpCtxRefIdeal.nD Cert.MlpCtxRefIdeal.τ Cert.MlpCtxRefIdeal.sig) → Buf (Elt Ideal) ℓ) (g : Dev Cert.MlpCtxRefIdeal.nD → PrngReg), Pre_MlpCtxRefIdeal m →
    θ_run (Cert.MlpCtxRefIdeal.defs (F := Ideal)) (onTc (τ := Cert.MlpCtxRefIdeal.τ) (Cert.MlpCtxRefIdeal.main (F := Ideal))) ⟨m, fun _ => 0, g⟩ (fun r => (∀ c : Dev Cert.MlpCtxRefIdeal.nD,
      r.2.mem ((c.tc : Thread Cert.MlpCtxRefIdeal.nD Cert.MlpCtxRefIdeal.τ).loc Cert.MlpCtxRefIdeal.main_arg0) = m ((c.tc : Thread Cert.MlpCtxRefIdeal.nD Cert.MlpCtxRefIdeal.τ).loc Cert.MlpCtxRefIdeal.main_arg0)
      ∧ r.2.mem ((c.tc : Thread Cert.MlpCtxRefIdeal.nD Cert.MlpCtxRefIdeal.τ).loc Cert.MlpCtxRefIdeal.main_arg1) = m ((c.tc : Thread Cert.MlpCtxRefIdeal.nD Cert.MlpCtxRefIdeal.τ).loc Cert.MlpCtxRefIdeal.main_arg1)
      ∧ r.2.mem ((c.tc : Thread Cert.MlpCtxRefIdeal.nD Cert.MlpCtxRefIdeal.τ).loc Cert.MlpCtxRefIdeal.main_arg2) = m ((c.tc : Thread Cert.MlpCtxRefIdeal.nD Cert.MlpCtxRefIdeal.τ).loc Cert.MlpCtxRefIdeal.main_arg2)
      ∧ r.2.mem ((c.tc : Thread Cert.MlpCtxRefIdeal.nD Cert.MlpCtxRefIdeal.τ).loc Cert.MlpCtxRefIdeal.main_arg3) = m ((c.tc : Thread Cert.MlpCtxRefIdeal.nD Cert.MlpCtxRefIdeal.τ).loc Cert.MlpCtxRefIdeal.main_arg3)
      ∧ r.2.mem ((c.tc : Thread Cert.MlpCtxRefIdeal.nD Cert.MlpCtxRefIdeal.τ).loc Cert.MlpCtxRefIdeal.main_arg4) = m ((c.tc : Thread Cert.MlpCtxRefIdeal.nD Cert.MlpCtxRefIdeal.τ).loc Cert.MlpCtxRefIdeal.main_arg4))
      ∧ r.2.sem = fun _ => 0)

def quiescent_OutCtx [hOutCtx : Cert.OutCtx.Facts] : Prop :=
  ∀ (m : (ℓ : Loc Cert.OutCtx.nD Cert.OutCtx.τ Cert.OutCtx.sig) → Buf (Elt Bits) ℓ) (g : Dev Cert.OutCtx.nD → PrngReg), Pre_OutCtx m →
    θ_run (Cert.OutCtx.defs (F := Bits)) (onTc (τ := Cert.OutCtx.τ) (Cert.OutCtx.main (F := Bits))) ⟨m, fun _ => 0, g⟩ (fun r => (∀ c : Dev Cert.OutCtx.nD,
      r.2.mem ((c.tc : Thread Cert.OutCtx.nD Cert.OutCtx.τ).loc Cert.OutCtx.main_arg0) = m ((c.tc : Thread Cert.OutCtx.nD Cert.OutCtx.τ).loc Cert.OutCtx.main_arg0)
      ∧ r.2.mem ((c.tc : Thread Cert.OutCtx.nD Cert.OutCtx.τ).loc Cert.OutCtx.main_arg1) = m ((c.tc : Thread Cert.OutCtx.nD Cert.OutCtx.τ).loc Cert.OutCtx.main_arg1)
      ∧ r.2.mem ((c.tc : Thread Cert.OutCtx.nD Cert.OutCtx.τ).loc Cert.OutCtx.main_arg2) = m ((c.tc : Thread Cert.OutCtx.nD Cert.OutCtx.τ).loc Cert.OutCtx.main_arg2)
      ∧ r.2.mem ((c.tc : Thread Cert.OutCtx.nD Cert.OutCtx.τ).loc Cert.OutCtx.main_arg3) = m ((c.tc : Thread Cert.OutCtx.nD Cert.OutCtx.τ).loc Cert.OutCtx.main_arg3)
      ∧ r.2.mem ((c.tc : Thread Cert.OutCtx.nD Cert.OutCtx.τ).loc Cert.OutCtx.main_arg4) = m ((c.tc : Thread Cert.OutCtx.nD Cert.OutCtx.τ).loc Cert.OutCtx.main_arg4))
      ∧ r.2.sem = fun _ => 0)

def quiescent_OutCtxIdeal [hOutCtxIdeal : Cert.OutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg), Pre_OutCtxIdeal m →
    θ_run (Cert.OutCtxIdeal.defs (F := Ideal)) (onTc (τ := Cert.OutCtxIdeal.τ) (Cert.OutCtxIdeal.main (F := Ideal))) ⟨m, fun _ => 0, g⟩ (fun r => (∀ c : Dev Cert.OutCtxIdeal.nD,
      r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
      ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
      ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
      ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
      ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4))
      ∧ r.2.sem = fun _ => 0)

def quiescent_OutCtxRefIdeal [hOutCtxRefIdeal : Cert.OutCtxRefIdeal.Facts] : Prop :=
  ∀ (m : (ℓ : Loc Cert.OutCtxRefIdeal.nD Cert.OutCtxRefIdeal.τ Cert.OutCtxRefIdeal.sig) → Buf (Elt Ideal) ℓ) (g : Dev Cert.OutCtxRefIdeal.nD → PrngReg), Pre_OutCtxRefIdeal m →
    θ_run (Cert.OutCtxRefIdeal.defs (F := Ideal)) (onTc (τ := Cert.OutCtxRefIdeal.τ) (Cert.OutCtxRefIdeal.main (F := Ideal))) ⟨m, fun _ => 0, g⟩ (fun r => (∀ c : Dev Cert.OutCtxRefIdeal.nD,
      r.2.mem ((c.tc : Thread Cert.OutCtxRefIdeal.nD Cert.OutCtxRefIdeal.τ).loc Cert.OutCtxRefIdeal.main_arg0) = m ((c.tc : Thread Cert.OutCtxRefIdeal.nD Cert.OutCtxRefIdeal.τ).loc Cert.OutCtxRefIdeal.main_arg0)
      ∧ r.2.mem ((c.tc : Thread Cert.OutCtxRefIdeal.nD Cert.OutCtxRefIdeal.τ).loc Cert.OutCtxRefIdeal.main_arg1) = m ((c.tc : Thread Cert.OutCtxRefIdeal.nD Cert.OutCtxRefIdeal.τ).loc Cert.OutCtxRefIdeal.main_arg1)
      ∧ r.2.mem ((c.tc : Thread Cert.OutCtxRefIdeal.nD Cert.OutCtxRefIdeal.τ).loc Cert.OutCtxRefIdeal.main_arg2) = m ((c.tc : Thread Cert.OutCtxRefIdeal.nD Cert.OutCtxRefIdeal.τ).loc Cert.OutCtxRefIdeal.main_arg2)
      ∧ r.2.mem ((c.tc : Thread Cert.OutCtxRefIdeal.nD Cert.OutCtxRefIdeal.τ).loc Cert.OutCtxRefIdeal.main_arg3) = m ((c.tc : Thread Cert.OutCtxRefIdeal.nD Cert.OutCtxRefIdeal.τ).loc Cert.OutCtxRefIdeal.main_arg3)
      ∧ r.2.mem ((c.tc : Thread Cert.OutCtxRefIdeal.nD Cert.OutCtxRefIdeal.τ).loc Cert.OutCtxRefIdeal.main_arg4) = m ((c.tc : Thread Cert.OutCtxRefIdeal.nD Cert.OutCtxRefIdeal.τ).loc Cert.OutCtxRefIdeal.main_arg4))
      ∧ r.2.sem = fun _ => 0)

def quiescent_OddCtx [hOddCtx : Cert.OddCtx.Facts] : Prop :=
  ∀ (m : (ℓ : Loc Cert.OddCtx.nD Cert.OddCtx.τ Cert.OddCtx.sig) → Buf (Elt Bits) ℓ) (g : Dev Cert.OddCtx.nD → PrngReg), Pre_OddCtx m →
    θ_run (Cert.OddCtx.defs (F := Bits)) (onTc (τ := Cert.OddCtx.τ) (Cert.OddCtx.main (F := Bits))) ⟨m, fun _ => 0, g⟩ (fun r => (∀ c : Dev Cert.OddCtx.nD,
      r.2.mem ((c.tc : Thread Cert.OddCtx.nD Cert.OddCtx.τ).loc Cert.OddCtx.main_arg0) = m ((c.tc : Thread Cert.OddCtx.nD Cert.OddCtx.τ).loc Cert.OddCtx.main_arg0)
      ∧ r.2.mem ((c.tc : Thread Cert.OddCtx.nD Cert.OddCtx.τ).loc Cert.OddCtx.main_arg1) = m ((c.tc : Thread Cert.OddCtx.nD Cert.OddCtx.τ).loc Cert.OddCtx.main_arg1)
      ∧ r.2.mem ((c.tc : Thread Cert.OddCtx.nD Cert.OddCtx.τ).loc Cert.OddCtx.main_arg2) = m ((c.tc : Thread Cert.OddCtx.nD Cert.OddCtx.τ).loc Cert.OddCtx.main_arg2)
      ∧ r.2.mem ((c.tc : Thread Cert.OddCtx.nD Cert.OddCtx.τ).loc Cert.OddCtx.main_arg3) = m ((c.tc : Thread Cert.OddCtx.nD Cert.OddCtx.τ).loc Cert.OddCtx.main_arg3))
      ∧ r.2.sem = fun _ => 0)

def quiescent_OddCtxIdeal [hOddCtxIdeal : Cert.OddCtxIdeal.Facts] : Prop :=
  ∀ (m : (ℓ : Loc Cert.OddCtxIdeal.nD Cert.OddCtxIdeal.τ Cert.OddCtxIdeal.sig) → Buf (Elt Ideal) ℓ) (g : Dev Cert.OddCtxIdeal.nD → PrngReg), Pre_OddCtxIdeal m →
    θ_run (Cert.OddCtxIdeal.defs (F := Ideal)) (onTc (τ := Cert.OddCtxIdeal.τ) (Cert.OddCtxIdeal.main (F := Ideal))) ⟨m, fun _ => 0, g⟩ (fun r => (∀ c : Dev Cert.OddCtxIdeal.nD,
      r.2.mem ((c.tc : Thread Cert.OddCtxIdeal.nD Cert.OddCtxIdeal.τ).loc Cert.OddCtxIdeal.main_arg0) = m ((c.tc : Thread Cert.OddCtxIdeal.nD Cert.OddCtxIdeal.τ).loc Cert.OddCtxIdeal.main_arg0)
      ∧ r.2.mem ((c.tc : Thread Cert.OddCtxIdeal.nD Cert.OddCtxIdeal.τ).loc Cert.OddCtxIdeal.main_arg1) = m ((c.tc : Thread Cert.OddCtxIdeal.nD Cert.OddCtxIdeal.τ).loc Cert.OddCtxIdeal.main_arg1)
      ∧ r.2.mem ((c.tc : Thread Cert.OddCtxIdeal.nD Cert.OddCtxIdeal.τ).loc Cert.OddCtxIdeal.main_arg2) = m ((c.tc : Thread Cert.OddCtxIdeal.nD Cert.OddCtxIdeal.τ).loc Cert.OddCtxIdeal.main_arg2)
      ∧ r.2.mem ((c.tc : Thread Cert.OddCtxIdeal.nD Cert.OddCtxIdeal.τ).loc Cert.OddCtxIdeal.main_arg3) = m ((c.tc : Thread Cert.OddCtxIdeal.nD Cert.OddCtxIdeal.τ).loc Cert.OddCtxIdeal.main_arg3))
      ∧ r.2.sem = fun _ => 0)

def quiescent_OddCtxRefIdeal [hOddCtxRefIdeal : Cert.OddCtxRefIdeal.Facts] : Prop :=
  ∀ (m : (ℓ : Loc Cert.OddCtxRefIdeal.nD Cert.OddCtxRefIdeal.τ Cert.OddCtxRefIdeal.sig) → Buf (Elt Ideal) ℓ) (g : Dev Cert.OddCtxRefIdeal.nD → PrngReg), Pre_OddCtxRefIdeal m →
    θ_run (Cert.OddCtxRefIdeal.defs (F := Ideal)) (onTc (τ := Cert.OddCtxRefIdeal.τ) (Cert.OddCtxRefIdeal.main (F := Ideal))) ⟨m, fun _ => 0, g⟩ (fun r => (∀ c : Dev Cert.OddCtxRefIdeal.nD,
      r.2.mem ((c.tc : Thread Cert.OddCtxRefIdeal.nD Cert.OddCtxRefIdeal.τ).loc Cert.OddCtxRefIdeal.main_arg0) = m ((c.tc : Thread Cert.OddCtxRefIdeal.nD Cert.OddCtxRefIdeal.τ).loc Cert.OddCtxRefIdeal.main_arg0)
      ∧ r.2.mem ((c.tc : Thread Cert.OddCtxRefIdeal.nD Cert.OddCtxRefIdeal.τ).loc Cert.OddCtxRefIdeal.main_arg1) = m ((c.tc : Thread Cert.OddCtxRefIdeal.nD Cert.OddCtxRefIdeal.τ).loc Cert.OddCtxRefIdeal.main_arg1)
      ∧ r.2.mem ((c.tc : Thread Cert.OddCtxRefIdeal.nD Cert.OddCtxRefIdeal.τ).loc Cert.OddCtxRefIdeal.main_arg2) = m ((c.tc : Thread Cert.OddCtxRefIdeal.nD Cert.OddCtxRefIdeal.τ).loc Cert.OddCtxRefIdeal.main_arg2)
      ∧ r.2.mem ((c.tc : Thread Cert.OddCtxRefIdeal.nD Cert.OddCtxRefIdeal.τ).loc Cert.OddCtxRefIdeal.main_arg3) = m ((c.tc : Thread Cert.OddCtxRefIdeal.nD Cert.OddCtxRefIdeal.τ).loc Cert.OddCtxRefIdeal.main_arg3))
      ∧ r.2.sem = fun _ => 0)

def quiescent_EvenCtx [hEvenCtx : Cert.EvenCtx.Facts] : Prop :=
  ∀ (m : (ℓ : Loc Cert.EvenCtx.nD Cert.EvenCtx.τ Cert.EvenCtx.sig) → Buf (Elt Bits) ℓ) (g : Dev Cert.EvenCtx.nD → PrngReg), Pre_EvenCtx m →
    θ_run (Cert.EvenCtx.defs (F := Bits)) (onTc (τ := Cert.EvenCtx.τ) (Cert.EvenCtx.main (F := Bits))) ⟨m, fun _ => 0, g⟩ (fun r => (∀ c : Dev Cert.EvenCtx.nD,
      r.2.mem ((c.tc : Thread Cert.EvenCtx.nD Cert.EvenCtx.τ).loc Cert.EvenCtx.main_arg0) = m ((c.tc : Thread Cert.EvenCtx.nD Cert.EvenCtx.τ).loc Cert.EvenCtx.main_arg0)
      ∧ r.2.mem ((c.tc : Thread Cert.EvenCtx.nD Cert.EvenCtx.τ).loc Cert.EvenCtx.main_arg1) = m ((c.tc : Thread Cert.EvenCtx.nD Cert.EvenCtx.τ).loc Cert.EvenCtx.main_arg1)
      ∧ r.2.mem ((c.tc : Thread Cert.EvenCtx.nD Cert.EvenCtx.τ).loc Cert.EvenCtx.main_arg2) = m ((c.tc : Thread Cert.EvenCtx.nD Cert.EvenCtx.τ).loc Cert.EvenCtx.main_arg2)
      ∧ r.2.mem ((c.tc : Thread Cert.EvenCtx.nD Cert.EvenCtx.τ).loc Cert.EvenCtx.main_arg3) = m ((c.tc : Thread Cert.EvenCtx.nD Cert.EvenCtx.τ).loc Cert.EvenCtx.main_arg3)
      ∧ r.2.mem ((c.tc : Thread Cert.EvenCtx.nD Cert.EvenCtx.τ).loc Cert.EvenCtx.main_arg4) = m ((c.tc : Thread Cert.EvenCtx.nD Cert.EvenCtx.τ).loc Cert.EvenCtx.main_arg4)
      ∧ r.2.mem ((c.tc : Thread Cert.EvenCtx.nD Cert.EvenCtx.τ).loc Cert.EvenCtx.main_arg5) = m ((c.tc : Thread Cert.EvenCtx.nD Cert.EvenCtx.τ).loc Cert.EvenCtx.main_arg5))
      ∧ r.2.sem = fun _ => 0)

def quiescent_EvenCtxIdeal [hEvenCtxIdeal : Cert.EvenCtxIdeal.Facts] : Prop :=
  ∀ (m : (ℓ : Loc Cert.EvenCtxIdeal.nD Cert.EvenCtxIdeal.τ Cert.EvenCtxIdeal.sig) → Buf (Elt Ideal) ℓ) (g : Dev Cert.EvenCtxIdeal.nD → PrngReg), Pre_EvenCtxIdeal m →
    θ_run (Cert.EvenCtxIdeal.defs (F := Ideal)) (onTc (τ := Cert.EvenCtxIdeal.τ) (Cert.EvenCtxIdeal.main (F := Ideal))) ⟨m, fun _ => 0, g⟩ (fun r => (∀ c : Dev Cert.EvenCtxIdeal.nD,
      r.2.mem ((c.tc : Thread Cert.EvenCtxIdeal.nD Cert.EvenCtxIdeal.τ).loc Cert.EvenCtxIdeal.main_arg0) = m ((c.tc : Thread Cert.EvenCtxIdeal.nD Cert.EvenCtxIdeal.τ).loc Cert.EvenCtxIdeal.main_arg0)
      ∧ r.2.mem ((c.tc : Thread Cert.EvenCtxIdeal.nD Cert.EvenCtxIdeal.τ).loc Cert.EvenCtxIdeal.main_arg1) = m ((c.tc : Thread Cert.EvenCtxIdeal.nD Cert.EvenCtxIdeal.τ).loc Cert.EvenCtxIdeal.main_arg1)
      ∧ r.2.mem ((c.tc : Thread Cert.EvenCtxIdeal.nD Cert.EvenCtxIdeal.τ).loc Cert.EvenCtxIdeal.main_arg2) = m ((c.tc : Thread Cert.EvenCtxIdeal.nD Cert.EvenCtxIdeal.τ).loc Cert.EvenCtxIdeal.main_arg2)
      ∧ r.2.mem ((c.tc : Thread Cert.EvenCtxIdeal.nD Cert.EvenCtxIdeal.τ).loc Cert.EvenCtxIdeal.main_arg3) = m ((c.tc : Thread Cert.EvenCtxIdeal.nD Cert.EvenCtxIdeal.τ).loc Cert.EvenCtxIdeal.main_arg3)
      ∧ r.2.mem ((c.tc : Thread Cert.EvenCtxIdeal.nD Cert.EvenCtxIdeal.τ).loc Cert.EvenCtxIdeal.main_arg4) = m ((c.tc : Thread Cert.EvenCtxIdeal.nD Cert.EvenCtxIdeal.τ).loc Cert.EvenCtxIdeal.main_arg4)
      ∧ r.2.mem ((c.tc : Thread Cert.EvenCtxIdeal.nD Cert.EvenCtxIdeal.τ).loc Cert.EvenCtxIdeal.main_arg5) = m ((c.tc : Thread Cert.EvenCtxIdeal.nD Cert.EvenCtxIdeal.τ).loc Cert.EvenCtxIdeal.main_arg5))
      ∧ r.2.sem = fun _ => 0)

def quiescent_EvenCtxRefIdeal [hEvenCtxRefIdeal : Cert.EvenCtxRefIdeal.Facts] : Prop :=
  ∀ (m : (ℓ : Loc Cert.EvenCtxRefIdeal.nD Cert.EvenCtxRefIdeal.τ Cert.EvenCtxRefIdeal.sig) → Buf (Elt Ideal) ℓ) (g : Dev Cert.EvenCtxRefIdeal.nD → PrngReg), Pre_EvenCtxRefIdeal m →
    θ_run (Cert.EvenCtxRefIdeal.defs (F := Ideal)) (onTc (τ := Cert.EvenCtxRefIdeal.τ) (Cert.EvenCtxRefIdeal.main (F := Ideal))) ⟨m, fun _ => 0, g⟩ (fun r => (∀ c : Dev Cert.EvenCtxRefIdeal.nD,
      r.2.mem ((c.tc : Thread Cert.EvenCtxRefIdeal.nD Cert.EvenCtxRefIdeal.τ).loc Cert.EvenCtxRefIdeal.main_arg0) = m ((c.tc : Thread Cert.EvenCtxRefIdeal.nD Cert.EvenCtxRefIdeal.τ).loc Cert.EvenCtxRefIdeal.main_arg0)
      ∧ r.2.mem ((c.tc : Thread Cert.EvenCtxRefIdeal.nD Cert.EvenCtxRefIdeal.τ).loc Cert.EvenCtxRefIdeal.main_arg1) = m ((c.tc : Thread Cert.EvenCtxRefIdeal.nD Cert.EvenCtxRefIdeal.τ).loc Cert.EvenCtxRefIdeal.main_arg1)
      ∧ r.2.mem ((c.tc : Thread Cert.EvenCtxRefIdeal.nD Cert.EvenCtxRefIdeal.τ).loc Cert.EvenCtxRefIdeal.main_arg2) = m ((c.tc : Thread Cert.EvenCtxRefIdeal.nD Cert.EvenCtxRefIdeal.τ).loc Cert.EvenCtxRefIdeal.main_arg2)
      ∧ r.2.mem ((c.tc : Thread Cert.EvenCtxRefIdeal.nD Cert.EvenCtxRefIdeal.τ).loc Cert.EvenCtxRefIdeal.main_arg3) = m ((c.tc : Thread Cert.EvenCtxRefIdeal.nD Cert.EvenCtxRefIdeal.τ).loc Cert.EvenCtxRefIdeal.main_arg3)
      ∧ r.2.mem ((c.tc : Thread Cert.EvenCtxRefIdeal.nD Cert.EvenCtxRefIdeal.τ).loc Cert.EvenCtxRefIdeal.main_arg4) = m ((c.tc : Thread Cert.EvenCtxRefIdeal.nD Cert.EvenCtxRefIdeal.τ).loc Cert.EvenCtxRefIdeal.main_arg4)
      ∧ r.2.mem ((c.tc : Thread Cert.EvenCtxRefIdeal.nD Cert.EvenCtxRefIdeal.τ).loc Cert.EvenCtxRefIdeal.main_arg5) = m ((c.tc : Thread Cert.EvenCtxRefIdeal.nD Cert.EvenCtxRefIdeal.τ).loc Cert.EvenCtxRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_OddCtxLast [hOddCtxLast : Cert.OddCtxLast.Facts] : Prop :=
  ∀ (m : (ℓ : Loc Cert.OddCtxLast.nD Cert.OddCtxLast.τ Cert.OddCtxLast.sig) → Buf (Elt Bits) ℓ) (g : Dev Cert.OddCtxLast.nD → PrngReg), Pre_OddCtxLast m →
    θ_run (Cert.OddCtxLast.defs (F := Bits)) (onTc (τ := Cert.OddCtxLast.τ) (Cert.OddCtxLast.main (F := Bits))) ⟨m, fun _ => 0, g⟩ (fun r => (∀ c : Dev Cert.OddCtxLast.nD,
      r.2.mem ((c.tc : Thread Cert.OddCtxLast.nD Cert.OddCtxLast.τ).loc Cert.OddCtxLast.main_arg0) = m ((c.tc : Thread Cert.OddCtxLast.nD Cert.OddCtxLast.τ).loc Cert.OddCtxLast.main_arg0)
      ∧ r.2.mem ((c.tc : Thread Cert.OddCtxLast.nD Cert.OddCtxLast.τ).loc Cert.OddCtxLast.main_arg1) = m ((c.tc : Thread Cert.OddCtxLast.nD Cert.OddCtxLast.τ).loc Cert.OddCtxLast.main_arg1)
      ∧ r.2.mem ((c.tc : Thread Cert.OddCtxLast.nD Cert.OddCtxLast.τ).loc Cert.OddCtxLast.main_arg2) = m ((c.tc : Thread Cert.OddCtxLast.nD Cert.OddCtxLast.τ).loc Cert.OddCtxLast.main_arg2)
      ∧ r.2.mem ((c.tc : Thread Cert.OddCtxLast.nD Cert.OddCtxLast.τ).loc Cert.OddCtxLast.main_arg3) = m ((c.tc : Thread Cert.OddCtxLast.nD Cert.OddCtxLast.τ).loc Cert.OddCtxLast.main_arg3))
      ∧ r.2.sem = fun _ => 0)

def quiescent_OddCtxLastIdeal [hOddCtxLastIdeal : Cert.OddCtxLastIdeal.Facts] : Prop :=
  ∀ (m : (ℓ : Loc Cert.OddCtxLastIdeal.nD Cert.OddCtxLastIdeal.τ Cert.OddCtxLastIdeal.sig) → Buf (Elt Ideal) ℓ) (g : Dev Cert.OddCtxLastIdeal.nD → PrngReg), Pre_OddCtxLastIdeal m →
    θ_run (Cert.OddCtxLastIdeal.defs (F := Ideal)) (onTc (τ := Cert.OddCtxLastIdeal.τ) (Cert.OddCtxLastIdeal.main (F := Ideal))) ⟨m, fun _ => 0, g⟩ (fun r => (∀ c : Dev Cert.OddCtxLastIdeal.nD,
      r.2.mem ((c.tc : Thread Cert.OddCtxLastIdeal.nD Cert.OddCtxLastIdeal.τ).loc Cert.OddCtxLastIdeal.main_arg0) = m ((c.tc : Thread Cert.OddCtxLastIdeal.nD Cert.OddCtxLastIdeal.τ).loc Cert.OddCtxLastIdeal.main_arg0)
      ∧ r.2.mem ((c.tc : Thread Cert.OddCtxLastIdeal.nD Cert.OddCtxLastIdeal.τ).loc Cert.OddCtxLastIdeal.main_arg1) = m ((c.tc : Thread Cert.OddCtxLastIdeal.nD Cert.OddCtxLastIdeal.τ).loc Cert.OddCtxLastIdeal.main_arg1)
      ∧ r.2.mem ((c.tc : Thread Cert.OddCtxLastIdeal.nD Cert.OddCtxLastIdeal.τ).loc Cert.OddCtxLastIdeal.main_arg2) = m ((c.tc : Thread Cert.OddCtxLastIdeal.nD Cert.OddCtxLastIdeal.τ).loc Cert.OddCtxLastIdeal.main_arg2)
      ∧ r.2.mem ((c.tc : Thread Cert.OddCtxLastIdeal.nD Cert.OddCtxLastIdeal.τ).loc Cert.OddCtxLastIdeal.main_arg3) = m ((c.tc : Thread Cert.OddCtxLastIdeal.nD Cert.OddCtxLastIdeal.τ).loc Cert.OddCtxLastIdeal.main_arg3))
      ∧ r.2.sem = fun _ => 0)

def quiescent_OddCtxLastRefIdeal [hOddCtxLastRefIdeal : Cert.OddCtxLastRefIdeal.Facts] : Prop :=
  ∀ (m : (ℓ : Loc Cert.OddCtxLastRefIdeal.nD Cert.OddCtxLastRefIdeal.τ Cert.OddCtxLastRefIdeal.sig) → Buf (Elt Ideal) ℓ) (g : Dev Cert.OddCtxLastRefIdeal.nD → PrngReg), Pre_OddCtxLastRefIdeal m →
    θ_run (Cert.OddCtxLastRefIdeal.defs (F := Ideal)) (onTc (τ := Cert.OddCtxLastRefIdeal.τ) (Cert.OddCtxLastRefIdeal.main (F := Ideal))) ⟨m, fun _ => 0, g⟩ (fun r => (∀ c : Dev Cert.OddCtxLastRefIdeal.nD,
      r.2.mem ((c.tc : Thread Cert.OddCtxLastRefIdeal.nD Cert.OddCtxLastRefIdeal.τ).loc Cert.OddCtxLastRefIdeal.main_arg0) = m ((c.tc : Thread Cert.OddCtxLastRefIdeal.nD Cert.OddCtxLastRefIdeal.τ).loc Cert.OddCtxLastRefIdeal.main_arg0)
      ∧ r.2.mem ((c.tc : Thread Cert.OddCtxLastRefIdeal.nD Cert.OddCtxLastRefIdeal.τ).loc Cert.OddCtxLastRefIdeal.main_arg1) = m ((c.tc : Thread Cert.OddCtxLastRefIdeal.nD Cert.OddCtxLastRefIdeal.τ).loc Cert.OddCtxLastRefIdeal.main_arg1)
      ∧ r.2.mem ((c.tc : Thread Cert.OddCtxLastRefIdeal.nD Cert.OddCtxLastRefIdeal.τ).loc Cert.OddCtxLastRefIdeal.main_arg2) = m ((c.tc : Thread Cert.OddCtxLastRefIdeal.nD Cert.OddCtxLastRefIdeal.τ).loc Cert.OddCtxLastRefIdeal.main_arg2)
      ∧ r.2.mem ((c.tc : Thread Cert.OddCtxLastRefIdeal.nD Cert.OddCtxLastRefIdeal.τ).loc Cert.OddCtxLastRefIdeal.main_arg3) = m ((c.tc : Thread Cert.OddCtxLastRefIdeal.nD Cert.OddCtxLastRefIdeal.τ).loc Cert.OddCtxLastRefIdeal.main_arg3))
      ∧ r.2.sem = fun _ => 0)

def quiescent_CtxAttn [hCtxAttn : Cert.CtxAttn.Facts] [hPre_finite_ctx : Cert.Pre_finite_ctx.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1))
      ∧ r.2.sem = fun _ => 0)

def quiescent_CtxAttn_pre_none [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn_none m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1))
      ∧ r.2.sem = fun _ => 0)

def quiescent_CtxAttnIdeal [hCtxAttnIdeal : Cert.CtxAttnIdeal.Facts] [hPre_finite_ctx : Cert.Pre_finite_ctx.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1))
      ∧ r.2.sem = fun _ => 0)

def quiescent_CtxAttnIdeal_pre_none [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_none m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1))
      ∧ r.2.sem = fun _ => 0)

def quiescent_CtxAttnRefIdeal [hCtxAttnRefIdeal : Cert.CtxAttnRefIdeal.Facts] [hPre_finite_ctx : Cert.Pre_finite_ctx.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0)
      ∧ r.2.mem ((c.tc : Thread Cert.CtxAttnRefIdeal.nD Cert.CtxAttnRefIdeal.τ).loc Cert.CtxAttnRefIdeal.main_arg1) = m ((c.tc : Thread Cert.CtxAttnRefIdeal.nD Cert.CtxAttnRefIdeal.τ).loc Cert.CtxAttnRefIdeal.main_arg1))
      ∧ r.2.sem = fun _ => 0)

def preserves_Mla_MlaIdeal : Prop :=
  IdealRules.named_const.Statement Cert.MlaIdeal.κ "scale_log2e" .f32 0x3DD53B95#32 (((Real.sqrt 192)⁻¹ * (Real.log 2)⁻¹ : ℝ) : EReal)

def algebraic_MlaIdeal_MlaRefIdeal [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v64)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v64) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v211) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_MlpLast_MlpLastIdeal : Prop :=
  True

def algebraic_MlpLastIdeal_MlpLastRefIdeal [hMlpLastIdeal : Cert.MlpLastIdeal.Facts] [hMlpLastRefIdeal : Cert.MlpLastRefIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)
      ∧ m' ((c.tc : Thread Cert.MlpLastRefIdeal.nD Cert.MlpLastRefIdeal.τ).loc Cert.MlpLastRefIdeal.main_arg3) = m ((c.tc : Thread Cert.MlpLastIdeal.nD Cert.MlpLastIdeal.τ).loc Cert.MlpLastIdeal.main_arg3)
      ∧ m' ((c.tc : Thread Cert.MlpLastRefIdeal.nD Cert.MlpLastRefIdeal.τ).loc Cert.MlpLastRefIdeal.main_arg4) = m ((c.tc : Thread Cert.MlpLastIdeal.nD Cert.MlpLastIdeal.τ).loc Cert.MlpLastIdeal.main_arg4)
      ∧ m' ((c.tc : Thread Cert.MlpLastRefIdeal.nD Cert.MlpLastRefIdeal.τ).loc Cert.MlpLastRefIdeal.main_arg5) = m ((c.tc : Thread Cert.MlpLastIdeal.nD Cert.MlpLastIdeal.τ).loc Cert.MlpLastIdeal.main_arg5)) →
    ∃ (v0 : (c : Dev Cert.MlpLastIdeal.nD) → Buf (Elt Ideal) ((c.tc : Thread Cert.MlpLastIdeal.nD Cert.MlpLastIdeal.τ).loc Cert.MlpLastIdeal.main_v10)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v10) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
          ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v57) = v0 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2)
          ∧ r.2.mem ((c.tc : Thread Cert.MlpLastRefIdeal.nD Cert.MlpLastRefIdeal.τ).loc Cert.MlpLastRefIdeal.main_arg3) = m' ((c.tc : Thread Cert.MlpLastRefIdeal.nD Cert.MlpLastRefIdeal.τ).loc Cert.MlpLastRefIdeal.main_arg3)
          ∧ r.2.mem ((c.tc : Thread Cert.MlpLastRefIdeal.nD Cert.MlpLastRefIdeal.τ).loc Cert.MlpLastRefIdeal.main_arg4) = m' ((c.tc : Thread Cert.MlpLastRefIdeal.nD Cert.MlpLastRefIdeal.τ).loc Cert.MlpLastRefIdeal.main_arg4)
          ∧ r.2.mem ((c.tc : Thread Cert.MlpLastRefIdeal.nD Cert.MlpLastRefIdeal.τ).loc Cert.MlpLastRefIdeal.main_arg5) = m' ((c.tc : Thread Cert.MlpLastRefIdeal.nD Cert.MlpLastRefIdeal.τ).loc Cert.MlpLastRefIdeal.main_arg5))

def preserves_MlpFirst_MlpFirstIdeal : Prop :=
  True

def algebraic_MlpFirstIdeal_MlpFirstRefIdeal [hMlpFirstIdeal : Cert.MlpFirstIdeal.Facts] [hMlpFirstRefIdeal : Cert.MlpFirstRefIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstRefIdeal.nD Cert.MlpFirstRefIdeal.τ Cert.MlpFirstRefIdeal.sig) → Buf (Elt Ideal) ℓ) (g' : Dev Cert.MlpFirstRefIdeal.nD → PrngReg), Pre_MlpFirstIdeal m →
    (∀ c : Dev Cert.MlpFirstIdeal.nD,
      m' ((c.tc : Thread Cert.MlpFirstRefIdeal.nD Cert.MlpFirstRefIdeal.τ).loc Cert.MlpFirstRefIdeal.main_arg0) = m ((c.tc : Thread Cert.MlpFirstIdeal.nD Cert.MlpFirstIdeal.τ).loc Cert.MlpFirstIdeal.main_arg0)
      ∧ m' ((c.tc : Thread Cert.MlpFirstRefIdeal.nD Cert.MlpFirstRefIdeal.τ).loc Cert.MlpFirstRefIdeal.main_arg1) = m ((c.tc : Thread Cert.MlpFirstIdeal.nD Cert.MlpFirstIdeal.τ).loc Cert.MlpFirstIdeal.main_arg1)
      ∧ m' ((c.tc : Thread Cert.MlpFirstRefIdeal.nD Cert.MlpFirstRefIdeal.τ).loc Cert.MlpFirstRefIdeal.main_arg2) = m ((c.tc : Thread Cert.MlpFirstIdeal.nD Cert.MlpFirstIdeal.τ).loc Cert.MlpFirstIdeal.main_arg2)
      ∧ m' ((c.tc : Thread Cert.MlpFirstRefIdeal.nD Cert.MlpFirstRefIdeal.τ).loc Cert.MlpFirstRefIdeal.main_arg3) = m ((c.tc : Thread Cert.MlpFirstIdeal.nD Cert.MlpFirstIdeal.τ).loc Cert.MlpFirstIdeal.main_arg3)
      ∧ m' ((c.tc : Thread Cert.MlpFirstRefIdeal.nD Cert.MlpFirstRefIdeal.τ).loc Cert.MlpFirstRefIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v9)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v9) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstRefIdeal.defs (F := Ideal)) (onTc (τ := Cert.MlpFirstRefIdeal.τ) (Cert.MlpFirstRefIdeal.main (F := Ideal))) ⟨m', fun _ => 0, g'⟩ (fun r => ∀ c : Dev Cert.MlpFirstRefIdeal.nD,
          r.2.mem ((c.tc : Thread Cert.MlpFirstRefIdeal.nD Cert.MlpFirstRefIdeal.τ).loc Cert.MlpFirstRefIdeal.main_v44) = v0 c
          ∧ r.2.mem ((c.tc : Thread Cert.MlpFirstRefIdeal.nD Cert.MlpFirstRefIdeal.τ).loc Cert.MlpFirstRefIdeal.main_arg0) = m' ((c.tc : Thread Cert.MlpFirstRefIdeal.nD Cert.MlpFirstRefIdeal.τ).loc Cert.MlpFirstRefIdeal.main_arg0)
          ∧ r.2.mem ((c.tc : Thread Cert.MlpFirstRefIdeal.nD Cert.MlpFirstRefIdeal.τ).loc Cert.MlpFirstRefIdeal.main_arg1) = m' ((c.tc : Thread Cert.MlpFirstRefIdeal.nD Cert.MlpFirstRefIdeal.τ).loc Cert.MlpFirstRefIdeal.main_arg1)
          ∧ r.2.mem ((c.tc : Thread Cert.MlpFirstRefIdeal.nD Cert.MlpFirstRefIdeal.τ).loc Cert.MlpFirstRefIdeal.main_arg2) = m' ((c.tc : Thread Cert.MlpFirstRefIdeal.nD Cert.MlpFirstRefIdeal.τ).loc Cert.MlpFirstRefIdeal.main_arg2)
          ∧ r.2.mem ((c.tc : Thread Cert.MlpFirstRefIdeal.nD Cert.MlpFirstRefIdeal.τ).loc Cert.MlpFirstRefIdeal.main_arg3) = m' ((c.tc : Thread Cert.MlpFirstRefIdeal.nD Cert.MlpFirstRefIdeal.τ).loc Cert.MlpFirstRefIdeal.main_arg3)
          ∧ r.2.mem ((c.tc : Thread Cert.MlpFirstRefIdeal.nD Cert.MlpFirstRefIdeal.τ).loc Cert.MlpFirstRefIdeal.main_arg4) = m' ((c.tc : Thread Cert.MlpFirstRefIdeal.nD Cert.MlpFirstRefIdeal.τ).loc Cert.MlpFirstRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v19) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)
      ∧ m' ((c.tc : Thread Cert.OddProjRefIdeal.nD Cert.OddProjRefIdeal.τ).loc Cert.OddProjRefIdeal.main_arg3) = m ((c.tc : Thread Cert.OddProjIdeal.nD Cert.OddProjIdeal.τ).loc Cert.OddProjIdeal.main_arg3)) →
    ∃ (v0 : (c : Dev Cert.OddProjIdeal.nD) → Buf (Elt Ideal) ((c.tc : Thread Cert.OddProjIdeal.nD Cert.OddProjIdeal.τ).loc Cert.OddProjIdeal.main_v8)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v8) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
          ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v37) = v0 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2)
          ∧ r.2.mem ((c.tc : Thread Cert.OddProjRefIdeal.nD Cert.OddProjRefIdeal.τ).loc Cert.OddProjRefIdeal.main_arg3) = m' ((c.tc : Thread Cert.OddProjRefIdeal.nD Cert.OddProjRefIdeal.τ).loc Cert.OddProjRefIdeal.main_arg3))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)
      ∧ m' ((c.tc : Thread Cert.EvenProjRefIdeal.nD Cert.EvenProjRefIdeal.τ).loc Cert.EvenProjRefIdeal.main_arg5) = m ((c.tc : Thread Cert.EvenProjIdeal.nD Cert.EvenProjIdeal.τ).loc Cert.EvenProjIdeal.main_arg5)) →
    ∃ (v0 : (c : Dev Cert.EvenProjIdeal.nD) → Buf (Elt Ideal) ((c.tc : Thread Cert.EvenProjIdeal.nD Cert.EvenProjIdeal.τ).loc Cert.EvenProjIdeal.main_v23_0)) (v1 : (c : Dev Cert.EvenProjIdeal.nD) → Buf (Elt Ideal) ((c.tc : Thread Cert.EvenProjIdeal.nD Cert.EvenProjIdeal.τ).loc Cert.EvenProjIdeal.main_v23_1)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v23_0) = v0 c
          ∧ r.2.mem ((c.tc : Thread Cert.EvenProjIdeal.nD Cert.EvenProjIdeal.τ).loc Cert.EvenProjIdeal.main_v23_1) = v1 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
          ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v65) = v0 c
          ∧ r.2.mem ((c.tc : Thread Cert.EvenProjRefIdeal.nD Cert.EvenProjRefIdeal.τ).loc Cert.EvenProjRefIdeal.main_v67) = v1 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4)
          ∧ r.2.mem ((c.tc : Thread Cert.EvenProjRefIdeal.nD Cert.EvenProjRefIdeal.τ).loc Cert.EvenProjRefIdeal.main_arg5) = m' ((c.tc : Thread Cert.EvenProjRefIdeal.nD Cert.EvenProjRefIdeal.τ).loc Cert.EvenProjRefIdeal.main_arg5))

def preserves_MlpCtx_MlpCtxIdeal : Prop :=
  True

def algebraic_MlpCtxIdeal_MlpCtxRefIdeal [hMlpCtxIdeal : Cert.MlpCtxIdeal.Facts] [hMlpCtxRefIdeal : Cert.MlpCtxRefIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg)
    (m' : (ℓ : Loc Cert.MlpCtxRefIdeal.nD Cert.MlpCtxRefIdeal.τ Cert.MlpCtxRefIdeal.sig) → Buf (Elt Ideal) ℓ) (g' : Dev Cert.MlpCtxRefIdeal.nD → PrngReg), Pre_MlpCtxIdeal m →
    (∀ c : Dev Cert.MlpCtxIdeal.nD,
      m' ((c.tc : Thread Cert.MlpCtxRefIdeal.nD Cert.MlpCtxRefIdeal.τ).loc Cert.MlpCtxRefIdeal.main_arg0) = m ((c.tc : Thread Cert.MlpCtxIdeal.nD Cert.MlpCtxIdeal.τ).loc Cert.MlpCtxIdeal.main_arg0)
      ∧ m' ((c.tc : Thread Cert.MlpCtxRefIdeal.nD Cert.MlpCtxRefIdeal.τ).loc Cert.MlpCtxRefIdeal.main_arg1) = m ((c.tc : Thread Cert.MlpCtxIdeal.nD Cert.MlpCtxIdeal.τ).loc Cert.MlpCtxIdeal.main_arg1)
      ∧ m' ((c.tc : Thread Cert.MlpCtxRefIdeal.nD Cert.MlpCtxRefIdeal.τ).loc Cert.MlpCtxRefIdeal.main_arg2) = m ((c.tc : Thread Cert.MlpCtxIdeal.nD Cert.MlpCtxIdeal.τ).loc Cert.MlpCtxIdeal.main_arg2)
      ∧ m' ((c.tc : Thread Cert.MlpCtxRefIdeal.nD Cert.MlpCtxRefIdeal.τ).loc Cert.MlpCtxRefIdeal.main_arg3) = m ((c.tc : Thread Cert.MlpCtxIdeal.nD Cert.MlpCtxIdeal.τ).loc Cert.MlpCtxIdeal.main_arg3)
      ∧ m' ((c.tc : Thread Cert.MlpCtxRefIdeal.nD Cert.MlpCtxRefIdeal.τ).loc Cert.MlpCtxRefIdeal.main_arg4) = m ((c.tc : Thread Cert.MlpCtxIdeal.nD Cert.MlpCtxIdeal.τ).loc Cert.MlpCtxIdeal.main_arg4)) →
    ∃ (v0 : (c : Dev Cert.MlpCtxIdeal.nD) → Buf (Elt Ideal) ((c.tc : Thread Cert.MlpCtxIdeal.nD Cert.MlpCtxIdeal.τ).loc Cert.MlpCtxIdeal.main_v10)),
      θ_run (Cert.MlpCtxIdeal.defs (F := Ideal)) (onTc (τ := Cert.MlpCtxIdeal.τ) (Cert.MlpCtxIdeal.main (F := Ideal))) ⟨m, fun _ => 0, g⟩ (fun r => ∀ c : Dev Cert.MlpCtxIdeal.nD,
          r.2.mem ((c.tc : Thread Cert.MlpCtxIdeal.nD Cert.MlpCtxIdeal.τ).loc Cert.MlpCtxIdeal.main_v10) = v0 c
          ∧ r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
          ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
          ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
          ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
          ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ θ_run (Cert.MlpCtxRefIdeal.defs (F := Ideal)) (onTc (τ := Cert.MlpCtxRefIdeal.τ) (Cert.MlpCtxRefIdeal.main (F := Ideal))) ⟨m', fun _ => 0, g'⟩ (fun r => ∀ c : Dev Cert.MlpCtxRefIdeal.nD,
          r.2.mem ((c.tc : Thread Cert.MlpCtxRefIdeal.nD Cert.MlpCtxRefIdeal.τ).loc Cert.MlpCtxRefIdeal.main_v41) = v0 c
          ∧ r.2.mem ((c.tc : Thread Cert.MlpCtxRefIdeal.nD Cert.MlpCtxRefIdeal.τ).loc Cert.MlpCtxRefIdeal.main_arg0) = m' ((c.tc : Thread Cert.MlpCtxRefIdeal.nD Cert.MlpCtxRefIdeal.τ).loc Cert.MlpCtxRefIdeal.main_arg0)
          ∧ r.2.mem ((c.tc : Thread Cert.MlpCtxRefIdeal.nD Cert.MlpCtxRefIdeal.τ).loc Cert.MlpCtxRefIdeal.main_arg1) = m' ((c.tc : Thread Cert.MlpCtxRefIdeal.nD Cert.MlpCtxRefIdeal.τ).loc Cert.MlpCtxRefIdeal.main_arg1)
          ∧ r.2.mem ((c.tc : Thread Cert.MlpCtxRefIdeal.nD Cert.MlpCtxRefIdeal.τ).loc Cert.MlpCtxRefIdeal.main_arg2) = m' ((c.tc : Thread Cert.MlpCtxRefIdeal.nD Cert.MlpCtxRefIdeal.τ).loc Cert.MlpCtxRefIdeal.main_arg2)
          ∧ r.2.mem ((c.tc : Thread Cert.MlpCtxRefIdeal.nD Cert.MlpCtxRefIdeal.τ).loc Cert.MlpCtxRefIdeal.main_arg3) = m' ((c.tc : Thread Cert.MlpCtxRefIdeal.nD Cert.MlpCtxRefIdeal.τ).loc Cert.MlpCtxRefIdeal.main_arg3)
          ∧ r.2.mem ((c.tc : Thread Cert.MlpCtxRefIdeal.nD Cert.MlpCtxRefIdeal.τ).loc Cert.MlpCtxRefIdeal.main_arg4) = m' ((c.tc : Thread Cert.MlpCtxRefIdeal.nD Cert.MlpCtxRefIdeal.τ).loc Cert.MlpCtxRefIdeal.main_arg4))

def preserves_OutCtx_OutCtxIdeal : Prop :=
  True

def algebraic_OutCtxIdeal_OutCtxRefIdeal [hOutCtxIdeal : Cert.OutCtxIdeal.Facts] [hOutCtxRefIdeal : Cert.OutCtxRefIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg)
    (m' : (ℓ : Loc Cert.OutCtxRefIdeal.nD Cert.OutCtxRefIdeal.τ Cert.OutCtxRefIdeal.sig) → Buf (Elt Ideal) ℓ) (g' : Dev Cert.OutCtxRefIdeal.nD → PrngReg), Pre_OutCtxIdeal m →
    (∀ c : Dev Cert.OutCtxIdeal.nD,
      m' ((c.tc : Thread Cert.OutCtxRefIdeal.nD Cert.OutCtxRefIdeal.τ).loc Cert.OutCtxRefIdeal.main_arg0) = m ((c.tc : Thread Cert.OutCtxIdeal.nD Cert.OutCtxIdeal.τ).loc Cert.OutCtxIdeal.main_arg0)
      ∧ m' ((c.tc : Thread Cert.OutCtxRefIdeal.nD Cert.OutCtxRefIdeal.τ).loc Cert.OutCtxRefIdeal.main_arg1) = m ((c.tc : Thread Cert.OutCtxIdeal.nD Cert.OutCtxIdeal.τ).loc Cert.OutCtxIdeal.main_arg1)
      ∧ m' ((c.tc : Thread Cert.OutCtxRefIdeal.nD Cert.OutCtxRefIdeal.τ).loc Cert.OutCtxRefIdeal.main_arg2) = m ((c.tc : Thread Cert.OutCtxIdeal.nD Cert.OutCtxIdeal.τ).loc Cert.OutCtxIdeal.main_arg2)
      ∧ m' ((c.tc : Thread Cert.OutCtxRefIdeal.nD Cert.OutCtxRefIdeal.τ).loc Cert.OutCtxRefIdeal.main_arg3) = m ((c.tc : Thread Cert.OutCtxIdeal.nD Cert.OutCtxIdeal.τ).loc Cert.OutCtxIdeal.main_arg3)
      ∧ m' ((c.tc : Thread Cert.OutCtxRefIdeal.nD Cert.OutCtxRefIdeal.τ).loc Cert.OutCtxRefIdeal.main_arg4) = m ((c.tc : Thread Cert.OutCtxIdeal.nD Cert.OutCtxIdeal.τ).loc Cert.OutCtxIdeal.main_arg4)) →
    ∃ (v0 : (c : Dev Cert.OutCtxIdeal.nD) → Buf (Elt Ideal) ((c.tc : Thread Cert.OutCtxIdeal.nD Cert.OutCtxIdeal.τ).loc Cert.OutCtxIdeal.main_v10)),
      θ_run (Cert.OutCtxIdeal.defs (F := Ideal)) (onTc (τ := Cert.OutCtxIdeal.τ) (Cert.OutCtxIdeal.main (F := Ideal))) ⟨m, fun _ => 0, g⟩ (fun r => ∀ c : Dev Cert.OutCtxIdeal.nD,
          r.2.mem ((c.tc : Thread Cert.OutCtxIdeal.nD Cert.OutCtxIdeal.τ).loc Cert.OutCtxIdeal.main_v10) = v0 c
          ∧ r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
          ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
          ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
          ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
          ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4))
      ∧ θ_run (Cert.OutCtxRefIdeal.defs (F := Ideal)) (onTc (τ := Cert.OutCtxRefIdeal.τ) (Cert.OutCtxRefIdeal.main (F := Ideal))) ⟨m', fun _ => 0, g'⟩ (fun r => ∀ c : Dev Cert.OutCtxRefIdeal.nD,
          r.2.mem ((c.tc : Thread Cert.OutCtxRefIdeal.nD Cert.OutCtxRefIdeal.τ).loc Cert.OutCtxRefIdeal.main_v14) = v0 c
          ∧ r.2.mem ((c.tc : Thread Cert.OutCtxRefIdeal.nD Cert.OutCtxRefIdeal.τ).loc Cert.OutCtxRefIdeal.main_arg0) = m' ((c.tc : Thread Cert.OutCtxRefIdeal.nD Cert.OutCtxRefIdeal.τ).loc Cert.OutCtxRefIdeal.main_arg0)
          ∧ r.2.mem ((c.tc : Thread Cert.OutCtxRefIdeal.nD Cert.OutCtxRefIdeal.τ).loc Cert.OutCtxRefIdeal.main_arg1) = m' ((c.tc : Thread Cert.OutCtxRefIdeal.nD Cert.OutCtxRefIdeal.τ).loc Cert.OutCtxRefIdeal.main_arg1)
          ∧ r.2.mem ((c.tc : Thread Cert.OutCtxRefIdeal.nD Cert.OutCtxRefIdeal.τ).loc Cert.OutCtxRefIdeal.main_arg2) = m' ((c.tc : Thread Cert.OutCtxRefIdeal.nD Cert.OutCtxRefIdeal.τ).loc Cert.OutCtxRefIdeal.main_arg2)
          ∧ r.2.mem ((c.tc : Thread Cert.OutCtxRefIdeal.nD Cert.OutCtxRefIdeal.τ).loc Cert.OutCtxRefIdeal.main_arg3) = m' ((c.tc : Thread Cert.OutCtxRefIdeal.nD Cert.OutCtxRefIdeal.τ).loc Cert.OutCtxRefIdeal.main_arg3)
          ∧ r.2.mem ((c.tc : Thread Cert.OutCtxRefIdeal.nD Cert.OutCtxRefIdeal.τ).loc Cert.OutCtxRefIdeal.main_arg4) = m' ((c.tc : Thread Cert.OutCtxRefIdeal.nD Cert.OutCtxRefIdeal.τ).loc Cert.OutCtxRefIdeal.main_arg4))

def preserves_OddCtx_OddCtxIdeal : Prop :=
  True

def algebraic_OddCtxIdeal_OddCtxRefIdeal [hOddCtxIdeal : Cert.OddCtxIdeal.Facts] [hOddCtxRefIdeal : Cert.OddCtxRefIdeal.Facts] : Prop :=
  ∀ (m : (ℓ : Loc Cert.OddCtxIdeal.nD Cert.OddCtxIdeal.τ Cert.OddCtxIdeal.sig) → Buf (Elt Ideal) ℓ) (g : Dev Cert.OddCtxIdeal.nD → PrngReg)
    (m' : (ℓ : Loc Cert.OddCtxRefIdeal.nD Cert.OddCtxRefIdeal.τ Cert.OddCtxRefIdeal.sig) → Buf (Elt Ideal) ℓ) (g' : Dev Cert.OddCtxRefIdeal.nD → PrngReg), Pre_OddCtxIdeal m →
    (∀ c : Dev Cert.OddCtxIdeal.nD,
      m' ((c.tc : Thread Cert.OddCtxRefIdeal.nD Cert.OddCtxRefIdeal.τ).loc Cert.OddCtxRefIdeal.main_arg0) = m ((c.tc : Thread Cert.OddCtxIdeal.nD Cert.OddCtxIdeal.τ).loc Cert.OddCtxIdeal.main_arg0)
      ∧ m' ((c.tc : Thread Cert.OddCtxRefIdeal.nD Cert.OddCtxRefIdeal.τ).loc Cert.OddCtxRefIdeal.main_arg1) = m ((c.tc : Thread Cert.OddCtxIdeal.nD Cert.OddCtxIdeal.τ).loc Cert.OddCtxIdeal.main_arg1)
      ∧ m' ((c.tc : Thread Cert.OddCtxRefIdeal.nD Cert.OddCtxRefIdeal.τ).loc Cert.OddCtxRefIdeal.main_arg2) = m ((c.tc : Thread Cert.OddCtxIdeal.nD Cert.OddCtxIdeal.τ).loc Cert.OddCtxIdeal.main_arg2)
      ∧ m' ((c.tc : Thread Cert.OddCtxRefIdeal.nD Cert.OddCtxRefIdeal.τ).loc Cert.OddCtxRefIdeal.main_arg3) = m ((c.tc : Thread Cert.OddCtxIdeal.nD Cert.OddCtxIdeal.τ).loc Cert.OddCtxIdeal.main_arg3)) →
    ∃ (v0 : (c : Dev Cert.OddCtxIdeal.nD) → Buf (Elt Ideal) ((c.tc : Thread Cert.OddCtxIdeal.nD Cert.OddCtxIdeal.τ).loc Cert.OddCtxIdeal.main_v9)),
      θ_run (Cert.OddCtxIdeal.defs (F := Ideal)) (onTc (τ := Cert.OddCtxIdeal.τ) (Cert.OddCtxIdeal.main (F := Ideal))) ⟨m, fun _ => 0, g⟩ (fun r => ∀ c : Dev Cert.OddCtxIdeal.nD,
          r.2.mem ((c.tc : Thread Cert.OddCtxIdeal.nD Cert.OddCtxIdeal.τ).loc Cert.OddCtxIdeal.main_v9) = v0 c
          ∧ r.2.mem ((c.tc : Thread Cert.OddCtxIdeal.nD Cert.OddCtxIdeal.τ).loc Cert.OddCtxIdeal.main_arg0) = m ((c.tc : Thread Cert.OddCtxIdeal.nD Cert.OddCtxIdeal.τ).loc Cert.OddCtxIdeal.main_arg0)
          ∧ r.2.mem ((c.tc : Thread Cert.OddCtxIdeal.nD Cert.OddCtxIdeal.τ).loc Cert.OddCtxIdeal.main_arg1) = m ((c.tc : Thread Cert.OddCtxIdeal.nD Cert.OddCtxIdeal.τ).loc Cert.OddCtxIdeal.main_arg1)
          ∧ r.2.mem ((c.tc : Thread Cert.OddCtxIdeal.nD Cert.OddCtxIdeal.τ).loc Cert.OddCtxIdeal.main_arg2) = m ((c.tc : Thread Cert.OddCtxIdeal.nD Cert.OddCtxIdeal.τ).loc Cert.OddCtxIdeal.main_arg2)
          ∧ r.2.mem ((c.tc : Thread Cert.OddCtxIdeal.nD Cert.OddCtxIdeal.τ).loc Cert.OddCtxIdeal.main_arg3) = m ((c.tc : Thread Cert.OddCtxIdeal.nD Cert.OddCtxIdeal.τ).loc Cert.OddCtxIdeal.main_arg3))
      ∧ θ_run (Cert.OddCtxRefIdeal.defs (F := Ideal)) (onTc (τ := Cert.OddCtxRefIdeal.τ) (Cert.OddCtxRefIdeal.main (F := Ideal))) ⟨m', fun _ => 0, g'⟩ (fun r => ∀ c : Dev Cert.OddCtxRefIdeal.nD,
          r.2.mem ((c.tc : Thread Cert.OddCtxRefIdeal.nD Cert.OddCtxRefIdeal.τ).loc Cert.OddCtxRefIdeal.main_v33) = v0 c
          ∧ r.2.mem ((c.tc : Thread Cert.OddCtxRefIdeal.nD Cert.OddCtxRefIdeal.τ).loc Cert.OddCtxRefIdeal.main_arg0) = m' ((c.tc : Thread Cert.OddCtxRefIdeal.nD Cert.OddCtxRefIdeal.τ).loc Cert.OddCtxRefIdeal.main_arg0)
          ∧ r.2.mem ((c.tc : Thread Cert.OddCtxRefIdeal.nD Cert.OddCtxRefIdeal.τ).loc Cert.OddCtxRefIdeal.main_arg1) = m' ((c.tc : Thread Cert.OddCtxRefIdeal.nD Cert.OddCtxRefIdeal.τ).loc Cert.OddCtxRefIdeal.main_arg1)
          ∧ r.2.mem ((c.tc : Thread Cert.OddCtxRefIdeal.nD Cert.OddCtxRefIdeal.τ).loc Cert.OddCtxRefIdeal.main_arg2) = m' ((c.tc : Thread Cert.OddCtxRefIdeal.nD Cert.OddCtxRefIdeal.τ).loc Cert.OddCtxRefIdeal.main_arg2)
          ∧ r.2.mem ((c.tc : Thread Cert.OddCtxRefIdeal.nD Cert.OddCtxRefIdeal.τ).loc Cert.OddCtxRefIdeal.main_arg3) = m' ((c.tc : Thread Cert.OddCtxRefIdeal.nD Cert.OddCtxRefIdeal.τ).loc Cert.OddCtxRefIdeal.main_arg3))

def preserves_EvenCtx_EvenCtxIdeal : Prop :=
  True

def algebraic_EvenCtxIdeal_EvenCtxRefIdeal [hEvenCtxIdeal : Cert.EvenCtxIdeal.Facts] [hEvenCtxRefIdeal : Cert.EvenCtxRefIdeal.Facts] : Prop :=
  ∀ (m : (ℓ : Loc Cert.EvenCtxIdeal.nD Cert.EvenCtxIdeal.τ Cert.EvenCtxIdeal.sig) → Buf (Elt Ideal) ℓ) (g : Dev Cert.EvenCtxIdeal.nD → PrngReg)
    (m' : (ℓ : Loc Cert.EvenCtxRefIdeal.nD Cert.EvenCtxRefIdeal.τ Cert.EvenCtxRefIdeal.sig) → Buf (Elt Ideal) ℓ) (g' : Dev Cert.EvenCtxRefIdeal.nD → PrngReg), Pre_EvenCtxIdeal m →
    (∀ c : Dev Cert.EvenCtxIdeal.nD,
      m' ((c.tc : Thread Cert.EvenCtxRefIdeal.nD Cert.EvenCtxRefIdeal.τ).loc Cert.EvenCtxRefIdeal.main_arg0) = m ((c.tc : Thread Cert.EvenCtxIdeal.nD Cert.EvenCtxIdeal.τ).loc Cert.EvenCtxIdeal.main_arg0)
      ∧ m' ((c.tc : Thread Cert.EvenCtxRefIdeal.nD Cert.EvenCtxRefIdeal.τ).loc Cert.EvenCtxRefIdeal.main_arg1) = m ((c.tc : Thread Cert.EvenCtxIdeal.nD Cert.EvenCtxIdeal.τ).loc Cert.EvenCtxIdeal.main_arg1)
      ∧ m' ((c.tc : Thread Cert.EvenCtxRefIdeal.nD Cert.EvenCtxRefIdeal.τ).loc Cert.EvenCtxRefIdeal.main_arg2) = m ((c.tc : Thread Cert.EvenCtxIdeal.nD Cert.EvenCtxIdeal.τ).loc Cert.EvenCtxIdeal.main_arg2)
      ∧ m' ((c.tc : Thread Cert.EvenCtxRefIdeal.nD Cert.EvenCtxRefIdeal.τ).loc Cert.EvenCtxRefIdeal.main_arg3) = m ((c.tc : Thread Cert.EvenCtxIdeal.nD Cert.EvenCtxIdeal.τ).loc Cert.EvenCtxIdeal.main_arg3)
      ∧ m' ((c.tc : Thread Cert.EvenCtxRefIdeal.nD Cert.EvenCtxRefIdeal.τ).loc Cert.EvenCtxRefIdeal.main_arg4) = m ((c.tc : Thread Cert.EvenCtxIdeal.nD Cert.EvenCtxIdeal.τ).loc Cert.EvenCtxIdeal.main_arg4)
      ∧ m' ((c.tc : Thread Cert.EvenCtxRefIdeal.nD Cert.EvenCtxRefIdeal.τ).loc Cert.EvenCtxRefIdeal.main_arg5) = m ((c.tc : Thread Cert.EvenCtxIdeal.nD Cert.EvenCtxIdeal.τ).loc Cert.EvenCtxIdeal.main_arg5)) →
    ∃ (v0 : (c : Dev Cert.EvenCtxIdeal.nD) → Buf (Elt Ideal) ((c.tc : Thread Cert.EvenCtxIdeal.nD Cert.EvenCtxIdeal.τ).loc Cert.EvenCtxIdeal.main_v24_0)) (v1 : (c : Dev Cert.EvenCtxIdeal.nD) → Buf (Elt Ideal) ((c.tc : Thread Cert.EvenCtxIdeal.nD Cert.EvenCtxIdeal.τ).loc Cert.EvenCtxIdeal.main_v24_1)),
      θ_run (Cert.EvenCtxIdeal.defs (F := Ideal)) (onTc (τ := Cert.EvenCtxIdeal.τ) (Cert.EvenCtxIdeal.main (F := Ideal))) ⟨m, fun _ => 0, g⟩ (fun r => ∀ c : Dev Cert.EvenCtxIdeal.nD,
          r.2.mem ((c.tc : Thread Cert.EvenCtxIdeal.nD Cert.EvenCtxIdeal.τ).loc Cert.EvenCtxIdeal.main_v24_0) = v0 c
          ∧ r.2.mem ((c.tc : Thread Cert.EvenCtxIdeal.nD Cert.EvenCtxIdeal.τ).loc Cert.EvenCtxIdeal.main_v24_1) = v1 c
          ∧ r.2.mem ((c.tc : Thread Cert.EvenCtxIdeal.nD Cert.EvenCtxIdeal.τ).loc Cert.EvenCtxIdeal.main_arg0) = m ((c.tc : Thread Cert.EvenCtxIdeal.nD Cert.EvenCtxIdeal.τ).loc Cert.EvenCtxIdeal.main_arg0)
          ∧ r.2.mem ((c.tc : Thread Cert.EvenCtxIdeal.nD Cert.EvenCtxIdeal.τ).loc Cert.EvenCtxIdeal.main_arg1) = m ((c.tc : Thread Cert.EvenCtxIdeal.nD Cert.EvenCtxIdeal.τ).loc Cert.EvenCtxIdeal.main_arg1)
          ∧ r.2.mem ((c.tc : Thread Cert.EvenCtxIdeal.nD Cert.EvenCtxIdeal.τ).loc Cert.EvenCtxIdeal.main_arg2) = m ((c.tc : Thread Cert.EvenCtxIdeal.nD Cert.EvenCtxIdeal.τ).loc Cert.EvenCtxIdeal.main_arg2)
          ∧ r.2.mem ((c.tc : Thread Cert.EvenCtxIdeal.nD Cert.EvenCtxIdeal.τ).loc Cert.EvenCtxIdeal.main_arg3) = m ((c.tc : Thread Cert.EvenCtxIdeal.nD Cert.EvenCtxIdeal.τ).loc Cert.EvenCtxIdeal.main_arg3)
          ∧ r.2.mem ((c.tc : Thread Cert.EvenCtxIdeal.nD Cert.EvenCtxIdeal.τ).loc Cert.EvenCtxIdeal.main_arg4) = m ((c.tc : Thread Cert.EvenCtxIdeal.nD Cert.EvenCtxIdeal.τ).loc Cert.EvenCtxIdeal.main_arg4)
          ∧ r.2.mem ((c.tc : Thread Cert.EvenCtxIdeal.nD Cert.EvenCtxIdeal.τ).loc Cert.EvenCtxIdeal.main_arg5) = m ((c.tc : Thread Cert.EvenCtxIdeal.nD Cert.EvenCtxIdeal.τ).loc Cert.EvenCtxIdeal.main_arg5))
      ∧ θ_run (Cert.EvenCtxRefIdeal.defs (F := Ideal)) (onTc (τ := Cert.EvenCtxRefIdeal.τ) (Cert.EvenCtxRefIdeal.main (F := Ideal))) ⟨m', fun _ => 0, g'⟩ (fun r => ∀ c : Dev Cert.EvenCtxRefIdeal.nD,
          r.2.mem ((c.tc : Thread Cert.EvenCtxRefIdeal.nD Cert.EvenCtxRefIdeal.τ).loc Cert.EvenCtxRefIdeal.main_v61) = v0 c
          ∧ r.2.mem ((c.tc : Thread Cert.EvenCtxRefIdeal.nD Cert.EvenCtxRefIdeal.τ).loc Cert.EvenCtxRefIdeal.main_v63) = v1 c
          ∧ r.2.mem ((c.tc : Thread Cert.EvenCtxRefIdeal.nD Cert.EvenCtxRefIdeal.τ).loc Cert.EvenCtxRefIdeal.main_arg0) = m' ((c.tc : Thread Cert.EvenCtxRefIdeal.nD Cert.EvenCtxRefIdeal.τ).loc Cert.EvenCtxRefIdeal.main_arg0)
          ∧ r.2.mem ((c.tc : Thread Cert.EvenCtxRefIdeal.nD Cert.EvenCtxRefIdeal.τ).loc Cert.EvenCtxRefIdeal.main_arg1) = m' ((c.tc : Thread Cert.EvenCtxRefIdeal.nD Cert.EvenCtxRefIdeal.τ).loc Cert.EvenCtxRefIdeal.main_arg1)
          ∧ r.2.mem ((c.tc : Thread Cert.EvenCtxRefIdeal.nD Cert.EvenCtxRefIdeal.τ).loc Cert.EvenCtxRefIdeal.main_arg2) = m' ((c.tc : Thread Cert.EvenCtxRefIdeal.nD Cert.EvenCtxRefIdeal.τ).loc Cert.EvenCtxRefIdeal.main_arg2)
          ∧ r.2.mem ((c.tc : Thread Cert.EvenCtxRefIdeal.nD Cert.EvenCtxRefIdeal.τ).loc Cert.EvenCtxRefIdeal.main_arg3) = m' ((c.tc : Thread Cert.EvenCtxRefIdeal.nD Cert.EvenCtxRefIdeal.τ).loc Cert.EvenCtxRefIdeal.main_arg3)
          ∧ r.2.mem ((c.tc : Thread Cert.EvenCtxRefIdeal.nD Cert.EvenCtxRefIdeal.τ).loc Cert.EvenCtxRefIdeal.main_arg4) = m' ((c.tc : Thread Cert.EvenCtxRefIdeal.nD Cert.EvenCtxRefIdeal.τ).loc Cert.EvenCtxRefIdeal.main_arg4)
          ∧ r.2.mem ((c.tc : Thread Cert.EvenCtxRefIdeal.nD Cert.EvenCtxRefIdeal.τ).loc Cert.EvenCtxRefIdeal.main_arg5) = m' ((c.tc : Thread Cert.EvenCtxRefIdeal.nD Cert.EvenCtxRefIdeal.τ).loc Cert.EvenCtxRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v41) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_OddCtxLast_OddCtxLastIdeal : Prop :=
  True

def algebraic_OddCtxLastIdeal_OddCtxLastRefIdeal [hOddCtxLastIdeal : Cert.OddCtxLastIdeal.Facts] [hOddCtxLastRefIdeal : Cert.OddCtxLastRefIdeal.Facts] : Prop :=
  ∀ (m : (ℓ : Loc Cert.OddCtxLastIdeal.nD Cert.OddCtxLastIdeal.τ Cert.OddCtxLastIdeal.sig) → Buf (Elt Ideal) ℓ) (g : Dev Cert.OddCtxLastIdeal.nD → PrngReg)
    (m' : (ℓ : Loc Cert.OddCtxLastRefIdeal.nD Cert.OddCtxLastRefIdeal.τ Cert.OddCtxLastRefIdeal.sig) → Buf (Elt Ideal) ℓ) (g' : Dev Cert.OddCtxLastRefIdeal.nD → PrngReg), Pre_OddCtxLastIdeal m →
    (∀ c : Dev Cert.OddCtxLastIdeal.nD,
      m' ((c.tc : Thread Cert.OddCtxLastRefIdeal.nD Cert.OddCtxLastRefIdeal.τ).loc Cert.OddCtxLastRefIdeal.main_arg0) = m ((c.tc : Thread Cert.OddCtxLastIdeal.nD Cert.OddCtxLastIdeal.τ).loc Cert.OddCtxLastIdeal.main_arg0)
      ∧ m' ((c.tc : Thread Cert.OddCtxLastRefIdeal.nD Cert.OddCtxLastRefIdeal.τ).loc Cert.OddCtxLastRefIdeal.main_arg1) = m ((c.tc : Thread Cert.OddCtxLastIdeal.nD Cert.OddCtxLastIdeal.τ).loc Cert.OddCtxLastIdeal.main_arg1)
      ∧ m' ((c.tc : Thread Cert.OddCtxLastRefIdeal.nD Cert.OddCtxLastRefIdeal.τ).loc Cert.OddCtxLastRefIdeal.main_arg2) = m ((c.tc : Thread Cert.OddCtxLastIdeal.nD Cert.OddCtxLastIdeal.τ).loc Cert.OddCtxLastIdeal.main_arg2)
      ∧ m' ((c.tc : Thread Cert.OddCtxLastRefIdeal.nD Cert.OddCtxLastRefIdeal.τ).loc Cert.OddCtxLastRefIdeal.main_arg3) = m ((c.tc : Thread Cert.OddCtxLastIdeal.nD Cert.OddCtxLastIdeal.τ).loc Cert.OddCtxLastIdeal.main_arg3)) →
    ∃ (v0 : (c : Dev Cert.OddCtxLastIdeal.nD) → Buf (Elt Ideal) ((c.tc : Thread Cert.OddCtxLastIdeal.nD Cert.OddCtxLastIdeal.τ).loc Cert.OddCtxLastIdeal.main_v9)),
      θ_run (Cert.OddCtxLastIdeal.defs (F := Ideal)) (onTc (τ := Cert.OddCtxLastIdeal.τ) (Cert.OddCtxLastIdeal.main (F := Ideal))) ⟨m, fun _ => 0, g⟩ (fun r => ∀ c : Dev Cert.OddCtxLastIdeal.nD,
          r.2.mem ((c.tc : Thread Cert.OddCtxLastIdeal.nD Cert.OddCtxLastIdeal.τ).loc Cert.OddCtxLastIdeal.main_v9) = v0 c
          ∧ r.2.mem ((c.tc : Thread Cert.OddCtxLastIdeal.nD Cert.OddCtxLastIdeal.τ).loc Cert.OddCtxLastIdeal.main_arg0) = m ((c.tc : Thread Cert.OddCtxLastIdeal.nD Cert.OddCtxLastIdeal.τ).loc Cert.OddCtxLastIdeal.main_arg0)
          ∧ r.2.mem ((c.tc : Thread Cert.OddCtxLastIdeal.nD Cert.OddCtxLastIdeal.τ).loc Cert.OddCtxLastIdeal.main_arg1) = m ((c.tc : Thread Cert.OddCtxLastIdeal.nD Cert.OddCtxLastIdeal.τ).loc Cert.OddCtxLastIdeal.main_arg1)
          ∧ r.2.mem ((c.tc : Thread Cert.OddCtxLastIdeal.nD Cert.OddCtxLastIdeal.τ).loc Cert.OddCtxLastIdeal.main_arg2) = m ((c.tc : Thread Cert.OddCtxLastIdeal.nD Cert.OddCtxLastIdeal.τ).loc Cert.OddCtxLastIdeal.main_arg2)
          ∧ r.2.mem ((c.tc : Thread Cert.OddCtxLastIdeal.nD Cert.OddCtxLastIdeal.τ).loc Cert.OddCtxLastIdeal.main_arg3) = m ((c.tc : Thread Cert.OddCtxLastIdeal.nD Cert.OddCtxLastIdeal.τ).loc Cert.OddCtxLastIdeal.main_arg3))
      ∧ θ_run (Cert.OddCtxLastRefIdeal.defs (F := Ideal)) (onTc (τ := Cert.OddCtxLastRefIdeal.τ) (Cert.OddCtxLastRefIdeal.main (F := Ideal))) ⟨m', fun _ => 0, g'⟩ (fun r => ∀ c : Dev Cert.OddCtxLastRefIdeal.nD,
          r.2.mem ((c.tc : Thread Cert.OddCtxLastRefIdeal.nD Cert.OddCtxLastRefIdeal.τ).loc Cert.OddCtxLastRefIdeal.main_v34) = v0 c
          ∧ r.2.mem ((c.tc : Thread Cert.OddCtxLastRefIdeal.nD Cert.OddCtxLastRefIdeal.τ).loc Cert.OddCtxLastRefIdeal.main_arg0) = m' ((c.tc : Thread Cert.OddCtxLastRefIdeal.nD Cert.OddCtxLastRefIdeal.τ).loc Cert.OddCtxLastRefIdeal.main_arg0)
          ∧ r.2.mem ((c.tc : Thread Cert.OddCtxLastRefIdeal.nD Cert.OddCtxLastRefIdeal.τ).loc Cert.OddCtxLastRefIdeal.main_arg1) = m' ((c.tc : Thread Cert.OddCtxLastRefIdeal.nD Cert.OddCtxLastRefIdeal.τ).loc Cert.OddCtxLastRefIdeal.main_arg1)
          ∧ r.2.mem ((c.tc : Thread Cert.OddCtxLastRefIdeal.nD Cert.OddCtxLastRefIdeal.τ).loc Cert.OddCtxLastRefIdeal.main_arg2) = m' ((c.tc : Thread Cert.OddCtxLastRefIdeal.nD Cert.OddCtxLastRefIdeal.τ).loc Cert.OddCtxLastRefIdeal.main_arg2)
          ∧ r.2.mem ((c.tc : Thread Cert.OddCtxLastRefIdeal.nD Cert.OddCtxLastRefIdeal.τ).loc Cert.OddCtxLastRefIdeal.main_arg3) = m' ((c.tc : Thread Cert.OddCtxLastRefIdeal.nD Cert.OddCtxLastRefIdeal.τ).loc Cert.OddCtxLastRefIdeal.main_arg3))

def preserves_CtxAttn_CtxAttnIdeal : Prop :=
  IdealRules.named_const.Statement Cert.CtxAttnIdeal.κ "mla_scale_log2e" .f32 0x3DD53B95#32 (((Real.sqrt 192)⁻¹ * (Real.log 2)⁻¹ : ℝ) : EReal)
  ∧ IdealRules.named_const.Statement Cert.CtxAttnIdeal.κ "na_scale_log2e" .f32 0x3E0293EE#32 (((Real.sqrt 128)⁻¹ * (Real.log 2)⁻¹ : ℝ) : EReal)

def algebraic_CtxAttnIdeal_CtxAttnRefIdeal [hCtxAttnIdeal : Cert.CtxAttnIdeal.Facts] [hCtxAttnRefIdeal : Cert.CtxAttnRefIdeal.Facts] [hPre_finite_ctx : Cert.Pre_finite_ctx.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)
      ∧ m' ((c.tc : Thread Cert.CtxAttnRefIdeal.nD Cert.CtxAttnRefIdeal.τ).loc Cert.CtxAttnRefIdeal.main_arg1) = m ((c.tc : Thread Cert.CtxAttnIdeal.nD Cert.CtxAttnIdeal.τ).loc Cert.CtxAttnIdeal.main_arg1)) →
    ∃ (v0 : (c : Dev Cert.CtxAttnIdeal.nD) → Buf (Elt Ideal) ((c.tc : Thread Cert.CtxAttnIdeal.nD Cert.CtxAttnIdeal.τ).loc Cert.CtxAttnIdeal.main_v13_0)) (v1 : (c : Dev Cert.CtxAttnIdeal.nD) → Buf (Elt Ideal) ((c.tc : Thread Cert.CtxAttnIdeal.nD Cert.CtxAttnIdeal.τ).loc Cert.CtxAttnIdeal.main_v13_1)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v13_0) = v0 c
          ∧ r.2.mem ((c.tc : Thread Cert.CtxAttnIdeal.nD Cert.CtxAttnIdeal.τ).loc Cert.CtxAttnIdeal.main_v13_1) = v1 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v39) = v0 c
          ∧ r.2.mem ((c.tc : Thread Cert.CtxAttnRefIdeal.nD Cert.CtxAttnRefIdeal.τ).loc Cert.CtxAttnRefIdeal.main_v64) = v1 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0)
          ∧ r.2.mem ((c.tc : Thread Cert.CtxAttnRefIdeal.nD Cert.CtxAttnRefIdeal.τ).loc Cert.CtxAttnRefIdeal.main_arg1) = m' ((c.tc : Thread Cert.CtxAttnRefIdeal.nD Cert.CtxAttnRefIdeal.τ).loc Cert.CtxAttnRefIdeal.main_arg1))

def Claim : Prop :=
  ∃ (hMla : Cert.Mla.Facts) (hMlaIdeal : Cert.MlaIdeal.Facts) (hMlaRefIdeal : Cert.MlaRefIdeal.Facts) (hMlpLast : Cert.MlpLast.Facts) (hMlpLastIdeal : Cert.MlpLastIdeal.Facts) (hMlpLastRefIdeal : Cert.MlpLastRefIdeal.Facts) (hMlpFirst : Cert.MlpFirst.Facts) (hMlpFirstIdeal : Cert.MlpFirstIdeal.Facts) (hMlpFirstRefIdeal : Cert.MlpFirstRefIdeal.Facts) (hOutProj : Cert.OutProj.Facts) (hOutProjIdeal : Cert.OutProjIdeal.Facts) (hOutProjRefIdeal : Cert.OutProjRefIdeal.Facts) (hOddProj : Cert.OddProj.Facts) (hOddProjIdeal : Cert.OddProjIdeal.Facts) (hOddProjRefIdeal : Cert.OddProjRefIdeal.Facts) (hEvenProj : Cert.EvenProj.Facts) (hEvenProjIdeal : Cert.EvenProjIdeal.Facts) (hEvenProjRefIdeal : Cert.EvenProjRefIdeal.Facts) (hMlpCtx : Cert.MlpCtx.Facts) (hMlpCtxIdeal : Cert.MlpCtxIdeal.Facts) (hMlpCtxRefIdeal : Cert.MlpCtxRefIdeal.Facts) (hOutCtx : Cert.OutCtx.Facts) (hOutCtxIdeal : Cert.OutCtxIdeal.Facts) (hOutCtxRefIdeal : Cert.OutCtxRefIdeal.Facts) (hOddCtx : Cert.OddCtx.Facts) (hOddCtxIdeal : Cert.OddCtxIdeal.Facts) (hOddCtxRefIdeal : Cert.OddCtxRefIdeal.Facts) (hEvenCtx : Cert.EvenCtx.Facts) (hEvenCtxIdeal : Cert.EvenCtxIdeal.Facts) (hEvenCtxRefIdeal : Cert.EvenCtxRefIdeal.Facts) (hAda : Cert.Ada.Facts) (hAdaIdeal : Cert.AdaIdeal.Facts) (hAdaRefIdeal : Cert.AdaRefIdeal.Facts) (hOddCtxLast : Cert.OddCtxLast.Facts) (hOddCtxLastIdeal : Cert.OddCtxLastIdeal.Facts) (hOddCtxLastRefIdeal : Cert.OddCtxLastRefIdeal.Facts) (hCtxAttn : Cert.CtxAttn.Facts) (hCtxAttnIdeal : Cert.CtxAttnIdeal.Facts) (hCtxAttnRefIdeal : Cert.CtxAttnRefIdeal.Facts) (hPre_finite : Cert.Pre_finite.Facts) (hPre_finite_ctx : Cert.Pre_finite_ctx.Facts),
    quiescent_Mla (hMla := hMla) (hPre_finite := hPre_finite)
    ∧ quiescent_Mla_pre_none (hMla := hMla)
    ∧ quiescent_MlaIdeal (hMlaIdeal := hMlaIdeal) (hPre_finite := hPre_finite)
    ∧ quiescent_MlaIdeal_pre_none (hMlaIdeal := hMlaIdeal)
    ∧ quiescent_MlaRefIdeal (hMlaRefIdeal := hMlaRefIdeal) (hPre_finite := hPre_finite)
    ∧ quiescent_MlpLast (hMlpLast := hMlpLast)
    ∧ quiescent_MlpLastIdeal (hMlpLastIdeal := hMlpLastIdeal)
    ∧ quiescent_MlpLastRefIdeal (hMlpLastRefIdeal := hMlpLastRefIdeal)
    ∧ quiescent_MlpFirst (hMlpFirst := hMlpFirst)
    ∧ quiescent_MlpFirstIdeal (hMlpFirstIdeal := hMlpFirstIdeal)
    ∧ quiescent_MlpFirstRefIdeal (hMlpFirstRefIdeal := hMlpFirstRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_MlpCtx (hMlpCtx := hMlpCtx)
    ∧ quiescent_MlpCtxIdeal (hMlpCtxIdeal := hMlpCtxIdeal)
    ∧ quiescent_MlpCtxRefIdeal (hMlpCtxRefIdeal := hMlpCtxRefIdeal)
    ∧ quiescent_OutCtx (hOutCtx := hOutCtx)
    ∧ quiescent_OutCtxIdeal (hOutCtxIdeal := hOutCtxIdeal)
    ∧ quiescent_OutCtxRefIdeal (hOutCtxRefIdeal := hOutCtxRefIdeal)
    ∧ quiescent_OddCtx (hOddCtx := hOddCtx)
    ∧ quiescent_OddCtxIdeal (hOddCtxIdeal := hOddCtxIdeal)
    ∧ quiescent_OddCtxRefIdeal (hOddCtxRefIdeal := hOddCtxRefIdeal)
    ∧ quiescent_EvenCtx (hEvenCtx := hEvenCtx)
    ∧ quiescent_EvenCtxIdeal (hEvenCtxIdeal := hEvenCtxIdeal)
    ∧ quiescent_EvenCtxRefIdeal (hEvenCtxRefIdeal := hEvenCtxRefIdeal)
    ∧ quiescent_Ada (hAda := hAda)
    ∧ quiescent_AdaIdeal (hAdaIdeal := hAdaIdeal)
    ∧ quiescent_AdaRefIdeal (hAdaRefIdeal := hAdaRefIdeal)
    ∧ quiescent_OddCtxLast (hOddCtxLast := hOddCtxLast)
    ∧ quiescent_OddCtxLastIdeal (hOddCtxLastIdeal := hOddCtxLastIdeal)
    ∧ quiescent_OddCtxLastRefIdeal (hOddCtxLastRefIdeal := hOddCtxLastRefIdeal)
    ∧ quiescent_CtxAttn (hCtxAttn := hCtxAttn) (hPre_finite_ctx := hPre_finite_ctx)
    ∧ quiescent_CtxAttn_pre_none (hCtxAttn := hCtxAttn)
    ∧ quiescent_CtxAttnIdeal (hCtxAttnIdeal := hCtxAttnIdeal) (hPre_finite_ctx := hPre_finite_ctx)
    ∧ quiescent_CtxAttnIdeal_pre_none (hCtxAttnIdeal := hCtxAttnIdeal)
    ∧ quiescent_CtxAttnRefIdeal (hCtxAttnRefIdeal := hCtxAttnRefIdeal) (hPre_finite_ctx := hPre_finite_ctx)
    ∧ preserves_Mla_MlaIdeal
    ∧ algebraic_MlaIdeal_MlaRefIdeal (hMlaIdeal := hMlaIdeal) (hMlaRefIdeal := hMlaRefIdeal) (hPre_finite := hPre_finite)
    ∧ preserves_MlpLast_MlpLastIdeal
    ∧ algebraic_MlpLastIdeal_MlpLastRefIdeal (hMlpLastIdeal := hMlpLastIdeal) (hMlpLastRefIdeal := hMlpLastRefIdeal)
    ∧ preserves_MlpFirst_MlpFirstIdeal
    ∧ algebraic_MlpFirstIdeal_MlpFirstRefIdeal (hMlpFirstIdeal := hMlpFirstIdeal) (hMlpFirstRefIdeal := hMlpFirstRefIdeal)
    ∧ preserves_OutProj_OutProjIdeal
    ∧ algebraic_OutProjIdeal_OutProjRefIdeal (hOutProjIdeal := hOutProjIdeal) (hOutProjRefIdeal := hOutProjRefIdeal)
    ∧ preserves_OddProj_OddProjIdeal
    ∧ algebraic_OddProjIdeal_OddProjRefIdeal (hOddProjIdeal := hOddProjIdeal) (hOddProjRefIdeal := hOddProjRefIdeal)
    ∧ preserves_EvenProj_EvenProjIdeal
    ∧ algebraic_EvenProjIdeal_EvenProjRefIdeal (hEvenProjIdeal := hEvenProjIdeal) (hEvenProjRefIdeal := hEvenProjRefIdeal)
    ∧ preserves_MlpCtx_MlpCtxIdeal
    ∧ algebraic_MlpCtxIdeal_MlpCtxRefIdeal (hMlpCtxIdeal := hMlpCtxIdeal) (hMlpCtxRefIdeal := hMlpCtxRefIdeal)
    ∧ preserves_OutCtx_OutCtxIdeal
    ∧ algebraic_OutCtxIdeal_OutCtxRefIdeal (hOutCtxIdeal := hOutCtxIdeal) (hOutCtxRefIdeal := hOutCtxRefIdeal)
    ∧ preserves_OddCtx_OddCtxIdeal
    ∧ algebraic_OddCtxIdeal_OddCtxRefIdeal (hOddCtxIdeal := hOddCtxIdeal) (hOddCtxRefIdeal := hOddCtxRefIdeal)
    ∧ preserves_EvenCtx_EvenCtxIdeal
    ∧ algebraic_EvenCtxIdeal_EvenCtxRefIdeal (hEvenCtxIdeal := hEvenCtxIdeal) (hEvenCtxRefIdeal := hEvenCtxRefIdeal)
    ∧ preserves_Ada_AdaIdeal
    ∧ algebraic_AdaIdeal_AdaRefIdeal (hAdaIdeal := hAdaIdeal) (hAdaRefIdeal := hAdaRefIdeal)
    ∧ preserves_OddCtxLast_OddCtxLastIdeal
    ∧ algebraic_OddCtxLastIdeal_OddCtxLastRefIdeal (hOddCtxLastIdeal := hOddCtxLastIdeal) (hOddCtxLastRefIdeal := hOddCtxLastRefIdeal)
    ∧ preserves_CtxAttn_CtxAttnIdeal
    ∧ algebraic_CtxAttnIdeal_CtxAttnRefIdeal (hCtxAttnIdeal := hCtxAttnIdeal) (hCtxAttnRefIdeal := hCtxAttnRefIdeal) (hPre_finite_ctx := hPre_finite_ctx)
-- ==== Pre_finite.lean ====
abbrev S4x2048x5184 : Shape := ⟨3, ![4, 2048, 5184]⟩
abbrev S4x256x5184 : Shape := ⟨3, ![4, 256, 5184]⟩
abbrev S4x2048x2048 : Shape := ⟨3, ![4, 2048, 2048]⟩
abbrev S4x256x2048 : Shape := ⟨3, ![4, 256, 2048]⟩
abbrev S_ : Shape := ⟨0, ![]⟩

class Facts : Prop where
  bcast_S_S4x2048x5184 : S_.BroadcastsInDim S4x2048x5184 (![] : Fin 0 → Fin S4x2048x5184.rank)
  reducesTo_S4x2048x5184_S_d0_1_2 : S4x2048x5184.ReducesTo [0, 1, 2] S_
  h_S_ : 0 < S_.numel
  bcast_S_S4x256x5184 : S_.BroadcastsInDim S4x256x5184 (![] : Fin 0 → Fin S4x256x5184.rank)
  reducesTo_S4x256x5184_S_d0_1_2 : S4x256x5184.ReducesTo [0, 1, 2] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn_part1 {F : FTy → Type} [FloatOps F] (main_v13 : IVec S_ 1) (main_v16 : IVec S4x256x2048 1) : IVec S_ 1 :=
  let main_c_5 : IVec S_ 1 := constantI S_ 1 1#1
  let main_v17 : IVec S_ 1 := (fun x v => Host.reduce IntOp.andi x v reducesTo_S4x256x2048_S_d0_1_2 h_S_) main_v16 main_c_5
  let main_v18 : IVec S_ 1 := andi main_v13 main_v17
  main_v18

def fn {F : FTy → Type} [FloatOps F] (main_arg0 : FVec F S4x2048x5184 .f32) (main_arg1 : FVec F S4x256x5184 .f32) (main_arg2 : FVec F S4x2048x2048 .f32) (main_arg3 : FVec F S4x256x2048 .f32) : IVec S_ 1 :=
  let main_v0 : FVec F S4x2048x5184 .f32 := Host.absf main_arg0
  let main_cst : FVec F S_ .f32 := constant S_ .f32 0x7F800000#32
  let main_v1 : FVec F S4x2048x5184 .f32 := broadcastInDim S4x2048x5184 ![] bcast_S_S4x2048x5184 main_cst
  let main_v2 : IVec S4x2048x5184 1 := cmpf .olt main_v0 main_v1
  let main_c : IVec S_ 1 := constantI S_ 1 1#1
  let main_v3 : IVec S_ 1 := (fun x v => Host.reduce IntOp.andi x v reducesTo_S4x2048x5184_S_d0_1_2 h_S_) main_v2 main_c
  let main_v4 : FVec F S4x256x5184 .f32 := Host.absf main_arg1
  let main_cst_0 : FVec F S_ .f32 := constant S_ .f32 0x7F800000#32
  let main_v5 : FVec F S4x256x5184 .f32 := broadcastInDim S4x256x5184 ![] bcast_S_S4x256x5184 main_cst_0
  let main_v6 : IVec S4x256x5184 1 := cmpf .olt main_v4 main_v5
  let main_c_1 : IVec S_ 1 := constantI S_ 1 1#1
  let main_v7 : IVec S_ 1 := (fun x v => Host.reduce IntOp.andi x v reducesTo_S4x256x5184_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x256x2048 .f32 := Host.absf main_arg3
  let main_cst_4 : FVec F S_ .f32 := constant S_ .f32 0x7F800000#32
  let main_v15 : FVec F S4x256x2048 .f32 := broadcastInDim S4x256x2048 ![] bcast_S_S4x256x2048 main_cst_4
  let main_v16 : IVec S4x256x2048 1 := cmpf .olt main_v14 main_v15
  fn_part1 (F := F) main_v13 main_v16
-- ==== Pre_finite_ctx.lean ====
abbrev S4x256x5184 : Shape := ⟨3, ![4, 256, 5184]⟩
abbrev S4x256x2048 : Shape := ⟨3, ![4, 256, 2048]⟩
abbrev S_ : Shape := ⟨0, ![]⟩

class Facts : Prop where
  bcast_S_S4x256x5184 : S_.BroadcastsInDim S4x256x5184 (![] : Fin 0 → Fin S4x256x5184.rank)
  reducesTo_S4x256x5184_S_d0_1_2 : S4x256x5184.ReducesTo [0, 1, 2] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn {F : FTy → Type} [FloatOps F] (main_arg0 : FVec F S4x256x5184 .f32) (main_arg1 : FVec F S4x256x2048 .f32) : IVec S_ 1 :=
  let main_v0 : FVec F S4x256x5184 .f32 := Host.absf main_arg0
  let main_cst : FVec F S_ .f32 := constant S_ .f32 0x7F800000#32
  let main_v1 : FVec F S4x256x5184 .f32 := broadcastInDim S4x256x5184 ![] bcast_S_S4x256x5184 main_cst
  let main_v2 : IVec S4x256x5184 1 := cmpf .olt main_v0 main_v1
  let main_c : IVec S_ 1 := constantI S_ 1 1#1
  let main_v3 : IVec S_ 1 := (fun x v => Host.reduce IntOp.andi x v reducesTo_S4x256x5184_S_d0_1_2 h_S_) main_v2 main_c
  let main_v4 : FVec F S4x256x2048 .f32 := Host.absf main_arg1
  let main_cst_0 : FVec F S_ .f32 := constant S_ .f32 0x7F800000#32
  let main_v5 : FVec F S4x256x2048 .f32 := broadcastInDim S4x256x2048 ![] bcast_S_S4x256x2048 main_cst_0
  let main_v6 : IVec S4x256x2048 1 := cmpf .olt main_v4 main_v5
  let main_c_1 : IVec S_ 1 := constantI S_ 1 1#1
  let main_v7 : IVec S_ 1 := (fun x v => Host.reduce IntOp.andi x v reducesTo_S4x256x2048_S_d0_1_2 h_S_) main_v6 main_c_1
  let main_v8 : IVec S_ 1 := andi main_v3 main_v7
  main_v8
-- ==== Mla.lean ====
abbrev S4x2048x5184 : Shape := ⟨3, ![4, 2048, 5184]⟩
abbrev S4x256x5184 : Shape := ⟨3, ![4, 256, 5184]⟩
abbrev S4x2048x2048 : Shape := ⟨3, ![4, 2048, 2048]⟩
abbrev S4x256x2048 : Shape := ⟨3, ![4, 256, 2048]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S8192x5184 : Shape := ⟨2, ![8192, 5184]⟩
abbrev S8192x1536 : Shape := ⟨2, ![8192, 1536]⟩
abbrev S8192x8x192 : Shape := ⟨3, ![8192, 8, 192]⟩
abbrev S8192x8x256 : Shape := ⟨3, ![8192, 8, 256]⟩
abbrev S8192x64 : Shape := ⟨2, ![8192, 64]⟩
abbrev S8192x512 : Shape := ⟨2, ![8192, 512]⟩
abbrev S8192x2048 : Shape := ⟨2, ![8192, 2048]⟩
abbrev S8192x3072 : Shape := ⟨2, ![8192, 3072]⟩
abbrev S8192x6144 : Shape := ⟨2, ![8192, 6144]⟩
abbrev S1024x5184 : Shape := ⟨2, ![1024, 5184]⟩
abbrev S1024x1536 : Shape := ⟨2, ![1024, 1536]⟩
abbrev S1024x8x192 : Shape := ⟨3, ![1024, 8, 192]⟩
abbrev S1024x8x256 : Shape := ⟨3, ![1024, 8, 256]⟩
abbrev S1024x64 : Shape := ⟨2, ![1024, 64]⟩
abbrev S1024x512 : Shape := ⟨2, ![1024, 512]⟩
abbrev S1024x2048 : Shape := ⟨2, ![1024, 2048]⟩
abbrev S1024x3072 : Shape := ⟨2, ![1024, 3072]⟩
abbrev S1024x6144 : Shape := ⟨2, ![1024, 6144]⟩
abbrev S8192x1024 : Shape := ⟨2, ![8192, 1024]⟩
abbrev S256x128 : Shape := ⟨2, ![256, 128]⟩
abbrev S2304x256 : Shape := ⟨2, ![2304, 256]⟩
abbrev S2304x128 : Shape := ⟨2, ![2304, 128]⟩
abbrev S2048x256 : Shape := ⟨2, ![2048, 256]⟩
abbrev S512x256 : Shape := ⟨2, ![512, 256]⟩
abbrev S512x2304 : Shape := ⟨2, ![512, 2304]⟩
abbrev S512 : Shape := ⟨1, ![512]⟩
abbrev S512x1 : Shape := ⟨2, ![512, 1]⟩
abbrev S512x128 : Shape := ⟨2, ![512, 128]⟩

abbrev nBuf : Space → Nat
  | .hbm => 120
  | .vmem => 24
  | .smem => 0
  | _ => 0

abbrev bufTy : (tb : Table) → Fin (tcTables nBuf tb) → BufTy
  | .hbm, ⟨0, _⟩ => ⟨S4x2048x5184, .f32⟩
  | .hbm, ⟨1, _⟩ => ⟨S4x256x5184, .f32⟩
  | .hbm, ⟨2, _⟩ => ⟨S4x2048x2048, .f32⟩
  | .hbm, ⟨3, _⟩ => ⟨S4x256x2048, .f32⟩
  | .hbm, ⟨4, _⟩ => ⟨S2048, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048, .f32⟩
  | .hbm, ⟨38, _⟩ => ⟨S2048x1, .f32⟩
  | .hbm, ⟨39, _⟩ => ⟨S1x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S_, .i1⟩
  | .hbm, ⟨59, _⟩ => ⟨S2048, .i1⟩
  | .hbm, ⟨60, _⟩ => ⟨S2048, .i1⟩
  | .hbm, ⟨61, _⟩ => ⟨S2048, .i1⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048, .f32⟩
  | .hbm, ⟨66, _⟩ => ⟨S2048x1, .f32⟩
  | .hbm, ⟨67, _⟩ => ⟨S1x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S_, .f32⟩
  | .hbm, ⟨72, _⟩ => ⟨S2048x64, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x128, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x16, .f32⟩
  | .hbm, ⟨82, _⟩ => ⟨S2048x16, .f32⟩
  | .hbm, ⟨83, _⟩ => ⟨S2048x16, .f32⟩
  | .hbm, ⟨84, _⟩ => ⟨S2048x128, .f32⟩
  | .hbm, ⟨85, _⟩ => ⟨S8192x5184, .f32⟩
  | .hbm, ⟨86, _⟩ => ⟨S8192x5184, .bf16⟩
  | .hbm, ⟨87, _⟩ => ⟨S8192x1536, .bf16⟩
  | .hbm, ⟨88, _⟩ => ⟨S8192x8x192, .bf16⟩
  | .hbm, ⟨89, _⟩ => ⟨S_, .i32⟩
  | .hbm, ⟨90, _⟩ => ⟨S_, .bf16⟩
  | .hbm, ⟨91, _⟩ => ⟨S8192x8x256, .bf16⟩
  | .hbm, ⟨92, _⟩ => ⟨S8192x64, .bf16⟩
  | .hbm, ⟨93, _⟩ => ⟨S_, .i32⟩
  | .hbm, ⟨94, _⟩ => ⟨S_, .bf16⟩
  | .hbm, ⟨95, _⟩ => ⟨S8192x512, .bf16⟩
  | .hbm, ⟨96, _⟩ => ⟨S8192x2048, .bf16⟩
  | .hbm, ⟨97, _⟩ => ⟨S8192x3072, .bf16⟩
  | .hbm, ⟨98, _⟩ => ⟨S8192x512, .bf16⟩
  | .hbm, ⟨99, _⟩ => ⟨S8192x6144, .bf16⟩
  | .hbm, ⟨100, _⟩ => ⟨S1024x5184, .f32⟩
  | .hbm, ⟨101, _⟩ => ⟨S1024x5184, .bf16⟩
  | .hbm, ⟨102, _⟩ => ⟨S1024x1536, .bf16⟩
  | .hbm, ⟨103, _⟩ => ⟨S1024x8x192, .bf16⟩
  | .hbm, ⟨104, _⟩ => ⟨S_, .i32⟩
  | .hbm, ⟨105, _⟩ => ⟨S_, .bf16⟩
  | .hbm, ⟨106, _⟩ => ⟨S1024x8x256, .bf16⟩
  | .hbm, ⟨107, _⟩ => ⟨S1024x64, .bf16⟩
  | .hbm, ⟨108, _⟩ => ⟨S_, .i32⟩
  | .hbm, ⟨109, _⟩ => ⟨S_, .bf16⟩
  | .hbm, ⟨110, _⟩ => ⟨S1024x512, .bf16⟩
  | .hbm, ⟨111, _⟩ => ⟨S1024x2048, .bf16⟩
  | .hbm, ⟨112, _⟩ => ⟨S1024x3072, .bf16⟩
  | .hbm, ⟨113, _⟩ => ⟨S1024x512, .bf16⟩
  | .hbm, ⟨114, _⟩ => ⟨S1024x6144, .bf16⟩
  | .hbm, ⟨115, _⟩ => ⟨S8192x2048, .f32⟩
  | .hbm, ⟨116, _⟩ => ⟨S8192x2048, .bf16⟩
  | .hbm, ⟨117, _⟩ => ⟨S1024x2048, .f32⟩
  | .hbm, ⟨118, _⟩ => ⟨S1024x2048, .bf16⟩
  | .hbm, ⟨119, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2304x256, .bf16⟩
  | .local _ .vmem, ⟨23, _⟩ => ⟨S2304x256, .bf16⟩
  | _, _ => ⟨S4x2048x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_call2_v0 : Ref sig .tc := ⟨.hbm, 90, rfl⟩
abbrev main_v42 : Ref sig .tc := ⟨.hbm, 91, rfl⟩
abbrev main_v43 : Ref sig .tc := ⟨.hbm, 92, rfl⟩
abbrev main_c_6 : Ref sig .tc := ⟨.hbm, 93, rfl⟩
abbrev main_call3_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_7 : Ref sig .tc := ⟨.hbm, 104, rfl⟩
abbrev main_call4_v0 : Ref sig .tc := ⟨.hbm, 105, rfl⟩
abbrev main_v53 : Ref sig .tc := ⟨.hbm, 106, rfl⟩
abbrev main_v54 : Ref sig .tc := ⟨.hbm, 107, rfl⟩
abbrev main_c_8 : Ref sig .tc := ⟨.hbm, 108, rfl⟩
abbrev main_call5_v0 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi c0_i32 v2
  let c0_i32_0 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi c0_i32 v2
  let c1_i32_0 : BitVec 32 := 1#32
  let v4 : BitVec 32 := Scalar.addi v3 c1_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let c0_i32 : BitVec 32 := 0#32
  ![arg0.toNat, c44_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let c0_i32 : BitVec 32 := 0#32
  ![arg0.toNat, c44_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== MlaIdeal.lean ====
variable {F : FTy → Type} [FloatOps F] [Named F]
def κ : String → Option EReal := fun
  | "scale_log2e" => some (((Real.sqrt 192)⁻¹ * (Real.log 2)⁻¹ : ℝ) : EReal)
  | _ => none
-- ==== MlaRefIdeal.lean ====
abbrev S4x2048x5184 : Shape := ⟨3, ![4, 2048, 5184]⟩
abbrev S4x256x5184 : Shape := ⟨3, ![4, 256, 5184]⟩
abbrev S4x2048x2048 : Shape := ⟨3, ![4, 2048, 2048]⟩
abbrev S4x256x2048 : Shape := ⟨3, ![4, 256, 2048]⟩
abbrev S2048 : Shape := ⟨1, ![2048]⟩
abbrev S_ : Shape := ⟨0, ![]⟩
abbrev S4x2048x1536 : Shape := ⟨3, ![4, 2048, 1536]⟩
abbrev S4x2048x512 : Shape := ⟨3, ![4, 2048, 512]⟩
abbrev S4x2048x64 : Shape := ⟨3, ![4, 2048, 64]⟩
abbrev S4x2048x3072 : Shape := ⟨3, ![4, 2048, 3072]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x1x64 : Shape := ⟨4, ![4, 2048, 1, 64]⟩
abbrev S4x2048x8x32 : Shape := ⟨4, ![4, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x1x32 : Shape := ⟨4, ![4, 2048, 1, 32]⟩
abbrev S4x2048x1x16 : Shape := ⟨4, ![4, 2048, 1, 16]⟩
abbrev S4x2048x8x256 : Shape := ⟨4, ![4, 2048, 8, 256]⟩
abbrev S4x8x2048x192 : Shape := ⟨4, ![4, 8, 2048, 192]⟩
abbrev S4x8x2048x128 : Shape := ⟨4, ![4, 8, 2048, 128]⟩
abbrev S4x256x1536 : Shape := ⟨3, ![4, 256, 1536]⟩
abbrev S4x256x512 : Shape := ⟨3, ![4, 256, 512]⟩
abbrev S4x256x64 : Shape := ⟨3, ![4, 256, 64]⟩
abbrev S4x256x3072 : Shape := ⟨3, ![4, 256, 3072]⟩
abbrev S4x256x8x192 : Shape := ⟨4, ![4, 256, 8, 192]⟩
abbrev S4x256x8x128 : Shape := ⟨4, ![4, 256, 8, 128]⟩
abbrev S4x256x8x64 : Shape := ⟨4, ![4, 256, 8, 64]⟩
abbrev S4x256x1x64 : Shape := ⟨4, ![4, 256, 1, 64]⟩
abbrev S4x256x8x256 : Shape := ⟨4, ![4, 256, 8, 256]⟩
abbrev S4x8x256x192 : Shape := ⟨4, ![4, 8, 256, 192]⟩
abbrev S4x8x256x128 : Shape := ⟨4, ![4, 8, 256, 128]⟩
abbrev S4x8x2304x192 : Shape := ⟨4, ![4, 8, 2304, 192]⟩
abbrev S4x8x2304x128 : Shape := ⟨4, ![4, 8, 2304, 128]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S8192x1024 : Shape := ⟨2, ![8192, 1024]⟩

abbrev nBuf : Space → Nat
  | .hbm => 274
  | .vmem => 0
  | .smem => 0
  | _ => 0

abbrev hbmTy0_0 (i : Nat) : BufTy := match i % 128 with
  | 0 => ⟨S4x2048x5184, .f32⟩
  | 1 => ⟨S4x256x5184, .f32⟩
  | 2 => ⟨S4x2048x2048, .f32⟩
  | 3 => ⟨S4x256x2048, .f32⟩
  | 4 => ⟨S2048, .i32⟩
  | 5 => ⟨S_, .i32⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S2048, .i32⟩
  | 14 => ⟨S2048, .i32⟩
  | 15 => ⟨S_, .i32⟩
  | 16 => ⟨S2048, .i32⟩
  | 17 => ⟨S2048, .i1⟩
  | 18 => ⟨S2048, .i1⟩
  | 19 => ⟨S_, .i32⟩
  | 20 => ⟨S2048, .i32⟩
  | 21 => ⟨S2048, .i32⟩
  | 22 => ⟨S2048, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i1⟩
  | 37 => ⟨S_, .i32⟩
  | 38 => ⟨S_, .i1⟩
  | 39 => ⟨S2048, .i1⟩
  | 40 => ⟨S2048, .i1⟩
  | 41 => ⟨S2048, .i1⟩
  | 42 => ⟨S2048, .i32⟩
  | 43 => ⟨S2048, .i32⟩
  | 44 => ⟨S2048, .i32⟩
  | 45 => ⟨S4x2048x1536, .f32⟩
  | 46 => ⟨S4x2048x512, .f32⟩
  | 47 => ⟨S4x2048x64, .f32⟩
  | 48 => ⟨S4x2048x3072, .f32⟩
  | 49 => ⟨S4x2048x8x192, .f32⟩
  | 50 => ⟨S4x2048x8x128, .f32⟩
  | 51 => ⟨S4x2048x8x64, .f32⟩
  | 52 => ⟨S4x2048x1x64, .f32⟩
  | 53 => ⟨S4x2048x8x32, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S2048, .f32⟩
  | 69 => ⟨S2048x1, .f32⟩
  | 70 => ⟨S1x16, .f32⟩
  | 71 => ⟨S2048x16, .f32⟩
  | 72 => ⟨S2048x16, .f32⟩
  | 73 => ⟨S2048x16, .f32⟩
  | 74 => ⟨S2048x16, .f32⟩
  | 75 => ⟨S2048x1x16, .f32⟩
  | 76 => ⟨S2048x16, .f32⟩
  | 77 => ⟨S2048x1x16, .f32⟩
  | 78 => ⟨S4x2048x8x16, .f32⟩
  | 79 => ⟨S4x2048x8x16, .f32⟩
  | 80 => ⟨S1x2048x1x16, .f32⟩
  | 81 => ⟨S4x2048x8x16, .f32⟩
  | 82 => ⟨S4x2048x8x16, .f32⟩
  | 83 => ⟨S1x2048x1x16, .f32⟩
  | 84 => ⟨S4x2048x8x16, .f32⟩
  | 85 => ⟨S4x2048x8x16, .f32⟩
  | 86 => ⟨S4x2048x8x16, .f32⟩
  | 87 => ⟨S1x2048x1x16, .f32⟩
  | 88 => ⟨S4x2048x8x16, .f32⟩
  | 89 => ⟨S4x2048x8x16, .f32⟩
  | 90 => ⟨S1x2048x1x16, .f32⟩
  | 91 => ⟨S4x2048x8x16, .f32⟩
  | 92 => ⟨S4x2048x8x16, .f32⟩
  | 93 => ⟨S4x2048x8x16, .f32⟩
  | 94 => ⟨S4x2048x8x32, .f32⟩
  | 95 => ⟨S4x2048x8x32, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S2048, .f32⟩
  | 111 => ⟨S2048x1, .f32⟩
  | 112 => ⟨S1x16, .f32⟩
  | 113 => ⟨S2048x16, .f32⟩
  | 114 => ⟨S2048x16, .f32⟩
  | 115 => ⟨S2048x16, .f32⟩
  | 116 => ⟨S2048x16, .f32⟩
  | 117 => ⟨S2048x1x16, .f32⟩
  | 118 => ⟨S2048x16, .f32⟩
  | 119 => ⟨S2048x1x16, .f32⟩
  | 120 => ⟨S4x2048x8x16, .f32⟩
  | 121 => ⟨S4x2048x8x16, .f32⟩
  | 122 => ⟨S1x2048x1x16, .f32⟩
  | 123 => ⟨S4x2048x8x16, .f32⟩
  | 124 => ⟨S4x2048x8x16, .f32⟩
  | 125 => ⟨S1x2048x1x16, .f32⟩
  | 126 => ⟨S4x2048x8x16, .f32⟩
  | 127 => ⟨S4x2048x8x16, .f32⟩
  | _ => ⟨S4x2048x5184, .f32⟩

abbrev hbmTy0_1 (i : Nat) : BufTy := match i % 128 with
  | 0 => ⟨S4x2048x8x16, .f32⟩
  | 1 => ⟨S1x2048x1x16, .f32⟩
  | 2 => ⟨S4x2048x8x16, .f32⟩
  | 3 => ⟨S4x2048x8x16, .f32⟩
  | 4 => ⟨S1x2048x1x16, .f32⟩
  | 5 => ⟨S4x2048x8x16, .f32⟩
  | 6 => ⟨S4x2048x8x16, .f32⟩
  | 7 => ⟨S4x2048x8x16, .f32⟩
  | 8 => ⟨S4x2048x8x32, .f32⟩
  | 9 => ⟨S4x2048x8x64, .f32⟩
  | 10 => ⟨S4x2048x1x32, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048, .f32⟩
  | 26 => ⟨S2048x1, .f32⟩
  | 27 => ⟨S1x16, .f32⟩
  | 28 => ⟨S2048x16, .f32⟩
  | 29 => ⟨S2048x16, .f32⟩
  | 30 => ⟨S2048x16, .f32⟩
  | 31 => ⟨S2048x16, .f32⟩
  | 32 => ⟨S2048x1x16, .f32⟩
  | 33 => ⟨S2048x16, .f32⟩
  | 34 => ⟨S2048x1x16, .f32⟩
  | 35 => ⟨S4x2048x1x16, .f32⟩
  | 36 => ⟨S4x2048x1x16, .f32⟩
  | 37 => ⟨S1x2048x1x16, .f32⟩
  | 38 => ⟨S4x2048x1x16, .f32⟩
  | 39 => ⟨S4x2048x1x16, .f32⟩
  | 40 => ⟨S1x2048x1x16, .f32⟩
  | 41 => ⟨S4x2048x1x16, .f32⟩
  | 42 => ⟨S4x2048x1x16, .f32⟩
  | 43 => ⟨S4x2048x1x16, .f32⟩
  | 44 => ⟨S1x2048x1x16, .f32⟩
  | 45 => ⟨S4x2048x1x16, .f32⟩
  | 46 => ⟨S4x2048x1x16, .f32⟩
  | 47 => ⟨S1x2048x1x16, .f32⟩
  | 48 => ⟨S4x2048x1x16, .f32⟩
  | 49 => ⟨S4x2048x1x16, .f32⟩
  | 50 => ⟨S4x2048x1x16, .f32⟩
  | 51 => ⟨S4x2048x1x32, .f32⟩
  | 52 => ⟨S4x2048x1x32, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S2048, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x16, .f32⟩
  | 74 => ⟨S2048x1x16, .f32⟩
  | 75 => ⟨S2048x16, .f32⟩
  | 76 => ⟨S2048x1x16, .f32⟩
  | 77 => ⟨S4x2048x1x16, .f32⟩
  | 78 => ⟨S4x2048x1x16, .f32⟩
  | 79 => ⟨S1x2048x1x16, .f32⟩
  | 80 => ⟨S4x2048x1x16, .f32⟩
  | 81 => ⟨S4x2048x1x16, .f32⟩
  | 82 => ⟨S1x2048x1x16, .f32⟩
  | 83 => ⟨S4x2048x1x16, .f32⟩
  | 84 => ⟨S4x2048x1x16, .f32⟩
  | 85 => ⟨S4x2048x1x16, .f32⟩
  | 86 => ⟨S1x2048x1x16, .f32⟩
  | 87 => ⟨S4x2048x1x16, .f32⟩
  | 88 => ⟨S4x2048x1x16, .f32⟩
  | 89 => ⟨S1x2048x1x16, .f32⟩
  | 90 => ⟨S4x2048x1x16, .f32⟩
  | 91 => ⟨S4x2048x1x16, .f32⟩
  | 92 => ⟨S4x2048x1x16, .f32⟩
  | 93 => ⟨S4x2048x1x32, .f32⟩
  | 94 => ⟨S4x2048x1x64, .f32⟩
  | 95 => ⟨S4x2048x8x256, .f32⟩
  | 96 => ⟨S4x2048x8x128, .f32⟩
  | 97 => ⟨S4x2048x8x128, .f32⟩
  | 98 => ⟨S4x2048x8x192, .f32⟩
  | 99 => ⟨S4x2048x8x64, .f32⟩
  | 100 => ⟨S4x2048x8x192, .f32⟩
  | 101 => ⟨S4x8x2048x192, .f32⟩
  | 102 => ⟨S4x8x2048x192, .f32⟩
  | 103 => ⟨S4x8x2048x128, .f32⟩
  | 104 => ⟨S4x256x1536, .f32⟩
  | 105 => ⟨S4x256x512, .f32⟩
  | 106 => ⟨S4x256x64, .f32⟩
  | 107 => ⟨S4x256x3072, .f32⟩
  | 108 => ⟨S4x256x8x192, .f32⟩
  | 109 => ⟨S4x256x8x128, .f32⟩
  | 110 => ⟨S4x256x8x64, .f32⟩
  | 111 => ⟨S4x256x1x64, .f32⟩
  | 112 => ⟨S4x256x8x256, .f32⟩
  | 113 => ⟨S4x256x8x128, .f32⟩
  | 114 => ⟨S4x256x8x128, .f32⟩
  | 115 => ⟨S4x256x8x192, .f32⟩
  | 116 => ⟨S4x256x8x64, .f32⟩
  | 117 => ⟨S4x256x8x192, .f32⟩
  | 118 => ⟨S4x8x256x192, .f32⟩
  | 119 => ⟨S4x8x256x192, .f32⟩
  | 120 => ⟨S4x8x256x128, .f32⟩
  | 121 => ⟨S4x8x2304x192, .f32⟩
  | 122 => ⟨S4x8x2304x128, .f32⟩
  | 123 => ⟨S4x8x2048x2304, .f32⟩
  | 124 => ⟨S_, .f32⟩
  | 125 => ⟨S_, .f32⟩
  | 126 => ⟨S4x8x2048x2304, .f32⟩
  | 127 => ⟨S4x8x2048x2304, .f32⟩
  | _ => ⟨S4x2048x5184, .f32⟩

abbrev hbmTy0_2 (i : Nat) : BufTy := match i % 128 with
  | 0 => ⟨S_, .f32⟩
  | 1 => ⟨S4x8x2048, .f32⟩
  | 2 => ⟨S_, .f32⟩
  | 3 => ⟨S4x8x2048, .f32⟩
  | 4 => ⟨S4x8x2048, .f32⟩
  | 5 => ⟨S4x8x2048x1, .f32⟩
  | 6 => ⟨S4x8x2048x2304, .f32⟩
  | 7 => ⟨S4x8x2048x2304, .f32⟩
  | 8 => ⟨S4x8x2048x2304, .f32⟩
  | 9 => ⟨S_, .f32⟩
  | 10 => ⟨S4x8x2048, .f32⟩
  | 11 => ⟨S4x8x2048x1, .f32⟩
  | 12 => ⟨S4x8x2048x2304, .f32⟩
  | 13 => ⟨S4x8x2048x2304, .f32⟩
  | 14 => ⟨S4x8x2048x128, .f32⟩
  | 15 => ⟨S4x2048x8x128, .f32⟩
  | 16 => ⟨S8192x1024, .f32⟩
  | 17 => ⟨S8192x1024, .bf16⟩
  | _ => ⟨S4x2048x5184, .f32⟩

abbrev hbmTy (i : Nat) : BufTy := match i / 128 with
  | 0 => hbmTy0_0 i
  | 1 => hbmTy0_1 i
  | 2 => hbmTy0_2 i
  | _ => ⟨S4x2048x5184, .f32⟩

abbrev bufTy : (tb : Table) → Fin (tcTables nBuf tb) → BufTy
  | .hbm, ⟨i, _⟩ => hbmTy i
  | _, _ => ⟨S4x2048x5184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_cst_3 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_4 : Ref sig .tc := ⟨.hbm, 97, rfl⟩
abbrev main_v51 : Ref sig .tc := ⟨.hbm, 98, rfl⟩
abbrev main_v52 : Ref sig .tc := ⟨.hbm, 99, rfl⟩
abbrev main_cst_5 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_6 : Ref sig .tc := ⟨.hbm, 104, rfl⟩
abbrev main_v56 : Ref sig .tc := ⟨.hbm, 105, rfl⟩
abbrev main_v57 : Ref sig .tc := ⟨.hbm, 106, rfl⟩
abbrev main_cst_7 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_8 : Ref sig .tc := ⟨.hbm, 140, rfl⟩
abbrev main_v90 : Ref sig .tc := ⟨.hbm, 141, rfl⟩
abbrev main_v91 : Ref sig .tc := ⟨.hbm, 142, rfl⟩
abbrev main_cst_9 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_10 : Ref sig .tc := ⟨.hbm, 147, rfl⟩
abbrev main_v95 : Ref sig .tc := ⟨.hbm, 148, rfl⟩
abbrev main_v96 : Ref sig .tc := ⟨.hbm, 149, rfl⟩
abbrev main_cst_11 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_12 : Ref sig .tc := ⟨.hbm, 182, rfl⟩
abbrev main_v128 : Ref sig .tc := ⟨.hbm, 183, rfl⟩
abbrev main_v129 : Ref sig .tc := ⟨.hbm, 184, rfl⟩
abbrev main_cst_13 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_14 : Ref sig .tc := ⟨.hbm, 189, rfl⟩
abbrev main_v133 : Ref sig .tc := ⟨.hbm, 190, rfl⟩
abbrev main_v134 : Ref sig .tc := ⟨.hbm, 191, rfl⟩
abbrev main_cst_15 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_16 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_cst_17 : Ref sig .tc := ⟨.hbm, 256, rfl⟩
abbrev main_v197 : Ref sig .tc := ⟨.hbm, 257, rfl⟩
abbrev main_cst_18 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_cst_19 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩

abbrev nD : Nat := 1
abbrev τ : Topo := Topo.v7x

variable {F : FTy → Type} [FloatOps F]
-- ==== MlpLast.lean ====
abbrev S4x2048x2048 : Shape := ⟨3, ![4, 2048, 2048]⟩
abbrev S4x12288 : Shape := ⟨2, ![4, 12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩
abbrev S8x12288 : Shape := ⟨2, ![8, 12288]⟩
abbrev S8x1x12288 : Shape := ⟨3, ![8, 1, 12288]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 18
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S4x2048x8192, .bf16⟩
  | .hbm, ⟨7, _⟩ => ⟨S4x8192x2048, .bf16⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S_, .f32⟩
  | .hbm, ⟨12, _⟩ => ⟨S4x12288, .f32⟩
  | .hbm, ⟨13, _⟩ => ⟨S8x12288, .f32⟩
  | .hbm, ⟨14, _⟩ => ⟨S8x1x12288, .f32⟩
  | .hbm, ⟨15, _⟩ => ⟨S1x2048, .f32⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c3_i32 : BitVec 32 := 3#32
  let c0_i32_6 : BitVec 32 := 0#32
  ![v17.toNat, c0_i32_5.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c4_i32_6 : BitVec 32 := 4#32
  let c0_i32_7 : BitVec 32 := 0#32
  ![v17.toNat, c0_i32_5.toNat, c4_i32_6.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpLastRefIdeal.lean ====
abbrev S4x2048x2048 : Shape := ⟨3, ![4, 2048, 2048]⟩
abbrev S4x12288 : Shape := ⟨2, ![4, 12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S4x1x2048 : Shape := ⟨3, ![4, 1, 2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x2048, .f32⟩
  | .hbm, ⟨19, _⟩ => ⟨S2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x1x2048, .f32⟩
  | .hbm, ⟨38, _⟩ => ⟨S4x1x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S1x2048x8192, .f32⟩
  | .hbm, ⟨44, _⟩ => ⟨S2048x8192, .f32⟩
  | .hbm, ⟨45, _⟩ => ⟨S1x8192x2048, .f32⟩
  | .hbm, ⟨46, _⟩ => ⟨S8192x2048, .f32⟩
  | .hbm, ⟨47, _⟩ => ⟨S4x2048x8192, .f32⟩
  | .hbm, ⟨48, _⟩ => ⟨S_, .f32⟩
  | .hbm, ⟨49, _⟩ => ⟨S4x2048x8192, .f32⟩
  | .hbm, ⟨50, _⟩ => ⟨S4x2048x8192, .f32⟩
  | .hbm, ⟨51, _⟩ => ⟨S4x2048x8192, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S1x1x2048, .f32⟩
  | .hbm, ⟨70, _⟩ => ⟨S4x2048x2048, .f32⟩
  | .hbm, ⟨71, _⟩ => ⟨S4x2048x2048, .f32⟩
  | .hbm, ⟨72, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_cst : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== MlpFirst.lean ====
abbrev S4x2048x2048 : Shape := ⟨3, ![4, 2048, 2048]⟩
abbrev S4x12288 : Shape := ⟨2, ![4, 12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8x12288 : Shape := ⟨2, ![8, 12288]⟩
abbrev S8x1x12288 : Shape := ⟨3, ![8, 1, 12288]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 16
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S4x2048x8192, .bf16⟩
  | .hbm, ⟨6, _⟩ => ⟨S4x8192x2048, .bf16⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S4x12288, .f32⟩
  | .hbm, ⟨12, _⟩ => ⟨S8x12288, .f32⟩
  | .hbm, ⟨13, _⟩ => ⟨S8x1x12288, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c3_i32 : BitVec 32 := 3#32
  let c0_i32_6 : BitVec 32 := 0#32
  ![v17.toNat, c0_i32_5.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c4_i32_6 : BitVec 32 := 4#32
  let c0_i32_7 : BitVec 32 := 0#32
  ![v17.toNat, c0_i32_5.toNat, c4_i32_6.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpFirstRefIdeal.lean ====
abbrev S4x2048x2048 : Shape := ⟨3, ![4, 2048, 2048]⟩
abbrev S4x12288 : Shape := ⟨2, ![4, 12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x2048x8192, .f32⟩
  | .hbm, ⟨43, _⟩ => ⟨S2048x8192, .f32⟩
  | .hbm, ⟨44, _⟩ => ⟨S1x8192x2048, .f32⟩
  | .hbm, ⟨45, _⟩ => ⟨S8192x2048, .f32⟩
  | .hbm, ⟨46, _⟩ => ⟨S4x2048x8192, .f32⟩
  | .hbm, ⟨47, _⟩ => ⟨S_, .f32⟩
  | .hbm, ⟨48, _⟩ => ⟨S4x2048x8192, .f32⟩
  | .hbm, ⟨49, _⟩ => ⟨S4x2048x8192, .f32⟩
  | .hbm, ⟨50, _⟩ => ⟨S4x2048x8192, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_cst : Ref sig .tc := ⟨.hbm, 47, rfl⟩
abbrev main_call0_v0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== OutProj.lean ====
abbrev S4x2048x1024 : Shape := ⟨3, ![4, 2048, 1024]⟩
abbrev S4x2048x2048 : Shape := ⟨3, ![4, 2048, 2048]⟩
abbrev S4x12288 : Shape := ⟨2, ![4, 12288]⟩
abbrev S8192x1024 : Shape := ⟨2, ![8192, 1024]⟩
abbrev S8192x2048 : Shape := ⟨2, ![8192, 2048]⟩
abbrev S_ : Shape := ⟨0, ![]⟩
abbrev S8x12288 : Shape := ⟨2, ![8, 12288]⟩
abbrev S8x1x12288 : Shape := ⟨3, ![8, 1, 12288]⟩
abbrev S512x1024 : Shape := ⟨2, ![512, 1024]⟩
abbrev S1x2048x2048 : Shape := ⟨3, ![1, 2048, 2048]⟩
abbrev S512x2048 : Shape := ⟨2, ![512, 2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S1x2048 : Shape := ⟨2, ![1, 2048]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4x2048x2048, .f32⟩
  | .hbm, ⟨4, _⟩ => ⟨S4x12288, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S4x2048x2048, .bf16⟩
  | .hbm, ⟨10, _⟩ => ⟨S8192x2048, .f32⟩
  | .hbm, ⟨11, _⟩ => ⟨S_, .f32⟩
  | .hbm, ⟨12, _⟩ => ⟨S4x12288, .f32⟩
  | .hbm, ⟨13, _⟩ => ⟨S8x12288, .f32⟩
  | .hbm, ⟨14, _⟩ => ⟨S8x1x12288, .f32⟩
  | .hbm, ⟨15, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4x2048x1024 : Shape := ⟨3, ![4, 2048, 1024]⟩
abbrev S4x2048x2048 : Shape := ⟨3, ![4, 2048, 2048]⟩
abbrev S4x12288 : Shape := ⟨2, ![4, 12288]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4x2048x2048, .f32⟩
  | .hbm, ⟨4, _⟩ => ⟨S4x12288, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S1x2048x2048, .f32⟩
  | .hbm, ⟨19, _⟩ => ⟨S2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== OddProj.lean ====
abbrev S4x2048x2048 : Shape := ⟨3, ![4, 2048, 2048]⟩
abbrev S4x12288 : Shape := ⟨2, ![4, 12288]⟩
abbrev S4x2048 : Shape := ⟨2, ![4, 2048]⟩
abbrev S2x2048x8192 : Shape := ⟨3, ![2, 2048, 8192]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8x12288 : Shape := ⟨2, ![8, 12288]⟩
abbrev S8x1x12288 : Shape := ⟨3, ![8, 1, 12288]⟩
abbrev S8192x8192 : Shape := ⟨2, ![8192, 8192]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S2x2048x8192, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S2x2048x8192, .bf16⟩
  | .hbm, ⟨8, _⟩ => ⟨S_, .f32⟩
  | .hbm, ⟨9, _⟩ => ⟨S4x12288, .f32⟩
  | .hbm, ⟨10, _⟩ => ⟨S8x12288, .f32⟩
  | .hbm, ⟨11, _⟩ => ⟨S8x1x12288, .f32⟩
  | .hbm, ⟨12, _⟩ => ⟨S1x2048, .f32⟩
  | .hbm, ⟨13, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddProjRefIdeal.lean ====
abbrev S4x2048x2048 : Shape := ⟨3, ![4, 2048, 2048]⟩
abbrev S4x12288 : Shape := ⟨2, ![4, 12288]⟩
abbrev S4x2048 : Shape := ⟨2, ![4, 2048]⟩
abbrev S2x2048x8192 : Shape := ⟨3, ![2, 2048, 8192]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S8192x8192 : Shape := ⟨2, ![8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S2x2048x8192, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S1x2048, .f32⟩
  | .hbm, ⟨17, _⟩ => ⟨S2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S1x2048x8192, .f32⟩
  | .hbm, ⟨42, _⟩ => ⟨S2048x8192, .f32⟩
  | .hbm, ⟨43, _⟩ => ⟨S4x2048x8192, .f32⟩
  | .hbm, ⟨44, _⟩ => ⟨S8192x8192, .f32⟩
  | .hbm, ⟨45, _⟩ => ⟨S8192x8192, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== EvenProj.lean ====
abbrev S4x2048x2048 : Shape := ⟨3, ![4, 2048, 2048]⟩
abbrev S4x12288 : Shape := ⟨2, ![4, 12288]⟩
abbrev S4x2048 : Shape := ⟨2, ![4, 2048]⟩
abbrev S2x2048x5184 : Shape := ⟨3, ![2, 2048, 5184]⟩
abbrev S2x512 : Shape := ⟨2, ![2, 512]⟩
abbrev S2x512x2048 : Shape := ⟨3, ![2, 512, 2048]⟩
abbrev S1x512 : Shape := ⟨2, ![1, 512]⟩
abbrev S512 : Shape := ⟨1, ![512]⟩
abbrev S8192x2048 : Shape := ⟨2, ![8192, 2048]⟩
abbrev S1x2048 : Shape := ⟨2, ![1, 2048]⟩
abbrev S2048 : Shape := ⟨1, ![2048]⟩
abbrev S1x2048x5184 : Shape := ⟨3, ![1, 2048, 5184]⟩
abbrev S2048x5184 : Shape := ⟨2, ![2048, 5184]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S2048x64 : Shape := ⟨2, ![2048, 64]⟩
abbrev S2048x512 : Shape := ⟨2, ![2048, 512]⟩
abbrev S2048x2048 : Shape := ⟨2, ![2048, 2048]⟩
abbrev S2048x3072 : Shape := ⟨2, ![2048, 3072]⟩
abbrev S2048x6144 : Shape := ⟨2, ![2048, 6144]⟩
abbrev S8x12288 : Shape := ⟨2, ![8, 12288]⟩
abbrev S8x1x12288 : Shape := ⟨3, ![8, 1, 12288]⟩
abbrev S8192x6144 : Shape := ⟨2, ![8192, 6144]⟩
abbrev S1024x2048 : Shape := ⟨2, ![1024, 2048]⟩
abbrev S1x1x2048 : Shape := ⟨3, ![1, 1, 2048]⟩
abbrev S2048x1024 : Shape := ⟨2, ![2048, 1024]⟩
abbrev S1x512x2048 : Shape := ⟨3, ![1, 512, 2048]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x2048 : Shape := ⟨2, ![512, 2048]⟩

abbrev nBuf : Space → Nat
  | .hbm => 36
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S2x2048x5184, .f32⟩
  | .hbm, ⟨4, _⟩ => ⟨S2x512, .f32⟩
  | .hbm, ⟨5, _⟩ => ⟨S2x512x2048, .f32⟩
  | .hbm, ⟨6, _⟩ => ⟨S1x512, .f32⟩
  | .hbm, ⟨7, _⟩ => ⟨S512, .f32⟩
  | .hbm, ⟨8, _⟩ => ⟨S2x512x2048, .bf16⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S1x2048x5184, .f32⟩
  | .hbm, ⟨13, _⟩ => ⟨S2048x5184, .f32⟩
  | .hbm, ⟨14, _⟩ => ⟨S2048x5184, .bf16⟩
  | .hbm, ⟨15, _⟩ => ⟨S2048x1536, .bf16⟩
  | .hbm, ⟨16, _⟩ => ⟨S2048x8x192, .bf16⟩
  | .hbm, ⟨17, _⟩ => ⟨S_, .i32⟩
  | .hbm, ⟨18, _⟩ => ⟨S_, .bf16⟩
  | .hbm, ⟨19, _⟩ => ⟨S2048x8x256, .bf16⟩
  | .hbm, ⟨20, _⟩ => ⟨S2048x64, .bf16⟩
  | .hbm, ⟨21, _⟩ => ⟨S_, .i32⟩
  | .hbm, ⟨22, _⟩ => ⟨S_, .bf16⟩
  | .hbm, ⟨23, _⟩ => ⟨S2048x512, .bf16⟩
  | .hbm, ⟨24, _⟩ => ⟨S2048x2048, .bf16⟩
  | .hbm, ⟨25, _⟩ => ⟨S2048x3072, .bf16⟩
  | .hbm, ⟨26, _⟩ => ⟨S2048x512, .bf16⟩
  | .hbm, ⟨27, _⟩ => ⟨S2048x6144, .bf16⟩
  | .hbm, ⟨28, _⟩ => ⟨S_, .f32⟩
  | .hbm, ⟨29, _⟩ => ⟨S4x12288, .f32⟩
  | .hbm, ⟨30, _⟩ => ⟨S8x12288, .f32⟩
  | .hbm, ⟨31, _⟩ => ⟨S8x1x12288, .f32⟩
  | .hbm, ⟨32, _⟩ => ⟨S1x2048, .f32⟩
  | .hbm, ⟨33, _⟩ => ⟨S1x512, .f32⟩
  | .hbm, ⟨34, _⟩ => ⟨S8192x6144, .bf16⟩
  | .hbm, ⟨35, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x512, .f32⟩
  | .local _ .vmem, ⟨10, _⟩ => ⟨S1x512x2048, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== EvenProjRefIdeal.lean ====
abbrev S4x2048x2048 : Shape := ⟨3, ![4, 2048, 2048]⟩
abbrev S4x12288 : Shape := ⟨2, ![4, 12288]⟩
abbrev S4x2048 : Shape := ⟨2, ![4, 2048]⟩
abbrev S2x2048x5184 : Shape := ⟨3, ![2, 2048, 5184]⟩
abbrev S2x512 : Shape := ⟨2, ![2, 512]⟩
abbrev S2x512x2048 : Shape := ⟨3, ![2, 512, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x5184 : Shape := ⟨3, ![1, 2048, 5184]⟩
abbrev S2048x5184 : Shape := ⟨2, ![2048, 5184]⟩
abbrev S4x2048x5184 : Shape := ⟨3, ![4, 2048, 5184]⟩
abbrev S4x2048x1536 : Shape := ⟨3, ![4, 2048, 1536]⟩
abbrev S4x2048x512 : Shape := ⟨3, ![4, 2048, 512]⟩
abbrev S4x2048x64 : Shape := ⟨3, ![4, 2048, 64]⟩
abbrev S4x2048x3072 : Shape := ⟨3, ![4, 2048, 3072]⟩
abbrev S1x512 : Shape := ⟨2, ![1, 512]⟩
abbrev S512 : Shape := ⟨1, ![512]⟩
abbrev S1x1x512 : Shape := ⟨3, ![1, 1, 512]⟩
abbrev S1x512x2048 : Shape := ⟨3, ![1, 512, 2048]⟩
abbrev S512x2048 : Shape := ⟨2, ![512, 2048]⟩
abbrev S4x2048x8x192 : Shape := ⟨4, ![4, 2048, 8, 192]⟩
abbrev S4x2048x8x64 : Shape := ⟨4, ![4, 2048, 8, 64]⟩
abbrev S4x2048x8x256 : Shape := ⟨4, ![4, 2048, 8, 256]⟩
abbrev S4x2048x448 : Shape := ⟨3, ![4, 2048, 448]⟩
abbrev S4x2048x6144 : Shape := ⟨3, ![4, 2048, 6144]⟩
abbrev S8192x6144 : Shape := ⟨2, ![8192, 6144]⟩
abbrev S8192x2048 : Shape := ⟨2, ![8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S4x2048, .f32⟩
  | .hbm, ⟨3, _⟩ => ⟨S2x2048x5184, .f32⟩
  | .hbm, ⟨4, _⟩ => ⟨S2x512, .f32⟩
  | .hbm, ⟨5, _⟩ => ⟨S2x512x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x2048, .f32⟩
  | .hbm, ⟨19, _⟩ => ⟨S2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x1x2048, .f32⟩
  | .hbm, ⟨38, _⟩ => ⟨S4x1x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S1x2048x5184, .f32⟩
  | .hbm, ⟨44, _⟩ => ⟨S2048x5184, .f32⟩
  | .hbm, ⟨45, _⟩ => ⟨S4x2048x5184, .f32⟩
  | .hbm, ⟨46, _⟩ => ⟨S4x2048x1536, .f32⟩
  | .hbm, ⟨47, _⟩ => ⟨S4x2048x512, .f32⟩
  | .hbm, ⟨48, _⟩ => ⟨S4x2048x64, .f32⟩
  | .hbm, ⟨49, _⟩ => ⟨S4x2048x3072, .f32⟩
  | .hbm, ⟨50, _⟩ => ⟨S1x512, .f32⟩
  | .hbm, ⟨51, _⟩ => ⟨S512, .f32⟩
  | .hbm, ⟨52, _⟩ => ⟨S4x2048x512, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x512, .f32⟩
  | .hbm, ⟨64, _⟩ => ⟨S4x2048x512, .f32⟩
  | .hbm, ⟨65, _⟩ => ⟨S1x1x512, .f32⟩
  | .hbm, ⟨66, _⟩ => ⟨S4x2048x512, .f32⟩
  | .hbm, ⟨67, _⟩ => ⟨S4x2048x512, .f32⟩
  | .hbm, ⟨68, _⟩ => ⟨S1x512x2048, .f32⟩
  | .hbm, ⟨69, _⟩ => ⟨S512x2048, .f32⟩
  | .hbm, ⟨70, _⟩ => ⟨S4x2048x2048, .f32⟩
  | .hbm, ⟨71, _⟩ => ⟨S4x2048x8x192, .f32⟩
  | .hbm, ⟨72, _⟩ => ⟨S_, .f32⟩
  | .hbm, ⟨73, _⟩ => ⟨S4x2048x8x64, .f32⟩
  | .hbm, ⟨74, _⟩ => ⟨S4x2048x8x256, .f32⟩
  | .hbm, ⟨75, _⟩ => ⟨S4x2048x2048, .f32⟩
  | .hbm, ⟨76, _⟩ => ⟨S_, .f32⟩
  | .hbm, ⟨77, _⟩ => ⟨S4x2048x448, .f32⟩
  | .hbm, ⟨78, _⟩ => ⟨S4x2048x6144, .f32⟩
  | .hbm, ⟨79, _⟩ => ⟨S8192x6144, .f32⟩
  | .hbm, ⟨80, _⟩ => ⟨S8192x6144, .bf16⟩
  | .hbm, ⟨81, _⟩ => ⟨S8192x2048, .f32⟩
  | .hbm, ⟨82, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== MlpCtx.lean ====
abbrev S4x256x2048 : Shape := ⟨3, ![4, 256, 2048]⟩
abbrev S12288 : Shape := ⟨1, ![12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩
abbrev S4x12288 : Shape := ⟨2, ![4, 12288]⟩
abbrev S8x12288 : Shape := ⟨2, ![8, 12288]⟩
abbrev S8x1x12288 : Shape := ⟨3, ![8, 1, 12288]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S4x2048x8192, .bf16⟩
  | .hbm, ⟨6, _⟩ => ⟨S4x8192x2048, .bf16⟩
  | .hbm, ⟨7, _⟩ => ⟨S1024x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S4x12288, .f32⟩
  | .hbm, ⟨12, _⟩ => ⟨S4x12288, .f32⟩
  | .hbm, ⟨13, _⟩ => ⟨S8x12288, .f32⟩
  | .hbm, ⟨14, _⟩ => ⟨S8x1x12288, .f32⟩
  | .hbm, ⟨15, _⟩ => ⟨S1x2048, .f32⟩
  | .hbm, ⟨16, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c4_i32_5 : BitVec 32 := 4#32
  let c0_i32_6 : BitVec 32 := 0#32
  ![v17.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c5_i32 : BitVec 32 := 5#32
  let c0_i32_5 : BitVec 32 := 0#32
  ![v17.toNat, c0_i32_4.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpCtxRefIdeal.lean ====
abbrev S4x256x2048 : Shape := ⟨3, ![4, 256, 2048]⟩
abbrev S12288 : Shape := ⟨1, ![12288]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S4x256x8192 : Shape := ⟨3, ![4, 256, 8192]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S4x256x2048, .f32⟩
  | .hbm, ⟨14, _⟩ => ⟨S_, .f32⟩
  | .hbm, ⟨15, _⟩ => ⟨S4x256, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x1, .f32⟩
  | .hbm, ⟨24, _⟩ => ⟨S4x256x2048, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S1x1x2048, .f32⟩
  | .hbm, ⟨36, _⟩ => ⟨S4x256x2048, .f32⟩
  | .hbm, ⟨37, _⟩ => ⟨S4x256x2048, .f32⟩
  | .hbm, ⟨38, _⟩ => ⟨S1x2048x8192, .f32⟩
  | .hbm, ⟨39, _⟩ => ⟨S2048x8192, .f32⟩
  | .hbm, ⟨40, _⟩ => ⟨S1x8192x2048, .f32⟩
  | .hbm, ⟨41, _⟩ => ⟨S8192x2048, .f32⟩
  | .hbm, ⟨42, _⟩ => ⟨S4x256x8192, .f32⟩
  | .hbm, ⟨43, _⟩ => ⟨S_, .f32⟩
  | .hbm, ⟨44, _⟩ => ⟨S4x256x8192, .f32⟩
  | .hbm, ⟨45, _⟩ => ⟨S4x256x8192, .f32⟩
  | .hbm, ⟨46, _⟩ => ⟨S4x256x8192, .f32⟩
  | .hbm, ⟨47, _⟩ => ⟨S4x256x2048, .f32⟩
  | .hbm, ⟨48, _⟩ => ⟨S1x1x2048, .f32⟩
  | .hbm, ⟨49, _⟩ => ⟨S4x256x2048, .f32⟩
  | .hbm, ⟨50, _⟩ => ⟨S4x256x2048, .f32⟩
  | .hbm, ⟨51, _⟩ => ⟨S4x256x2048, .f32⟩
  | .hbm, ⟨52, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_cst : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== OutCtx.lean ====
abbrev S4x256x1024 : Shape := ⟨3, ![4, 256, 1024]⟩
abbrev S4x2048x2048 : Shape := ⟨3, ![4, 2048, 2048]⟩
abbrev S4x256x2048 : Shape := ⟨3, ![4, 256, 2048]⟩
abbrev S12288 : Shape := ⟨1, ![12288]⟩
abbrev S1024x1024 : Shape := ⟨2, ![1024, 1024]⟩
abbrev S1024x2048 : Shape := ⟨2, ![1024, 2048]⟩
abbrev S_ : Shape := ⟨0, ![]⟩
abbrev S4x12288 : Shape := ⟨2, ![4, 12288]⟩
abbrev S8x12288 : Shape := ⟨2, ![8, 12288]⟩
abbrev S8x1x12288 : Shape := ⟨3, ![8, 1, 12288]⟩
abbrev S512x1024 : Shape := ⟨2, ![512, 1024]⟩
abbrev S1x2048x2048 : Shape := ⟨3, ![1, 2048, 2048]⟩
abbrev S512x2048 : Shape := ⟨2, ![512, 2048]⟩
abbrev S1x1x2048 : Shape := ⟨3, ![1, 1, 2048]⟩
abbrev S1x1024x2048 : Shape := ⟨3, ![1, 1024, 2048]⟩
abbrev S1x2048 : Shape := ⟨2, ![1, 2048]⟩

abbrev nBuf : Space → Nat
  | .hbm => 17
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x2048x2048, .f32⟩
  | .hbm, ⟨3, _⟩ => ⟨S4x256x2048, .f32⟩
  | .hbm, ⟨4, _⟩ => ⟨S12288, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S4x2048x2048, .bf16⟩
  | .hbm, ⟨10, _⟩ => ⟨S1024x2048, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S8x12288, .f32⟩
  | .hbm, ⟨15, _⟩ => ⟨S8x1x12288, .f32⟩
  | .hbm, ⟨16, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c2_i32_5 : BitVec 32 := 2#32
  let c0_i32_6 : BitVec 32 := 0#32
  ![v17.toNat, c0_i32_4.toNat, c2_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutCtxRefIdeal.lean ====
abbrev S4x256x1024 : Shape := ⟨3, ![4, 256, 1024]⟩
abbrev S4x2048x2048 : Shape := ⟨3, ![4, 2048, 2048]⟩
abbrev S4x256x2048 : Shape := ⟨3, ![4, 256, 2048]⟩
abbrev S12288 : Shape := ⟨1, ![12288]⟩
abbrev S2048 : Shape := ⟨1, ![2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S1024x2048 : Shape := ⟨2, ![1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x2048x2048, .f32⟩
  | .hbm, ⟨3, _⟩ => ⟨S4x256x2048, .f32⟩
  | .hbm, ⟨4, _⟩ => ⟨S12288, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S4x256x2048, .f32⟩
  | .hbm, ⟨12, _⟩ => ⟨S1x2048x2048, .f32⟩
  | .hbm, ⟨13, _⟩ => ⟨S2048x2048, .f32⟩
  | .hbm, ⟨14, _⟩ => ⟨S4x256x2048, .f32⟩
  | .hbm, ⟨15, _⟩ => ⟨S1x1x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S1024x2048, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== OddCtx.lean ====
abbrev S4x256x2048 : Shape := ⟨3, ![4, 256, 2048]⟩
abbrev S12288 : Shape := ⟨1, ![12288]⟩
abbrev S4x2048 : Shape := ⟨2, ![4, 2048]⟩
abbrev S2x2048x8192 : Shape := ⟨3, ![2, 2048, 8192]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩
abbrev S4x12288 : Shape := ⟨2, ![4, 12288]⟩
abbrev S8x12288 : Shape := ⟨2, ![8, 12288]⟩
abbrev S8x1x12288 : Shape := ⟨3, ![8, 1, 12288]⟩
abbrev S1024x8192 : Shape := ⟨2, ![1024, 8192]⟩
abbrev S1x1x2048 : Shape := ⟨3, ![1, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x8192, .f32⟩
  | .hbm, ⟨4, _⟩ => ⟨S1024x2048, .f32⟩
  | .hbm, ⟨5, _⟩ => ⟨S1x2048, .f32⟩
  | .hbm, ⟨6, _⟩ => ⟨S2048, .f32⟩
  | .hbm, ⟨7, _⟩ => ⟨S2x2048x8192, .bf16⟩
  | .hbm, ⟨8, _⟩ => ⟨S_, .f32⟩
  | .hbm, ⟨9, _⟩ => ⟨S4x12288, .f32⟩
  | .hbm, ⟨10, _⟩ => ⟨S4x12288, .f32⟩
  | .hbm, ⟨11, _⟩ => ⟨S8x12288, .f32⟩
  | .hbm, ⟨12, _⟩ => ⟨S8x1x12288, .f32⟩
  | .hbm, ⟨13, _⟩ => ⟨S1x2048, .f32⟩
  | .hbm, ⟨14, _⟩ => ⟨S1024x8192, .bf16⟩
  | .local _ .vmem, ⟨0, _⟩ => ⟨S1024x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddCtxRefIdeal.lean ====
abbrev S4x256x2048 : Shape := ⟨3, ![4, 256, 2048]⟩
abbrev S12288 : Shape := ⟨1, ![12288]⟩
abbrev S4x2048 : Shape := ⟨2, ![4, 2048]⟩
abbrev S2x2048x8192 : Shape := ⟨3, ![2, 2048, 8192]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x256x8192 : Shape := ⟨3, ![4, 256, 8192]⟩
abbrev S1024x8192 : Shape := ⟨2, ![1024, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x8192, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S4x256x2048, .f32⟩
  | .hbm, ⟨13, _⟩ => ⟨S_, .f32⟩
  | .hbm, ⟨14, _⟩ => ⟨S4x256, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S4x256x2048, .f32⟩
  | .hbm, ⟨24, _⟩ => ⟨S4x256x2048, .f32⟩
  | .hbm, ⟨25, _⟩ => ⟨S1x1x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S1x1x2048, .f32⟩
  | .hbm, ⟨35, _⟩ => ⟨S4x256x2048, .f32⟩
  | .hbm, ⟨36, _⟩ => ⟨S4x256x2048, .f32⟩
  | .hbm, ⟨37, _⟩ => ⟨S1x2048x8192, .f32⟩
  | .hbm, ⟨38, _⟩ => ⟨S2048x8192, .f32⟩
  | .hbm, ⟨39, _⟩ => ⟨S4x256x8192, .f32⟩
  | .hbm, ⟨40, _⟩ => ⟨S1024x8192, .f32⟩
  | .hbm, ⟨41, _⟩ => ⟨S1024x8192, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== EvenCtx.lean ====
abbrev S4x256x2048 : Shape := ⟨3, ![4, 256, 2048]⟩
abbrev S12288 : Shape := ⟨1, ![12288]⟩
abbrev S4x2048 : Shape := ⟨2, ![4, 2048]⟩
abbrev S2x2048x5184 : Shape := ⟨3, ![2, 2048, 5184]⟩
abbrev S2x512 : Shape := ⟨2, ![2, 512]⟩
abbrev S2x512x2048 : Shape := ⟨3, ![2, 512, 2048]⟩
abbrev S1x512 : Shape := ⟨2, ![1, 512]⟩
abbrev S512 : Shape := ⟨1, ![512]⟩
abbrev S1024x2048 : Shape := ⟨2, ![1024, 2048]⟩
abbrev S1x2048 : Shape := ⟨2, ![1, 2048]⟩
abbrev S2048 : Shape := ⟨1, ![2048]⟩
abbrev S1x2048x5184 : Shape := ⟨3, ![1, 2048, 5184]⟩
abbrev S2048x5184 : Shape := ⟨2, ![2048, 5184]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S2048x64 : Shape := ⟨2, ![2048, 64]⟩
abbrev S2048x512 : Shape := ⟨2, ![2048, 512]⟩
abbrev S2048x2048 : Shape := ⟨2, ![2048, 2048]⟩
abbrev S2048x3072 : Shape := ⟨2, ![2048, 3072]⟩
abbrev S2048x6144 : Shape := ⟨2, ![2048, 6144]⟩
abbrev S4x12288 : Shape := ⟨2, ![4, 12288]⟩
abbrev S8x12288 : Shape := ⟨2, ![8, 12288]⟩
abbrev S8x1x12288 : Shape := ⟨3, ![8, 1, 12288]⟩
abbrev S1024x6144 : Shape := ⟨2, ![1024, 6144]⟩
abbrev S1x1x2048 : Shape := ⟨3, ![1, 1, 2048]⟩
abbrev S2048x1024 : Shape := ⟨2, ![2048, 1024]⟩
abbrev S1x512x2048 : Shape := ⟨3, ![1, 512, 2048]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x2048 : Shape := ⟨2, ![512, 2048]⟩

abbrev nBuf : Space → Nat
  | .hbm => 37
  | .vmem => 12
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x5184, .f32⟩
  | .hbm, ⟨4, _⟩ => ⟨S2x512, .f32⟩
  | .hbm, ⟨5, _⟩ => ⟨S2x512x2048, .f32⟩
  | .hbm, ⟨6, _⟩ => ⟨S1x512, .f32⟩
  | .hbm, ⟨7, _⟩ => ⟨S512, .f32⟩
  | .hbm, ⟨8, _⟩ => ⟨S2x512x2048, .bf16⟩
  | .hbm, ⟨9, _⟩ => ⟨S1024x2048, .f32⟩
  | .hbm, ⟨10, _⟩ => ⟨S1x2048, .f32⟩
  | .hbm, ⟨11, _⟩ => ⟨S2048, .f32⟩
  | .hbm, ⟨12, _⟩ => ⟨S1x2048x5184, .f32⟩
  | .hbm, ⟨13, _⟩ => ⟨S2048x5184, .f32⟩
  | .hbm, ⟨14, _⟩ => ⟨S2048x5184, .bf16⟩
  | .hbm, ⟨15, _⟩ => ⟨S2048x1536, .bf16⟩
  | .hbm, ⟨16, _⟩ => ⟨S2048x8x192, .bf16⟩
  | .hbm, ⟨17, _⟩ => ⟨S_, .i32⟩
  | .hbm, ⟨18, _⟩ => ⟨S_, .bf16⟩
  | .hbm, ⟨19, _⟩ => ⟨S2048x8x256, .bf16⟩
  | .hbm, ⟨20, _⟩ => ⟨S2048x64, .bf16⟩
  | .hbm, ⟨21, _⟩ => ⟨S_, .i32⟩
  | .hbm, ⟨22, _⟩ => ⟨S_, .bf16⟩
  | .hbm, ⟨23, _⟩ => ⟨S2048x512, .bf16⟩
  | .hbm, ⟨24, _⟩ => ⟨S2048x2048, .bf16⟩
  | .hbm, ⟨25, _⟩ => ⟨S2048x3072, .bf16⟩
  | .hbm, ⟨26, _⟩ => ⟨S2048x512, .bf16⟩
  | .hbm, ⟨27, _⟩ => ⟨S2048x6144, .bf16⟩
  | .hbm, ⟨28, _⟩ => ⟨S_, .f32⟩
  | .hbm, ⟨29, _⟩ => ⟨S4x12288, .f32⟩
  | .hbm, ⟨30, _⟩ => ⟨S4x12288, .f32⟩
  | .hbm, ⟨31, _⟩ => ⟨S8x12288, .f32⟩
  | .hbm, ⟨32, _⟩ => ⟨S8x1x12288, .f32⟩
  | .hbm, ⟨33, _⟩ => ⟨S1x2048, .f32⟩
  | .hbm, ⟨34, _⟩ => ⟨S1x512, .f32⟩
  | .hbm, ⟨35, _⟩ => ⟨S1024x6144, .bf16⟩
  | .hbm, ⟨36, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x512, .f32⟩
  | .local _ .vmem, ⟨7, _⟩ => ⟨S1x512x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | .local _ .vmem, ⟨11, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== EvenCtxRefIdeal.lean ====
abbrev S4x256x2048 : Shape := ⟨3, ![4, 256, 2048]⟩
abbrev S12288 : Shape := ⟨1, ![12288]⟩
abbrev S4x2048 : Shape := ⟨2, ![4, 2048]⟩
abbrev S2x2048x5184 : Shape := ⟨3, ![2, 2048, 5184]⟩
abbrev S2x512 : Shape := ⟨2, ![2, 512]⟩
abbrev S2x512x2048 : Shape := ⟨3, ![2, 512, 2048]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x5184 : Shape := ⟨3, ![1, 2048, 5184]⟩
abbrev S2048x5184 : Shape := ⟨2, ![2048, 5184]⟩
abbrev S4x256x5184 : Shape := ⟨3, ![4, 256, 5184]⟩
abbrev S4x256x1536 : Shape := ⟨3, ![4, 256, 1536]⟩
abbrev S4x256x512 : Shape := ⟨3, ![4, 256, 512]⟩
abbrev S4x256x64 : Shape := ⟨3, ![4, 256, 64]⟩
abbrev S4x256x3072 : Shape := ⟨3, ![4, 256, 3072]⟩
abbrev S1x512 : Shape := ⟨2, ![1, 512]⟩
abbrev S512 : Shape := ⟨1, ![512]⟩
abbrev S1x1x512 : Shape := ⟨3, ![1, 1, 512]⟩
abbrev S1x512x2048 : Shape := ⟨3, ![1, 512, 2048]⟩
abbrev S512x2048 : Shape := ⟨2, ![512, 2048]⟩
abbrev S4x256x8x192 : Shape := ⟨4, ![4, 256, 8, 192]⟩
abbrev S4x256x8x64 : Shape := ⟨4, ![4, 256, 8, 64]⟩
abbrev S4x256x8x256 : Shape := ⟨4, ![4, 256, 8, 256]⟩
abbrev S4x256x448 : Shape := ⟨3, ![4, 256, 448]⟩
abbrev S4x256x6144 : Shape := ⟨3, ![4, 256, 6144]⟩
abbrev S1024x6144 : Shape := ⟨2, ![1024, 6144]⟩
abbrev S1024x2048 : Shape := ⟨2, ![1024, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x5184, .f32⟩
  | .hbm, ⟨4, _⟩ => ⟨S2x512, .f32⟩
  | .hbm, ⟨5, _⟩ => ⟨S2x512x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S4x256x2048, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x2048, .f32⟩
  | .hbm, ⟨26, _⟩ => ⟨S4x256x2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S1x1x2048, .f32⟩
  | .hbm, ⟨37, _⟩ => ⟨S4x256x2048, .f32⟩
  | .hbm, ⟨38, _⟩ => ⟨S4x256x2048, .f32⟩
  | .hbm, ⟨39, _⟩ => ⟨S1x2048x5184, .f32⟩
  | .hbm, ⟨40, _⟩ => ⟨S2048x5184, .f32⟩
  | .hbm, ⟨41, _⟩ => ⟨S4x256x5184, .f32⟩
  | .hbm, ⟨42, _⟩ => ⟨S4x256x1536, .f32⟩
  | .hbm, ⟨43, _⟩ => ⟨S4x256x512, .f32⟩
  | .hbm, ⟨44, _⟩ => ⟨S4x256x64, .f32⟩
  | .hbm, ⟨45, _⟩ => ⟨S4x256x3072, .f32⟩
  | .hbm, ⟨46, _⟩ => ⟨S1x512, .f32⟩
  | .hbm, ⟨47, _⟩ => ⟨S512, .f32⟩
  | .hbm, ⟨48, _⟩ => ⟨S4x256x512, .f32⟩
  | .hbm, ⟨49, _⟩ => ⟨S_, .f32⟩
  | .hbm, ⟨50, _⟩ => ⟨S4x256, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S4x256x1, .f32⟩
  | .hbm, ⟨59, _⟩ => ⟨S4x256x512, .f32⟩
  | .hbm, ⟨60, _⟩ => ⟨S4x256x512, .f32⟩
  | .hbm, ⟨61, _⟩ => ⟨S1x1x512, .f32⟩
  | .hbm, ⟨62, _⟩ => ⟨S4x256x512, .f32⟩
  | .hbm, ⟨63, _⟩ => ⟨S4x256x512, .f32⟩
  | .hbm, ⟨64, _⟩ => ⟨S1x512x2048, .f32⟩
  | .hbm, ⟨65, _⟩ => ⟨S512x2048, .f32⟩
  | .hbm, ⟨66, _⟩ => ⟨S4x256x2048, .f32⟩
  | .hbm, ⟨67, _⟩ => ⟨S4x256x8x192, .f32⟩
  | .hbm, ⟨68, _⟩ => ⟨S_, .f32⟩
  | .hbm, ⟨69, _⟩ => ⟨S4x256x8x64, .f32⟩
  | .hbm, ⟨70, _⟩ => ⟨S4x256x8x256, .f32⟩
  | .hbm, ⟨71, _⟩ => ⟨S4x256x2048, .f32⟩
  | .hbm, ⟨72, _⟩ => ⟨S_, .f32⟩
  | .hbm, ⟨73, _⟩ => ⟨S4x256x448, .f32⟩
  | .hbm, ⟨74, _⟩ => ⟨S4x256x6144, .f32⟩
  | .hbm, ⟨75, _⟩ => ⟨S1024x6144, .f32⟩
  | .hbm, ⟨76, _⟩ => ⟨S1024x6144, .bf16⟩
  | .hbm, ⟨77, _⟩ => ⟨S1024x2048, .f32⟩
  | .hbm, ⟨78, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S4x2048, .f32⟩
  | .hbm, ⟨8, _⟩ => ⟨S8x2048, .f32⟩
  | .hbm, ⟨9, _⟩ => ⟨S4x1x12288, .f32⟩
  | .hbm, ⟨10, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 55
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S4x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S1x2048x12288, .f32⟩
  | .hbm, ⟨19, _⟩ => ⟨S2048x12288, .f32⟩
  | .hbm, ⟨20, _⟩ => ⟨S8x12288, .f32⟩
  | .hbm, ⟨21, _⟩ => ⟨S1x12288, .f32⟩
  | .hbm, ⟨22, _⟩ => ⟨S12288, .f32⟩
  | .hbm, ⟨23, _⟩ => ⟨S1x12288, .f32⟩
  | .hbm, ⟨24, _⟩ => ⟨S8x12288, .f32⟩
  | .hbm, ⟨25, _⟩ => ⟨S8x12288, .f32⟩
  | .hbm, ⟨26, _⟩ => ⟨S1x2048x12288, .f32⟩
  | .hbm, ⟨27, _⟩ => ⟨S2048x12288, .f32⟩
  | .hbm, ⟨28, _⟩ => ⟨S8x12288, .f32⟩
  | .hbm, ⟨29, _⟩ => ⟨S1x12288, .f32⟩
  | .hbm, ⟨30, _⟩ => ⟨S12288, .f32⟩
  | .hbm, ⟨31, _⟩ => ⟨S1x12288, .f32⟩
  | .hbm, ⟨32, _⟩ => ⟨S8x12288, .f32⟩
  | .hbm, ⟨33, _⟩ => ⟨S8x12288, .f32⟩
  | .hbm, ⟨34, _⟩ => ⟨S1x2048x12288, .f32⟩
  | .hbm, ⟨35, _⟩ => ⟨S2048x12288, .f32⟩
  | .hbm, ⟨36, _⟩ => ⟨S8x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S8x12288, .f32⟩
  | .hbm, ⟨41, _⟩ => ⟨S8x12288, .f32⟩
  | .hbm, ⟨42, _⟩ => ⟨S1x2048x12288, .f32⟩
  | .hbm, ⟨43, _⟩ => ⟨S2048x12288, .f32⟩
  | .hbm, ⟨44, _⟩ => ⟨S8x12288, .f32⟩
  | .hbm, ⟨45, _⟩ => ⟨S1x12288, .f32⟩
  | .hbm, ⟨46, _⟩ => ⟨S12288, .f32⟩
  | .hbm, ⟨47, _⟩ => ⟨S1x12288, .f32⟩
  | .hbm, ⟨48, _⟩ => ⟨S8x12288, .f32⟩
  | .hbm, ⟨49, _⟩ => ⟨S8x12288, .f32⟩
  | .hbm, ⟨50, _⟩ => ⟨S1x8x12288, .f32⟩
  | .hbm, ⟨51, _⟩ => ⟨S1x8x12288, .f32⟩
  | .hbm, ⟨52, _⟩ => ⟨S1x8x12288, .f32⟩
  | .hbm, ⟨53, _⟩ => ⟨S1x8x12288, .f32⟩
  | .hbm, ⟨54, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== OddCtxLast.lean ====
abbrev S4x256x2048 : Shape := ⟨3, ![4, 256, 2048]⟩
abbrev S12288 : Shape := ⟨1, ![12288]⟩
abbrev S4x2048 : Shape := ⟨2, ![4, 2048]⟩
abbrev S2x2048x8192 : Shape := ⟨3, ![2, 2048, 8192]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩
abbrev S4x12288 : Shape := ⟨2, ![4, 12288]⟩
abbrev S8x12288 : Shape := ⟨2, ![8, 12288]⟩
abbrev S8x1x12288 : Shape := ⟨3, ![8, 1, 12288]⟩
abbrev S1024x5120 : Shape := ⟨2, ![1024, 5120]⟩
abbrev S1x1x2048 : Shape := ⟨3, ![1, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x8192, .f32⟩
  | .hbm, ⟨4, _⟩ => ⟨S1024x2048, .f32⟩
  | .hbm, ⟨5, _⟩ => ⟨S1x2048, .f32⟩
  | .hbm, ⟨6, _⟩ => ⟨S2048, .f32⟩
  | .hbm, ⟨7, _⟩ => ⟨S2x2048x8192, .bf16⟩
  | .hbm, ⟨8, _⟩ => ⟨S_, .f32⟩
  | .hbm, ⟨9, _⟩ => ⟨S4x12288, .f32⟩
  | .hbm, ⟨10, _⟩ => ⟨S4x12288, .f32⟩
  | .hbm, ⟨11, _⟩ => ⟨S8x12288, .f32⟩
  | .hbm, ⟨12, _⟩ => ⟨S8x1x12288, .f32⟩
  | .hbm, ⟨13, _⟩ => ⟨S1x2048, .f32⟩
  | .hbm, ⟨14, _⟩ => ⟨S1024x5120, .bf16⟩
  | .local _ .vmem, ⟨0, _⟩ => ⟨S1024x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddCtxLastRefIdeal.lean ====
abbrev S4x256x2048 : Shape := ⟨3, ![4, 256, 2048]⟩
abbrev S12288 : Shape := ⟨1, ![12288]⟩
abbrev S4x2048 : Shape := ⟨2, ![4, 2048]⟩
abbrev S2x2048x8192 : Shape := ⟨3, ![2, 2048, 8192]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2048x5120 : Shape := ⟨2, ![2048, 5120]⟩
abbrev S4x256x5120 : Shape := ⟨3, ![4, 256, 5120]⟩
abbrev S1024x5120 : Shape := ⟨2, ![1024, 5120]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S4x2048, .f32⟩
  | .hbm, ⟨3, _⟩ => ⟨S2x2048x8192, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S4x256x2048, .f32⟩
  | .hbm, ⟨13, _⟩ => ⟨S_, .f32⟩
  | .hbm, ⟨14, _⟩ => ⟨S4x256, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S4x256x2048, .f32⟩
  | .hbm, ⟨24, _⟩ => ⟨S4x256x2048, .f32⟩
  | .hbm, ⟨25, _⟩ => ⟨S1x1x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S1x1x2048, .f32⟩
  | .hbm, ⟨35, _⟩ => ⟨S4x256x2048, .f32⟩
  | .hbm, ⟨36, _⟩ => ⟨S4x256x2048, .f32⟩
  | .hbm, ⟨37, _⟩ => ⟨S1x2048x8192, .f32⟩
  | .hbm, ⟨38, _⟩ => ⟨S2048x8192, .f32⟩
  | .hbm, ⟨39, _⟩ => ⟨S2048x5120, .f32⟩
  | .hbm, ⟨40, _⟩ => ⟨S4x256x5120, .f32⟩
  | .hbm, ⟨41, _⟩ => ⟨S1024x5120, .f32⟩
  | .hbm, ⟨42, _⟩ => ⟨S1024x5120, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== CtxAttn.lean ====
abbrev S4x256x5184 : Shape := ⟨3, ![4, 256, 5184]⟩
abbrev S4x256x2048 : Shape := ⟨3, ![4, 256, 2048]⟩
abbrev S1024x5184 : Shape := ⟨2, ![1024, 5184]⟩
abbrev S1024x1536 : Shape := ⟨2, ![1024, 1536]⟩
abbrev S1024x8x192 : Shape := ⟨3, ![1024, 8, 192]⟩
abbrev S_ : Shape := ⟨0, ![]⟩
abbrev S1024x8x256 : Shape := ⟨3, ![1024, 8, 256]⟩
abbrev S1024x64 : Shape := ⟨2, ![1024, 64]⟩
abbrev S1024x512 : Shape := ⟨2, ![1024, 512]⟩
abbrev S1024x2048 : Shape := ⟨2, ![1024, 2048]⟩
abbrev S1024x3072 : Shape := ⟨2, ![1024, 3072]⟩
abbrev S1024x6144 : Shape := ⟨2, ![1024, 6144]⟩
abbrev S1024x1024 : Shape := ⟨2, ![1024, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S4x256x5184, .f32⟩
  | .hbm, ⟨1, _⟩ => ⟨S4x256x2048, .f32⟩
  | .hbm, ⟨2, _⟩ => ⟨S1024x5184, .f32⟩
  | .hbm, ⟨3, _⟩ => ⟨S1024x5184, .bf16⟩
  | .hbm, ⟨4, _⟩ => ⟨S1024x1536, .bf16⟩
  | .hbm, ⟨5, _⟩ => ⟨S1024x8x192, .bf16⟩
  | .hbm, ⟨6, _⟩ => ⟨S_, .i32⟩
  | .hbm, ⟨7, _⟩ => ⟨S_, .bf16⟩
  | .hbm, ⟨8, _⟩ => ⟨S1024x8x256, .bf16⟩
  | .hbm, ⟨9, _⟩ => ⟨S1024x64, .bf16⟩
  | .hbm, ⟨10, _⟩ => ⟨S_, .i32⟩
  | .hbm, ⟨11, _⟩ => ⟨S_, .bf16⟩
  | .hbm, ⟨12, _⟩ => ⟨S1024x512, .bf16⟩
  | .hbm, ⟨13, _⟩ => ⟨S1024x2048, .bf16⟩
  | .hbm, ⟨14, _⟩ => ⟨S1024x3072, .bf16⟩
  | .hbm, ⟨15, _⟩ => ⟨S1024x512, .bf16⟩
  | .hbm, ⟨16, _⟩ => ⟨S1024x6144, .bf16⟩
  | .hbm, ⟨17, _⟩ => ⟨S1024x2048, .f32⟩
  | .hbm, ⟨18, _⟩ => ⟨S1024x2048, .bf16⟩
  | .hbm, ⟨19, _⟩ => ⟨S1024x1024, .bf16⟩
  | .hbm, ⟨20, _⟩ => ⟨S1024x1024, .bf16⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | _, _ => ⟨S4x256x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CtxAttnIdeal.lean ====
variable {F : FTy → Type} [FloatOps F] [Named F]
def κ : String → Option EReal := fun
  | "mla_scale_log2e" => some (((Real.sqrt 192)⁻¹ * (Real.log 2)⁻¹ : ℝ) : EReal)
  | "na_scale_log2e" => some (((Real.sqrt 128)⁻¹ * (Real.log 2)⁻¹ : ℝ) : EReal)
  | _ => none
-- ==== CtxAttnRefIdeal.lean ====
abbrev S4x256x5184 : Shape := ⟨3, ![4, 256, 5184]⟩
abbrev S4x256x2048 : Shape := ⟨3, ![4, 256, 2048]⟩
abbrev S4x256x1536 : Shape := ⟨3, ![4, 256, 1536]⟩
abbrev S4x256x512 : Shape := ⟨3, ![4, 256, 512]⟩
abbrev S4x256x64 : Shape := ⟨3, ![4, 256, 64]⟩
abbrev S4x256x3072 : Shape := ⟨3, ![4, 256, 3072]⟩
abbrev S4x256x8x192 : Shape := ⟨4, ![4, 256, 8, 192]⟩
abbrev S4x256x8x128 : Shape := ⟨4, ![4, 256, 8, 128]⟩
abbrev S4x256x8x64 : Shape := ⟨4, ![4, 256, 8, 64]⟩
abbrev S4x256x1x64 : Shape := ⟨4, ![4, 256, 1, 64]⟩
abbrev S4x256x8x256 : Shape := ⟨4, ![4, 256, 8, 256]⟩
abbrev S4x8x256x192 : Shape := ⟨4, ![4, 8, 256, 192]⟩
abbrev S4x8x256x128 : Shape := ⟨4, ![4, 8, 256, 128]⟩
abbrev S4x256x2112 : Shape := ⟨3, ![4, 256, 2112]⟩
abbrev S4x256x1024 : Shape := ⟨3, ![4, 256, 1024]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S1024x1024 : Shape := ⟨2, ![1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x256x5184, .f32⟩
  | .hbm, ⟨1, _⟩ => ⟨S4x256x2048, .f32⟩
  | .hbm, ⟨2, _⟩ => ⟨S4x256x1536, .f32⟩
  | .hbm, ⟨3, _⟩ => ⟨S4x256x512, .f32⟩
  | .hbm, ⟨4, _⟩ => ⟨S4x256x64, .f32⟩
  | .hbm, ⟨5, _⟩ => ⟨S4x256x3072, .f32⟩
  | .hbm, ⟨6, _⟩ => ⟨S4x256x8x192, .f32⟩
  | .hbm, ⟨7, _⟩ => ⟨S4x256x8x128, .f32⟩
  | .hbm, ⟨8, _⟩ => ⟨S4x256x8x64, .f32⟩
  | .hbm, ⟨9, _⟩ => ⟨S4x256x1x64, .f32⟩
  | .hbm, ⟨10, _⟩ => ⟨S4x256x8x256, .f32⟩
  | .hbm, ⟨11, _⟩ => ⟨S4x256x8x128, .f32⟩
  | .hbm, ⟨12, _⟩ => ⟨S4x256x8x128, .f32⟩
  | .hbm, ⟨13, _⟩ => ⟨S4x256x8x192, .f32⟩
  | .hbm, ⟨14, _⟩ => ⟨S4x256x8x64, .f32⟩
  | .hbm, ⟨15, _⟩ => ⟨S4x256x8x192, .f32⟩
  | .hbm, ⟨16, _⟩ => ⟨S4x8x256x192, .f32⟩
  | .hbm, ⟨17, _⟩ => ⟨S4x8x256x192, .f32⟩
  | .hbm, ⟨18, _⟩ => ⟨S4x8x256x128, .f32⟩
  | .hbm, ⟨19, _⟩ => ⟨S4x256x2112, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S4x8x256x256, .f32⟩
  | .hbm, ⟨24, _⟩ => ⟨S_, .f32⟩
  | .hbm, ⟨25, _⟩ => ⟨S_, .f32⟩
  | .hbm, ⟨26, _⟩ => ⟨S4x8x256x256, .f32⟩
  | .hbm, ⟨27, _⟩ => ⟨S4x8x256x256, .f32⟩
  | .hbm, ⟨28, _⟩ => ⟨S_, .f32⟩
  | .hbm, ⟨29, _⟩ => ⟨S4x8x256, .f32⟩
  | .hbm, ⟨30, _⟩ => ⟨S_, .f32⟩
  | .hbm, ⟨31, _⟩ => ⟨S4x8x256, .f32⟩
  | .hbm, ⟨32, _⟩ => ⟨S4x8x256, .f32⟩
  | .hbm, ⟨33, _⟩ => ⟨S4x8x256x1, .f32⟩
  | .hbm, ⟨34, _⟩ => ⟨S4x8x256x256, .f32⟩
  | .hbm, ⟨35, _⟩ => ⟨S4x8x256x256, .f32⟩
  | .hbm, ⟨36, _⟩ => ⟨S4x8x256x256, .f32⟩
  | .hbm, ⟨37, _⟩ => ⟨S_, .f32⟩
  | .hbm, ⟨38, _⟩ => ⟨S4x8x256, .f32⟩
  | .hbm, ⟨39, _⟩ => ⟨S4x8x256x1, .f32⟩
  | .hbm, ⟨40, _⟩ => ⟨S4x8x256x256, .f32⟩
  | .hbm, ⟨41, _⟩ => ⟨S4x8x256x256, .f32⟩
  | .hbm, ⟨42, _⟩ => ⟨S4x8x256x128, .f32⟩
  | .hbm, ⟨43, _⟩ => ⟨S4x256x8x128, .f32⟩
  | .hbm, ⟨44, _⟩ => ⟨S1024x1024, .f32⟩
  | .hbm, ⟨45, _⟩ => ⟨S1024x1024, .bf16⟩
  | .hbm, ⟨46, _⟩ => ⟨S4x256x8x128, .f32⟩
  | .hbm, ⟨47, _⟩ => ⟨S4x8x256x128, .f32⟩
  | .hbm, ⟨48, _⟩ => ⟨S4x256x8x128, .f32⟩
  | .hbm, ⟨49, _⟩ => ⟨S4x8x256x128, .f32⟩
  | .hbm, ⟨50, _⟩ => ⟨S4x256x8x128, .f32⟩
  | .hbm, ⟨51, _⟩ => ⟨S4x8x256x128, .f32⟩
  | .hbm, ⟨52, _⟩ => ⟨S4x8x256x256, .f32⟩
  | .hbm, ⟨53, _⟩ => ⟨S_, .f32⟩
  | .hbm, ⟨54, _⟩ => ⟨S_, .f32⟩
  | .hbm, ⟨55, _⟩ => ⟨S4x8x256x256, .f32⟩
  | .hbm, ⟨56, _⟩ => ⟨S4x8x256x256, .f32⟩
  | .hbm, ⟨57, _⟩ => ⟨S_, .f32⟩
  | .hbm, ⟨58, _⟩ => ⟨S4x8x256, .f32⟩
  | .hbm, ⟨59, _⟩ => ⟨S_, .f32⟩
  | .hbm, ⟨60, _⟩ => ⟨S4x8x256, .f32⟩
  | .hbm, ⟨61, _⟩ => ⟨S4x8x256, .f32⟩
  | .hbm, ⟨62, _⟩ => ⟨S4x8x256x1, .f32⟩
  | .hbm, ⟨63, _⟩ => ⟨S4x8x256x256, .f32⟩
  | .hbm, ⟨64, _⟩ => ⟨S4x8x256x256, .f32⟩
  | .hbm, ⟨65, _⟩ => ⟨S4x8x256x256, .f32⟩
  | .hbm, ⟨66, _⟩ => ⟨S_, .f32⟩
  | .hbm, ⟨67, _⟩ => ⟨S4x8x256, .f32⟩
  | .hbm, ⟨68, _⟩ => ⟨S4x8x256x1, .f32⟩
  | .hbm, ⟨69, _⟩ => ⟨S4x8x256x256, .f32⟩
  | .hbm, ⟨70, _⟩ => ⟨S4x8x256x256, .f32⟩
  | .hbm, ⟨71, _⟩ => ⟨S4x8x256x128, .f32⟩
  | .hbm, ⟨72, _⟩ => ⟨S4x256x8x128, .f32⟩
  | .hbm, ⟨73, _⟩ => ⟨S1024x1024, .f32⟩
  | .hbm, ⟨74, _⟩ => ⟨S1024x1024, .bf16⟩
  | _, _ => ⟨S4x256x5184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩

abbrev nD : Nat := 1
abbrev τ : Topo := Topo.v7x

variable {F : FTy → Type} [FloatOps F]
-- ==== Proof.Mla.Heads.lean ====
module

public import proofs.«01_k».proof.Proof.Gen.MlaRefIdeal.Read
public import Idealize.ShloMosaic.Lib.Pipeline.ValueKit

@[expose] public section

set_option maxRecDepth 16384

noncomputable section

namespace Cert.MlaHeads

open Idealize.ShloMosaic Idealize.ShloMosaic.TcCoe Idealize.SL.Sem
open Cert.MlaRefIdeal Cert.MlaRefIdeal.Read

/-- Sixty-four lanes turned by their position's angles: the first thirty-two in pairs sixteen apart by the row's angles, the other
thirty-two by the column's. -/
def turn (a b : Fin 16 → EReal) (x : Fin 64 → EReal) (l : Fin 64) : EReal :=
  if h : l.val < 16 then x l * Ideal.cos (a ⟨l, h⟩) - x ⟨l + 16, by omega⟩ * Ideal.sin (a ⟨l, h⟩)
  else if h : l.val < 32 then x l * Ideal.cos (a ⟨l - 16, by omega⟩) + x ⟨l - 16, by omega⟩ * Ideal.sin (a ⟨l - 16, by omega⟩)
  else if h : l.val < 48 then x l * Ideal.cos (b ⟨l - 32, by omega⟩) - x ⟨l + 16, by omega⟩ * Ideal.sin (b ⟨l - 32, by omega⟩)
  else x l * Ideal.cos (b ⟨l - 48, by omega⟩) + x ⟨l - 16, by omega⟩ * Ideal.sin (b ⟨l - 48, by omega⟩)

/-- The angle of position `r` and frequency `k`, from the position's row on the image grid. -/
abbrev rowAngle : FVec Ideal S2048x16 .f32 := val_main_v27 (F := Ideal)

/-- The angle of position `r` and frequency `k`, from the position's column on the image grid. -/
abbrev colAngle : FVec Ideal S2048x16 .f32 := val_main_v65 (F := Ideal)

set_option maxHeartbeats 4000000 in
/-- The keys' row angles are the queries'. -/
theorem angle_row : val_main_v104 (F := Ideal) = rowAngle := rfl

set_option maxHeartbeats 4000000 in
/-- The keys' column angles are the queries'. -/
theorem angle_col : val_main_v142 (F := Ideal) = colAngle := rfl

/-- The rotary part of head `h`'s query at position `r` of image `b`, before it is turned. -/
def queryPe (P : FVec Ideal S4x2048x5184 .f32) (b : Fin 4) (h : Fin 8) (r : Fin 2048) (l : Fin 64) : EReal :=
  P (ix3 b r ⟨h.val * 192 + 128 + l.val, by omega⟩)

/-- The rotary part of the key at position `r` of image `b`, before it is turned: one for all heads. -/
def keyPe (P : FVec Ideal S4x2048x5184 .f32) (b : Fin 4) (r : Fin 2048) (l : Fin 64) : EReal :=
  P (ix3 b r ⟨2048 + l.val, by omega⟩)

/-- Sixty-four lanes turned by the angles of position `r`. -/
def turnAt (r : Fin 2048) (x : Fin 64 → EReal) (l : Fin 64) : EReal :=
  turn (fun k => rowAngle (ix2 r k)) (fun k => colAngle (ix2 r k)) x l

/-- Head `h`'s query at position `r` of image `b`. -/
def query (P : FVec Ideal S4x2048x5184 .f32) (b : Fin 4) (h : Fin 8) (r : Fin 2048) (l : Fin 192) : EReal :=
  if hl : l.val < 128 then P (ix3 b r ⟨h.val * 192 + l.val, by omega⟩)
  else turnAt r (queryPe P b h r) ⟨l.val - 128, by omega⟩

/-- Head `h`'s key number `j` of image `b`: the context's 256 keys, then the image's 2048. -/
def key (P : FVec Ideal S4x2048x5184 .f32) (C : FVec Ideal S4x256x5184 .f32) (K : FVec Ideal S4x2048x2048 .f32)
    (KC : FVec Ideal S4x256x2048 .f32) (b : Fin 4) (h : Fin 8) (j : Fin 2304) (l : Fin 192) : EReal :=
  if hj : j.val < 256 then
    if hl : l.val < 128 then KC (ix3 b ⟨j.val, hj⟩ ⟨h.val * 256 + l.val, by omega⟩)
    else C (ix3 b ⟨j.val, hj⟩ ⟨2048 + (l.val - 128), by omega⟩)
  else
    if hl : l.val < 128 then K (ix3 b ⟨j.val - 256, by omega⟩ ⟨h.val * 256 + l.val, by omega⟩)
    else turnAt ⟨j.val - 256, by omega⟩ (keyPe P b ⟨j.val - 256, by omega⟩) ⟨l.val - 128, by omega⟩

/-- Head `h`'s value number `j` of image `b`, lane `d`. -/
def value (K : FVec Ideal S4x2048x2048 .f32) (KC : FVec Ideal S4x256x2048 .f32) (b : Fin 4) (h : Fin 8) (j : Fin 2304)
    (d : Fin 128) : EReal :=
  if hj : j.val < 256 then KC (ix3 b ⟨j.val, hj⟩ ⟨h.val * 256 + 128 + d.val, by omega⟩)
  else K (ix3 b ⟨j.val - 256, by omega⟩ ⟨h.val * 256 + 128 + d.val, by omega⟩)

/-- The reference's rotated lanes of the queries: each head's last 64 lanes, turned by the position's row and column. -/
theorem v87_at (x0 : FVec Ideal S4x2048x5184 .f32) (i : S4x2048x8x64.Idx) :
    val_main_v87 (F := Ideal) x0 i = turnAt (i 1) (queryPe x0 (i 0) (i 2) (i 1)) (i 3) := by
  pointwise [val_main_v87, val_main_v86, val_main_v85, val_main_v84, val_main_v83, val_main_v82, val_main_v81, val_main_v80,
    val_main_v79, val_main_v78, val_main_v77, val_main_v76, val_main_v75, val_main_v74, val_main_v73, val_main_v72,
    val_main_v71, val_main_v70, val_main_v69, val_main_v68, val_main_v67, val_main_v66, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v11, val_main_v9, val_main_v7, val_main_v3, turnAt, turn, queryPe]
  by_cases h1 : (i 3 : ℕ) < 16
  · have h2 : (i 3 : ℕ) < 32 := by omega
    simp only [h1, h2, dite_true]
    reads_congr <;> blk_ext
  by_cases h2 : (i 3 : ℕ) < 32
  · simp only [h1, h2, dite_true, dite_false]
    reads_congr <;> blk_ext
  by_cases h3 : (i 3 : ℕ) < 48
  · have h4 : (i 3 : ℕ) - 32 < 16 := by omega
    simp only [h1, h2, h3, h4, dite_true, dite_false]
    reads_congr <;> blk_ext
  · have h4 : ¬ (i 3 : ℕ) - 32 < 16 := by omega
    simp only [h1, h2, h3, h4, dite_false]
    reads_congr <;> blk_ext

/-- The reference's rotated lanes of the keys: the 64 lanes that all heads share, turned by the position's row and column. -/
theorem v164_at (x0 : FVec Ideal S4x2048x5184 .f32) (i : S4x2048x1x64.Idx) :
    val_main_v164 (F := Ideal) x0 i = turnAt (i 1) (keyPe x0 (i 0) (i 1)) (i 3) := by
  pointwise [val_main_v164, val_main_v163, val_main_v162, val_main_v161, val_main_v160, val_main_v159, val_main_v158, val_main_v157,
    val_main_v156, val_main_v155, val_main_v154, val_main_v153, val_main_v152, val_main_v151, val_main_v150, val_main_v149,
    val_main_v148, val_main_v147, val_main_v146, val_main_v145, val_main_v144, val_main_v143, val_main_v126, val_main_v125,
    val_main_v124, val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v88, val_main_v10, val_main_v5, angle_row, angle_col, turnAt, turn, keyPe]
  by_cases h1 : (i 3 : ℕ) < 16
  · have h2 : (i 3 : ℕ) < 32 := by omega
    simp only [h1, h2, dite_true]
    reads_congr <;> blk_ext
  by_cases h2 : (i 3 : ℕ) < 32
  · simp only [h1, h2, dite_true, dite_false]
    reads_congr <;> blk_ext
  by_cases h3 : (i 3 : ℕ) < 48
  · have h4 : (i 3 : ℕ) - 32 < 16 := by omega
    simp only [h1, h2, h3, h4, dite_true, dite_false]
    reads_congr <;> blk_ext
  · have h4 : ¬ (i 3 : ℕ) - 32 < 16 := by omega
    simp only [h1, h2, h3, h4, dite_false]
    reads_congr <;> blk_ext

/-- The reference's queries, head by head. -/
theorem query_at (x0 : FVec Ideal S4x2048x5184 .f32) (i : S4x8x2048x192.Idx) :
    val_main_v171 (F := Ideal) x0 i = query x0 (i 0) (i 1) (i 2) (i 3) := by
  pointwise [val_main_v171, val_main_v168, val_main_v8, val_main_v7, val_main_v3, query]
  by_cases h : (i 3 : ℕ) < 128
  · simp only [h, dite_true]
  · simp only [h, dite_false]
    exact v87_at x0 _

/-- The reference's keys, head by head: the context's, then the latents'. -/
theorem key_at (x0 : FVec Ideal S4x2048x5184 .f32) (x1 : FVec Ideal S4x256x5184 .f32) (x2 : FVec Ideal S4x2048x2048 .f32)
    (x3 : FVec Ideal S4x256x2048 .f32) (i : S4x8x2304x192.Idx) :
    val_main_v191 (F := Ideal) x0 x1 x2 x3 i = key x0 x1 x2 x3 (i 0) (i 1) (i 2) (i 3) := by
  pointwise [val_main_v191, val_main_v189, val_main_v187, val_main_v186, val_main_v183, val_main_v182, val_main_v181, val_main_v176,
    val_main_v172, val_main_v170, val_main_v169, val_main_v166, val_main_v165, key]
  by_cases h : (i 2 : ℕ) < 256
  · simp only [h, dite_true]
  by_cases h' : (i 3 : ℕ) < 128
  · simp only [h, h', dite_true, dite_false]
  · simp only [h, h', dite_false]
    exact v164_at x0 _

/-- The reference's values, head by head: the context's, then the latents'. -/
theorem value_at (x2 : FVec Ideal S4x2048x2048 .f32)
    (x3 : FVec Ideal S4x256x2048 .f32) (i : S4x8x2304x128.Idx) :
    val_main_v192 (F := Ideal) x2 x3 i = value x2 x3 (i 0) (i 1) (i 2) (i 3) := by
  pointwise [val_main_v192, val_main_v190, val_main_v184, val_main_v182, val_main_v173, val_main_v167, val_main_v165, value]
  by_cases h : (i 2 : ℕ) < 256
  · simp only [h, dite_true]
    reads_congr <;> blk_ext
  · simp only [h, dite_false]
    reads_congr <;> blk_ext

end Cert.MlaHeads

end
-- ==== Proof.Mla.Entry.lean ====
module

public import proofs.«01_k».proof.Proof.Gen.MlaIdeal.Value
public import proofs.«01_k».proof.Proof.Mla.Heads
public import Idealize.ShloMosaic.Lib.Pipeline.ValueKit

@[expose] public section

set_option maxRecDepth 16384

noncomputable section

namespace Cert.MlaValue

open Idealize.ShloMosaic Idealize.ShloMosaic.TcCoe Idealize.SL.Sem
open Idealize.ShloMosaic.Pipeline (Dat)
open Cert.MlaIdeal Cert.MlaIdeal.Gen
open Cert.MlaHeads (rowAngle colAngle)

variable (m : (ℓ : Loc nD τ sig) → Buf (Elt Ideal) ℓ)

/-- Sixty-four lanes of zeros. -/
abbrev zeros64 : FVec Ideal S2048x64 .f32 := broadcastInDim S2048x64 ![] bcast_S_S2048x64 (constant (F := Ideal) S_ .f32 0x00000000#32)

/-- The cosine table: the row angles twice, the column angles twice, then zeros. -/
def cosTab : FVec Ideal S2048x128 .f32 :=
  concatenate S2048x128 1 [⟨S2048x16, Host.cos rowAngle⟩, ⟨S2048x16, Host.cos rowAngle⟩, ⟨S2048x16, Host.cos colAngle⟩,
    ⟨S2048x16, Host.cos colAngle⟩, ⟨S2048x64, zeros64⟩]
    concatenates_S2048x16_S2048x16_S2048x16_S2048x16_S2048x64_S2048x128_d1

/-- The sine table: the row angles twice, negated the first time, the column angles likewise, then zeros. -/
def sinTab : FVec Ideal S2048x128 .f32 :=
  concatenate S2048x128 1 [⟨S2048x16, Host.negf (Host.sin rowAngle)⟩, ⟨S2048x16, Host.sin rowAngle⟩,
    ⟨S2048x16, Host.negf (Host.sin colAngle)⟩, ⟨S2048x16, Host.sin colAngle⟩, ⟨S2048x64, zeros64⟩]
    concatenates_S2048x16_S2048x16_S2048x16_S2048x16_S2048x64_S2048x128_d1

set_option maxHeartbeats 4000000 in
/-- The kernel's first rope table is the cosine table. -/
theorem V_cos (c : Dev nD) : @Eq (FVec Ideal S2048x128 .f32) (V m c main_v30) cosTab := by
  entry_read; rfl

set_option maxHeartbeats 4000000 in
/-- The kernel's second rope table is the sine table. -/
theorem V_sin (c : Dev nD) : @Eq (FVec Ideal S2048x128 .f32) (V m c main_v37) sinTab := by
  entry_read; rfl

/-- The latent projection as the kernel reads it: rows laid under one another, each head's 192 query lanes padded to 256, the other
groups moved behind them, the shared rotary key padded to 512 lanes at the end. -/
def evenLat (X : FVec Ideal S4x2048x5184 .f32) : FVec Ideal S8192x6144 .bf16 :=
  let Y : FVec Ideal S8192x5184 .bf16 := truncf .bf16 (shapeCast S8192x5184 X shapeCasts_S4x2048x5184_S8192x5184) bitsLt_bf16_f32
  let Z : FVec Ideal S_ .bf16 := sitofp .bf16 (constantI S_ 32 0#32)
  concatenate S8192x6144 1
    [⟨S8192x2048, shapeCast S8192x2048 (pad S8192x8x256 ![0, 0, 0] ![0, 0, 64] ![0, 0, 0]
        (shapeCast S8192x8x192 (extractStridedSlice S8192x1536 ![0, 0] Y slices_S8192x5184_S8192x1536_0_0) shapeCasts_S8192x1536_S8192x8x192)
        Z pads_S8192x8x192_S8192x8x256_000_000_0640 h_S_) shapeCasts_S8192x8x256_S8192x2048⟩,
     ⟨S8192x3072, extractStridedSlice S8192x3072 ![0, 2112] Y slices_S8192x5184_S8192x3072_0_2112⟩,
     ⟨S8192x512, extractStridedSlice S8192x512 ![0, 1536] Y slices_S8192x5184_S8192x512_0_1536⟩,
     ⟨S8192x512, pad S8192x512 ![0, 0] ![0, 448] ![0, 0] (extractStridedSlice S8192x64 ![0, 2048] Y slices_S8192x5184_S8192x64_0_2048)
        Z pads_S8192x64_S8192x512_000_04480 h_S_⟩]
    concatenates_S8192x2048_S8192x3072_S8192x512_S8192x512_S8192x6144_d1

/-- The context projection as the kernel reads it, laid out in the same way. -/
def evenCtx (X : FVec Ideal S4x256x5184 .f32) : FVec Ideal S1024x6144 .bf16 :=
  let Y : FVec Ideal S1024x5184 .bf16 := truncf .bf16 (shapeCast S1024x5184 X shapeCasts_S4x256x5184_S1024x5184) bitsLt_bf16_f32
  let Z : FVec Ideal S_ .bf16 := sitofp .bf16 (constantI S_ 32 0#32)
  concatenate S1024x6144 1
    [⟨S1024x2048, shapeCast S1024x2048 (pad S1024x8x256 ![0, 0, 0] ![0, 0, 64] ![0, 0, 0]
        (shapeCast S1024x8x192 (extractStridedSlice S1024x1536 ![0, 0] Y slices_S1024x5184_S1024x1536_0_0) shapeCasts_S1024x1536_S1024x8x192)
        Z pads_S1024x8x192_S1024x8x256_000_000_0640 h_S_) shapeCasts_S1024x8x256_S1024x2048⟩,
     ⟨S1024x3072, extractStridedSlice S1024x3072 ![0, 2112] Y slices_S1024x5184_S1024x3072_0_2112⟩,
     ⟨S1024x512, extractStridedSlice S1024x512 ![0, 1536] Y slices_S1024x5184_S1024x512_0_1536⟩,
     ⟨S1024x512, pad S1024x512 ![0, 0] ![0, 448] ![0, 0] (extractStridedSlice S1024x64 ![0, 2048] Y slices_S1024x5184_S1024x64_0_2048)
        Z pads_S1024x64_S1024x512_000_04480 h_S_⟩]
    concatenates_S1024x2048_S1024x3072_S1024x512_S1024x512_S1024x6144_d1

/-- What the kernel finds where it reads the latent projection. -/
theorem V_plat (c : Dev nD) : @Eq (FVec Ideal S8192x6144 .bf16) (V m c main_v48)
    (evenLat (m ((c : Thread nD τ).loc main_arg0))) := by
  entry_read; rfl

/-- What the kernel finds where it reads the context projection. -/
theorem V_pctx (c : Dev nD) : @Eq (FVec Ideal S1024x6144 .bf16) (V m c main_v59)
    (evenCtx (m ((c : Thread nD τ).loc main_arg1))) := by
  entry_read; rfl

/-- The keys and values of the image, as the kernel reads them: rows laid under one another. -/
theorem V_kvlat (c : Dev nD) : @Eq (FVec Ideal S8192x2048 .bf16) (V m c main_v61)
    (truncf .bf16 (shapeCast S8192x2048 (m ((c : Thread nD τ).loc main_arg2) : FVec Ideal S4x2048x2048 .f32)
      shapeCasts_S4x2048x2048_S8192x2048) bitsLt_bf16_f32) := by
  entry_read; rfl

/-- The keys and values of the context, as the kernel reads them. -/
theorem V_kvctx (c : Dev nD) : @Eq (FVec Ideal S1024x2048 .bf16) (V m c main_v63)
    (truncf .bf16 (shapeCast S1024x2048 (m ((c : Thread nD τ).loc main_arg3) : FVec Ideal S4x256x2048 .f32)
      shapeCasts_S4x256x2048_S1024x2048) bitsLt_bf16_f32) := by
  entry_read; rfl

end Cert.MlaValue

end
-- ==== Proof.Mla.Softmax.lean ====
module

public import Idealize.ShloMosaic.PureOps.Ideal
public import Idealize.ShloMosaic.Lib.Pipeline.ValueKit

@[expose] public section

noncomputable section

namespace Cert.MlaSoftmax

open Idealize.ShloMosaic

/-- A sum of extended reals times a nonnegative real is the sum of the products. -/
theorem sum_mul_real {n : ℕ} (f : Fin n → EReal) (r : ℝ) (hr : 0 ≤ r) :
    (∑ j, f j) * (r : EReal) = ∑ j, f j * (r : EReal) := by
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals, taken among the extended reals, is the real sum. -/
theorem sum_real {n : ℕ} (f : Fin n → ℝ) : (∑ j, (f j : EReal)) = ((∑ j, f j : ℝ) : EReal) := by
  induction (Finset.univ : Finset (Fin n)) using Finset.induction_on with
  | empty => simp
  | insert a s ha ih => rw [Finset.sum_insert ha, Finset.sum_insert ha, ih, EReal.coe_add]

/-- The largest of finitely many reals (at least one) is a real that bounds them and is one of them. -/
theorem max_real {n : ℕ} (hn : 0 < n) (s : Fin n → ℝ) :
    ∃ μ : ℝ, (Finset.univ.fold max (⊥ : EReal) (fun j => (s j : EReal))) = μ ∧ (∀ j, s j ≤ μ) ∧ ∃ j, s j = μ := by
  haveI : Nonempty (Fin n) := ⟨⟨0, hn⟩⟩
  obtain ⟨k, -, hk⟩ := Finset.exists_max_image (Finset.univ : Finset (Fin n)) s Finset.univ_nonempty
  refine ⟨s k, ?_, fun j => hk j (Finset.mem_univ j), k, rfl⟩
  apply le_antisymm
  · refine Finset.fold_max_le _ |>.mpr ⟨bot_le, fun j _ => ?_⟩
    exact_mod_cast hk j (Finset.mem_univ j)
  · exact Finset.le_fold_max _ |>.mpr (Or.inr ⟨k, Finset.mem_univ k, le_rfl⟩)

/-- Two raised to a multiple of the inverse natural logarithm of two is the exponential. -/
theorem exp2_real (x c : ℝ) :
    Ideal.exp2 ((x : EReal) * ((c * (Real.log 2)⁻¹ : ℝ) : EReal)) = ((Real.exp (c * x) : ℝ) : EReal) := by
  rw [← EReal.coe_mul]
  show ((Real.rpow 2 _ : ℝ) : EReal) = _
  congr 1
  show (2 : ℝ) ^ (x * (c * (Real.log 2)⁻¹)) = _
  rw [Real.rpow_def_of_pos (by norm_num)]
  congr 1
  have h2 : Real.log 2 ≠ 0 := (Real.log_pos (by norm_num)).ne'
  field_simp

/-- Attention, one query row and one value lane. The kernel's form subtracts the row's largest score before scaling, raises two to the
scaled difference, and divides the weighted sum once at the end by the sum of the weights, which it takes as a second product with ones.
The reference's form scales first, subtracts the row's largest scaled score, exponentiates, and divides every weight. They agree. -/
theorem attend {n : ℕ} (hn : 0 < n) (s : Fin n → EReal) (hs : ∀ j, ∃ x : ℝ, s j = x) (v : Fin n → EReal) (d : ℝ) (hd : 0 < d) :
    Ideal.div
      (∑ j, Ideal.exp2 ((s j - Finset.univ.fold max (⊥ : EReal) s) * ((d⁻¹ * (Real.log 2)⁻¹ : ℝ) : EReal)) * v j)
      (∑ j, Ideal.exp2 ((s j - Finset.univ.fold max (⊥ : EReal) s) * ((d⁻¹ * (Real.log 2)⁻¹ : ℝ) : EReal)) * 1)
    = ∑ j, Ideal.div
        (Ideal.exp (Ideal.div (s j) d - max ⊥ (Finset.univ.fold max (⊥ : EReal) (fun k => Ideal.div (s k) d))))
        (∑ i, Ideal.exp (Ideal.div (s i) d - max ⊥ (Finset.univ.fold max (⊥ : EReal) (fun k => Ideal.div (s k) d)))) * v j := by
  choose x hx using hs
  obtain rfl : s = fun j => (x j : EReal) := funext hx
  obtain ⟨μ, hμ, hle, k, hk⟩ := max_real hn x
  have hdiv : ∀ j, Ideal.div (x j : EReal) (d : EReal) = ((d⁻¹ * x j : ℝ) : EReal) := fun j => by
    rw [Ideal.div_coe hd.ne', ← EReal.coe_mul, one_div, mul_comm d⁻¹]
  obtain ⟨ν, hν, hle', k', hk'⟩ := max_real hn (fun j => d⁻¹ * x j)
  have hνμ : ν = d⁻¹ * μ := by
    apply le_antisymm
    · rw [← hk']; exact mul_le_mul_of_nonneg_left (hle k') (inv_pos.mpr hd).le
    · rw [← hk]; exact hle' k
  simp only [hdiv, hν, hμ]
  have hp : ∀ j, Ideal.exp2 (((x j : EReal) - (μ : EReal)) * ((d⁻¹ * (Real.log 2)⁻¹ : ℝ) : EReal))
      = ((Real.exp (d⁻¹ * (x j - μ)) : ℝ) : EReal) := fun j => by
    rw [← EReal.coe_sub]; exact exp2_real _ _
  have hq : ∀ j, Ideal.exp (((d⁻¹ * x j : ℝ) : EReal) - max ⊥ (ν : EReal)) = ((Real.exp (d⁻¹ * (x j - μ)) : ℝ) : EReal) := fun j => by
    rw [max_eq_right bot_le, ← EReal.coe_sub, hνμ]
    show ((Real.exp _ : ℝ) : EReal) = _
    congr 2; ring
  simp only [hp, hq, mul_one]
  have hL : (∑ j, ((Real.exp (d⁻¹ * (x j - μ)) : ℝ) : EReal)) = ((∑ j, Real.exp (d⁻¹ * (x j - μ)) : ℝ) : EReal) := by
    exact sum_real _
  rw [hL]
  have hpos : 0 < ∑ j, Real.exp (d⁻¹ * (x j - μ)) :=
    Finset.sum_pos (fun j _ => Real.exp_pos _) ⟨⟨0, hn⟩, Finset.mem_univ _⟩
  generalize (∑ j, Real.exp (d⁻¹ * (x j - μ))) = L at hpos
  have hL0 : (L : EReal) ≠ 0 := by exact_mod_cast hpos.ne'
  unfold Ideal.div
  simp only [if_neg hL0]
  rw [← EReal.coe_inv, sum_mul_real _ _ (inv_pos.mpr hpos).le]
  refine Finset.sum_congr rfl fun j _ => ?_
  rw [mul_right_comm]

end Cert.MlaSoftmax

end
-- ==== Proof.Mla.Tile.lean ====
module

public import proofs.«01_k».proof.Proof.Gen.MlaIdeal.Value
public import proofs.«01_k».proof.Proof.Mla.Softmax
public import Idealize.ShloMosaic.Lib.Pipeline.ValueKit

@[expose] public section

set_option maxRecDepth 16384

noncomputable section

namespace Cert.MlaTile

open Idealize.ShloMosaic Idealize.ShloMosaic.TcCoe Idealize.SL.Sem
open Cert.MlaIdeal Cert.MlaIdeal.Gen

/-- The products of 512 queries of 256 lanes with the 2304 keys. -/
abbrev prods (q : FVec Ideal S512x256 .bf16) (K : FVec Ideal S2304x256 .bf16) : FVec Ideal S512x2304 .f32 :=
  matmul dot_S512x256_S2304x256_S512x2304_1_1_0_0_n_n none q K (constant S512x2304 .f32 0x00000000#32)

/-- Sixty-four lanes of zeros change no product: the sum over 256 lanes is the sum over the first 192. -/
theorem prods_at (q : FVec Ideal S512x256 .bf16) (K : FVec Ideal S2304x256 .bf16) (r : Fin 512) (j : Fin 2304)
    (Q k : Fin 192 → EReal) (hQ : ∀ l : Fin 192, q (ix2 r ⟨l, by omega⟩) = Q l)
    (hQ0 : ∀ l : Fin 64, q (ix2 r ⟨192 + l, by omega⟩) = (0 : EReal))
    (hk : ∀ l : Fin 192, K (ix2 j ⟨l, by omega⟩) = k l) :
    (∑ l : Fin 256, q (ix2 r l) * K (ix2 j l) : EReal) = ∑ l, Q l * k l := by
  refine (Fin.sum_univ_add (a := 192) (b := 64) (fun l : Fin 256 => (q (ix2 r l) * K (ix2 j l) : EReal))).trans ?_
  have e0 : ∀ l : Fin 64, (q (ix2 r (Fin.natAdd 192 l)) * K (ix2 j (Fin.natAdd 192 l)) : EReal) = 0 := fun l => by
    have := hQ0 l
    rw [show (Fin.natAdd 192 l : Fin 256) = ⟨192 + l, by omega⟩ from rfl, this, zero_mul]
  have e1 : ∀ l : Fin 192, (q (ix2 r (Fin.castAdd 64 l)) * K (ix2 j (Fin.castAdd 64 l)) : EReal) = Q l * k l := fun l =>
    congrArg₂ _ (hQ l) (hk l)
  rw [Finset.sum_congr rfl fun l _ => e0 l, Finset.sum_congr rfl fun l _ => e1 l, Finset.sum_const_zero, add_zero]

/-- One tile of 512 rows: where the queries' first 192 lanes are `Q` and the others zero, the keys' first 192 lanes `k`, the values'
first 128 lanes `v` and the others one, the quotient of the two sums the kernel takes is the softmax of the products divided by the
square root of 192, applied to the values. -/
theorem tile_at (q : FVec Ideal S512x256 .bf16) (K V : FVec Ideal S2304x256 .bf16) (y : S512x128.Idx)
    (Q : Fin 192 → EReal) (k : Fin 2304 → Fin 192 → EReal) (v : Fin 2304 → EReal)
    (hQ : ∀ l : Fin 192, q (ix2 (y 0) ⟨l, by omega⟩) = Q l)
    (hQ0 : ∀ l : Fin 64, q (ix2 (y 0) ⟨192 + l, by omega⟩) = (0 : EReal))
    (hk : ∀ (j : Fin 2304) (l : Fin 192), K (ix2 j ⟨l, by omega⟩) = k j l)
    (hv : ∀ (j : Fin 2304) (h : (y 1 : ℕ) < 256), V (ix2 j ⟨y 1, h⟩) = v j)
    (hv1 : ∀ (j : Fin 2304) (h : 128 + (y 1 : ℕ) < 256), V (ix2 j ⟨128 + (y 1 : ℕ), h⟩) = (1 : EReal))
    (hs : ∀ j, ∃ x : ℝ, (∑ l, Q l * k j l : EReal) = x) :
    k0_pay2 (F := Ideal) V (prods q K) y
    = ∑ j, Ideal.div
        (Ideal.exp (Ideal.div (∑ l, Q l * k j l : EReal) ((Real.sqrt 192 : ℝ) : EReal)
          - max ⊥ (Finset.univ.fold max (⊥ : EReal) (fun i => Ideal.div (∑ l, Q l * k i l : EReal) ((Real.sqrt 192 : ℝ) : EReal)))))
        (∑ n, Ideal.exp (Ideal.div (∑ l, Q l * k n l : EReal) ((Real.sqrt 192 : ℝ) : EReal)
          - max ⊥ (Finset.univ.fold max (⊥ : EReal) (fun i => Ideal.div (∑ l, Q l * k i l : EReal) ((Real.sqrt 192 : ℝ) : EReal)))))
        * v j := by
  have hp : ∀ j : Fin 2304, (∑ l : Fin 256, q (ix2 (y 0) l) * K (ix2 j l) : EReal) = ∑ l, Q l * k j l := fun j =>
    prods_at q K (y 0) j Q (k j) hQ hQ0 (hk j)
  have hb : Ideal.ofBits .f32 0xFF800000#32 = (⊥ : EReal) := by simp [Ideal.ofBits, Ideal.ieee]
  have hn : Named.named (F := Ideal) (φ := .f32) κ "scale_log2e" 0x3DD53B95#32 = _ :=
    IdealRules.named_const.ideal_named_scalar _ _ _ _ rfl
  rw [← Cert.MlaSoftmax.attend (by norm_num) (fun j => ∑ l, Q l * k j l) hs v _ (Real.sqrt_pos.2 (by norm_num))]
  pointwise [k0_pay2]
  simp only [hp, hb, hn, hv, hv1, mul_one]
  rfl

/-- The kernel's lane mask: the first sixteen of every thirty-two lanes. -/
theorem mask_lane : ∀ l : Fin 128, IntOp.cmpi CmpIPredicate.slt
    (Scalar.select
      (IntOp.andi
        (IntOp.xori
          (IntOp.cmpi CmpIPredicate.slt
            (IntOp.remsi ArithUnit.vector (BitVec.ofNat 32 l.val)
              (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 l.val)
            (Scalar.select (Scalar.cmpi CmpIPredicate.eq 32#32 0#32) 1#32 32#32)) 0#32))
      (IntOp.addi
        (IntOp.remsi ArithUnit.vector (BitVec.ofNat 32 l.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val)
        (Scalar.select (Scalar.cmpi CmpIPredicate.eq 32#32 0#32) 1#32 32#32))) 16#32
    = if l.val % 32 < 16 then 1#1 else 0#1 := by decide +kernel

/-- The kernel's rotation of a block of 128 lanes by two tables: each lane times the first table, plus the lane sixteen away times the
second. -/
theorem rope_at (x : Vec Ideal S2048x128 .bf16) (c s : Vec Ideal S2048x128 .f32) (y : S2048x128.Idx) :
    k0_pay17 (F := Ideal) x c s y
    = (x y * c y + (if (y 1 : ℕ) % 32 < 16 then (x (ix2 (y 0) ⟨((y 1 : ℕ) + 16) % 128, by omega⟩) : EReal)
        else x (ix2 (y 0) ⟨((y 1 : ℕ) + 112) % 128, by omega⟩)) * s y : EReal) := by
  have e := mask_lane (y 1)
  have hy : (y 1 : ℕ) < 128 := (y 1).isLt
  have e1 : (⟨((y 1 : ℕ) + 128 - 112) % 128, by omega⟩ : Fin 128) = ⟨((y 1 : ℕ) + 16) % 128, by omega⟩ := Fin.ext (by
    show ((y 1 : ℕ) + 128 - 112) % 128 = ((y 1 : ℕ) + 16) % 128
    omega)
  have e2 : (⟨((y 1 : ℕ) + 128 - 16) % 128, by omega⟩ : Fin 128) = ⟨((y 1 : ℕ) + 112) % 128, by omega⟩ := Fin.ext (by
    show ((y 1 : ℕ) + 128 - 16) % 128 = ((y 1 : ℕ) + 112) % 128
    omega)
  pointwise [k0_pay17]
  rw [e, ← e1, ← e2]
  by_cases h : (y 1 : ℕ) % 32 < 16
  · simp only [h, if_true]; rfl
  · simp only [h, if_false]; rfl

/-- A tile's queries: 512 rows of the two blocks side by side. -/
theorem cat_at (o : ℕ) (h : S2048x256.Slices ![o, 0] S512x256) (x c : Vec Ideal S2048x128 .bf16) (y : S512x256.Idx)
    (r : Fin 2048) (hr : (r : ℕ) = o + y 0) :
    extractStridedSlice S512x256 ![o, 0] (k0_pay18 (F := Ideal) x c) h y
    = if h : (y 1 : ℕ) < 128 then c (ix2 r ⟨y 1, h⟩) else x (ix2 r ⟨(y 1 : ℕ) - 128, by have : (y 1 : ℕ) < 256 := (y 1).isLt; omega⟩) := by
  have e : ∀ h, (⟨o + (y 0 : ℕ), h⟩ : Fin 2048) = r := fun _ => Fin.ext hr.symm
  pointwise [k0_pay18]
  simp only [e]

/-- The first tile of 512 queries attends over all keys. -/
theorem pay19_eq (a : FVec Ideal S2048x128 .bf16) (b : Vec Ideal S2048x128 .bf16) (K V : Vec Ideal S2304x256 .bf16) :
    k0_pay19 (F := Ideal) a b K V
    = k0_pay2 V (prods (extractStridedSlice S512x256 ![0, 0] (k0_pay18 a b) slices_S2048x256_o0_0_S512x256) K) := rfl

/-- The second tile of 512 queries attends over all keys. -/
theorem pay21_eq (a : FVec Ideal S2048x128 .bf16) (b : Vec Ideal S2048x128 .bf16) (K V : Vec Ideal S2304x256 .bf16) :
    k0_pay21 (F := Ideal) a b K V
    = k0_pay2 V (prods (extractStridedSlice S512x256 ![512, 0] (k0_pay18 a b) slices_S2048x256_o512_0_S512x256) K) := rfl

/-- The third tile of 512 queries attends over all keys. -/
theorem pay20_eq (a : FVec Ideal S2048x128 .bf16) (b : Vec Ideal S2048x128 .bf16) (K V : Vec Ideal S2304x256 .bf16) :
    k0_pay1 (F := Ideal) V (k0_pay20 a b K)
    = k0_pay2 V (prods (extractStridedSlice S512x256 ![1024, 0] (k0_pay18 a b) slices_S2048x256_o1024_0_S512x256) K) := rfl

/-- The last tile of 512 queries attends over all keys. -/
theorem pay22_eq (a : FVec Ideal S2048x128 .bf16) (b : Vec Ideal S2048x128 .bf16) (K V : Vec Ideal S2304x256 .bf16) :
    k0_pay2 (F := Ideal) V (k0_pay22 a b K)
    = k0_pay2 V (prods (extractStridedSlice S512x256 ![1536, 0] (k0_pay18 a b) slices_S2048x256_o1536_0_S512x256) K) := rfl

end Cert.MlaTile

end
-- ==== Proof.Common.Rows.lean ====
module

public import Idealize.ShloMosaic.Lib.Pipeline.ValueKit

@[expose] public section

set_option maxRecDepth 16384

noncomputable section

namespace Cert.Rows

open Idealize.ShloMosaic

/-- The rows of four images laid under one another: row `r` of the tall array is row `r % 2048` of image `r / 2048`. -/
theorem rows_at {α : Type} {n : ℕ} (X : (⟨3, ![4, 2048, n]⟩ : Shape).Idx → α)
    (h : (⟨3, ![4, 2048, n]⟩ : Shape).ShapeCasts ⟨2, ![8192, n]⟩) (j : (⟨2, ![8192, n]⟩ : Shape).Idx) :
    shapeCast ⟨2, ![8192, n]⟩ X h j
      = X (ix3 ⟨(j 0 : ℕ) / 2048, by have := (j 0).isLt; simp at this; omega⟩ ⟨(j 0 : ℕ) % 2048, by omega⟩ (j 1)) := by
  refine shapeCast_apply X h j _ ?_
  rw [Shape.rowMajor_val_three, Shape.rowMajor_val_two]
  show (((j 0 : ℕ) / 2048) * 2048 + (j 0 : ℕ) % 2048) * n + (j 1 : ℕ) = (j 0 : ℕ) * n + (j 1 : ℕ)
  rw [Nat.div_add_mod']

/-- The modulation table padded below by four more rows and given a unit axis: its first four rows are the table's own. -/
theorem mod_at {α : Type} (X Z : (⟨2, ![4, 12288]⟩ : Shape).Idx → α)
    (hc : Shape.Concatenates [(⟨2, ![4, 12288]⟩ : Shape), ⟨2, ![4, 12288]⟩] ⟨2, ![8, 12288]⟩ 0)
    (h : (⟨2, ![8, 12288]⟩ : Shape).ShapeCasts ⟨3, ![8, 1, 12288]⟩)
    (j : (⟨3, ![8, 1, 12288]⟩ : Shape).Idx) (i : (⟨2, ![4, 12288]⟩ : Shape).Idx)
    (h0 : (i 0 : ℕ) = j 0) (h1 : (i 1 : ℕ) = j 2) :
    shapeCast ⟨3, ![8, 1, 12288]⟩ (concatenate ⟨2, ![8, 12288]⟩ 0 [⟨⟨2, ![4, 12288]⟩, X⟩, ⟨⟨2, ![4, 12288]⟩, Z⟩] hc) h j = X i := by
  have e := shapeCast_apply (concatenate ⟨2, ![8, 12288]⟩ 0 [⟨⟨2, ![4, 12288]⟩, X⟩, ⟨⟨2, ![4, 12288]⟩, Z⟩] hc) h j
    (ix2 (j 0) (j 2)) (by
      rw [Shape.rowMajor_val_three, Shape.rowMajor_val_two]
      have h1 : (j 1 : ℕ) < 1 := (j 1).isLt
      show (j 0 : ℕ) * 12288 + (j 2 : ℕ) = ((j 0 : ℕ) * 1 + (j 1 : ℕ)) * 12288 + (j 2 : ℕ)
      omega)
  rw [e]
  pointwise
  have hi : (i 0 : ℕ) < 4 := (i 0).isLt
  rw [dif_pos (by omega)]
  congr 1
  funext b
  fin_cases b
  · exact Fin.ext h0.symm
  · exact Fin.ext h1.symm

/-- The rows of the four images' contexts laid under one another: row `r` of the tall array is row `r % 256` of context `r / 256`. -/
theorem ctx_at {α : Type} {n : ℕ} (X : (⟨3, ![4, 256, n]⟩ : Shape).Idx → α)
    (h : (⟨3, ![4, 256, n]⟩ : Shape).ShapeCasts ⟨2, ![1024, n]⟩) (j : (⟨2, ![1024, n]⟩ : Shape).Idx) :
    shapeCast ⟨2, ![1024, n]⟩ X h j
      = X (ix3 ⟨(j 0 : ℕ) / 256, by have := (j 0).isLt; simp at this; omega⟩ ⟨(j 0 : ℕ) % 256, by omega⟩ (j 1)) := by
  refine shapeCast_apply X h j _ ?_
  rw [Shape.rowMajor_val_three, Shape.rowMajor_val_two]
  show (((j 0 : ℕ) / 256) * 256 + (j 0 : ℕ) % 256) * n + (j 1 : ℕ) = (j 0 : ℕ) * n + (j 1 : ℕ)
  rw [Nat.div_add_mod']

/-- The modulation table that holds the context's row below four other rows, given a unit axis: its fifth row. -/
theorem mod_ctx_at {α : Type} (Z : (⟨2, ![4, 12288]⟩ : Shape).Idx → α) (X : (⟨1, ![12288]⟩ : Shape).Idx → α)
    (hb : (⟨1, ![12288]⟩ : Shape).BroadcastsInDim ⟨2, ![4, 12288]⟩ ![1])
    (hc : Shape.Concatenates [(⟨2, ![4, 12288]⟩ : Shape), ⟨2, ![4, 12288]⟩] ⟨2, ![8, 12288]⟩ 0)
    (h : (⟨2, ![8, 12288]⟩ : Shape).ShapeCasts ⟨3, ![8, 1, 12288]⟩)
    (j : (⟨3, ![8, 1, 12288]⟩ : Shape).Idx) (i : (⟨1, ![12288]⟩ : Shape).Idx) (h0 : (j 0 : ℕ) = 4) (h1 : (i 0 : ℕ) = j 2) :
    shapeCast ⟨3, ![8, 1, 12288]⟩ (concatenate ⟨2, ![8, 12288]⟩ 0 [⟨⟨2, ![4, 12288]⟩, Z⟩,
      ⟨⟨2, ![4, 12288]⟩, broadcastInDim ⟨2, ![4, 12288]⟩ ![1] hb X⟩] hc) h j = X i := by
  have e := shapeCast_apply (concatenate ⟨2, ![8, 12288]⟩ 0 [⟨⟨2, ![4, 12288]⟩, Z⟩,
      ⟨⟨2, ![4, 12288]⟩, broadcastInDim ⟨2, ![4, 12288]⟩ ![1] hb X⟩] hc) h j
    (ix2 (j 0) (j 2)) (by
      rw [Shape.rowMajor_val_three, Shape.rowMajor_val_two]
      have h1 : (j 1 : ℕ) < 1 := (j 1).isLt
      show (j 0 : ℕ) * 12288 + (j 2 : ℕ) = ((j 0 : ℕ) * 1 + (j 1 : ℕ)) * 12288 + (j 2 : ℕ)
      omega)
  rw [e]
  pointwise
  rw [dif_neg (by omega)]
  congr 1
  funext b
  fin_cases b
  exact Fin.ext h1.symm

end Cert.Rows

end
-- ==== Proof.Mla.Reads.lean ====
module

public import proofs.«01_k».proof.Proof.Mla.Entry
public import proofs.«01_k».proof.Proof.Mla.Tile
public import proofs.«01_k».proof.Proof.Common.Rows
public import Idealize.ShloMosaic.Lib.Pipeline.ReadBack

@[expose] public section

set_option maxRecDepth 16384

noncomputable section

namespace Cert.MlaValue

open Idealize.ShloMosaic Idealize.ShloMosaic.TcCoe Idealize.SL.Sem
open Idealize.ShloMosaic.Pipeline (Dat)
open Cert.MlaIdeal Cert.MlaIdeal.Gen
open Cert.MlaHeads (rowAngle colAngle turnAt turn)

variable (m : (ℓ : Loc nD τ sig) → Buf (Elt Ideal) ℓ)

/-- Where each window's block sits in its array, at every point of the grid of images and heads. -/
theorem idx_val : ∀ t : Fin cfg0.N, win0_0.index t = ![t.val / 8, 2 * (t.val % 8)] ∧ win0_1.index t = ![t.val / 8, 2 * (t.val % 8) + 1]
    ∧ win0_2.index t = ![0, 0] ∧ win0_3.index t = ![0, 0] ∧ win0_4.index t = ![t.val / 8, 2 * (t.val % 8)]
    ∧ win0_5.index t = ![t.val / 8, 44] ∧ win0_6.index t = ![t.val / 8, 2 * (t.val % 8) + 1]
    ∧ win0_7.index t = ![t.val / 8, 2 * (t.val % 8)] ∧ win0_8.index t = ![t.val / 8, 44]
    ∧ win0_9.index t = ![0, 0] ∧ win0_10.index t = ![0, 0] ∧ win0_11.index t = ![t.val / 8, 2 * (t.val % 8) + 1]
    ∧ win0_12.index t = ![t.val / 8, t.val % 8] :=
  (by decide +kernel : ∀ t : Fin grid0.N, _)

/-- The context rows of four images laid under one another. -/
theorem ctxRows_at {α : Type} {n : ℕ} (X : (⟨3, ![4, 256, n]⟩ : Shape).Idx → α)
    (h : (⟨3, ![4, 256, n]⟩ : Shape).ShapeCasts ⟨2, ![1024, n]⟩) (j : (⟨2, ![1024, n]⟩ : Shape).Idx) :
    shapeCast ⟨2, ![1024, n]⟩ X h j
      = X (ix3 ⟨(j 0 : ℕ) / 256, by have := (j 0).isLt; simp at this; omega⟩ ⟨(j 0 : ℕ) % 256, by omega⟩ (j 1)) := by
  refine shapeCast_apply X h j _ ?_
  rw [Shape.rowMajor_val_three, Shape.rowMajor_val_two]
  show (((j 0 : ℕ) / 256) * 256 + (j 0 : ℕ) % 256) * n + (j 1 : ℕ) = (j 0 : ℕ) * n + (j 1 : ℕ)
  congr 2
  omega

/-- The query lanes of the latent projection in the kernel's layout. -/
theorem evenLat_q (X : FVec Ideal S4x2048x5184 .f32) (j : S8192x6144.Idx) (i : S4x2048x5184.Idx)
    (hj : (j 1 : ℕ) < 2048) (hl : (j 1 : ℕ) % 256 < 192) (h0 : (i 0 : ℕ) = j 0 / 2048) (h1 : (i 1 : ℕ) = j 0 % 2048)
    (h2 : (i 2 : ℕ) = j 1 / 256 * 192 + j 1 % 256) : evenLat X j = X i := by
  have h8 : (j 1 : ℕ) / 256 < 8 := by omega
  pointwise [evenLat]
  simp only [hj, hl, h8, and_self, dite_true]
  reads_congr
  blk_ext [h0, h1, h2]

/-- The shared rotary key's lanes of the latent projection in the kernel's layout. -/
theorem evenLat_k (X : FVec Ideal S4x2048x5184 .f32) (j : S8192x6144.Idx) (i : S4x2048x5184.Idx)
    (hj : 5632 ≤ (j 1 : ℕ)) (hl : (j 1 : ℕ) < 5696) (h0 : (i 0 : ℕ) = j 0 / 2048) (h1 : (i 1 : ℕ) = j 0 % 2048)
    (h2 : (i 2 : ℕ) = 2048 + (j 1 - 5632)) : evenLat X j = X i := by
  have a1 : ¬ (j 1 : ℕ) < 2048 := by omega
  have a2 : ¬ (j 1 : ℕ) - 2048 < 3072 := by omega
  have a3 : ¬ (j 1 : ℕ) - 2048 - 3072 < 512 := by omega
  have a4 : (j 1 : ℕ) - 2048 - 3072 - 512 < 64 := by omega
  pointwise [evenLat]
  simp only [a1, a2, a3, a4, dite_true, dite_false]
  reads_congr
  blk_ext [h0, h1, h2]

/-- The shared rotary key's lanes of the context projection in the kernel's layout. -/
theorem evenCtx_k (X : FVec Ideal S4x256x5184 .f32) (j : S1024x6144.Idx) (i : S4x256x5184.Idx)
    (hj : 5632 ≤ (j 1 : ℕ)) (hl : (j 1 : ℕ) < 5696) (h0 : (i 0 : ℕ) = j 0 / 256) (h1 : (i 1 : ℕ) = j 0 % 256)
    (h2 : (i 2 : ℕ) = 2048 + (j 1 - 5632)) : evenCtx X j = X i := by
  have a1 : ¬ (j 1 : ℕ) < 2048 := by omega
  have a2 : ¬ (j 1 : ℕ) - 2048 < 3072 := by omega
  have a3 : ¬ (j 1 : ℕ) - 2048 - 3072 < 512 := by omega
  have a4 : (j 1 : ℕ) - 2048 - 3072 - 512 < 64 := by omega
  pointwise [evenCtx]
  simp only [a1, a2, a3, a4, dite_true, dite_false]
  reads_congr
  blk_ext [h0, h1, h2]

/-- The cosine table lane by lane. -/
theorem cosTab_at (y : S2048x128.Idx) : cosTab y
    = (if h : (y 1 : ℕ) < 16 then Ideal.cos (rowAngle (ix2 (y 0) ⟨y 1, h⟩))
      else if h : (y 1 : ℕ) < 32 then Ideal.cos (rowAngle (ix2 (y 0) ⟨(y 1 : ℕ) - 16, by omega⟩))
      else if h : (y 1 : ℕ) < 48 then Ideal.cos (colAngle (ix2 (y 0) ⟨(y 1 : ℕ) - 32, by omega⟩))
      else if h : (y 1 : ℕ) < 64 then Ideal.cos (colAngle (ix2 (y 0) ⟨(y 1 : ℕ) - 48, by omega⟩)) else 0 : EReal) := by
  have z : (Ideal.ofBits .f32 0x00000000#32 : EReal) = 0 := by simp [Ideal.ofBits, Ideal.ieee]
  by_cases h1 : (y 1 : ℕ) < 16
  · pointwise [cosTab]
    simp only [h1, dite_true]
  by_cases h2 : (y 1 : ℕ) < 32
  · have a2 : (y 1 : ℕ) - 16 < 16 := by omega
    pointwise [cosTab]
    simp only [h1, h2, a2, dite_true, dite_false]
  by_cases h3 : (y 1 : ℕ) < 48
  · have a2 : ¬ (y 1 : ℕ) - 16 < 16 := by omega
    have a3 : (y 1 : ℕ) - 16 - 16 < 16 := by omega
    pointwise [cosTab]
    simp only [h1, h2, h3, a2, a3, dite_true, dite_false]
    reads_congr
    blk_ext
  by_cases h4 : (y 1 : ℕ) < 64
  · have a2 : ¬ (y 1 : ℕ) - 16 < 16 := by omega
    have a3 : ¬ (y 1 : ℕ) - 16 - 16 < 16 := by omega
    have a4 : (y 1 : ℕ) - 16 - 16 - 16 < 16 := by omega
    pointwise [cosTab]
    simp only [h1, h2, h3, h4, a2, a3, a4, dite_true, dite_false]
    reads_congr
    blk_ext
  · have a2 : ¬ (y 1 : ℕ) - 16 < 16 := by omega
    have a3 : ¬ (y 1 : ℕ) - 16 - 16 < 16 := by omega
    have a4 : ¬ (y 1 : ℕ) - 16 - 16 - 16 < 16 := by omega
    pointwise [cosTab]
    simp only [h1, h2, h3, h4, a2, a3, a4, dite_false]

/-- The sine table lane by lane. -/
theorem sinTab_at (y : S2048x128.Idx) : sinTab y
    = (if h : (y 1 : ℕ) < 16 then -Ideal.sin (rowAngle (ix2 (y 0) ⟨y 1, h⟩))
      else if h : (y 1 : ℕ) < 32 then Ideal.sin (rowAngle (ix2 (y 0) ⟨(y 1 : ℕ) - 16, by omega⟩))
      else if h : (y 1 : ℕ) < 48 then -Ideal.sin (colAngle (ix2 (y 0) ⟨(y 1 : ℕ) - 32, by omega⟩))
      else if h : (y 1 : ℕ) < 64 then Ideal.sin (colAngle (ix2 (y 0) ⟨(y 1 : ℕ) - 48, by omega⟩)) else 0 : EReal) := by
  by_cases h1 : (y 1 : ℕ) < 16
  · pointwise [sinTab]
    simp only [h1, dite_true]
  by_cases h2 : (y 1 : ℕ) < 32
  · have a2 : (y 1 : ℕ) - 16 < 16 := by omega
    pointwise [sinTab]
    simp only [h1, h2, a2, dite_true, dite_false]
  by_cases h3 : (y 1 : ℕ) < 48
  · have a2 : ¬ (y 1 : ℕ) - 16 < 16 := by omega
    have a3 : (y 1 : ℕ) - 16 - 16 < 16 := by omega
    pointwise [sinTab]
    simp only [h1, h2, h3, a2, a3, dite_true, dite_false]
    reads_congr
    blk_ext
  by_cases h4 : (y 1 : ℕ) < 64
  · have a2 : ¬ (y 1 : ℕ) - 16 < 16 := by omega
    have a3 : ¬ (y 1 : ℕ) - 16 - 16 < 16 := by omega
    have a4 : (y 1 : ℕ) - 16 - 16 - 16 < 16 := by omega
    pointwise [sinTab]
    simp only [h1, h2, h3, h4, a2, a3, a4, dite_true, dite_false]
    reads_congr
    blk_ext
  · have a2 : ¬ (y 1 : ℕ) - 16 < 16 := by omega
    have a3 : ¬ (y 1 : ℕ) - 16 - 16 < 16 := by omega
    have a4 : ¬ (y 1 : ℕ) - 16 - 16 - 16 < 16 := by omega
    pointwise [sinTab]
    simp only [h1, h2, h3, h4, a2, a3, a4, dite_false]

/-- A product with a negated factor added is the product subtracted, after both entries are rewritten. -/
theorem turn_minus {a b p q : EReal} (c s : EReal) (h : a = p) (k : b = q) : a * c + b * -s = p * c - q * s := by
  rw [h, k, mul_neg, ← sub_eq_add_neg]

/-- Two products added, after both entries are rewritten. -/
theorem turn_plus {a b p q : EReal} (c s : EReal) (h : a = p) (k : b = q) : a * c + b * s = p * c + q * s := by
  rw [h, k]

/-- The kernel's rotation by its two tables turns the first sixty-four lanes by the position's angles and clears the others. -/
theorem rope_turn (x : Vec Ideal S2048x128 .bf16) (c s : Vec Ideal S2048x128 .f32) (y : S2048x128.Idx) (xs : Fin 64 → EReal)
    (hc : c y = cosTab y) (hs : s y = sinTab y) (hx : ∀ (l : Fin 64), x (ix2 (y 0) ⟨l, by omega⟩) = xs l) :
    k0_pay17 (F := Ideal) x c s y = (if h : (y 1 : ℕ) < 64 then turnAt (y 0) xs ⟨y 1, h⟩ else 0 : EReal) := by
  have hx' : ∀ (n : ℕ) (h : n < 128) (l : Fin 64), n = l → (x (ix2 (y 0) ⟨n, h⟩) : EReal) = xs l := fun n h l e => by
    subst e; exact hx l
  have hy : x y = x (ix2 (y 0) (y 1)) := congrArg x (funext fun a => by fin_cases a <;> rfl)
  rw [Cert.MlaTile.rope_at, hc, hs, cosTab_at, sinTab_at, hy]
  by_cases h1 : (y 1 : ℕ) < 16
  · have h4 : (y 1 : ℕ) < 64 := by omega
    have a : (y 1 : ℕ) % 32 < 16 := by omega
    simp only [h1, h4, a, dite_true, if_true, turnAt, turn]
    exact turn_minus _ _ (hx' _ _ ⟨y 1, h4⟩ rfl) (hx' _ _ ⟨(y 1 : ℕ) + 16, by omega⟩ (by show ((y 1 : ℕ) + 16) % 128 = (y 1 : ℕ) + 16; omega))
  by_cases h2 : (y 1 : ℕ) < 32
  · have h4 : (y 1 : ℕ) < 64 := by omega
    have a : ¬ (y 1 : ℕ) % 32 < 16 := by omega
    simp only [h1, h2, h4, a, dite_true, dite_false, if_false, turnAt, turn]
    exact turn_plus _ _ (hx' _ _ ⟨y 1, h4⟩ rfl) (hx' _ _ ⟨(y 1 : ℕ) - 16, by omega⟩ (by show ((y 1 : ℕ) + 112) % 128 = (y 1 : ℕ) - 16; omega))
  by_cases h3 : (y 1 : ℕ) < 48
  · have h4 : (y 1 : ℕ) < 64 := by omega
    have a : (y 1 : ℕ) % 32 < 16 := by omega
    simp only [h1, h2, h3, h4, a, dite_true, dite_false, if_true, turnAt, turn]
    exact turn_minus _ _ (hx' _ _ ⟨y 1, h4⟩ rfl) (hx' _ _ ⟨(y 1 : ℕ) + 16, by omega⟩ (by show ((y 1 : ℕ) + 16) % 128 = (y 1 : ℕ) + 16; omega))
  by_cases h4 : (y 1 : ℕ) < 64
  · have a : ¬ (y 1 : ℕ) % 32 < 16 := by omega
    simp only [h1, h2, h3, h4, a, dite_true, dite_false, if_false, turnAt, turn]
    exact turn_plus _ _ (hx' _ _ ⟨y 1, h4⟩ rfl) (hx' _ _ ⟨(y 1 : ℕ) - 16, by omega⟩ (by show ((y 1 : ℕ) + 112) % 128 = (y 1 : ℕ) - 16; omega))
  · simp only [h1, h2, h3, h4, dite_false, mul_zero, add_zero]

/-- The first block of queries: a head's 128 lanes without position. -/
theorem blk_qn (c : Dev nD) (t : Fin cfg0.N) (y : S2048x128.Idx) (i : S4x2048x5184.Idx)
    (h0 : (i 0 : ℕ) = t.val / 8) (h1 : (i 1 : ℕ) = y 0) (h2 : (i 2 : ℕ) = t.val % 8 * 192 + y 1) :
    (iblk m c 0 t : FVec Ideal S2048x128 .bf16) y = (m ((c : Thread nD τ).loc main_arg0) : FVec Ideal S4x2048x5184 .f32) i := by
  have e := (idx_val t).1
  have b0 : (y 0 : ℕ) < 2048 := (y 0).isLt
  have b1 : (y 1 : ℕ) < 128 := (y 1).isLt
  blk_simp [iblk]
  rw [V_plat]
  refine evenLat_q _ _ _ ?_ ?_ ?_ ?_ ?_ <;> blk_simp [e, h0, h1, h2] <;> omega

/-- The second block of queries: the first 64 lanes are the head's rotary lanes. -/
theorem blk_qpe (c : Dev nD) (t : Fin cfg0.N) (y : S2048x128.Idx) (i : S4x2048x5184.Idx) (hy : (y 1 : ℕ) < 64)
    (h0 : (i 0 : ℕ) = t.val / 8) (h1 : (i 1 : ℕ) = y 0) (h2 : (i 2 : ℕ) = t.val % 8 * 192 + 128 + y 1) :
    (iblk m c 1 t : FVec Ideal S2048x128 .bf16) y = (m ((c : Thread nD τ).loc main_arg0) : FVec Ideal S4x2048x5184 .f32) i := by
  have e := (idx_val t).2.1
  have b0 : (y 0 : ℕ) < 2048 := (y 0).isLt
  blk_simp [iblk]
  rw [V_plat]
  refine evenLat_q _ _ _ ?_ ?_ ?_ ?_ ?_ <;> blk_simp [e, h0, h1, h2] <;> omega

/-- The rotary key of the image: the first 64 lanes. -/
theorem blk_kpe (c : Dev nD) (t : Fin cfg0.N) (y : S2048x128.Idx) (i : S4x2048x5184.Idx) (hy : (y 1 : ℕ) < 64)
    (h0 : (i 0 : ℕ) = t.val / 8) (h1 : (i 1 : ℕ) = y 0) (h2 : (i 2 : ℕ) = 2048 + y 1) :
    (iblk m c 8 t : FVec Ideal S2048x128 .bf16) y = (m ((c : Thread nD τ).loc main_arg0) : FVec Ideal S4x2048x5184 .f32) i := by
  have e := (idx_val t).2.2.2.2.2.2.2.2.1
  have b0 : (y 0 : ℕ) < 2048 := (y 0).isLt
  blk_simp [iblk]
  rw [V_plat]
  refine evenLat_k _ _ _ ?_ ?_ ?_ ?_ ?_ <;> blk_simp [e, h0, h1, h2] <;> omega

/-- The rotary key of the context: the first 64 lanes. -/
theorem blk_kpeCtx (c : Dev nD) (t : Fin cfg0.N) (y : S256x128.Idx) (i : S4x256x5184.Idx) (hy : (y 1 : ℕ) < 64)
    (h0 : (i 0 : ℕ) = t.val / 8) (h1 : (i 1 : ℕ) = y 0) (h2 : (i 2 : ℕ) = 2048 + y 1) :
    (iblk m c 5 t : FVec Ideal S256x128 .bf16) y = (m ((c : Thread nD τ).loc main_arg1) : FVec Ideal S4x256x5184 .f32) i := by
  have e := (idx_val t).2.2.2.2.2.1
  have b0 : (y 0 : ℕ) < 256 := (y 0).isLt
  blk_simp [iblk]
  rw [V_pctx]
  refine evenCtx_k _ _ _ ?_ ?_ ?_ ?_ ?_ <;> blk_simp [e, h0, h1, h2] <;> omega

/-- The image's keys without position. -/
theorem blk_kn (c : Dev nD) (t : Fin cfg0.N) (y : S2048x128.Idx) (i : S4x2048x2048.Idx)
    (h0 : (i 0 : ℕ) = t.val / 8) (h1 : (i 1 : ℕ) = y 0) (h2 : (i 2 : ℕ) = t.val % 8 * 256 + y 1) :
    (iblk m c 7 t : FVec Ideal S2048x128 .bf16) y = (m ((c : Thread nD τ).loc main_arg2) : FVec Ideal S4x2048x2048 .f32) i := by
  have e := (idx_val t).2.2.2.2.2.2.2.1
  have b0 : (y 0 : ℕ) < 2048 := (y 0).isLt
  blk_simp [iblk]
  rw [V_kvlat]
  show shapeCast S8192x2048 _ _ _ = _
  rw [Cert.Rows.rows_at]
  blk_ext [e, h0, h1, h2]

/-- The image's values. -/
theorem blk_v (c : Dev nD) (t : Fin cfg0.N) (y : S2048x128.Idx) (i : S4x2048x2048.Idx)
    (h0 : (i 0 : ℕ) = t.val / 8) (h1 : (i 1 : ℕ) = y 0) (h2 : (i 2 : ℕ) = t.val % 8 * 256 + 128 + y 1) :
    (iblk m c 11 t : FVec Ideal S2048x128 .bf16) y = (m ((c : Thread nD τ).loc main_arg2) : FVec Ideal S4x2048x2048 .f32) i := by
  have e := (idx_val t).2.2.2.2.2.2.2.2.2.2.2.1
  have b0 : (y 0 : ℕ) < 2048 := (y 0).isLt
  blk_simp [iblk]
  rw [V_kvlat]
  show shapeCast S8192x2048 _ _ _ = _
  rw [Cert.Rows.rows_at]
  blk_ext [e, h0, h1, h2]

/-- The context's keys without position. -/
theorem blk_knCtx (c : Dev nD) (t : Fin cfg0.N) (y : S256x128.Idx) (i : S4x256x2048.Idx)
    (h0 : (i 0 : ℕ) = t.val / 8) (h1 : (i 1 : ℕ) = y 0) (h2 : (i 2 : ℕ) = t.val % 8 * 256 + y 1) :
    (iblk m c 4 t : FVec Ideal S256x128 .bf16) y = (m ((c : Thread nD τ).loc main_arg3) : FVec Ideal S4x256x2048 .f32) i := by
  have e := (idx_val t).2.2.2.2.1
  have b0 : (y 0 : ℕ) < 256 := (y 0).isLt
  blk_simp [iblk]
  rw [V_kvctx]
  show shapeCast S1024x2048 _ _ _ = _
  rw [ctxRows_at]
  blk_ext [e, h0, h1, h2]

/-- The context's values. -/
theorem blk_vCtx (c : Dev nD) (t : Fin cfg0.N) (y : S256x128.Idx) (i : S4x256x2048.Idx)
    (h0 : (i 0 : ℕ) = t.val / 8) (h1 : (i 1 : ℕ) = y 0) (h2 : (i 2 : ℕ) = t.val % 8 * 256 + 128 + y 1) :
    (iblk m c 6 t : FVec Ideal S256x128 .bf16) y = (m ((c : Thread nD τ).loc main_arg3) : FVec Ideal S4x256x2048 .f32) i := by
  have e := (idx_val t).2.2.2.2.2.2.1
  have b0 : (y 0 : ℕ) < 256 := (y 0).isLt
  blk_simp [iblk]
  rw [V_kvctx]
  show shapeCast S1024x2048 _ _ _ = _
  rw [ctxRows_at]
  blk_ext [e, h0, h1, h2]

/-- The queries' cosine table. -/
theorem blk_cosq (c : Dev nD) (t : Fin cfg0.N) (y : S2048x128.Idx) : (iblk m c 2 t : FVec Ideal S2048x128 .f32) y = cosTab y := by
  have e := (idx_val t).2.2.1
  blk_simp [iblk]
  rw [V_cos]
  blk_ext [e]

/-- The queries' sine table. -/
theorem blk_sinq (c : Dev nD) (t : Fin cfg0.N) (y : S2048x128.Idx) : (iblk m c 3 t : FVec Ideal S2048x128 .f32) y = sinTab y := by
  have e := (idx_val t).2.2.2.1
  blk_simp [iblk]
  rw [V_sin]
  blk_ext [e]

/-- The keys' cosine table. -/
theorem blk_cosk (c : Dev nD) (t : Fin cfg0.N) (y : S2048x128.Idx) : (iblk m c 9 t : FVec Ideal S2048x128 .f32) y = cosTab y := by
  have e := (idx_val t).2.2.2.2.2.2.2.2.2.1
  blk_simp [iblk]
  rw [V_cos]
  blk_ext [e]

/-- The keys' sine table. -/
theorem blk_sink (c : Dev nD) (t : Fin cfg0.N) (y : S2048x128.Idx) : (iblk m c 10 t : FVec Ideal S2048x128 .f32) y = sinTab y := by
  have e := (idx_val t).2.2.2.2.2.2.2.2.2.2.1
  blk_simp [iblk]
  rw [V_sin]
  blk_ext [e]

end Cert.MlaValue

end
-- ==== Proof.Mla.Scratch.lean ====
module

public import proofs.«01_k».proof.Proof.Mla.Tile
public import Idealize.ShloMosaic.Lib.Pipeline.ReadBack

@[expose] public section

set_option maxRecDepth 16384

noncomputable section

namespace Cert.MlaScratch

open Idealize.ShloMosaic Idealize.ShloMosaic.TcCoe Idealize.SL.Sem
open Cert.MlaIdeal Cert.MlaIdeal.Gen

/-- Under the last of several rectangular stores a buffer holds that store's payload. -/
theorem canon_hit {off size : Fin S2304x256.rank → ℕ} {inb : ∀ a, off a + size a ≤ S2304x256.size a}
    (w : (Rect.unit off size inb).shape.Idx → Elt Ideal .bf16) (L : List (View.Piece (Elt Ideal) S2304x256 .bf16))
    (y : S2304x256.Idx) (x : (Rect.unit off size inb).shape.Idx) (h : ∀ a, (y a : ℕ) = off a + x a) :
    View.canon (⟨Rect.unit off size inb, w⟩ :: L) y = w x := by
  rw [← View.canon_cons_emb (Rect.unit off size inb) w L x]
  congr 1
  funext a
  refine Fin.ext ?_
  rw [h a]
  blk_simp

/-- Outside the last of several rectangular stores a buffer holds what the earlier ones left. -/
theorem canon_miss {off size : Fin S2304x256.rank → ℕ} {inb : ∀ a, off a + size a ≤ S2304x256.size a}
    (w : (Rect.unit off size inb).shape.Idx → Elt Ideal .bf16) (L : List (View.Piece (Elt Ideal) S2304x256 .bf16))
    (y : S2304x256.Idx) (a : Fin 2) (h : (y a : ℕ) < off a ∨ off a + size a ≤ (y a : ℕ)) :
    View.canon (⟨Rect.unit off size inb, w⟩ :: L) y = View.canon L y :=
  View.canon_cons_of_not_mem _ L fun hy => by
    have := (Rect.mem_set_unit (inb := inb)).1 hy a
    omega

/-- The key buffer after its four stores: the context's keys in the first 256 rows and the image's below them, the lanes without
position to the left and the turned ones to the right. -/
theorem kread (A B : Vec Ideal S2048x128 .bf16) (C D : Vec Ideal S256x128 .bf16) (i0 i1 i2 i3 i4) (j : Fin 2304) (l : Fin 256) :
    (View.whole cc0_scratch0).readCov (Val := Elt Ideal)
      [⟨Rect.unit ![256, 128] ![2048, 128] i0, A⟩, ⟨Rect.unit ![256, 0] ![2048, 128] i1, B⟩,
        ⟨Rect.unit ![0, 128] ![256, 128] i2, C⟩, ⟨Rect.unit ![0, 0] ![256, 128] i3, D⟩]
      (Rect.unit (s := S2304x256) ![0, 0] S2304x256.size i4).toLoadRect (ix2 j l)
    = if hj : j.val < 256 then
        if hl : l.val < 128 then D (ix2 ⟨j.val, hj⟩ ⟨l.val, hl⟩) else C (ix2 ⟨j.val, hj⟩ ⟨l.val - 128, by omega⟩)
      else
        if hl : l.val < 128 then B (ix2 ⟨j.val - 256, by omega⟩ ⟨l.val, hl⟩)
        else A (ix2 ⟨j.val - 256, by omega⟩ ⟨l.val - 128, by omega⟩) := by
  have e : (Rect.unit (s := S2304x256) ![0, 0] S2304x256.size i4).toLoadRect.idx (ix2 j l) = ix2 j l := by
    funext a
    refine Fin.ext ?_
    rw [Rect.idx_unit_val]
    fin_cases a <;> simp
  refine (congrFun (View.readCov_eq_canon' _ _ _) _).trans ?_
  beta_reduce
  rw [e]
  by_cases hj : j.val < 256
  · refine (canon_miss _ _ _ 0 (Or.inl hj)).trans ((canon_miss _ _ _ 0 (Or.inl hj)).trans ?_)
    by_cases hl : l.val < 128
    · refine (canon_miss _ _ _ 1 (Or.inl hl)).trans ((canon_hit D [] _ (ix2 ⟨j.val, hj⟩ ⟨l.val, hl⟩)
        (fun a => by fin_cases a <;> simp)).trans ?_)
      simp only [hj, hl, dite_true]
    · refine (canon_hit C _ _ (ix2 ⟨j.val, hj⟩ ⟨l.val - 128, by omega⟩) (fun a => by fin_cases a <;> simp; omega)).trans ?_
      simp only [hj, hl, dite_true, dite_false]
  · by_cases hl : l.val < 128
    · refine (canon_miss _ _ _ 1 (Or.inl hl)).trans
        ((canon_hit B _ _ (ix2 ⟨j.val - 256, by omega⟩ ⟨l.val, hl⟩) (fun a => by fin_cases a <;> simp; omega)).trans ?_)
      simp only [hj, hl, dite_true, dite_false]
    · refine (canon_hit A _ _ (ix2 ⟨j.val - 256, by omega⟩ ⟨l.val - 128, by omega⟩)
        (fun a => by fin_cases a <;> simp <;> omega)).trans ?_
      simp only [hj, hl, dite_false]

/-- The value buffer after its three stores: the context's values in the first 256 rows and the image's below them, ones to the right. -/
theorem vread (O : Vec Ideal S2304x128 .bf16) (B : Vec Ideal S2048x128 .bf16) (D : Vec Ideal S256x128 .bf16) (i0 i1 i3 i4)
    (j : Fin 2304) (l : Fin 256) :
    (View.whole cc0_scratch1).readCov (Val := Elt Ideal)
      [⟨Rect.unit ![0, 128] ![2304, 128] i0, O⟩, ⟨Rect.unit ![256, 0] ![2048, 128] i1, B⟩,
        ⟨Rect.unit ![0, 0] ![256, 128] i3, D⟩]
      (Rect.unit (s := S2304x256) ![0, 0] S2304x256.size i4).toLoadRect (ix2 j l)
    = if hl : l.val < 128 then
        if hj : j.val < 256 then D (ix2 ⟨j.val, hj⟩ ⟨l.val, hl⟩) else B (ix2 ⟨j.val - 256, by omega⟩ ⟨l.val, hl⟩)
      else O (ix2 j ⟨l.val - 128, by omega⟩) := by
  have e : (Rect.unit (s := S2304x256) ![0, 0] S2304x256.size i4).toLoadRect.idx (ix2 j l) = ix2 j l := by
    funext a
    refine Fin.ext ?_
    rw [Rect.idx_unit_val]
    fin_cases a <;> simp
  refine (congrFun (View.readCov_eq_canon' _ _ _) _).trans ?_
  beta_reduce
  rw [e]
  by_cases hl : l.val < 128
  · refine (canon_miss _ _ _ 1 (Or.inl hl)).trans ?_
    by_cases hj : j.val < 256
    · refine (canon_miss _ _ _ 0 (Or.inl hj)).trans ((canon_hit D [] _ (ix2 ⟨j.val, hj⟩ ⟨l.val, hl⟩)
        (fun a => by fin_cases a <;> simp)).trans ?_)
      simp only [hj, hl, dite_true]
    · refine (canon_hit B _ _ (ix2 ⟨j.val - 256, by omega⟩ ⟨l.val, hl⟩) (fun a => by fin_cases a <;> simp; omega)).trans ?_
      simp only [hj, hl, dite_true, dite_false]
  · refine (canon_hit O _ _ (ix2 j ⟨l.val - 128, by omega⟩) (fun a => by fin_cases a <;> simp; omega)).trans ?_
    simp only [hl, dite_false]

end Cert.MlaScratch

end
-- ==== Proof.Mla.Attend.lean ====
module

public import proofs.«01_k».proof.Proof.Mla.Heads
public import Idealize.ShloMosaic.Lib.Pipeline.ValueKit

@[expose] public section

set_option maxRecDepth 16384

noncomputable section

namespace Cert.MlaHeads

open Idealize.ShloMosaic Idealize.ShloMosaic.TcCoe Idealize.SL.Sem
open Cert.MlaRefIdeal Cert.MlaRefIdeal.Gen Cert.MlaRefIdeal.Read

/-- The product of head `h`'s query at position `r` with its key number `j`. -/
def score (P : FVec Ideal S4x2048x5184 .f32) (C : FVec Ideal S4x256x5184 .f32) (K : FVec Ideal S4x2048x2048 .f32)
    (KC : FVec Ideal S4x256x2048 .f32) (b : Fin 4) (h : Fin 8) (r : Fin 2048) (j : Fin 2304) : EReal :=
  ∑ l : Fin 192, query P b h r l * key P C K KC b h j l

/-- The reference's products of queries with keys. -/
theorem score_at (x0 : FVec Ideal S4x2048x5184 .f32) (x1 : FVec Ideal S4x256x5184 .f32) (x2 : FVec Ideal S4x2048x2048 .f32)
    (x3 : FVec Ideal S4x256x2048 .f32) (i : S4x8x2048x2304.Idx) :
    val_main_v193 (F := Ideal) x0 x1 x2 x3 i = score x0 x1 x2 x3 (i 0) (i 1) (i 2) (i 3) := by
  pointwise [val_main_v193, score]
  exact Finset.sum_congr rfl fun l _ => congrArg₂ _ (query_at x0 _) (key_at x0 x1 x2 x3 _)

/-- The square root of 192 as the reference has it. -/
theorem sqrt192 : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, -EReal.coe_mul]; norm_num
  rw [e, Ideal.sqrt_coe, if_neg (by norm_num)]

/-- The reference's products divided by the square root of their length. -/
theorem scaled_at (x0 : FVec Ideal S4x2048x5184 .f32) (x1 : FVec Ideal S4x256x5184 .f32) (x2 : FVec Ideal S4x2048x2048 .f32)
    (x3 : FVec Ideal S4x256x2048 .f32) (i : S4x8x2048x2304.Idx) :
    val_main_v196 (F := Ideal) x0 x1 x2 x3 i
      = Ideal.div (score x0 x1 x2 x3 (i 0) (i 1) (i 2) (i 3)) ((Real.sqrt 192 : ℝ) : EReal) := by
  rw [← score_at, ← sqrt192]
  pointwise [val_main_v196, val_main_v195, val_main_v194, val_main_cst_16]

/-- The bits of −∞. -/
theorem bits_bot : Ideal.ofBits .f32 0xFF800000#32 = (⊥ : EReal) := by
  simp [Ideal.ofBits, Ideal.ieee]

/-- A row's maximum, read at an index. -/
theorem row_max (x : FVec Ideal S4x8x2048x2304 .f32) (z : FVec Ideal S_ .f32) (i : S4x8x2048.Idx) :
    Host.reduce FloatOps.maximumf x z reducesTo_S4x8x2048x2304_S4x8x2048_d3 h_S_ i
      = Finset.univ.fold max (z (Shape.Idx.first h_S_)) fun k : Fin 2304 => x (ix4 (i 0) (i 1) (i 2) k) :=
  (Host.reduce_eq_fold _ x z _ _ i).trans (Shape.ReducesTo.fold_fiber_r4_a3 _ _ _ _ _)

/-- The reference's largest scaled product of a row. -/
theorem largest_at (x0 : FVec Ideal S4x2048x5184 .f32) (x1 : FVec Ideal S4x256x5184 .f32) (x2 : FVec Ideal S4x2048x2048 .f32)
    (x3 : FVec Ideal S4x256x2048 .f32) (i : S4x8x2048.Idx) :
    val_main_v199 (F := Ideal) x0 x1 x2 x3 i
      = max ⊥ (Finset.univ.fold max (⊥ : EReal)
          fun j => Ideal.div (score x0 x1 x2 x3 (i 0) (i 1) (i 2) j) ((Real.sqrt 192 : ℝ) : EReal)) := by
  have e : (fun k : Fin 2304 => val_main_v196 (F := Ideal) x0 x1 x2 x3 (ix4 (i 0) (i 1) (i 2) k))
      = fun j => Ideal.div (score x0 x1 x2 x3 (i 0) (i 1) (i 2) j) ((Real.sqrt 192 : ℝ) : EReal) :=
    funext fun k => scaled_at x0 x1 x2 x3 _
  rw [← e, val_main_v199_apply, val_main_v198_apply]
  unfold val_main_v197
  generalize val_main_v196 (F := Ideal) x0 x1 x2 x3 = y
  rw [row_max, val_main_cst_17_apply, val_main_cst_18_apply]
  show max (Ideal.ofBits .f32 0xFF800000#32) (Finset.univ.fold max (Ideal.ofBits .f32 0xFF800000#32) _) = _
  rw [bits_bot]

/-- The reference's exponential of a scaled product less the row's largest. -/
theorem weight_at (x0 : FVec Ideal S4x2048x5184 .f32) (x1 : FVec Ideal S4x256x5184 .f32) (x2 : FVec Ideal S4x2048x2048 .f32)
    (x3 : FVec Ideal S4x256x2048 .f32) (i : S4x8x2048x2304.Idx) :
    val_main_v203 (F := Ideal) x0 x1 x2 x3 i
      = Ideal.exp (Ideal.div (score x0 x1 x2 x3 (i 0) (i 1) (i 2) (i 3)) ((Real.sqrt 192 : ℝ) : EReal)
        - max ⊥ (Finset.univ.fold max (⊥ : EReal)
          fun j => Ideal.div (score x0 x1 x2 x3 (i 0) (i 1) (i 2) j) ((Real.sqrt 192 : ℝ) : EReal))) := by
  pointwise [val_main_v203, val_main_v202, val_main_v201, val_main_v200]
  rw [scaled_at, largest_at]
  rfl

/-- The reference's sum of a row's exponentials. -/
theorem total_at (x0 : FVec Ideal S4x2048x5184 .f32) (x1 : FVec Ideal S4x256x5184 .f32) (x2 : FVec Ideal S4x2048x2048 .f32)
    (x3 : FVec Ideal S4x256x2048 .f32) (i : S4x8x2048.Idx) :
    val_main_v204 (F := Ideal) x0 x1 x2 x3 i
      = ∑ k, Ideal.exp (Ideal.div (score x0 x1 x2 x3 (i 0) (i 1) (i 2) k) ((Real.sqrt 192 : ℝ) : EReal)
        - max ⊥ (Finset.univ.fold max (⊥ : EReal)
          fun j => Ideal.div (score x0 x1 x2 x3 (i 0) (i 1) (i 2) j) ((Real.sqrt 192 : ℝ) : EReal))) := by
  pointwise [val_main_v204, val_main_cst_19]
  exact Finset.sum_congr rfl fun k _ => weight_at x0 x1 x2 x3 _

/-- Head `h`'s values of image `b` weighed by the normalized exponentials of position `r`'s scaled products, lane `d`. -/
def attended (P : FVec Ideal S4x2048x5184 .f32) (C : FVec Ideal S4x256x5184 .f32) (K : FVec Ideal S4x2048x2048 .f32)
    (KC : FVec Ideal S4x256x2048 .f32) (b : Fin 4) (h : Fin 8) (r : Fin 2048) (d : Fin 128) : EReal :=
  ∑ k, Ideal.div (Ideal.exp (Ideal.div (score P C K KC b h r k) ((Real.sqrt 192 : ℝ) : EReal)
      - max ⊥ (Finset.univ.fold max (⊥ : EReal) fun j => Ideal.div (score P C K KC b h r j) ((Real.sqrt 192 : ℝ) : EReal))))
    (∑ n, Ideal.exp (Ideal.div (score P C K KC b h r n) ((Real.sqrt 192 : ℝ) : EReal)
      - max ⊥ (Finset.univ.fold max (⊥ : EReal) fun j => Ideal.div (score P C K KC b h r j) ((Real.sqrt 192 : ℝ) : EReal))))
    * value K KC b h k d

/-- The reference's weighed values, head by head. -/
theorem attended_at (x0 : FVec Ideal S4x2048x5184 .f32) (x1 : FVec Ideal S4x256x5184 .f32) (x2 : FVec Ideal S4x2048x2048 .f32)
    (x3 : FVec Ideal S4x256x2048 .f32) (i : S4x8x2048x128.Idx) :
    val_main_v208 (F := Ideal) x0 x1 x2 x3 i = attended x0 x1 x2 x3 (i 0) (i 1) (i 2) (i 3) := by
  rw [val_main_v208_apply]
  refine Finset.sum_congr rfl fun k _ => ?_
  rw [val_main_v207_apply, val_main_v206_apply, val_main_v205_apply, weight_at, total_at, value_at]
  rfl

/-- The reference's result at row `i 0` and lane `i 1`. -/
theorem result_at (x0 : FVec Ideal S4x2048x5184 .f32) (x1 : FVec Ideal S4x256x5184 .f32) (x2 : FVec Ideal S4x2048x2048 .f32)
    (x3 : FVec Ideal S4x256x2048 .f32) (i : S8192x1024.Idx) (b : Fin 4) (h : Fin 8) (r : Fin 2048) (d : Fin 128)
    (hb : (b : ℕ) = i 0 / 2048) (hr : (r : ℕ) = i 0 % 2048) (hh : (h : ℕ) = i 1 / 128) (hd : (d : ℕ) = i 1 % 128) :
    val_main_v211 (F := Ideal) x0 x1 x2 x3 i = attended x0 x1 x2 x3 b h r d := by
  refine Eq.trans ?_ (attended_at x0 x1 x2 x3 (ix4 b h r d))
  pointwise [val_main_v211, val_main_v210, val_main_v209]
  reads_congr
  blk_ext [hb, hr, hh, hd]

end Cert.MlaHeads

end
-- ==== Proof.Mla.Finite.lean ====
module

public import proofs.«01_k».proof.Proof.Mla.Attend
public import Idealize.ShloMosaic.Lib.Pipeline.ValueKit

@[expose] public section

set_option maxRecDepth 16384

noncomputable section

namespace Cert.MlaHeads

open Idealize.ShloMosaic Idealize.ShloMosaic.TcCoe Idealize.SL.Sem
open Cert.MlaRefIdeal Cert.MlaRefIdeal.Gen Cert.MlaRefIdeal.Read

/-- An extended real that is a real number. -/
def IsReal (x : EReal) : Prop := ∃ r : ℝ, x = r

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The cosine of a real is real. -/
theorem IsReal.cos {x : EReal} (hx : IsReal x) : IsReal (Ideal.cos x) := by
  obtain ⟨a, rfl⟩ := hx; exact ⟨Real.cos a, rfl⟩

/-- The sine of a real is real. -/
theorem IsReal.sin {x : EReal} (hx : IsReal x) : IsReal (Ideal.sin x) := by
  obtain ⟨a, rfl⟩ := hx; exact ⟨Real.sin a, rfl⟩

/-- A finite sum of real numbers is a real number. -/
theorem IsReal.sum {ι : Type*} [Fintype ι] {f : ι → EReal} (h : ∀ i, IsReal (f i)) : IsReal (∑ i, f i) :=
  Finset.sum_induction _ IsReal (fun _ _ => IsReal.add) ⟨0, rfl⟩ fun i _ => h i

/-- The frequency of lane `k` is a real number. -/
theorem freq_real (k : Fin 16) : IsReal (Ideal.pow (Ideal.ofBits .f32 0x461C4000#32)
    (Ideal.div (-(Ideal.ofBits .f32 0x40000000#32 * FloatOps.sitofp (F := Ideal) .f32 (BitVec.ofNat 32 k.val)))
      (Ideal.ofBits .f32 0x42000000#32))) := by
  have e1 : Ideal.ofBits .f32 0x461C4000#32 = ((10000 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have e3 : Ideal.ofBits .f32 0x42000000#32 = ((32 : ℝ) : EReal) := by
    simp [Ideal.ofBits, Ideal.ieee, -EReal.coe_mul]; norm_num
  have e4 : FloatOps.sitofp (F := Ideal) .f32 (BitVec.ofNat 32 k.val) = (((BitVec.ofNat 32 k.val).toInt : ℝ) : EReal) := rfl
  rw [e1, e2, e3, e4, ← EReal.coe_mul, ← EReal.coe_neg, Ideal.div_coe (by norm_num)]
  exact ⟨_, rfl⟩

/-- The angle that a position's grid row is turned by is real. -/
theorem rowAngle_real (r : S2048x16.Idx) : IsReal (rowAngle r) := by
  pointwise [rowAngle, val_main_v27, val_main_v26, val_main_v25, val_main_v24, val_main_v23, val_main_v22, val_main_v21, val_main_v20,
    val_main_v19, val_main_v18, val_main_v17, val_main_v16, val_main_v15, val_main_v14, val_main_v13, val_main_v12,
    val_main_cst, val_main_cst_1, val_main_cst_2, val_main_cst_3]
  exact IsReal.mul ⟨_, rfl⟩ (freq_real _)

/-- The angle that a position's grid column is turned by is real. -/
theorem colAngle_real (r : S2048x16.Idx) : IsReal (colAngle r) := by
  pointwise [colAngle, val_main_v65, val_main_v64, val_main_v63, val_main_v62, val_main_v61, val_main_v60, val_main_v59, val_main_v58,
    val_main_v57, val_main_v56, val_main_v55, val_main_v54, val_main_v53, val_main_v52, val_main_v51, val_main_v50,
    val_main_cst_4, val_main_cst_5, val_main_cst_6, val_main_cst_7]
  exact IsReal.mul ⟨_, rfl⟩ (freq_real _)

/-- Turning real lanes by a position's angles gives real lanes. -/
theorem turnAt_real (r : Fin 2048) (x : Fin 64 → EReal) (hx : ∀ k, IsReal (x k)) (l : Fin 64) : IsReal (turnAt r x l) := by
  unfold turnAt turn
  split_ifs
  · exact ((hx _).mul (rowAngle_real _).cos).sub ((hx _).mul (rowAngle_real _).sin)
  · exact ((hx _).mul (rowAngle_real _).cos).add ((hx _).mul (rowAngle_real _).sin)
  · exact ((hx _).mul (colAngle_real _).cos).sub ((hx _).mul (colAngle_real _).sin)
  · exact ((hx _).mul (colAngle_real _).cos).add ((hx _).mul (colAngle_real _).sin)

/-- Queries made of real numbers are real numbers. -/
theorem query_real (P : FVec Ideal S4x2048x5184 .f32) (hP : ∀ i, IsReal (P i)) (b : Fin 4) (h : Fin 8) (r : Fin 2048) (l : Fin 192) :
    IsReal (query P b h r l) := by
  unfold query
  split_ifs
  · exact hP _
  · exact turnAt_real _ _ (fun k => hP _) _

/-- Keys made of real numbers are real numbers. -/
theorem key_real (P : FVec Ideal S4x2048x5184 .f32) (C : FVec Ideal S4x256x5184 .f32) (K : FVec Ideal S4x2048x2048 .f32)
    (KC : FVec Ideal S4x256x2048 .f32) (hP : ∀ i, IsReal (P i)) (hC : ∀ i, IsReal (C i)) (hK : ∀ i, IsReal (K i))
    (hKC : ∀ i, IsReal (KC i)) (b : Fin 4) (h : Fin 8) (j : Fin 2304) (l : Fin 192) : IsReal (key P C K KC b h j l) := by
  unfold key
  split_ifs
  · exact hKC _
  · exact hC _
  · exact hK _
  · exact turnAt_real _ _ (fun k => hP _) _

/-- Scores of real queries with real keys are real numbers. -/
theorem score_real (P : FVec Ideal S4x2048x5184 .f32) (C : FVec Ideal S4x256x5184 .f32) (K : FVec Ideal S4x2048x2048 .f32)
    (KC : FVec Ideal S4x256x2048 .f32) (hP : ∀ i, IsReal (P i)) (hC : ∀ i, IsReal (C i)) (hK : ∀ i, IsReal (K i))
    (hKC : ∀ i, IsReal (KC i)) (b : Fin 4) (h : Fin 8) (r : Fin 2048) (j : Fin 2304) : IsReal (score P C K KC b h r j) :=
  IsReal.sum fun l => (query_real P hP b h r l).mul (key_real P C K KC hP hC hK hKC b h j l)

end Cert.MlaHeads

end
-- ==== Proof.Mla.Value.lean ====
module

public import proofs.«01_k».proof.Proof.Mla.Reads
public import proofs.«01_k».proof.Proof.Mla.Scratch
public import proofs.«01_k».proof.Proof.Mla.Attend
public import proofs.«01_k».proof.Proof.Mla.Finite

@[expose] public section

set_option maxRecDepth 16384

noncomputable section

namespace Cert.MlaValue

open Idealize.ShloMosaic Idealize.ShloMosaic.TcCoe Idealize.SL.Sem
open Idealize.ShloMosaic.Pipeline (Dat)
open Cert.MlaIdeal Cert.MlaIdeal.Gen
open Cert.MlaHeads

variable (m : (ℓ : Loc nD τ sig) → Buf (Elt Ideal) ℓ)

/-- The latent projection the kernel is given. -/
abbrev argP (c : Dev nD) : FVec Ideal S4x2048x5184 .f32 := m ((c : Thread nD τ).loc main_arg0)

/-- The context projection the kernel is given. -/
abbrev argC (c : Dev nD) : FVec Ideal S4x256x5184 .f32 := m ((c : Thread nD τ).loc main_arg1)

/-- The latent keys and values the kernel is given. -/
abbrev argK (c : Dev nD) : FVec Ideal S4x2048x2048 .f32 := m ((c : Thread nD τ).loc main_arg2)

/-- The context keys and values the kernel is given. -/
abbrev argKC (c : Dev nD) : FVec Ideal S4x256x2048 .f32 := m ((c : Thread nD τ).loc main_arg3)

/-- The reference's attention over the kernel's arguments. -/
abbrev REF (c : Dev nD) : FVec Ideal S8192x1024 .bf16 :=
  Cert.MlaRefIdeal.Read.val_main_v211 (F := Ideal) (argP m c) (argC m c) (argK m c) (argKC m c)

/-- The turned queries of a grid point. -/
theorem rope_q (c : Dev nD) (t : Fin cfg0.N) (b : Fin 4) (h : Fin 8) (hb : (b : ℕ) = t.val / 8) (hh : (h : ℕ) = t.val % 8)
    (r : Fin 2048) (l : Fin 128) :
    k0_pay17 (F := Ideal) (iblk m c 1 t) (iblk m c 2 t) (iblk m c 3 t) (ix2 r l)
    = (if hl : l.val < 64 then turnAt r (queryPe (argP m c) b h r) ⟨l.val, hl⟩ else 0 : EReal) := by
  refine rope_turn _ _ _ (ix2 r l) _ (blk_cosq m c t _) (blk_sinq m c t _) fun l' => ?_
  refine blk_qpe m c t _ _ l'.isLt ?_ ?_ ?_
  · exact hb
  · rfl
  · show h.val * 192 + 128 + l'.val = t.val % 8 * 192 + 128 + l'.val
    rw [hh]

/-- The turned keys of a grid point. -/
theorem rope_k (c : Dev nD) (t : Fin cfg0.N) (b : Fin 4) (hb : (b : ℕ) = t.val / 8) (r : Fin 2048) (l : Fin 128) :
    k0_pay17 (F := Ideal) (iblk m c 8 t) (iblk m c 9 t) (iblk m c 10 t) (ix2 r l)
    = (if hl : l.val < 64 then turnAt r (keyPe (argP m c) b r) ⟨l.val, hl⟩ else 0 : EReal) := by
  refine rope_turn _ _ _ (ix2 r l) _ (blk_cosk m c t _) (blk_sink m c t _) fun l' => ?_
  exact blk_kpe m c t _ _ l'.isLt hb rfl rfl

/-- One tile of 512 rows of a grid point's head: what the kernel computes from its blocks and its two buffers is the reference's
attention read where the tile sits. -/
theorem core (c : Dev nD) (hP : ∀ i, IsReal (argP m c i)) (hC : ∀ i, IsReal (argC m c i)) (hK : ∀ i, IsReal (argK m c i))
    (hKC : ∀ i, IsReal (argKC m c i)) (t : Fin cfg0.N) (b : Fin 4) (h : Fin 8) (hb : (b : ℕ) = t.val / 8) (hh : (h : ℕ) = t.val % 8)
    (o : ℕ) (ho : o + 512 ≤ 2048) (hs : S2048x256.Slices ![o, 0] S512x256) (x : S512x128.Idx) (i : S8192x1024.Idx)
    (e0 : (i 0 : ℕ) = t.val / 8 * 2048 + (o + x 0)) (e1 : (i 1 : ℕ) = t.val % 8 * 128 + x 1)
    (kb vb : Vec Ideal S2304x256 .bf16)
    (hk : ∀ (j : Fin 2304) (l : Fin 192), kb (ix2 j ⟨l, by omega⟩) = key (argP m c) (argC m c) (argK m c) (argKC m c) b h j l)
    (hv : ∀ (j : Fin 2304) (d : Fin 128), vb (ix2 j ⟨d, by omega⟩) = value (argK m c) (argKC m c) b h j d)
    (hv1 : ∀ (j : Fin 2304) (d : Fin 128), vb (ix2 j ⟨128 + d, by omega⟩) = (1 : EReal)) :
    k0_pay2 (F := Ideal) vb (Cert.MlaTile.prods (extractStridedSlice S512x256 ![o, 0]
      (k0_pay18 (k0_pay17 (iblk m c 1 t) (iblk m c 2 t) (iblk m c 3 t)) (iblk m c 0 t)) hs) kb) x = REF m c i := by
  have x0 : (x 0 : ℕ) < 512 := (x 0).isLt
  have x1 : (x 1 : ℕ) < 128 := (x 1).isLt
  have hr : o + (x 0 : ℕ) < 2048 := by omega
  refine Eq.trans ?_ (result_at (argP m c) (argC m c) (argK m c) (argKC m c) i b h ⟨o + x 0, hr⟩ ⟨x 1, x1⟩ ?_ ?_ ?_ ?_).symm
  · unfold attended score
    refine Cert.MlaTile.tile_at _ _ _ x (query (argP m c) b h ⟨o + x 0, hr⟩) (key (argP m c) (argC m c) (argK m c) (argKC m c) b h)
      (fun j => value (argK m c) (argKC m c) b h j ⟨x 1, x1⟩) ?_ ?_ hk (fun j _ => hv j ⟨x 1, x1⟩) (fun j _ => hv1 j ⟨x 1, x1⟩)
      fun j => score_real (argP m c) (argC m c) (argK m c) (argKC m c) hP hC hK hKC b h ⟨o + x 0, hr⟩ j
    · intro l
      refine (Cert.MlaTile.cat_at o hs _ _ _ ⟨o + x 0, hr⟩ rfl).trans ?_
      by_cases hl : l.val < 128
      · refine (dif_pos hl).trans (Eq.trans ?_ (dif_pos hl).symm)
        refine blk_qn m c t _ _ hb rfl ?_
        show h.val * 192 + l.val = t.val % 8 * 192 + l.val
        rw [hh]
      · refine (dif_neg hl).trans (Eq.trans ?_ (dif_neg hl).symm)
        exact (rope_q m c t b h hb hh _ _).trans (dif_pos (by show l.val - 128 < 64; omega))
    · intro l
      refine (Cert.MlaTile.cat_at o hs _ _ _ ⟨o + x 0, hr⟩ rfl).trans ?_
      refine (dif_neg (by show ¬ 192 + l.val < 128; omega)).trans ?_
      exact (rope_q m c t b h hb hh _ _).trans (dif_neg (by show ¬ 192 + l.val - 128 < 64; omega))
  · rw [hb, e0]; omega
  · show o + (x 0 : ℕ) = _; rw [e0]; omega
  · rw [hh, e1]; omega
  · show (x 1 : ℕ) = _; rw [e1]; omega

/-- Recasting a 2048-row block to its own shape twice changes nothing. -/
theorem recast_tall (X : Vec Ideal S2048x128 .bf16) (h k) : shapeCast S2048x128 (shapeCast S2048x128 X h) k = X := by
  funext y
  pointwise
  blk_ext

/-- Recasting a 256-row block to its own shape twice changes nothing. -/
theorem recast_short (X : Vec Ideal S256x128 .bf16) (h k) : shapeCast S256x128 (shapeCast S256x128 X h) k = X := by
  funext y
  pointwise
  blk_ext

/-- The kernel stores the image's values as they are. -/
theorem values_kept (X : Vec Ideal S2048x128 .bf16) : k0_pay15 (F := Ideal) X = X := by
  unfold k0_pay15
  exact recast_tall X _ _

/-- The kernel stores the context's values as they are. -/
theorem values_keptCtx (X : Vec Ideal S256x128 .bf16) : k0_pay14 (F := Ideal) X = X := by
  unfold k0_pay14
  exact recast_short X _ _

/-- The kernel turns the keys as it turns the queries. -/
theorem turned_keys (x : Vec Ideal S2048x128 .bf16) (c s : Vec Ideal S2048x128 .f32) (h1 h2 h3 h4 h5) :
    k0_pay13 (F := Ideal) (shapeCast S2048x128 c h1) (shapeCast S2048x128 s h2) (extf (φ := .bf16) .f32 (shapeCast S2048x128 x h3) h4) 32#32
      (remsi (iota .tc S2048x128 32 [1] h5) (broadcast S2048x128 32#32))
      (cmpi .ne (remsi (iota .tc S2048x128 32 [1] h5) (broadcast S2048x128 32#32)) (broadcast S2048x128 0#32))
      (cmpi .slt (remsi (iota .tc S2048x128 32 [1] h5) (broadcast S2048x128 32#32)) (broadcast S2048x128 0#32))
      (broadcast S2048x128 0#1)
    = k0_pay17 (F := Ideal) x c s := by
  refine Eq.trans (b := shapeCast S2048x128 (k0_pay17 (F := Ideal) x c s) shapeCasts_S2048x128_S2048x128) rfl ?_
  funext y
  exact shapeCast_apply _ _ y y rfl

/-- The key buffer of a grid point holds the head's keys. -/
theorem keys_at (c : Dev nD) (t : Fin cfg0.N) (b : Fin 4) (h : Fin 8) (hb : (b : ℕ) = t.val / 8) (hh : (h : ℕ) = t.val % 8)
    (A B : Vec Ideal S2048x128 .bf16) (C D : Vec Ideal S256x128 .bf16)
    (hA : A = k0_pay17 (F := Ideal) (iblk m c 8 t) (iblk m c 9 t) (iblk m c 10 t)) (hB : B = iblk m c 7 t)
    (hC : C = iblk m c 5 t) (hD : D = iblk m c 4 t) (i0 i1 i2 i3 i4) (j : Fin 2304) (l : Fin 192) :
    (View.whole cc0_scratch0).readCov (Val := Elt Ideal)
      [⟨Rect.unit ![256, 128] ![2048, 128] i0, A⟩, ⟨Rect.unit ![256, 0] ![2048, 128] i1, B⟩,
        ⟨Rect.unit ![0, 128] ![256, 128] i2, C⟩, ⟨Rect.unit ![0, 0] ![256, 128] i3, D⟩]
      (Rect.unit (s := S2304x256) ![0, 0] S2304x256.size i4).toLoadRect (ix2 j ⟨l, by omega⟩)
    = key (argP m c) (argC m c) (argK m c) (argKC m c) b h j l := by
  refine (Cert.MlaScratch.kread A B C D i0 i1 i2 i3 i4 j ⟨l, by omega⟩).trans ?_
  subst hA hB hC hD
  by_cases hj : j.val < 256
  · refine (dif_pos hj).trans (Eq.trans ?_ (dif_pos hj).symm)
    by_cases hl : l.val < 128
    · refine (dif_pos hl).trans (Eq.trans ?_ (dif_pos hl).symm)
      refine blk_knCtx m c t _ _ hb rfl ?_
      show h.val * 256 + l.val = t.val % 8 * 256 + l.val
      rw [hh]
    · refine (dif_neg hl).trans (Eq.trans ?_ (dif_neg hl).symm)
      exact blk_kpeCtx m c t _ _ (by show l.val - 128 < 64; omega) hb rfl rfl
  · refine (dif_neg hj).trans (Eq.trans ?_ (dif_neg hj).symm)
    by_cases hl : l.val < 128
    · refine (dif_pos hl).trans (Eq.trans ?_ (dif_pos hl).symm)
      refine blk_kn m c t _ _ hb rfl ?_
      show h.val * 256 + l.val = t.val % 8 * 256 + l.val
      rw [hh]
    · refine (dif_neg hl).trans (Eq.trans ?_ (dif_neg hl).symm)
      exact (rope_k m c t b hb _ _).trans (dif_pos (by show l.val - 128 < 64; omega))

/-- The value buffer of a grid point holds the head's values to the left. -/
theorem vals_at (c : Dev nD) (t : Fin cfg0.N) (b : Fin 4) (h : Fin 8) (hb : (b : ℕ) = t.val / 8) (hh : (h : ℕ) = t.val % 8)
    (B : Vec Ideal S2048x128 .bf16) (D : Vec Ideal S256x128 .bf16) (hB : B = iblk m c 11 t) (hD : D = iblk m c 6 t)
    (O : Vec Ideal S2304x128 .bf16) (i0 i1 i3 i4) (j : Fin 2304) (d : Fin 128) :
    (View.whole cc0_scratch1).readCov (Val := Elt Ideal)
      [⟨Rect.unit ![0, 128] ![2304, 128] i0, O⟩, ⟨Rect.unit ![256, 0] ![2048, 128] i1, B⟩,
        ⟨Rect.unit ![0, 0] ![256, 128] i3, D⟩]
      (Rect.unit (s := S2304x256) ![0, 0] S2304x256.size i4).toLoadRect (ix2 j ⟨d, by omega⟩)
    = value (argK m c) (argKC m c) b h j d := by
  refine (Cert.MlaScratch.vread _ _ _ i0 i1 i3 i4 j ⟨d, by omega⟩).trans ((dif_pos d.isLt).trans ?_)
  subst hB hD
  by_cases hj : j.val < 256
  · refine (dif_pos hj).trans (Eq.trans ?_ (dif_pos hj).symm)
    refine blk_vCtx m c t _ _ hb rfl ?_
    show h.val * 256 + 128 + d.val = t.val % 8 * 256 + 128 + d.val
    rw [hh]
  · refine (dif_neg hj).trans (Eq.trans ?_ (dif_neg hj).symm)
    refine blk_v m c t _ _ hb rfl ?_
    show h.val * 256 + 128 + d.val = t.val % 8 * 256 + 128 + d.val
    rw [hh]

/-- The value buffer of a grid point holds ones to the right. -/
theorem ones_at (B : Vec Ideal S2048x128 .bf16) (D : Vec Ideal S256x128 .bf16) (i0 i1 i3 i4) (j : Fin 2304) (d : Fin 128) :
    (View.whole cc0_scratch1).readCov (Val := Elt Ideal)
      [⟨Rect.unit ![0, 128] ![2304, 128] i0, k0_pay16 (F := Ideal)⟩, ⟨Rect.unit ![256, 0] ![2048, 128] i1, B⟩,
        ⟨Rect.unit ![0, 0] ![256, 128] i3, D⟩]
      (Rect.unit (s := S2304x256) ![0, 0] S2304x256.size i4).toLoadRect (ix2 j ⟨128 + d, by omega⟩) = (1 : EReal) := by
  refine (Cert.MlaScratch.vread _ B D i0 i1 i3 i4 j ⟨128 + d, by omega⟩).trans
    ((dif_neg (by show ¬ 128 + d.val < 128; omega)).trans ?_)
  pointwise [k0_pay16]

/-- Where a grid point's block of results sits. -/
theorem emb_out (t : Fin cfg0.N) (y : S2048x128.Idx) :
    ((((cfg0.win 12).blk t).view.emb y) 0 : ℕ) = t.val / 8 * 2048 + y 0
    ∧ ((((cfg0.win 12).blk t).view.emb y) 1 : ℕ) = t.val % 8 * 128 + y 1 := by
  have e := (idx_val t).2.2.2.2.2.2.2.2.2.2.2.2
  constructor <;> blk_simp [e]

/-- A grid point's two buffers hold the head's keys, its values, and ones beside the values. -/
def Held (c : Dev nD) (b : Fin 4) (h : Fin 8) (kb vb : Vec Ideal S2304x256 .bf16) : Prop :=
  (∀ (j : Fin 2304) (l : Fin 192), kb (ix2 j ⟨l, by omega⟩) = key (argP m c) (argC m c) (argK m c) (argKC m c) b h j l)
  ∧ (∀ (j : Fin 2304) (d : Fin 128), vb (ix2 j ⟨d, by omega⟩) = value (argK m c) (argKC m c) b h j d)
  ∧ (∀ (j : Fin 2304) (d : Fin 128), vb (ix2 j ⟨128 + d, by omega⟩) = (1 : EReal))

/-- The first 512 rows of a grid point. -/
theorem tile_first (c : Dev nD) (hP : ∀ i, IsReal (argP m c i)) (hC : ∀ i, IsReal (argC m c i)) (hK : ∀ i, IsReal (argK m c i))
    (hKC : ∀ i, IsReal (argKC m c i)) (t : Fin cfg0.N) (b : Fin 4) (h : Fin 8) (hb : (b : ℕ) = t.val / 8) (hh : (h : ℕ) = t.val % 8)
    (x : S512x128.Idx) (i : S8192x1024.Idx)
    (e0 : (i 0 : ℕ) = t.val / 8 * 2048 + (0 + x 0)) (e1 : (i 1 : ℕ) = t.val % 8 * 128 + x 1)
    (kb vb : Vec Ideal S2304x256 .bf16) (hs : Held m c b h kb vb) :
    k0_pay19 (F := Ideal) (k0_pay17 (iblk m c 1 t) (iblk m c 2 t) (iblk m c 3 t)) (iblk m c 0 t) kb vb x = REF m c i := by
  rw [Cert.MlaTile.pay19_eq]
  exact core m c hP hC hK hKC t b h hb hh 0 (by norm_num) _ x i e0 e1 kb vb hs.1 hs.2.1 hs.2.2

/-- The second 512 rows of a grid point. -/
theorem tile_second (c : Dev nD) (hP : ∀ i, IsReal (argP m c i)) (hC : ∀ i, IsReal (argC m c i)) (hK : ∀ i, IsReal (argK m c i))
    (hKC : ∀ i, IsReal (argKC m c i)) (t : Fin cfg0.N) (b : Fin 4) (h : Fin 8) (hb : (b : ℕ) = t.val / 8) (hh : (h : ℕ) = t.val % 8)
    (x : S512x128.Idx) (i : S8192x1024.Idx)
    (e0 : (i 0 : ℕ) = t.val / 8 * 2048 + (512 + x 0)) (e1 : (i 1 : ℕ) = t.val % 8 * 128 + x 1)
    (kb vb : Vec Ideal S2304x256 .bf16) (hs : Held m c b h kb vb) :
    k0_pay21 (F := Ideal) (k0_pay17 (iblk m c 1 t) (iblk m c 2 t) (iblk m c 3 t)) (iblk m c 0 t) kb vb x = REF m c i := by
  rw [Cert.MlaTile.pay21_eq]
  exact core m c hP hC hK hKC t b h hb hh 512 (by norm_num) _ x i e0 e1 kb vb hs.1 hs.2.1 hs.2.2

/-- The third 512 rows of a grid point. -/
theorem tile_third (c : Dev nD) (hP : ∀ i, IsReal (argP m c i)) (hC : ∀ i, IsReal (argC m c i)) (hK : ∀ i, IsReal (argK m c i))
    (hKC : ∀ i, IsReal (argKC m c i)) (t : Fin cfg0.N) (b : Fin 4) (h : Fin 8) (hb : (b : ℕ) = t.val / 8) (hh : (h : ℕ) = t.val % 8)
    (x : S512x128.Idx) (i : S8192x1024.Idx)
    (e0 : (i 0 : ℕ) = t.val / 8 * 2048 + (1024 + x 0)) (e1 : (i 1 : ℕ) = t.val % 8 * 128 + x 1)
    (kb vb : Vec Ideal S2304x256 .bf16) (hs : Held m c b h kb vb) :
    k0_pay1 (F := Ideal) vb (k0_pay20 (k0_pay17 (iblk m c 1 t) (iblk m c 2 t) (iblk m c 3 t)) (iblk m c 0 t) kb) x = REF m c i := by
  rw [Cert.MlaTile.pay20_eq]
  exact core m c hP hC hK hKC t b h hb hh 1024 (by norm_num) _ x i e0 e1 kb vb hs.1 hs.2.1 hs.2.2

/-- The fourth 512 rows of a grid point. -/
theorem tile_fourth (c : Dev nD) (hP : ∀ i, IsReal (argP m c i)) (hC : ∀ i, IsReal (argC m c i)) (hK : ∀ i, IsReal (argK m c i))
    (hKC : ∀ i, IsReal (argKC m c i)) (t : Fin cfg0.N) (b : Fin 4) (h : Fin 8) (hb : (b : ℕ) = t.val / 8) (hh : (h : ℕ) = t.val % 8)
    (x : S512x128.Idx) (i : S8192x1024.Idx)
    (e0 : (i 0 : ℕ) = t.val / 8 * 2048 + (1536 + x 0)) (e1 : (i 1 : ℕ) = t.val % 8 * 128 + x 1)
    (kb vb : Vec Ideal S2304x256 .bf16) (hs : Held m c b h kb vb) :
    k0_pay2 (F := Ideal) vb (k0_pay22 (k0_pay17 (iblk m c 1 t) (iblk m c 2 t) (iblk m c 3 t)) (iblk m c 0 t) kb) x = REF m c i := by
  rw [Cert.MlaTile.pay22_eq]
  exact core m c hP hC hK hKC t b h hb hh 1536 (by norm_num) _ x i e0 e1 kb vb hs.1 hs.2.1 hs.2.2

/-- What the kernel's stores leave in a grid point's two buffers. -/
theorem held (c : Dev nD) (t : Fin cfg0.N) (b : Fin 4) (h : Fin 8) (hb : (b : ℕ) = t.val / 8) (hh : (h : ℕ) = t.val % 8)
    (A B B' : Vec Ideal S2048x128 .bf16) (C D D' : Vec Ideal S256x128 .bf16)
    (hA : A = k0_pay17 (F := Ideal) (iblk m c 8 t) (iblk m c 9 t) (iblk m c 10 t)) (hB : B = iblk m c 7 t)
    (hC : C = iblk m c 5 t) (hD : D = iblk m c 4 t) (hB' : B' = iblk m c 11 t) (hD' : D' = iblk m c 6 t)
    (i0 i1 i2 i3 i4 k0 k1 k3 k4) :
    Held m c b h
      ((View.whole cc0_scratch0).readCov (Val := Elt Ideal)
        [⟨Rect.unit ![256, 128] ![2048, 128] i0, A⟩, ⟨Rect.unit ![256, 0] ![2048, 128] i1, B⟩,
          ⟨Rect.unit ![0, 128] ![256, 128] i2, C⟩, ⟨Rect.unit ![0, 0] ![256, 128] i3, D⟩]
        (Rect.unit (s := S2304x256) ![0, 0] S2304x256.size i4).toLoadRect)
      ((View.whole cc0_scratch1).readCov (Val := Elt Ideal)
        [⟨Rect.unit ![0, 128] ![2304, 128] k0, k0_pay16 (F := Ideal)⟩, ⟨Rect.unit ![256, 0] ![2048, 128] k1, B'⟩,
          ⟨Rect.unit ![0, 0] ![256, 128] k3, D'⟩]
        (Rect.unit (s := S2304x256) ![0, 0] S2304x256.size k4).toLoadRect) :=
  ⟨fun j l => keys_at m c t b h hb hh A B C D hA hB hC hD i0 i1 i2 i3 i4 j l,
    fun j d => vals_at m c t b h hb hh B' D' hB' hD' _ k0 k1 k3 k4 j d, fun j d => ones_at B' D' k0 k1 k3 k4 j d⟩

set_option maxHeartbeats 1000000 in
/-- The kernel's result array after the run is the reference's attention over the same arguments, when these are finite. -/
theorem final (c : Dev nD) (hP : ∀ i, IsReal (argP m c i)) (hC : ∀ i, IsReal (argC m c i)) (hK : ∀ i, IsReal (argK m c i))
    (hKC : ∀ i, IsReal (argKC m c i)) : (dats m 0 c).arrAt 12 cfg0.N = REF m c := by
  refine (dats m 0 c).arrAt_eq_of_covers 12 _ (by decide +kernel) fun t _ y => ?_
  blk_simp
  rw [after0_12]
  unfold outsAt0
  frame_out
  have e0 := (emb_out t y).1
  have e1 := (emb_out t y).2
  have ht : t.val < 32 := t.isLt
  generalize hi : (((cfg0.win 12).blk t).view.emb y) = i at e0 e1
  have hb : ((⟨t.val / 8, by omega⟩ : Fin 4) : ℕ) = t.val / 8 := rfl
  have hh : ((⟨t.val % 8, by omega⟩ : Fin 8) : ℕ) = t.val % 8 := rfl
  canon_tiles x h
  · refine tile_fourth m c hP hC hK hKC t _ _ hb hh x i (by rw [e0, h0]) (by rw [e1, h1]) _ _ ?_
    refine held m c t _ _ hb hh _ _ _ _ _ _ ?_ ?_ ?_ ?_ ?_ ?_ _ _ _ _ _ _ _ _ _
    · exact turned_keys _ _ _ _ _ _ _ _
    · exact recast_tall _ _ _
    · exact recast_short _ _ _
    · exact recast_short _ _ _
    · exact values_kept _
    · exact values_keptCtx _
  · refine tile_third m c hP hC hK hKC t _ _ hb hh x i (by rw [e0, h0]) (by rw [e1, h1]) _ _ ?_
    refine held m c t _ _ hb hh _ _ _ _ _ _ ?_ ?_ ?_ ?_ ?_ ?_ _ _ _ _ _ _ _ _ _
    · exact turned_keys _ _ _ _ _ _ _ _
    · exact recast_tall _ _ _
    · exact recast_short _ _ _
    · exact recast_short _ _ _
    · exact values_kept _
    · exact values_keptCtx _
  · refine tile_second m c hP hC hK hKC t _ _ hb hh x i (by rw [e0, h0]) (by rw [e1, h1]) _ _ ?_
    refine held m c t _ _ hb hh _ _ _ _ _ _ ?_ ?_ ?_ ?_ ?_ ?_ _ _ _ _ _ _ _ _ _
    · exact turned_keys _ _ _ _ _ _ _ _
    · exact recast_tall _ _ _
    · exact recast_short _ _ _
    · exact recast_short _ _ _
    · exact values_kept _
    · exact values_keptCtx _
  · refine tile_first m c hP hC hK hKC t _ _ hb hh x i (by rw [e0, h0]; omega) (by rw [e1, h1]) _ _ ?_
    refine held m c t _ _ hb hh _ _ _ _ _ _ ?_ ?_ ?_ ?_ ?_ ?_ _ _ _ _ _ _ _ _ _
    · exact turned_keys _ _ _ _ _ _ _ _
    · exact recast_tall _ _ _
    · exact recast_short _ _ _
    · exact recast_short _ _ _
    · exact values_kept _
    · exact values_keptCtx _

end Cert.MlaValue

end
-- ==== Proof.Mla.Claims.lean ====
module

public import proofs.«01_k».proof.Defs
public import proofs.«01_k».proof.Proof.Gen.Mla
public import proofs.«01_k».proof.Proof.Gen.Mla.Frame
public import proofs.«01_k».proof.Proof.Gen.MlaIdeal.Frame
public import proofs.«01_k».proof.Proof.Gen.MlaRefIdeal.Run
public import proofs.«01_k».proof.Proof.Gen.Pre_finite
public import proofs.«01_k».proof.Proof.Mla.Value
public import Idealize.ShloMosaic.Lib.ReduceAll

@[expose] public section

set_option maxRecDepth 16384

noncomputable section

namespace Cert.MlaValue

open Idealize.ShloMosaic Idealize.ShloMosaic.TcCoe Idealize.SL.Sem
open Cert.MlaHeads (IsReal)

/-- An extended real whose absolute value lies below infinity is a real number. -/
theorem real_of_below (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The precondition says that every entry of the four arguments is a real number. -/
theorem args_real (m : (ℓ : Loc Cert.MlaIdeal.nD Cert.MlaIdeal.τ Cert.MlaIdeal.sig) → Buf (Elt Ideal) ℓ) (h : Cert.Pre_MlaIdeal m)
    (c : Dev Cert.MlaIdeal.nD) : (∀ i, IsReal (argP m c i)) ∧ (∀ i, IsReal (argC m c i)) ∧ (∀ i, IsReal (argK m c i))
      ∧ (∀ i, IsReal (argKC m c i)) := by
  haveI : Subsingleton Cert.Pre_finite.S_.Idx := ⟨fun a b => funext fun k => k.elim0⟩
  have e := congrFun (h c) (fun k => k.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => real_of_below _ (Host.reduce_andi_all _ _ _ _ _ e0 i), fun i => real_of_below _ (Host.reduce_andi_all _ _ _ _ _ e1 i),
    fun i => real_of_below _ (Host.reduce_andi_all _ _ _ _ _ e2 i), fun i => real_of_below _ (Host.reduce_andi_all _ _ _ _ _ e3 i)⟩

/-- The program runs, leaves its arguments alone and ends quiet. -/
theorem frame : Cert.quiescent_Mla := fun m ρ _ => Cert.Mla.Gen.frame m ρ

/-- So it does of any arguments. -/
theorem frame_any : Cert.quiescent_Mla_pre_none := fun m ρ _ => Cert.Mla.Gen.frame m ρ

/-- So does the idealized program. -/
theorem frame_ideal : Cert.quiescent_MlaIdeal := fun m ρ _ => Cert.MlaIdeal.Gen.frame m ρ

/-- So does the idealized program of any arguments. -/
theorem frame_ideal_any : Cert.quiescent_MlaIdeal_pre_none := fun m ρ _ => Cert.MlaIdeal.Gen.frame m ρ

/-- So does the reference. -/
theorem frame_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run m ρ)

/-- The one named constant: the inverse root of 192 over the logarithm of two. -/
theorem preserves : Cert.preserves_Mla_MlaIdeal :=
  IdealRules.named_const.statement Cert.MlaIdeal.κ "scale_log2e" .f32 0x3DD53B95#32 _ rfl

/-- The reference's run, its result named. -/
theorem run_ref (m : (ℓ : Loc Cert.MlaRefIdeal.nD Cert.MlaRefIdeal.τ Cert.MlaRefIdeal.sig) → Buf (Elt Ideal) ℓ)
    (g : Dev Cert.MlaRefIdeal.nD → PrngReg) :
    θ_run (Cert.MlaRefIdeal.defs (F := Ideal)) (onTc (τ := Cert.MlaRefIdeal.τ) (Cert.MlaRefIdeal.main (F := Ideal)))
      ⟨m, fun _ => 0, g⟩ (fun r => ∀ c : Dev Cert.MlaRefIdeal.nD,
        r.2.mem ((c.tc : Thread Cert.MlaRefIdeal.nD Cert.MlaRefIdeal.τ).loc Cert.MlaRefIdeal.main_v211)
          = Cert.MlaRefIdeal.Read.val_main_v211 (F := Ideal)
            (m ((c.tc : Thread Cert.MlaRefIdeal.nD Cert.MlaRefIdeal.τ).loc Cert.MlaRefIdeal.main_arg0))
            (m ((c.tc : Thread Cert.MlaRefIdeal.nD Cert.MlaRefIdeal.τ).loc Cert.MlaRefIdeal.main_arg1))
            (m ((c.tc : Thread Cert.MlaRefIdeal.nD Cert.MlaRefIdeal.τ).loc Cert.MlaRefIdeal.main_arg2))
            (m ((c.tc : Thread Cert.MlaRefIdeal.nD Cert.MlaRefIdeal.τ).loc Cert.MlaRefIdeal.main_arg3))
        ∧ r.2.mem ((c.tc : Thread Cert.MlaRefIdeal.nD Cert.MlaRefIdeal.τ).loc Cert.MlaRefIdeal.main_arg0)
          = m ((c.tc : Thread Cert.MlaRefIdeal.nD Cert.MlaRefIdeal.τ).loc Cert.MlaRefIdeal.main_arg0)
        ∧ r.2.mem ((c.tc : Thread Cert.MlaRefIdeal.nD Cert.MlaRefIdeal.τ).loc Cert.MlaRefIdeal.main_arg1)
          = m ((c.tc : Thread Cert.MlaRefIdeal.nD Cert.MlaRefIdeal.τ).loc Cert.MlaRefIdeal.main_arg1)
        ∧ r.2.mem ((c.tc : Thread Cert.MlaRefIdeal.nD Cert.MlaRefIdeal.τ).loc Cert.MlaRefIdeal.main_arg2)
          = m ((c.tc : Thread Cert.MlaRefIdeal.nD Cert.MlaRefIdeal.τ).loc Cert.MlaRefIdeal.main_arg2)
        ∧ r.2.mem ((c.tc : Thread Cert.MlaRefIdeal.nD Cert.MlaRefIdeal.τ).loc Cert.MlaRefIdeal.main_arg3)
          = m ((c.tc : Thread Cert.MlaRefIdeal.nD Cert.MlaRefIdeal.τ).loc Cert.MlaRefIdeal.main_arg3)) :=
  (θ_run Cert.MlaRefIdeal.defs _ _).mono
    (fun r h c => ⟨(h c).1.trans (Cert.MlaRefIdeal.Read.val_main_v211_eq (StableHlo.launchContents m c)), (h c).2⟩)
    (Cert.MlaRefIdeal.Value.run m g)

/-- The idealized program and the reference end with the same array, when the arguments are finite. -/
theorem algebraic : Cert.algebraic_MlaIdeal_MlaRefIdeal := by
  intro m g m' g' hpre hagree
  refine ⟨fun c => (Cert.MlaIdeal.Gen.dats m 0 c).arrAt 12 Cert.MlaIdeal.cfg0.N, Cert.MlaIdeal.Value.run_blocks m g,
    (θ_run Cert.MlaRefIdeal.defs _ _).mono (fun r h c => ⟨(h c).1.trans ?_, (h c).2⟩) (run_ref m' g')⟩
  obtain ⟨h0, h1, h2, h3⟩ := hagree c
  obtain ⟨hP, hC, hK, hKC⟩ := args_real m hpre c
  rw [h0, h1, h2, h3]
  exact (final m c hP hC hK hKC).symm

end Cert.MlaValue

end
-- ==== Proof.MlpLast.Steps.lean ====
module

public import proofs.«01_k».proof.Proof.Gen.MlpLastIdeal.Value
public import Idealize.ShloMosaic.Lib.Pipeline.ValueKit
public import Idealize.ShloMosaic.Lib.Pipeline.ReadBack

@[expose] public section

set_option maxRecDepth 16384

noncomputable section

namespace Cert.MlpLastValue

open Idealize.ShloMosaic Idealize.ShloMosaic.TcCoe Idealize.SL.Sem
open Idealize.ShloMosaic.Pipeline (Dat)
open Cert.MlpLastIdeal Cert.MlpLastIdeal.Gen

variable (m : (ℓ : Loc nD τ sig) → Buf (Elt Ideal) ℓ)

/-- The first point of a row tile leaves the normalised, modulated rows in the first scratch. -/
theorem norm_first (c : Dev nD) (t : Fin cfg0.N) (h0 : t.val % 8 = 0) :
    (outsAt0 m c t.val t.isLt).2.1 = k0_pay1 (F := Ideal) (iblk m c 0 t) (iblk m c 1 t) (iblk m c 3 t) (iblk m c 2 t) := by
  rw [outsAt0_A m c t h0 (by omega)]
  frame_out

/-- The first point of a row tile starts the accumulator from zero. -/
theorem acc_first (c : Dev nD) (t : Fin cfg0.N) (h0 : t.val % 8 = 0) :
    (outsAt0 m c t.val t.isLt).2.2 = k0_pay3 (F := Ideal)
      (k0_pay1 (F := Ideal) (iblk m c 0 t) (iblk m c 1 t) (iblk m c 3 t) (iblk m c 2 t)) (iblk m c 5 t) (k0_pay2 (F := Ideal)) (iblk m c 6 t) := by
  rw [outsAt0_A m c t h0 (by omega)]
  frame_out

/-- A later point keeps the normalised rows. -/
theorem norm_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]
    rfl
  · rw [outsAt0_B m c t h0 h1]
    rfl

/-- A later point adds its block of hidden units onto the accumulator. -/
theorem acc_later (c : Dev nD) (t : Fin cfg0.N) (h0 : ¬t.val % 8 = 0) :
    (outsAt0 m c t.val t.isLt).2.2 = k0_pay3 (F := Ideal)
      (outsAt0 m c (t.val - 1) (Nat.lt_of_le_of_lt (Nat.sub_le _ _) t.isLt)).2.1 (iblk m c 5 t)
      (outsAt0 m c (t.val - 1) (Nat.lt_of_le_of_lt (Nat.sub_le _ _) t.isLt)).2.2 (iblk m c 6 t) := by
  by_cases h1 : t.val % 8 = 7
  · rw [outsAt0_C m c t h0 h1]
    frame_out
    simp only [read_unread_whole]
  · rw [outsAt0_B m c t h0 h1]
    frame_out
    simp only [read_unread_whole]

/-- The last point of a row tile writes the output block from the finished accumulator. -/
theorem out_last (c : Dev nD) (t : Fin cfg0.N) (h1 : t.val % 8 = 7) :
    (outsAt0 m c t.val t.isLt).1 = k0_pay4 (F := Ideal) (iblk m c 0 t) (iblk m c 4 t)
      (outsAt0 m c t.val t.isLt).2.2 (iblk m c 7 t) := by
  rw [acc_later m c t (by omega), outsAt0_C m c t (by omega) h1]
  frame_out
  simp only [read_unread_whole]

end Cert.MlpLastValue

end
-- ==== Proof.Common.MlpRows.lean ====
module

public import proofs.«01_k».proof.Proof.Gen.MlpLastIdeal.Skeleton
public import Idealize.ShloMosaic.Lib.Pipeline.ValueKit

@[expose] public section

set_option maxRecDepth 16384

noncomputable section

namespace Cert.MlpRows

open Idealize.ShloMosaic Idealize.ShloMosaic.TcCoe Idealize.SL.Sem
open Cert.MlpLastIdeal Cert.MlpLastIdeal.Gen

variable {β : Type} (h : β → Fin 2048 → EReal) (mod : β → Fin 12288 → EReal) (g : FVec Ideal S4x2048 .f32)
  (w1 : FVec Ideal S4x2048x8192 .f32) (w2 : FVec Ideal S4x8192x2048 .f32) (l : Fin 4)

/-- One over the root mean square of a row. -/
def inv_rms (x : Fin 2048 → EReal) : EReal :=
  Ideal.rsqrt (Ideal.div (∑ k, x k * x k) (Ideal.ofBits FTy.f32 0x45000000#32) + Ideal.ofBits FTy.f32 0x358637BD#32)

/-- The input of layer `l`'s multilayer perceptron: the normalised residual stream, scaled and shifted by the modulation. -/
def normed (b : β) (k : Fin 2048) : EReal :=
  h b k * inv_rms (fun j => h b j) * g (ix2 l k) * (1 + mod b ⟨8192 + k, by omega⟩) + mod b ⟨6144 + k, by omega⟩

/-- A hidden unit of layer `l`: the square of the positive part. -/
def hidden (b : β) (j : Fin 8192) : EReal :=
  max (∑ k, normed h mod g l b k * w1 (ix3 l k j)) 0 * max (∑ k, normed h mod g l b k * w1 (ix3 l k j)) 0

/-- Layer `l`'s multilayer perceptron. -/
def out (b : β) (d : Fin 2048) : EReal :=
  ∑ j, hidden h mod g w1 l b j * w2 (ix3 l j d)

/-- The residual stream after layer `l`. -/
def resid (b : β) (d : Fin 2048) : EReal :=
  h b d + mod b ⟨10240 + d, by omega⟩ * out h mod g w1 w2 l b d

/-- What the first point of a row tile stores is the normalised input. -/
theorem pay1_eq (p : Fin 512 → β) (a : FVec Ideal S512x2048 .f32) (gb : FVec Ideal S1x2048 .f32) (sc sh : FVec Ideal S1x1x2048 .f32)
    (ha : ∀ r k, a (ix2 r k) = h (p r) k) (hg : ∀ k, gb (ix2 0 k) = g (ix2 l k))
    (hsc : ∀ (r : Fin 512) (k : Fin 2048), sc (ix3 0 0 k) = mod (p r) ⟨8192 + k, by omega⟩)
    (hsh : ∀ (r : Fin 512) (k : Fin 2048), sh (ix3 0 0 k) = mod (p r) ⟨6144 + k, by omega⟩) (r : Fin 512) (k : Fin 2048) :
    k0_pay1 (F := Ideal) a gb sc sh (ix2 r k) = normed h mod g l (p r) k := by
  pointwise [k0_pay1]
  simp only [ha, hg, hsc r, hsh r]
  rfl

/-- What one block of hidden units adds to the accumulator. -/
theorem pay3_eq (p : Fin 512 → β) (s : ℕ) (hs : s < 8) (xn : FVec Ideal S512x2048 .bf16) (w1b : FVec Ideal S1x2048x1024 .bf16)
    (acc : FVec Ideal S512x2048 .f32) (w2b : FVec Ideal S1x1024x2048 .bf16)
    (hx : ∀ r k, xn (ix2 r k) = normed h mod g l (p r) k)
    (h1 : ∀ (k : Fin 2048) (j : Fin 1024), w1b (ix3 0 k j) = w1 (ix3 l k ⟨s * 1024 + j, by omega⟩))
    (h2 : ∀ (j : Fin 1024) (d : Fin 2048), w2b (ix3 0 j d) = w2 (ix3 l ⟨s * 1024 + j, by omega⟩ d)) (r : Fin 512) (d : Fin 2048) :
    k0_pay3 (F := Ideal) xn w1b acc w2b (ix2 r d) = acc (ix2 r d)
      + ∑ j : Fin 1024, hidden h mod g w1 l (p r) ⟨s * 1024 + j, by omega⟩ * w2 (ix3 l ⟨s * 1024 + j, by omega⟩ d) := by
  pointwise [k0_pay3]
  simp only [hx, h1, h2]
  rfl

/-- The accumulator starts at zero. -/
theorem pay2_eq (y : S512x2048.Idx) : k0_pay2 (F := Ideal) y = 0 := by
  pointwise [k0_pay2]

/-- The eight blocks' contributions together are the whole multilayer perceptron. -/
theorem out_blocks (b : β) (d : Fin 2048) :
    ∑ s : Fin 8, ∑ j : Fin 1024, hidden h mod g w1 l b ⟨s.val * 1024 + j, by omega⟩ * w2 (ix3 l ⟨s.val * 1024 + j, by omega⟩ d)
      = out h mod g w1 w2 l b d :=
  Fin.sum_mul_add_congr (fun s j hl => rfl)

/-- What one point of the grid adds to the accumulator. -/
def term {T N : ℕ} (hN : N = T * 8) (place : Fin T → Fin 512 → β) (t : Fin N) (y : S512x2048.Idx) : EReal :=
  ∑ j : Fin 1024, hidden h mod g w1 l (place ⟨t.val / 8, by omega⟩ (y 0))
    ⟨t.val % 8 * 1024 + j, by omega⟩ * w2 (ix3 l ⟨t.val % 8 * 1024 + j, by omega⟩ (y 1))

/-- The two scratches of the kernel over its grid of `T` row tiles by eight blocks of hidden units: what the first holds
    after every point, and the second when a tile's last point has run, from what each point stores. -/
theorem scratch_run {T N : ℕ} (hN : N = T * 8) (place : Fin T → Fin 512 → β) (S0 : (n : ℕ) → n < N → FVec Ideal S512x2048 .bf16)
    (S1 : (n : ℕ) → n < N → FVec Ideal S512x2048 .f32)
    (hb : Fin N → FVec Ideal S512x2048 .f32) (gb : Fin N → FVec Ideal S1x2048 .f32) (scb shb : Fin N → FVec Ideal S1x1x2048 .f32)
    (w1b : Fin N → FVec Ideal S1x2048x1024 .bf16) (w2b : Fin N → FVec Ideal S1x1024x2048 .bf16)
    (hh : ∀ (t : Fin N) r k, hb t (ix2 r k) = h (place ⟨t.val / 8, by omega⟩ r) k)
    (hg : ∀ (t : Fin N) k, gb t (ix2 0 k) = g (ix2 l k))
    (hsc : ∀ (t : Fin N) (r : Fin 512) (k : Fin 2048), scb t (ix3 0 0 k) = mod (place ⟨t.val / 8, by omega⟩ r) ⟨8192 + k, by omega⟩)
    (hsh : ∀ (t : Fin N) (r : Fin 512) (k : Fin 2048), shb t (ix3 0 0 k) = mod (place ⟨t.val / 8, by omega⟩ r) ⟨6144 + k, by omega⟩)
    (h1 : ∀ (t : Fin N) (k : Fin 2048) (j : Fin 1024), w1b t (ix3 0 k j) = w1 (ix3 l k ⟨t.val % 8 * 1024 + j, by omega⟩))
    (h2 : ∀ (t : Fin N) (j : Fin 1024) (d : Fin 2048), w2b t (ix3 0 j d) = w2 (ix3 l ⟨t.val % 8 * 1024 + j, by omega⟩ d))
    (norm_first : ∀ t : Fin N, t.val % 8 = 0 → S0 t.val t.isLt = k0_pay1 (F := Ideal) (hb t) (gb t) (scb t) (shb t))
    (norm_later : ∀ t : Fin N, ¬t.val % 8 = 0 →
      S0 t.val t.isLt = S0 (t.val - 1) (Nat.lt_of_le_of_lt (Nat.sub_le _ _) t.isLt))
    (acc_first : ∀ t : Fin N, t.val % 8 = 0 →
      S1 t.val t.isLt = k0_pay3 (F := Ideal) (S0 t.val t.isLt) (w1b t) (k0_pay2 (F := Ideal)) (w2b t))
    (acc_later : ∀ t : Fin N, ¬t.val % 8 = 0 →
      S1 t.val t.isLt = k0_pay3 (F := Ideal) (S0 t.val t.isLt) (w1b t)
        (S1 (t.val - 1) (Nat.lt_of_le_of_lt (Nat.sub_le _ _) t.isLt)) (w2b t))
    (t : Fin N) (h7 : t.val % 8 = 7) (r : Fin 512) (d : Fin 2048) :
    S1 t.val t.isLt (ix2 r d) = out h mod g w1 w2 l (place ⟨t.val / 8, by omega⟩ r) d := by
  have scratch_norm : ∀ (n : ℕ) (hn : n < N) (r : Fin 512) (k : Fin 2048),
      S0 n hn (ix2 r k) = normed h mod g l (place ⟨n / 8, by omega⟩ r) k := by
    intro n
    induction n with
    | zero =>
      intro hn r k
      rw [norm_first ⟨0, hn⟩ rfl]
      exact pay1_eq _ _ _ l _ _ _ _ _ (hh _) (hg _) (hsc _) (hsh _) r k
    | succ n ih =>
      intro hn r k
      by_cases h0 : (n + 1) % 8 = 0
      · rw [norm_first ⟨n + 1, hn⟩ h0]
        exact pay1_eq _ _ _ l _ _ _ _ _ (hh _) (hg _) (hsc _) (hsh _) r k
      · rw [norm_later ⟨n + 1, hn⟩ h0]
        have hd : n / 8 = (n + 1) / 8 := by omega
        have := ih (Nat.lt_of_succ_lt hn) r k
        simp only [hd] at this
        exact this
  have key := Pipeline.eq_sum_fin_of_reset_step_apply_of_flush S1 8 (fun _ => (0 : EReal)) (term h mod g w1 w2 l hN place)
    (fun t h0 y => by
      obtain ⟨r', d', rfl⟩ : ∃ r' d', y = ix2 r' d' := ⟨y 0, y 1, eq_ix2 y⟩
      rw [acc_first t h0, pay3_eq h mod g w1 w2 l (place ⟨t.val / 8, by omega⟩) (t.val % 8) (by omega) _ _ _ _
        (scratch_norm t.val t.isLt) (h1 t) (h2 t), pay2_eq]
      rfl)
    (fun t h0 y => by
      obtain ⟨r', d', rfl⟩ : ∃ r' d', y = ix2 r' d' := ⟨y 0, y 1, eq_ix2 y⟩
      rw [acc_later t h0, pay3_eq h mod g w1 w2 l (place ⟨t.val / 8, by omega⟩) (t.val % 8) (by omega) _ _ _ _
        (scratch_norm t.val t.isLt) (h1 t) (h2 t)]
      rfl) t h7 (ix2 r d)
  refine key.trans ?_
  rw [zero_add, ← out_blocks]
  refine Fin.sum_fin_congr fun s => ?_
  have hd : (8 * (t.val / 8) + s.val) / 8 = t.val / 8 := by omega
  have hm : (8 * (t.val / 8) + s.val) % 8 = s.val := by omega
  simp only [term, hd, hm]
  rfl

end Cert.MlpRows

end
-- ==== Proof.Common.Mlp.lean ====
module

public import proofs.«01_k».proof.Proof.Common.MlpRows

@[expose] public section

set_option maxRecDepth 16384

noncomputable section

namespace Cert.Mlp

open Idealize.ShloMosaic Idealize.ShloMosaic.TcCoe Idealize.SL.Sem
open Cert.MlpLastIdeal Cert.MlpLastIdeal.Gen

variable (h : FVec Ideal S4x2048x2048 .f32) (mod : FVec Ideal S4x12288 .f32) (g : FVec Ideal S4x2048 .f32)
  (w1 : FVec Ideal S4x2048x8192 .f32) (w2 : FVec Ideal S4x8192x2048 .f32) (l : Fin 4)

/-- The latents' rows: row `r` of image `b`. -/
abbrev latRow (b : Fin 4 × Fin 2048) (k : Fin 2048) : EReal := h (ix3 b.1 b.2 k)

/-- The modulation of a latent row: that of its image. -/
abbrev latMod (b : Fin 4 × Fin 2048) (k : Fin 12288) : EReal := mod (ix2 b.1 k)

/-- Layer `l`'s multilayer perceptron over the latents. -/
abbrev out (b : Fin 4) (r d : Fin 2048) : EReal := MlpRows.out (latRow h) (latMod mod) g w1 w2 l (b, r) d

/-- The latents' residual stream after layer `l`. -/
abbrev resid (b : Fin 4) (r d : Fin 2048) : EReal := MlpRows.resid (latRow h) (latMod mod) g w1 w2 l (b, r) d

/-- The image a row of a tile lies in. -/
abbrev img (q : ℕ) (hq : q < 16) (r : Fin 512) : Fin 4 := ⟨(q * 512 + r) / 2048, by omega⟩

/-- A row of a tile, counted within its image. -/
abbrev row (q : ℕ) (r : Fin 512) : Fin 2048 := ⟨(q * 512 + r) % 2048, by omega⟩

/-- The two scratches of the kernel over its grid of sixteen row tiles by eight blocks of hidden units: what the first holds
    after every point, and the second when a tile's last point has run, from what each point stores. -/
theorem scratch_run {N : ℕ} (hN : N = 128) (S0 : (n : ℕ) → n < N → FVec Ideal S512x2048 .bf16)
    (S1 : (n : ℕ) → n < N → FVec Ideal S512x2048 .f32)
    (hb : Fin N → FVec Ideal S512x2048 .f32) (gb : Fin N → FVec Ideal S1x2048 .f32) (scb shb : Fin N → FVec Ideal S1x1x2048 .f32)
    (w1b : Fin N → FVec Ideal S1x2048x1024 .bf16) (w2b : Fin N → FVec Ideal S1x1024x2048 .bf16)
    (hh : ∀ (t : Fin N) r k, hb t (ix2 r k) = h (ix3 (img (t.val / 8) (by omega) r) (row (t.val / 8) r) k))
    (hg : ∀ (t : Fin N) k, gb t (ix2 0 k) = g (ix2 l k))
    (hsc : ∀ (t : Fin N) (k : Fin 2048), scb t (ix3 0 0 k) = mod (ix2 ⟨t.val / 8 / 4, by omega⟩ ⟨8192 + k, by omega⟩))
    (hsh : ∀ (t : Fin N) (k : Fin 2048), shb t (ix3 0 0 k) = mod (ix2 ⟨t.val / 8 / 4, by omega⟩ ⟨6144 + k, by omega⟩))
    (h1 : ∀ (t : Fin N) (k : Fin 2048) (j : Fin 1024), w1b t (ix3 0 k j) = w1 (ix3 l k ⟨t.val % 8 * 1024 + j, by omega⟩))
    (h2 : ∀ (t : Fin N) (j : Fin 1024) (d : Fin 2048), w2b t (ix3 0 j d) = w2 (ix3 l ⟨t.val % 8 * 1024 + j, by omega⟩ d))
    (norm_first : ∀ t : Fin N, t.val % 8 = 0 → S0 t.val t.isLt = k0_pay1 (F := Ideal) (hb t) (gb t) (scb t) (shb t))
    (norm_later : ∀ t : Fin N, ¬t.val % 8 = 0 →
      S0 t.val t.isLt = S0 (t.val - 1) (Nat.lt_of_le_of_lt (Nat.sub_le _ _) t.isLt))
    (acc_first : ∀ t : Fin N, t.val % 8 = 0 →
      S1 t.val t.isLt = k0_pay3 (F := Ideal) (S0 t.val t.isLt) (w1b t) (k0_pay2 (F := Ideal)) (w2b t))
    (acc_later : ∀ t : Fin N, ¬t.val % 8 = 0 →
      S1 t.val t.isLt = k0_pay3 (F := Ideal) (S0 t.val t.isLt) (w1b t)
        (S1 (t.val - 1) (Nat.lt_of_le_of_lt (Nat.sub_le _ _) t.isLt)) (w2b t))
    (t : Fin N) (h7 : t.val % 8 = 7) (r : Fin 512) (d : Fin 2048) :
    S1 t.val t.isLt (ix2 r d) = out h mod g w1 w2 l (img (t.val / 8) (by omega) r) (row (t.val / 8) r) d := by
  have hi : ∀ (t : Fin N) (r : Fin 512), (⟨t.val / 8 / 4, by omega⟩ : Fin 4) = img (t.val / 8) (by omega) r :=
    fun t r => Fin.ext (by show t.val / 8 / 4 = (t.val / 8 * 512 + r) / 2048; omega)
  exact MlpRows.scratch_run (latRow h) (latMod mod) g w1 w2 l (T := 16) (by omega)
    (fun q r => (img q.val q.isLt r, row q.val r)) S0 S1 hb gb scb shb w1b w2b hh hg
    (fun t r k => by rw [hsc t k, hi t r]) (fun t r k => by rw [hsh t k, hi t r]) h1 h2
    norm_first norm_later acc_first acc_later t h7 r d

end Cert.Mlp

end
-- ==== Proof.MlpLast.Blocks.lean ====
module

public import proofs.«01_k».proof.Proof.Gen.MlpLastIdeal.Value
public import Idealize.ShloMosaic.Lib.Pipeline.ValueKit
public import proofs.«01_k».proof.Proof.Common.Rows
public import proofs.«01_k».proof.Proof.Common.Mlp

@[expose] public section

set_option maxRecDepth 16384

noncomputable section

namespace Cert.MlpLastValue

open Idealize.ShloMosaic Idealize.ShloMosaic.TcCoe Idealize.SL.Sem
open Idealize.ShloMosaic.Pipeline (Dat)
open Cert.MlpLastIdeal Cert.MlpLastIdeal.Gen

variable (m : (ℓ : Loc nD τ sig) → Buf (Elt Ideal) ℓ)

/-- The residual stream. -/
abbrev H (c : Dev nD) : FVec Ideal S4x2048x2048 .f32 := m ((c : Thread nD τ).loc main_arg0)
/-- The modulation table. -/
abbrev MOD (c : Dev nD) : FVec Ideal S4x12288 .f32 := m ((c : Thread nD τ).loc main_arg1)
/-- The norm's gains. -/
abbrev G (c : Dev nD) : FVec Ideal S4x2048 .f32 := m ((c : Thread nD τ).loc main_arg2)
/-- The first weights. -/
abbrev W1 (c : Dev nD) : FVec Ideal S4x2048x8192 .f32 := m ((c : Thread nD τ).loc main_arg3)
/-- The second weights. -/
abbrev W2 (c : Dev nD) : FVec Ideal S4x8192x2048 .f32 := m ((c : Thread nD τ).loc main_arg4)
/-- The final norm's gain. -/
abbrev FG (c : Dev nD) : FVec Ideal S2048 .f32 := m ((c : Thread nD τ).loc main_arg5)

/-- Where each window's block sits in its array: the row tile is the quotient by eight, the block of hidden units the remainder. -/
theorem idx_val : ∀ t : Fin cfg0.N, win0_0.index t = ![t.val / 8, 0] ∧ win0_1.index t = ![0, 0]
    ∧ win0_2.index t = ![t.val / 8 / 4, 0, 3] ∧ win0_3.index t = ![t.val / 8 / 4, 0, 4] ∧ win0_4.index t = ![t.val / 8 / 4, 0, 5]
    ∧ win0_5.index t = ![3, 0, t.val % 8] ∧ win0_6.index t = ![3, t.val % 8, 0]
    ∧ win0_7.index t = ![0, 0] ∧ win0_8.index t = ![t.val / 8, 0] :=
  (by decide +kernel : ∀ t : Fin grid0.N, _)

/-- There are sixteen row tiles. -/
theorem tile_lt (t : Fin cfg0.N) : t.val / 8 < 16 := by
  have hN := lt_of_lt_of_eq t.isLt (show cfg0.N = 128 from N_0)
  omega

/-- The residual stream as the kernel reads it. -/
theorem V_h (c : Dev nD) : @Eq (FVec Ideal S8192x2048 .f32) (V m c main_v2)
    (shapeCast S8192x2048 (H m c) shapeCasts_S4x2048x2048_S8192x2048) := by
  entry_read; rfl

/-- The norm's gain as the kernel reads it: this layer's row. -/
theorem V_g (c : Dev nD) : @Eq (FVec Ideal S1x2048 .f32) (V m c main_v8)
    (shapeCast S1x2048 (shapeCast S2048 (extractStridedSlice S1x2048 ![3, 0] (G m c) slices_S4x2048_S1x2048_3_0)
      shapeCasts_S1x2048_S2048) shapeCasts_S2048_S1x2048) := by
  entry_read; rfl

/-- The modulation table as the kernel reads it. -/
theorem V_mod (c : Dev nD) : @Eq (FVec Ideal S8x1x12288 .f32) (V m c main_v7)
    (shapeCast S8x1x12288 (concatenate S8x12288 0 [⟨S4x12288, MOD m c⟩,
       ⟨S4x12288, broadcastInDim S4x12288 ![] bcast_S_S4x12288 (constant (F := Ideal) S_ .f32 0x00000000#32)⟩]
      concatenates_S4x12288_S4x12288_S8x12288_d0) shapeCasts_S8x12288_S8x1x12288) := by
  entry_read; rfl

/-- The first weights as the kernel reads them. -/
theorem V_w1 (c : Dev nD) : @Eq (FVec Ideal S4x2048x8192 .bf16) (V m c main_v0) (truncf .bf16 (W1 m c) bitsLt_bf16_f32) := by
  entry_read; rfl

/-- The second weights as the kernel reads them. -/
theorem V_w2 (c : Dev nD) : @Eq (FVec Ideal S4x8192x2048 .bf16) (V m c main_v1) (truncf .bf16 (W2 m c) bitsLt_bf16_f32) := by
  entry_read; rfl

/-- The final norm's gain as the kernel reads it. -/
theorem V_fg (c : Dev nD) : @Eq (FVec Ideal S1x2048 .f32) (V m c main_v9)
    (shapeCast S1x2048 (FG m c) shapeCasts_S2048_S1x2048) := by
  entry_read; rfl

/-- A block of the residual stream. -/
theorem blk_h (c : Dev nD) (t : Fin cfg0.N) (r : Fin 512) (k : Fin 2048) :
    (iblk m c 0 t : FVec Ideal S512x2048 .f32) (ix2 r k)
      = H m c (ix3 (Cert.Mlp.img (t.val / 8) (tile_lt t) r) (Cert.Mlp.row (t.val / 8) r) k) := by
  have e := (idx_val t).1
  blk_simp [iblk]
  rw [V_h, Cert.Rows.rows_at]
  blk_ext [e]

/-- The block of the norm's gain. -/
theorem blk_g (c : Dev nD) (t : Fin cfg0.N) (k : Fin 2048) :
    (iblk m c 1 t : FVec Ideal S1x2048 .f32) (ix2 0 k) = G m c (ix2 3 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix2 ⟨t.val / 8 / 4, by have := tile_lt t; omega⟩ ⟨6144 + k, by omega⟩) := by
  have e := (idx_val t).2.2.1
  blk_simp [iblk]
  rw [V_mod]
  refine Cert.Rows.mod_at _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix2 ⟨t.val / 8 / 4, by have := tile_lt t; omega⟩ ⟨8192 + k, by omega⟩) := by
  have e := (idx_val t).2.2.2.1
  blk_simp [iblk]
  rw [V_mod]
  refine Cert.Rows.mod_at _ _ _ _ _ _ ?_ ?_
  · blk_simp [e] <;> rfl
  · blk_simp [e] <;> rfl

/-- The block of the modulation table that is the gate. -/
theorem blk_gate (c : Dev nD) (t : Fin cfg0.N) (k : Fin 2048) :
    (iblk m c 4 t : FVec Ideal S1x1x2048 .f32) (ix3 0 0 k)
      = MOD m c (ix2 ⟨t.val / 8 / 4, by have := tile_lt t; omega⟩ ⟨10240 + k, by omega⟩) := by
  have e := (idx_val t).2.2.2.2.1
  blk_simp [iblk]
  rw [V_mod]
  refine Cert.Rows.mod_at _ _ _ _ _ _ ?_ ?_
  · blk_simp [e] <;> rfl
  · blk_simp [e] <;> rfl

/-- A block of the first weights. -/
theorem blk_w1 (c : Dev nD) (t : Fin cfg0.N) (k : Fin 2048) (j : Fin 1024) :
    (iblk m c 5 t : FVec Ideal S1x2048x1024 .bf16) (ix3 0 k j)
      = W1 m c (ix3 3 k ⟨t.val % 8 * 1024 + j, by omega⟩) := by
  have e := (idx_val t).2.2.2.2.2.1
  blk_simp [iblk]
  rw [V_w1]
  show W1 m c _ = _
  blk_ext [e]

/-- A block of the second weights. -/
theorem blk_w2 (c : Dev nD) (t : Fin cfg0.N) (j : Fin 1024) (d : Fin 2048) :
    (iblk m c 6 t : FVec Ideal S1x1024x2048 .bf16) (ix3 0 j d)
      = W2 m c (ix3 3 ⟨t.val % 8 * 1024 + j, by omega⟩ d) := by
  have e := (idx_val t).2.2.2.2.2.2.1
  blk_simp [iblk]
  rw [V_w2]
  show W2 m c _ = _
  blk_ext [e]

/-- The block of the final norm's gain. -/
theorem blk_fg (c : Dev nD) (t : Fin cfg0.N) (k : Fin 2048) :
    (iblk m c 7 t : FVec Ideal S1x2048 .f32) (ix2 0 k) = FG m c (ix1 k) := by
  have e := (idx_val t).2.2.2.2.2.2.2.1
  blk_simp [iblk]
  rw [V_fg]
  pointwise
  blk_ext [e]

end Cert.MlpLastValue

end
-- ==== Proof.MlpLast.Value.lean ====
module

public import proofs.«01_k».proof.Proof.MlpLast.Steps
public import proofs.«01_k».proof.Proof.MlpLast.Blocks
public import proofs.«01_k».proof.Proof.Gen.MlpLastRefIdeal.Read

@[expose] public section

set_option maxRecDepth 16384

noncomputable section

namespace Cert.MlpLastValue

open Idealize.ShloMosaic Idealize.ShloMosaic.TcCoe Idealize.SL.Sem
open Idealize.ShloMosaic.Pipeline (Dat)
open Cert.MlpLastIdeal Cert.MlpLastIdeal.Gen

variable (m : (ℓ : Loc nD τ sig) → Buf (Elt Ideal) ℓ)

/-- The accumulator when the last point of a row tile has run: the multilayer perceptron of the tile's rows. -/
theorem acc_done (c : Dev nD) (t : Fin cfg0.N) (h1 : t.val % 8 = 7) (r : Fin 512) (d : Fin 2048) :
    (outsAt0 m c t.val t.isLt).2.2 (ix2 r d) = Cert.Mlp.out (H m c) (MOD m c) (G m c) (W1 m c) (W2 m c) 3
      (Cert.Mlp.img (t.val / 8) (tile_lt t) r) (Cert.Mlp.row (t.val / 8) r) d :=
  Cert.Mlp.scratch_run (H m c) (MOD m c) (G m c) (W1 m c) (W2 m c) 3 N_0
    (fun n h => (outsAt0 m c n h).2.1) (fun n h => (outsAt0 m c n h).2.2)
    (iblk m c 0) (iblk m c 1) (iblk m c 3) (iblk m c 2) (iblk m c 5) (iblk m c 6)
    (blk_h m c) (blk_g m c) (blk_scale m c) (blk_shift m c) (blk_w1 m c) (blk_w2 m c)
    (norm_first m c) (norm_later m c)
    (fun t h0 => by rw [norm_first m c t h0]; exact acc_first m c t h0)
    (fun t h0 => by rw [norm_later m c t h0]; exact acc_later m c t h0) t h1 r d

/-- The reference's residual stream after the layer is the layer's formula. -/
theorem ref_resid (c : Dev nD) (b : Fin 4) (r d : Fin 2048) :
    Cert.MlpLastRefIdeal.Read.val_main_v43 (F := Ideal) (H m c) (MOD m c) (G m c) (W1 m c) (W2 m c) (ix3 b r d)
      = Cert.Mlp.resid (H m c) (MOD m c) (G m c) (W1 m c) (W2 m c) 3 b r d := by
  pointwise [Cert.MlpLastRefIdeal.Read.val_main_v0, Cert.MlpLastRefIdeal.Read.val_main_v1, Cert.MlpLastRefIdeal.Read.val_main_v2, Cert.MlpLastRefIdeal.Read.val_main_v3,
    Cert.MlpLastRefIdeal.Read.val_main_v4, Cert.MlpLastRefIdeal.Read.val_main_v5, Cert.MlpLastRefIdeal.Read.val_main_v6, Cert.MlpLastRefIdeal.Read.val_main_v7,
    Cert.MlpLastRefIdeal.Read.val_main_v8, Cert.MlpLastRefIdeal.Read.val_main_v9, Cert.MlpLastRefIdeal.Read.val_main_v10, Cert.MlpLastRefIdeal.Read.val_main_v11,
    Cert.MlpLastRefIdeal.Read.val_main_v12, Cert.MlpLastRefIdeal.Read.val_main_v13, Cert.MlpLastRefIdeal.Read.val_main_v14, Cert.MlpLastRefIdeal.Read.val_main_v15,
    Cert.MlpLastRefIdeal.Read.val_main_v16, Cert.MlpLastRefIdeal.Read.val_main_v17, Cert.MlpLastRefIdeal.Read.val_main_v18, Cert.MlpLastRefIdeal.Read.val_main_v19,
    Cert.MlpLastRefIdeal.Read.val_main_v20, Cert.MlpLastRefIdeal.Read.val_main_v21, Cert.MlpLastRefIdeal.Read.val_main_v22, Cert.MlpLastRefIdeal.Read.val_main_v23,
    Cert.MlpLastRefIdeal.Read.val_main_v24, Cert.MlpLastRefIdeal.Read.val_main_v25, Cert.MlpLastRefIdeal.Read.val_main_v26, Cert.MlpLastRefIdeal.Read.val_main_v27,
    Cert.MlpLastRefIdeal.Read.val_main_v28, Cert.MlpLastRefIdeal.Read.val_main_v29, Cert.MlpLastRefIdeal.Read.val_main_v30, Cert.MlpLastRefIdeal.Read.val_main_v31,
    Cert.MlpLastRefIdeal.Read.val_main_v32, Cert.MlpLastRefIdeal.Read.val_main_v33, Cert.MlpLastRefIdeal.Read.val_main_v34, Cert.MlpLastRefIdeal.Read.val_main_v35,
    Cert.MlpLastRefIdeal.Read.val_main_v36, Cert.MlpLastRefIdeal.Read.val_main_v37, Cert.MlpLastRefIdeal.Read.val_main_v38, Cert.MlpLastRefIdeal.Read.val_main_v39,
    Cert.MlpLastRefIdeal.Read.val_main_v40, Cert.MlpLastRefIdeal.Read.val_main_v41, Cert.MlpLastRefIdeal.Read.val_main_v42, Cert.MlpLastRefIdeal.Read.val_main_v43,
    Cert.MlpLastRefIdeal.Read.val_main_cst, Cert.MlpLastRefIdeal.Read.val_main_cst_0, Cert.MlpLastRefIdeal.Read.val_main_cst_1, Cert.MlpLastRefIdeal.Read.val_main_cst_2,
    Cert.MlpLastRefIdeal.Read.val_main_call0_v0, Cert.MlpLastRefIdeal.Read.val_main_call0_cst]
  rfl

/-- The reference's array over the kernel's own arguments. -/
abbrev REF (c : Dev nD) : FVec Ideal S8192x2048 .f32 :=
  Cert.MlpLastRefIdeal.Read.val_main_v57 (F := Ideal) (H m c) (MOD m c) (G m c) (W1 m c) (W2 m c) (FG m c)

/-- One row tile of the output is the reference's array where the tile sits. -/
theorem point (c : Dev nD) (t : Fin cfg0.N) (h1 : t.val % 8 = 7) (r : Fin 512) (d : Fin 2048) :
    (outsAt0 m c t.val t.isLt).1 (ix2 r d)
      = REF m c (ix2 ⟨t.val / 8 * 512 + r, by have := tile_lt t; omega⟩ d) := by
  have hi : (⟨t.val / 8 / 4, by have := tile_lt t; omega⟩ : Fin 4) = Cert.Mlp.img (t.val / 8) (tile_lt t) r :=
    Fin.ext (by show t.val / 8 / 4 = (t.val / 8 * 512 + r) / 2048; omega)
  rw [out_last m c t h1]
  pointwise [k0_pay4]
  simp only [blk_h, blk_gate, blk_fg, acc_done m c t h1, hi]
  pointwise [REF, Cert.MlpLastRefIdeal.Read.val_main_v57, Cert.MlpLastRefIdeal.Read.val_main_v56, Cert.MlpLastRefIdeal.Read.val_main_v55,
    Cert.MlpLastRefIdeal.Read.val_main_v54, Cert.MlpLastRefIdeal.Read.val_main_v53, Cert.MlpLastRefIdeal.Read.val_main_v52,
    Cert.MlpLastRefIdeal.Read.val_main_v51, Cert.MlpLastRefIdeal.Read.val_main_v50, Cert.MlpLastRefIdeal.Read.val_main_v49,
    Cert.MlpLastRefIdeal.Read.val_main_v48, Cert.MlpLastRefIdeal.Read.val_main_v47, Cert.MlpLastRefIdeal.Read.val_main_v46,
    Cert.MlpLastRefIdeal.Read.val_main_v45, Cert.MlpLastRefIdeal.Read.val_main_v44, Cert.MlpLastRefIdeal.Read.val_main_cst_3,
    Cert.MlpLastRefIdeal.Read.val_main_cst_4, Cert.MlpLastRefIdeal.Read.val_main_cst_5]
  simp only [ref_resid]
  rfl

/-- The kernel's result array after the run is the reference's array over the same arguments. -/
theorem final (c : Dev nD) : (dats m 0 c).arrAt 8 cfg0.N = REF m c := by
  refine (dats m 0 c).arrAt_eq_of_covers 8 _ (by decide +kernel) fun t hf y => ?_
  have h1 : t.val % 8 = 7 := by
    exact (flush0_8 t).mp hf
  obtain ⟨r, d, rfl⟩ : ∃ r d, y = ix2 r d := ⟨y 0, y 1, eq_ix2 y⟩
  have e := (idx_val t).2.2.2.2.2.2.2.2
  blk_simp
  rw [after0_8]
  refine (point m c t h1 r d).trans (congrArg (REF m c) ?_)
  blk_ext [e]

end Cert.MlpLastValue

end
-- ==== Proof.MlpLast.Claims.lean ====
module

public import proofs.«01_k».proof.Defs
public import proofs.«01_k».proof.Proof.Gen.MlpLast
public import proofs.«01_k».proof.Proof.Gen.MlpLast.Frame
public import proofs.«01_k».proof.Proof.Gen.MlpLastIdeal.Frame
public import proofs.«01_k».proof.Proof.Gen.MlpLastRefIdeal.Run
public import proofs.«01_k».proof.Proof.Gen.MlpLastRefIdeal.Read
public import proofs.«01_k».proof.Proof.MlpLast.Value

@[expose] public section

set_option maxRecDepth 16384

noncomputable section

namespace Cert.MlpLastValue

open Idealize.ShloMosaic Idealize.ShloMosaic.TcCoe Idealize.SL.Sem

/-- The program runs, leaves its arguments alone and ends quiet. -/
theorem frame : Cert.quiescent_MlpLast := fun m ρ _ => Cert.MlpLast.Gen.frame m ρ

/-- So does the idealized program. -/
theorem frame_ideal : Cert.quiescent_MlpLastIdeal := fun m ρ _ => Cert.MlpLastIdeal.Gen.frame m ρ

/-- So does the reference. -/
theorem frame_ref : Cert.quiescent_MlpLastRefIdeal := fun m ρ _ =>
  (θ_run Cert.MlpLastRefIdeal.defs _ _).mono (fun r h => ⟨fun c => (h c).2, sem_eq_zero_of_no_sems (by decide) r.2⟩)
    (Cert.MlpLastRefIdeal.Value.run m ρ)

/-- Idealizing uses no named constant here. -/
theorem preserves : Cert.preserves_MlpLast_MlpLastIdeal := trivial

/-- The idealized program and the reference end with the same array. -/
theorem algebraic : Cert.algebraic_MlpLastIdeal_MlpLastRefIdeal := by
  pair_intro
  · run_from Cert.MlpLastIdeal.Gen.run_main m g
  · run_from Cert.MlpLastRefIdeal.Value.run m' g'
    obtain ⟨h0, h1, h2, h3, h4, h5⟩ := hagree c
    rw [Cert.MlpLastRefIdeal.Read.val_main_v57_eq, h0, h1, h2, h3, h4, h5]
    exact (final m c).symm

end Cert.MlpLastValue

end
-- ==== Proof.MlpFirst.Steps.lean ====
module

public import proofs.«01_k».proof.Proof.Gen.MlpFirstIdeal.Value
public import Idealize.ShloMosaic.Lib.Pipeline.ValueKit
public import Idealize.ShloMosaic.Lib.Pipeline.ReadBack

@[expose] public section

set_option maxRecDepth 16384

noncomputable section

namespace Cert.MlpFirstValue

open Idealize.ShloMosaic Idealize.ShloMosaic.TcCoe Idealize.SL.Sem
open Idealize.ShloMosaic.Pipeline (Dat)
open Cert.MlpFirstIdeal Cert.MlpFirstIdeal.Gen

variable (m : (ℓ : Loc nD τ sig) → Buf (Elt Ideal) ℓ)

/-- The first point of a row tile leaves the normalised, modulated rows in the first scratch. -/
theorem norm_first (c : Dev nD) (t : Fin cfg0.N) (h0 : t.val % 8 = 0) :
    (outsAt0 m c t.val t.isLt).2.1 = k0_pay1 (F := Ideal) (iblk m c 0 t) (iblk m c 1 t) (iblk m c 3 t) (iblk m c 2 t) := by
  rw [outsAt0_A m c t h0 (by omega)]
  frame_out

/-- The first point of a row tile starts the accumulator from zero. -/
theorem acc_first (c : Dev nD) (t : Fin cfg0.N) (h0 : t.val % 8 = 0) :
    (outsAt0 m c t.val t.isLt).2.2 = k0_pay3 (F := Ideal)
      (k0_pay1 (F := Ideal) (iblk m c 0 t) (iblk m c 1 t) (iblk m c 3 t) (iblk m c 2 t)) (iblk m c 5 t) (k0_pay2 (F := Ideal)) (iblk m c 6 t) := by
  rw [outsAt0_A m c t h0 (by omega)]
  frame_out

/-- A later point keeps the normalised rows. -/
theorem norm_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]
    rfl
  · rw [outsAt0_B m c t h0 h1]
    rfl

/-- A later point adds its block of hidden units onto the accumulator. -/
theorem acc_later (c : Dev nD) (t : Fin cfg0.N) (h0 : ¬t.val % 8 = 0) :
    (outsAt0 m c t.val t.isLt).2.2 = k0_pay3 (F := Ideal)
      (outsAt0 m c (t.val - 1) (Nat.lt_of_le_of_lt (Nat.sub_le _ _) t.isLt)).2.1 (iblk m c 5 t)
      (outsAt0 m c (t.val - 1) (Nat.lt_of_le_of_lt (Nat.sub_le _ _) t.isLt)).2.2 (iblk m c 6 t) := by
  by_cases h1 : t.val % 8 = 7
  · rw [outsAt0_C m c t h0 h1]
    frame_out
    simp only [read_unread_whole]
  · rw [outsAt0_B m c t h0 h1]
    frame_out
    simp only [read_unread_whole]

/-- The last point of a row tile writes the output block from the finished accumulator. -/
theorem out_last (c : Dev nD) (t : Fin cfg0.N) (h1 : t.val % 8 = 7) :
    (outsAt0 m c t.val t.isLt).1 = k0_pay4 (F := Ideal) (iblk m c 0 t) (iblk m c 4 t)
      (outsAt0 m c t.val t.isLt).2.2 := by
  rw [acc_later m c t (by omega), outsAt0_C m c t (by omega) h1]
  frame_out
  simp only [read_unread_whole]

end Cert.MlpFirstValue

end
-- ==== Proof.MlpFirst.Blocks.lean ====
module

public import proofs.«01_k».proof.Proof.Gen.MlpFirstIdeal.Value
public import Idealize.ShloMosaic.Lib.Pipeline.ValueKit
public import proofs.«01_k».proof.Proof.Common.Rows
public import proofs.«01_k».proof.Proof.Common.Mlp

@[expose] public section

set_option maxRecDepth 16384

noncomputable section

namespace Cert.MlpFirstValue

open Idealize.ShloMosaic Idealize.ShloMosaic.TcCoe Idealize.SL.Sem
open Idealize.ShloMosaic.Pipeline (Dat)
open Cert.MlpFirstIdeal Cert.MlpFirstIdeal.Gen

variable (m : (ℓ : Loc nD τ sig) → Buf (Elt Ideal) ℓ)

/-- The residual stream. -/
abbrev H (c : Dev nD) : FVec Ideal S4x2048x2048 .f32 := m ((c : Thread nD τ).loc main_arg0)
/-- The modulation table. -/
abbrev MOD (c : Dev nD) : FVec Ideal S4x12288 .f32 := m ((c : Thread nD τ).loc main_arg1)
/-- The norm's gains. -/
abbrev G (c : Dev nD) : FVec Ideal S4x2048 .f32 := m ((c : Thread nD τ).loc main_arg2)
/-- The first weights. -/
abbrev W1 (c : Dev nD) : FVec Ideal S4x2048x8192 .f32 := m ((c : Thread nD τ).loc main_arg3)
/-- The second weights. -/
abbrev W2 (c : Dev nD) : FVec Ideal S4x8192x2048 .f32 := m ((c : Thread nD τ).loc main_arg4)

/-- Where each window's block sits in its array: the row tile is the quotient by eight, the block of hidden units the remainder. -/
theorem idx_val : ∀ t : Fin cfg0.N, win0_0.index t = ![t.val / 8, 0] ∧ win0_1.index t = ![0, 0]
    ∧ win0_2.index t = ![t.val / 8 / 4, 0, 3] ∧ win0_3.index t = ![t.val / 8 / 4, 0, 4] ∧ win0_4.index t = ![t.val / 8 / 4, 0, 5]
    ∧ win0_5.index t = ![0, 0, t.val % 8] ∧ win0_6.index t = ![0, t.val % 8, 0]
    ∧ win0_7.index t = ![t.val / 8, 0] :=
  (by decide +kernel : ∀ t : Fin grid0.N, _)

/-- There are sixteen row tiles. -/
theorem tile_lt (t : Fin cfg0.N) : t.val / 8 < 16 := by
  have hN := lt_of_lt_of_eq t.isLt (show cfg0.N = 128 from N_0)
  omega

/-- The residual stream as the kernel reads it. -/
theorem V_h (c : Dev nD) : @Eq (FVec Ideal S8192x2048 .f32) (V m c main_v2)
    (shapeCast S8192x2048 (H m c) shapeCasts_S4x2048x2048_S8192x2048) := by
  entry_read; rfl

/-- The norm's gain as the kernel reads it: this layer's row. -/
theorem V_g (c : Dev nD) : @Eq (FVec Ideal S1x2048 .f32) (V m c main_v8)
    (shapeCast S1x2048 (shapeCast S2048 (extractStridedSlice S1x2048 ![0, 0] (G m c) slices_S4x2048_S1x2048_0_0)
      shapeCasts_S1x2048_S2048) shapeCasts_S2048_S1x2048) := by
  entry_read; rfl

/-- The modulation table as the kernel reads it. -/
theorem V_mod (c : Dev nD) : @Eq (FVec Ideal S8x1x12288 .f32) (V m c main_v7)
    (shapeCast S8x1x12288 (concatenate S8x12288 0 [⟨S4x12288, MOD m c⟩,
       ⟨S4x12288, broadcastInDim S4x12288 ![] bcast_S_S4x12288 (constant (F := Ideal) S_ .f32 0x00000000#32)⟩]
      concatenates_S4x12288_S4x12288_S8x12288_d0) shapeCasts_S8x12288_S8x1x12288) := by
  entry_read; rfl

/-- The first weights as the kernel reads them. -/
theorem V_w1 (c : Dev nD) : @Eq (FVec Ideal S4x2048x8192 .bf16) (V m c main_v0) (truncf .bf16 (W1 m c) bitsLt_bf16_f32) := by
  entry_read; rfl

/-- The second weights as the kernel reads them. -/
theorem V_w2 (c : Dev nD) : @Eq (FVec Ideal S4x8192x2048 .bf16) (V m c main_v1) (truncf .bf16 (W2 m c) bitsLt_bf16_f32) := by
  entry_read; rfl

/-- A block of the residual stream. -/
theorem blk_h (c : Dev nD) (t : Fin cfg0.N) (r : Fin 512) (k : Fin 2048) :
    (iblk m c 0 t : FVec Ideal S512x2048 .f32) (ix2 r k)
      = H m c (ix3 (Cert.Mlp.img (t.val / 8) (tile_lt t) r) (Cert.Mlp.row (t.val / 8) r) k) := by
  have e := (idx_val t).1
  blk_simp [iblk]
  rw [V_h, Cert.Rows.rows_at]
  blk_ext [e]

/-- The block of the norm's gain. -/
theorem blk_g (c : Dev nD) (t : Fin cfg0.N) (k : Fin 2048) :
    (iblk m c 1 t : FVec Ideal S1x2048 .f32) (ix2 0 k) = G m c (ix2 0 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix2 ⟨t.val / 8 / 4, by have := tile_lt t; omega⟩ ⟨6144 + k, by omega⟩) := by
  have e := (idx_val t).2.2.1
  blk_simp [iblk]
  rw [V_mod]
  refine Cert.Rows.mod_at _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix2 ⟨t.val / 8 / 4, by have := tile_lt t; omega⟩ ⟨8192 + k, by omega⟩) := by
  have e := (idx_val t).2.2.2.1
  blk_simp [iblk]
  rw [V_mod]
  refine Cert.Rows.mod_at _ _ _ _ _ _ ?_ ?_
  · blk_simp [e] <;> rfl
  · blk_simp [e] <;> rfl

/-- The block of the modulation table that is the gate. -/
theorem blk_gate (c : Dev nD) (t : Fin cfg0.N) (k : Fin 2048) :
    (iblk m c 4 t : FVec Ideal S1x1x2048 .f32) (ix3 0 0 k)
      = MOD m c (ix2 ⟨t.val / 8 / 4, by have := tile_lt t; omega⟩ ⟨10240 + k, by omega⟩) := by
  have e := (idx_val t).2.2.2.2.1
  blk_simp [iblk]
  rw [V_mod]
  refine Cert.Rows.mod_at _ _ _ _ _ _ ?_ ?_
  · blk_simp [e] <;> rfl
  · blk_simp [e] <;> rfl

/-- A block of the first weights. -/
theorem blk_w1 (c : Dev nD) (t : Fin cfg0.N) (k : Fin 2048) (j : Fin 1024) :
    (iblk m c 5 t : FVec Ideal S1x2048x1024 .bf16) (ix3 0 k j)
      = W1 m c (ix3 0 k ⟨t.val % 8 * 1024 + j, by omega⟩) := by
  have e := (idx_val t).2.2.2.2.2.1
  blk_simp [iblk]
  rw [V_w1]
  show W1 m c _ = _
  blk_ext [e]

/-- A block of the second weights. -/
theorem blk_w2 (c : Dev nD) (t : Fin cfg0.N) (j : Fin 1024) (d : Fin 2048) :
    (iblk m c 6 t : FVec Ideal S1x1024x2048 .bf16) (ix3 0 j d)
      = W2 m c (ix3 0 ⟨t.val % 8 * 1024 + j, by omega⟩ d) := by
  have e := (idx_val t).2.2.2.2.2.2.1
  blk_simp [iblk]
  rw [V_w2]
  show W2 m c _ = _
  blk_ext [e]

end Cert.MlpFirstValue

end
-- ==== Proof.MlpFirst.Value.lean ====
module

public import proofs.«01_k».proof.Proof.MlpFirst.Steps
public import proofs.«01_k».proof.Proof.MlpFirst.Blocks
public import proofs.«01_k».proof.Proof.Gen.MlpFirstRefIdeal.Read

@[expose] public section

set_option maxRecDepth 16384

noncomputable section

namespace Cert.MlpFirstValue

open Idealize.ShloMosaic Idealize.ShloMosaic.TcCoe Idealize.SL.Sem
open Idealize.ShloMosaic.Pipeline (Dat)
open Cert.MlpFirstIdeal Cert.MlpFirstIdeal.Gen

variable (m : (ℓ : Loc nD τ sig) → Buf (Elt Ideal) ℓ)

/-- The accumulator when the last point of a row tile has run: the multilayer perceptron of the tile's rows. -/
theorem acc_done (c : Dev nD) (t : Fin cfg0.N) (h1 : t.val % 8 = 7) (r : Fin 512) (d : Fin 2048) :
    (outsAt0 m c t.val t.isLt).2.2 (ix2 r d) = Cert.Mlp.out (H m c) (MOD m c) (G m c) (W1 m c) (W2 m c) 0
      (Cert.Mlp.img (t.val / 8) (tile_lt t) r) (Cert.Mlp.row (t.val / 8) r) d :=
  Cert.Mlp.scratch_run (H m c) (MOD m c) (G m c) (W1 m c) (W2 m c) 0 N_0
    (fun n h => (outsAt0 m c n h).2.1) (fun n h => (outsAt0 m c n h).2.2)
    (iblk m c 0) (iblk m c 1) (iblk m c 3) (iblk m c 2) (iblk m c 5) (iblk m c 6)
    (blk_h m c) (blk_g m c) (blk_scale m c) (blk_shift m c) (blk_w1 m c) (blk_w2 m c)
    (norm_first m c) (norm_later m c)
    (fun t h0 => by rw [norm_first m c t h0]; exact acc_first m c t h0)
    (fun t h0 => by rw [norm_later m c t h0]; exact acc_later m c t h0) t h1 r d

/-- The reference's residual stream after the layer is the layer's formula. -/
theorem ref_resid (c : Dev nD) (b : Fin 4) (r d : Fin 2048) :
    Cert.MlpFirstRefIdeal.Read.val_main_v43 (F := Ideal) (H m c) (MOD m c) (G m c) (W1 m c) (W2 m c) (ix3 b r d)
      = Cert.Mlp.resid (H m c) (MOD m c) (G m c) (W1 m c) (W2 m c) 0 b r d := by
  pointwise [Cert.MlpFirstRefIdeal.Read.val_main_v0, Cert.MlpFirstRefIdeal.Read.val_main_v1, Cert.MlpFirstRefIdeal.Read.val_main_v2, Cert.MlpFirstRefIdeal.Read.val_main_v3,
    Cert.MlpFirstRefIdeal.Read.val_main_v4, Cert.MlpFirstRefIdeal.Read.val_main_v5, Cert.MlpFirstRefIdeal.Read.val_main_v6, Cert.MlpFirstRefIdeal.Read.val_main_v7,
    Cert.MlpFirstRefIdeal.Read.val_main_v8, Cert.MlpFirstRefIdeal.Read.val_main_v9, Cert.MlpFirstRefIdeal.Read.val_main_v10, Cert.MlpFirstRefIdeal.Read.val_main_v11,
    Cert.MlpFirstRefIdeal.Read.val_main_v12, Cert.MlpFirstRefIdeal.Read.val_main_v13, Cert.MlpFirstRefIdeal.Read.val_main_v14, Cert.MlpFirstRefIdeal.Read.val_main_v15,
    Cert.MlpFirstRefIdeal.Read.val_main_v16, Cert.MlpFirstRefIdeal.Read.val_main_v17, Cert.MlpFirstRefIdeal.Read.val_main_v18, Cert.MlpFirstRefIdeal.Read.val_main_v19,
    Cert.MlpFirstRefIdeal.Read.val_main_v20, Cert.MlpFirstRefIdeal.Read.val_main_v21, Cert.MlpFirstRefIdeal.Read.val_main_v22, Cert.MlpFirstRefIdeal.Read.val_main_v23,
    Cert.MlpFirstRefIdeal.Read.val_main_v24, Cert.MlpFirstRefIdeal.Read.val_main_v25, Cert.MlpFirstRefIdeal.Read.val_main_v26, Cert.MlpFirstRefIdeal.Read.val_main_v27,
    Cert.MlpFirstRefIdeal.Read.val_main_v28, Cert.MlpFirstRefIdeal.Read.val_main_v29, Cert.MlpFirstRefIdeal.Read.val_main_v30, Cert.MlpFirstRefIdeal.Read.val_main_v31,
    Cert.MlpFirstRefIdeal.Read.val_main_v32, Cert.MlpFirstRefIdeal.Read.val_main_v33, Cert.MlpFirstRefIdeal.Read.val_main_v34, Cert.MlpFirstRefIdeal.Read.val_main_v35,
    Cert.MlpFirstRefIdeal.Read.val_main_v36, Cert.MlpFirstRefIdeal.Read.val_main_v37, Cert.MlpFirstRefIdeal.Read.val_main_v38, Cert.MlpFirstRefIdeal.Read.val_main_v39,
    Cert.MlpFirstRefIdeal.Read.val_main_v40, Cert.MlpFirstRefIdeal.Read.val_main_v41, Cert.MlpFirstRefIdeal.Read.val_main_v42, Cert.MlpFirstRefIdeal.Read.val_main_v43,
    Cert.MlpFirstRefIdeal.Read.val_main_cst, Cert.MlpFirstRefIdeal.Read.val_main_cst_0, Cert.MlpFirstRefIdeal.Read.val_main_cst_1, Cert.MlpFirstRefIdeal.Read.val_main_cst_2,
    Cert.MlpFirstRefIdeal.Read.val_main_call0_v0, Cert.MlpFirstRefIdeal.Read.val_main_call0_cst]
  rfl

/-- The reference's array over the kernel's own arguments. -/
abbrev REF (c : Dev nD) : FVec Ideal S8192x2048 .f32 :=
  Cert.MlpFirstRefIdeal.Read.val_main_v44 (F := Ideal) (H m c) (MOD m c) (G m c) (W1 m c) (W2 m c)

/-- One row tile of the output is the reference's array where the tile sits. -/
theorem point (c : Dev nD) (t : Fin cfg0.N) (h1 : t.val % 8 = 7) (r : Fin 512) (d : Fin 2048) :
    (outsAt0 m c t.val t.isLt).1 (ix2 r d)
      = REF m c (ix2 ⟨t.val / 8 * 512 + r, by have := tile_lt t; omega⟩ d) := by
  have hi : (⟨t.val / 8 / 4, by have := tile_lt t; omega⟩ : Fin 4) = Cert.Mlp.img (t.val / 8) (tile_lt t) r :=
    Fin.ext (by show t.val / 8 / 4 = (t.val / 8 * 512 + r) / 2048; omega)
  rw [out_last m c t h1]
  pointwise [k0_pay4]
  simp only [blk_h, blk_gate, acc_done m c t h1, hi]
  pointwise [REF, Cert.MlpFirstRefIdeal.Read.val_main_v44]
  simp only [ref_resid]
  rfl

/-- The kernel's result array after the run is the reference's array over the same arguments. -/
theorem final (c : Dev nD) : (dats m 0 c).arrAt 7 cfg0.N = REF m c := by
  refine (dats m 0 c).arrAt_eq_of_covers 7 _ (by decide +kernel) fun t hf y => ?_
  have h1 : t.val % 8 = 7 := by
    exact (flush0_7 t).mp hf
  obtain ⟨r, d, rfl⟩ : ∃ r d, y = ix2 r d := ⟨y 0, y 1, eq_ix2 y⟩
  have e := (idx_val t).2.2.2.2.2.2.2
  blk_simp
  rw [after0_7]
  refine (point m c t h1 r d).trans (congrArg (REF m c) ?_)
  blk_ext [e]

end Cert.MlpFirstValue

end
-- ==== Proof.MlpFirst.Claims.lean ====
module

public import proofs.«01_k».proof.Defs
public import proofs.«01_k».proof.Proof.Gen.MlpFirst
public import proofs.«01_k».proof.Proof.Gen.MlpFirst.Frame
public import proofs.«01_k».proof.Proof.Gen.MlpFirstIdeal.Frame
public import proofs.«01_k».proof.Proof.Gen.MlpFirstRefIdeal.Run
public import proofs.«01_k».proof.Proof.Gen.MlpFirstRefIdeal.Read
public import proofs.«01_k».proof.Proof.MlpFirst.Value

@[expose] public section

set_option maxRecDepth 16384

noncomputable section

namespace Cert.MlpFirstValue

open Idealize.ShloMosaic Idealize.ShloMosaic.TcCoe Idealize.SL.Sem

/-- The program runs, leaves its arguments alone and ends quiet. -/
theorem frame : Cert.quiescent_MlpFirst := fun m ρ _ => Cert.MlpFirst.Gen.frame m ρ

/-- So does the idealized program. -/
theorem frame_ideal : Cert.quiescent_MlpFirstIdeal := fun m ρ _ => Cert.MlpFirstIdeal.Gen.frame m ρ

/-- So does the reference. -/
theorem frame_ref : Cert.quiescent_MlpFirstRefIdeal := fun m ρ _ =>
  (θ_run Cert.MlpFirstRefIdeal.defs _ _).mono (fun r h => ⟨fun c => (h c).2, sem_eq_zero_of_no_sems (by decide) r.2⟩)
    (Cert.MlpFirstRefIdeal.Value.run m ρ)

/-- Idealizing uses no named constant here. -/
theorem preserves : Cert.preserves_MlpFirst_MlpFirstIdeal := trivial

/-- The idealized program and the reference end with the same array. -/
theorem algebraic : Cert.algebraic_MlpFirstIdeal_MlpFirstRefIdeal := by
  pair_intro
  · run_from Cert.MlpFirstIdeal.Gen.run_main m g
  · run_from Cert.MlpFirstRefIdeal.Value.run m' g'
    obtain ⟨h0, h1, h2, h3, h4⟩ := hagree c
    rw [Cert.MlpFirstRefIdeal.Read.val_main_v44_eq, h0, h1, h2, h3, h4]
    exact (final m c).symm

end Cert.MlpFirstValue

end
-- ==== Proof.OutProj.Value.lean ====
module

public import proofs.«01_k».proof.Proof.Gen.OutProjIdeal.Value
public import proofs.«01_k».proof.Proof.Gen.OutProjRefIdeal.Read
public import Idealize.ShloMosaic.Lib.Pipeline.ValueKit
public import proofs.«01_k».proof.Proof.Common.Rows

@[expose] public section

set_option maxRecDepth 16384

noncomputable section

namespace Cert.OutProjValue

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- Where each window's block sits in its array, at every point of the grid of row tiles. -/
theorem idx_val : ∀ t : Fin cfg0.N, win0_0.index t = ![t.val, 0] ∧ win0_1.index t = ![t.val, 0]
    ∧ win0_2.index t = ![0, 0, 0] ∧ win0_3.index t = ![t.val, 0]
    ∧ win0_4.index t = ![t.val / 4, 0, 2] ∧ win0_5.index t = ![t.val, 0] :=
  (by decide +kernel : ∀ t : Fin grid0.N, _)

/-- The reference's array over the kernel's own arguments. -/
abbrev REF (c : Dev nD) : FVec Ideal S8192x2048 .f32 :=
  Cert.OutProjRefIdeal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The first attention half, as the kernel reads it: rows laid under one another. -/
theorem V_y1 (c : Dev nD) : @Eq (FVec Ideal S8192x1024 .bf16) (V m c main_v1)
    (truncf .bf16 (shapeCast S8192x1024 (m ((c : Thread nD τ).loc main_arg0) : FVec Ideal S4x2048x1024 .f32)
      shapeCasts_S4x2048x1024_S8192x1024) bitsLt_bf16_f32) := by
  entry_read; rfl

/-- The second attention half, as the kernel reads it. -/
theorem V_y2 (c : Dev nD) : @Eq (FVec Ideal S8192x1024 .bf16) (V m c main_v3)
    (truncf .bf16 (shapeCast S8192x1024 (m ((c : Thread nD τ).loc main_arg1) : FVec Ideal S4x2048x1024 .f32)
      shapeCasts_S4x2048x1024_S8192x1024) bitsLt_bf16_f32) := by
  entry_read; rfl

/-- The output weights, as the kernel reads them. -/
theorem V_w (c : Dev nD) : @Eq (FVec Ideal S4x2048x2048 .bf16) (V m c main_v4)
    (truncf .bf16 (m ((c : Thread nD τ).loc main_arg2) : FVec Ideal S4x2048x2048 .f32) bitsLt_bf16_f32) := by
  entry_read; rfl

/-- The residual stream, as the kernel reads it. -/
theorem V_h (c : Dev nD) : @Eq (FVec Ideal S8192x2048 .f32) (V m c main_v5)
    (shapeCast S8192x2048 (m ((c : Thread nD τ).loc main_arg3) : FVec Ideal S4x2048x2048 .f32)
      shapeCasts_S4x2048x2048_S8192x2048) := by
  entry_read; rfl

/-- The modulation table, as the kernel reads it: padded to eight rows. -/
theorem V_mod (c : Dev nD) : @Eq (FVec Ideal S8x1x12288 .f32) (V m c main_v8)
    (shapeCast S8x1x12288 (concatenate S8x12288 0
      [⟨S4x12288, (m ((c : Thread nD τ).loc main_arg4) : FVec Ideal S4x12288 .f32)⟩,
       ⟨S4x12288, broadcastInDim S4x12288 ![] bcast_S_S4x12288 (constant (F := Ideal) S_ .f32 0x00000000#32)⟩]
      concatenates_S4x12288_S4x12288_S8x12288_d0) shapeCasts_S8x12288_S8x1x12288) := by
  entry_read; rfl

/-- A block of the first attention half. -/
theorem blk_y1 (c : Dev nD) (t : Fin cfg0.N) (y : S512x1024.Idx) (i : S4x2048x1024.Idx)
    (h0 : (i 0 : ℕ) = (t.val * 512 + y 0) / 2048) (h1 : (i 1 : ℕ) = (t.val * 512 + y 0) % 2048) (h2 : (i 2 : ℕ) = y 1) :
    (iblk m c 0 t : FVec Ideal S512x1024 .bf16) y = (m ((c : Thread nD τ).loc main_arg0) : FVec Ideal S4x2048x1024 .f32) i := by
  have e := (idx_val t).1
  blk_simp [iblk]
  rw [V_y1]
  show shapeCast S8192x1024 _ _ _ = _
  rw [Cert.Rows.rows_at]
  blk_ext [e]

/-- A block of the second attention half. -/
theorem blk_y2 (c : Dev nD) (t : Fin cfg0.N) (y : S512x1024.Idx) (i : S4x2048x1024.Idx)
    (h0 : (i 0 : ℕ) = (t.val * 512 + y 0) / 2048) (h1 : (i 1 : ℕ) = (t.val * 512 + y 0) % 2048) (h2 : (i 2 : ℕ) = y 1) :
    (iblk m c 1 t : FVec Ideal S512x1024 .bf16) y = (m ((c : Thread nD τ).loc main_arg1) : FVec Ideal S4x2048x1024 .f32) i := by
  have e := (idx_val t).2.1
  blk_simp [iblk]
  rw [V_y2]
  show shapeCast S8192x1024 _ _ _ = _
  rw [Cert.Rows.rows_at]
  blk_ext [e]

/-- The block of the weights: this layer's matrix. -/
theorem blk_w (c : Dev nD) (t : Fin cfg0.N) (y : S1x2048x2048.Idx) (i : S4x2048x2048.Idx)
    (h0 : (i 0 : ℕ) = y 0) (h1 : (i 1 : ℕ) = y 1) (h2 : (i 2 : ℕ) = y 2) :
    (iblk m c 2 t : FVec Ideal S1x2048x2048 .bf16) y = (m ((c : Thread nD τ).loc main_arg2) : FVec Ideal S4x2048x2048 .f32) i := by
  have e := (idx_val t).2.2.1
  blk_simp [iblk]
  rw [V_w]
  show (m ((c : Thread nD τ).loc main_arg2) : FVec Ideal S4x2048x2048 .f32) _ = _
  blk_ext [e]

/-- A block of the residual stream. -/
theorem blk_h (c : Dev nD) (t : Fin cfg0.N) (y : S512x2048.Idx) (i : S4x2048x2048.Idx)
    (h0 : (i 0 : ℕ) = (t.val * 512 + y 0) / 2048) (h1 : (i 1 : ℕ) = (t.val * 512 + y 0) % 2048) (h2 : (i 2 : ℕ) = y 1) :
    (iblk m c 3 t : FVec Ideal S512x2048 .f32) y = (m ((c : Thread nD τ).loc main_arg3) : FVec Ideal S4x2048x2048 .f32) i := by
  have e := (idx_val t).2.2.2.1
  blk_simp [iblk]
  rw [V_h, Cert.Rows.rows_at]
  blk_ext [e]

/-- The block of the modulation table: the gate of the image the tile lies in. -/
theorem blk_mod (c : Dev nD) (t : Fin cfg0.N) (y : S1x1x2048.Idx) (i : S4x12288.Idx)
    (h0 : (i 0 : ℕ) = t.val / 4) (h1 : (i 1 : ℕ) = 4096 + y 2) :
    (iblk m c 4 t : FVec Ideal S1x1x2048 .f32) y = (m ((c : Thread nD τ).loc main_arg4) : FVec Ideal S4x12288 .f32) i := by
  have e := (idx_val t).2.2.2.2.1
  blk_simp [iblk]
  rw [V_mod]
  refine Cert.Rows.mod_at _ _ _ _ _ _ ?_ ?_
  · blk_simp [e, h0]
    try omega
  · blk_simp [e, h1]
    try omega

/-- Where the output's block sits. -/
theorem emb_out (t : Fin cfg0.N) (y : S512x2048.Idx) :
    ((((cfg0.win 5).blk t).view.emb y) 0 : ℕ) = t.val * 512 + y 0 ∧ ((((cfg0.win 5).blk t).view.emb y) 1 : ℕ) = y 1 := by
  have e := (idx_val t).2.2.2.2.2
  constructor <;> blk_simp [e]

/-- One row tile: what the kernel's body computes from its blocks is the reference's array read where the tile sits. -/
theorem point (c : Dev nD) (t : Fin cfg0.N) (y : S512x2048.Idx) (i : S8192x2048.Idx)
    (e0 : (i 0 : ℕ) = t.val * 512 + y 0) (e1 : (i 1 : ℕ) = y 1) :
    k0_pay1 (F := Ideal) (iblk m c 0 t) (View.ld (iblk m c 2 t) r0_1) (iblk m c 1 t)
      (View.ld (iblk m c 2 t) r0_2) (iblk m c 3 t) (iblk m c 4 t) y
    = REF m c i := by
  pointwise [k0_pay1, REF, Cert.OutProjRefIdeal.Read.val_main_v19, Cert.OutProjRefIdeal.Read.val_main_v18,
    Cert.OutProjRefIdeal.Read.val_main_v17, Cert.OutProjRefIdeal.Read.val_main_v16, Cert.OutProjRefIdeal.Read.val_main_v15,
    Cert.OutProjRefIdeal.Read.val_main_v14, Cert.OutProjRefIdeal.Read.val_main_v13, Cert.OutProjRefIdeal.Read.val_main_v12,
    Cert.OutProjRefIdeal.Read.val_main_v8, Cert.OutProjRefIdeal.Read.val_main_v2]
  reads_congr
  · refine blk_h m c t y _ ?_ ?_ ?_ <;> blk_simp [e0, e1]
  · refine blk_mod m c t _ _ ?_ ?_ <;> blk_simp [e0, e1]
    have hy : (y 0 : ℕ) < 512 := (y 0).isLt
    show (t.val * 512 + (y 0 : ℕ)) / 2048 = t.val / 4
    omega
  · refine blk_y1 m c t _ _ ?_ ?_ ?_ <;> blk_simp [e0, e1]
  · refine blk_w m c t _ _ ?_ ?_ ?_ <;> blk_simp [e0, e1]
    rfl
  · refine blk_y2 m c t _ _ ?_ ?_ ?_ <;> blk_simp [e0, e1]
  · refine blk_w m c t _ _ ?_ ?_ ?_ <;> blk_simp [e0, e1]
    rfl

/-- The kernel's result array after the run is the reference's array over the same arguments. -/
theorem final (c : Dev nD) : (dats m 0 c).arrAt 5 cfg0.N = REF m c := by
  refine (dats m 0 c).arrAt_eq_of_covers 5 _ (by decide +kernel) fun t _ y => ?_
  blk_simp
  rw [after0_5]; frame_out
  exact point m c t y _ (emb_out t y).1 (emb_out t y).2

end Cert.OutProjValue

end
-- ==== Proof.OutProj.Claims.lean ====
module

public import proofs.«01_k».proof.Defs
public import proofs.«01_k».proof.Proof.Gen.OutProj
public import proofs.«01_k».proof.Proof.Gen.OutProj.Frame
public import proofs.«01_k».proof.Proof.Gen.OutProjIdeal.Frame
public import proofs.«01_k».proof.Proof.Gen.OutProjRefIdeal.Run
public import proofs.«01_k».proof.Proof.OutProj.Value

@[expose] public section

set_option maxRecDepth 16384

noncomputable section

namespace Cert.OutProjValue

open Idealize.ShloMosaic Idealize.ShloMosaic.TcCoe Idealize.SL.Sem

/-- The program runs, leaves its arguments alone and ends quiet. -/
theorem frame : Cert.quiescent_OutProj := fun m ρ _ => Cert.OutProj.Gen.frame m ρ

/-- So does the idealized program. -/
theorem frame_ideal : Cert.quiescent_OutProjIdeal := fun m ρ _ => Cert.OutProjIdeal.Gen.frame m ρ

/-- So does the reference. -/
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- Idealizing uses no named constant here. -/
theorem preserves : Cert.preserves_OutProj_OutProjIdeal := trivial

/-- The idealized program and the reference end with the same array. -/
theorem algebraic : Cert.algebraic_OutProjIdeal_OutProjRefIdeal := by
  pair_intro
  · run_from Cert.OutProjIdeal.Gen.run_main m g
  · run_from Cert.OutProjRefIdeal.Value.run m' g'
    exact (final m c).symm

end Cert.OutProjValue

end
-- ==== Proof.OddProj.Value.lean ====
module

public import proofs.«01_k».proof.Proof.Gen.OddProjIdeal.Value
public import proofs.«01_k».proof.Proof.Gen.OddProjRefIdeal.Read
public import Idealize.ShloMosaic.Lib.Pipeline.ValueKit
public import Idealize.ShloMosaic.Lib.Pipeline.ReadBack
public import proofs.«01_k».proof.Proof.Common.Rows

@[expose] public section

set_option maxRecDepth 16384

noncomputable section

namespace Cert.OddProjValue

open Idealize.ShloMosaic Idealize.ShloMosaic.TcCoe Idealize.SL.Sem
open Idealize.ShloMosaic.Pipeline (Dat)
open Cert.OddProjIdeal Cert.OddProjIdeal.Gen

variable (m : (ℓ : Loc nD τ sig) → Buf (Elt Ideal) ℓ)

/-- The residual stream. -/
abbrev H (c : Dev nD) : FVec Ideal S4x2048x2048 .f32 := m ((c : Thread nD τ).loc main_arg0)
/-- The modulation table. -/
abbrev MOD (c : Dev nD) : FVec Ideal S4x12288 .f32 := m ((c : Thread nD τ).loc main_arg1)
/-- The norm's gains. -/
abbrev G (c : Dev nD) : FVec Ideal S4x2048 .f32 := m ((c : Thread nD τ).loc main_arg2)
/-- The projection's weights. -/
abbrev W (c : Dev nD) : FVec Ideal S2x2048x8192 .f32 := m ((c : Thread nD τ).loc main_arg3)

/-- Where each window's block sits in its array: the row tile is the quotient by eight, the block of columns the remainder. -/
theorem idx_val : ∀ t : Fin cfg0.N, win0_0.index t = ![t.val / 8, 0] ∧ win0_1.index t = ![0, 0]
    ∧ win0_2.index t = ![t.val / 8 / 2, 0, 0] ∧ win0_3.index t = ![t.val / 8 / 2, 0, 1]
    ∧ win0_4.index t = ![0, 0, t.val % 8] ∧ win0_5.index t = ![t.val / 8, t.val % 8] :=
  (by decide +kernel : ∀ t : Fin grid0.N, _)

/-- There are eight row tiles. -/
theorem tile_lt (t : Fin cfg0.N) : t.val / 8 < 8 := by
  have hN := lt_of_lt_of_eq t.isLt (show cfg0.N = 64 from N_0)
  omega

/-- The image a row of a tile lies in. -/
abbrev img (q : ℕ) (hq : q < 8) (r : Fin 1024) : Fin 4 := ⟨(q * 1024 + r) / 2048, by omega⟩

/-- A row of a tile, counted within its image. -/
abbrev row (q : ℕ) (r : Fin 1024) : Fin 2048 := ⟨(q * 1024 + r) % 2048, by omega⟩

/-- The first point of a row tile leaves the normalised, modulated rows in the scratch. -/
theorem norm_first (c : Dev nD) (t : Fin cfg0.N) (h0 : t.val % 8 = 0) :
    (outsAt0 m c t.val t.isLt).2 = k0_pay1 (F := Ideal) (iblk m c 0 t) (iblk m c 1 t) (iblk m c 3 t) (iblk m c 2 t) := by
  rw [outsAt0_A m c t h0]
  frame_out

/-- A later point keeps them. -/
theorem norm_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- Every point writes the product of the scratch with its block of the weights. -/
theorem out_eq (c : Dev nD) (t : Fin cfg0.N) :
    (outsAt0 m c t.val t.isLt).1 = k0_pay2 (F := Ideal) (outsAt0 m c t.val t.isLt).2 (iblk m c 4 t) := by
  by_cases h0 : t.val % 8 = 0
  · rw [norm_first m c t h0, outsAt0_A m c t h0]
    frame_out
  · rw [norm_later m c t h0, outsAt0_B m c t h0]
    frame_out
    simp only [read_unread_whole]

/-- The residual stream as the kernel reads it. -/
theorem V_h (c : Dev nD) : @Eq (FVec Ideal S8192x2048 .f32) (V m c main_v0)
    (shapeCast S8192x2048 (H m c) shapeCasts_S4x2048x2048_S8192x2048) := by
  entry_read; rfl

/-- The norm's gain as the kernel reads it: this layer's row. -/
theorem V_g (c : Dev nD) : @Eq (FVec Ideal S1x2048 .f32) (V m c main_v7)
    (shapeCast S1x2048 (shapeCast S2048 (extractStridedSlice S1x2048 ![1, 0] (G m c) slices_S4x2048_S1x2048_1_0)
      shapeCasts_S1x2048_S2048) shapeCasts_S2048_S1x2048) := by
  entry_read; rfl

/-- The modulation table as the kernel reads it. -/
theorem V_mod (c : Dev nD) : @Eq (FVec Ideal S8x1x12288 .f32) (V m c main_v6)
    (shapeCast S8x1x12288 (concatenate S8x12288 0 [⟨S4x12288, MOD m c⟩,
       ⟨S4x12288, broadcastInDim S4x12288 ![] bcast_S_S4x12288 (constant (F := Ideal) S_ .f32 0x00000000#32)⟩]
      concatenates_S4x12288_S4x12288_S8x12288_d0) shapeCasts_S8x12288_S8x1x12288) := by
  entry_read; rfl

/-- The weights as the kernel reads them. -/
theorem V_w (c : Dev nD) : @Eq (FVec Ideal S2x2048x8192 .bf16) (V m c main_v3) (truncf .bf16 (W m c) bitsLt_bf16_f32) := by
  entry_read; rfl

/-- A block of the residual stream. -/
theorem blk_h (c : Dev nD) (t : Fin cfg0.N) (r : Fin 1024) (k : Fin 2048) :
    (iblk m c 0 t : FVec Ideal S1024x2048 .f32) (ix2 r k)
      = H m c (ix3 (img (t.val / 8) (tile_lt t) r) (row (t.val / 8) r) k) := by
  have e := (idx_val t).1
  blk_simp [iblk]
  rw [V_h, Cert.Rows.rows_at]
  blk_ext [e]

/-- The block of the norm's gain. -/
theorem blk_g (c : Dev nD) (t : Fin cfg0.N) (k : Fin 2048) :
    (iblk m c 1 t : FVec Ideal S1x2048 .f32) (ix2 0 k) = G m c (ix2 1 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix2 ⟨t.val / 8 / 2, by have := tile_lt t; omega⟩ ⟨k, by omega⟩) := by
  have e := (idx_val t).2.2.1
  blk_simp [iblk]
  rw [V_mod]
  refine Cert.Rows.mod_at _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix2 ⟨t.val / 8 / 2, by have := tile_lt t; omega⟩ ⟨2048 + k, by omega⟩) := by
  have e := (idx_val t).2.2.2.1
  blk_simp [iblk]
  rw [V_mod]
  refine Cert.Rows.mod_at _ _ _ _ _ _ ?_ ?_
  · blk_simp [e] <;> rfl
  · blk_simp [e] <;> rfl

/-- A block of the weights. -/
theorem blk_w (c : Dev nD) (t : Fin cfg0.N) (k : Fin 2048) (j : Fin 1024) :
    (iblk m c 4 t : FVec Ideal S1x2048x1024 .bf16) (ix3 0 k j)
      = W m c (ix3 0 k ⟨t.val % 8 * 1024 + j, by omega⟩) := by
  have e := (idx_val t).2.2.2.2.1
  blk_simp [iblk]
  rw [V_w]
  show W m c _ = _
  blk_ext [e]

/-- The reference's normalised, modulated input. -/
abbrev XN (c : Dev nD) : FVec Ideal S4x2048x2048 .f32 :=
  Cert.OddProjRefIdeal.Read.val_main_v32 (F := Ideal) (H m c) (MOD m c) (G m c)

/-- What the first point of a tile stores is the reference's normalised input. -/
theorem pay1_eq (c : Dev nD) (t : Fin cfg0.N) (r : Fin 1024) (k : Fin 2048) :
    k0_pay1 (F := Ideal) (iblk m c 0 t) (iblk m c 1 t) (iblk m c 3 t) (iblk m c 2 t) (ix2 r k)
      = XN m c (ix3 (img (t.val / 8) (tile_lt t) r) (row (t.val / 8) r) k) := by
  have hi : (⟨t.val / 8 / 2, by have := tile_lt t; omega⟩ : Fin 4) = img (t.val / 8) (tile_lt t) r :=
    Fin.ext (by show t.val / 8 / 2 = (t.val / 8 * 1024 + r) / 2048; omega)
  pointwise [k0_pay1, XN, Cert.OddProjRefIdeal.Read.val_main_v0, Cert.OddProjRefIdeal.Read.val_main_v1, Cert.OddProjRefIdeal.Read.val_main_v2, Cert.OddProjRefIdeal.Read.val_main_v3,
    Cert.OddProjRefIdeal.Read.val_main_v4, Cert.OddProjRefIdeal.Read.val_main_v5, Cert.OddProjRefIdeal.Read.val_main_v6, Cert.OddProjRefIdeal.Read.val_main_v7,
    Cert.OddProjRefIdeal.Read.val_main_v8, Cert.OddProjRefIdeal.Read.val_main_v9, Cert.OddProjRefIdeal.Read.val_main_v10, Cert.OddProjRefIdeal.Read.val_main_v11,
    Cert.OddProjRefIdeal.Read.val_main_v12, Cert.OddProjRefIdeal.Read.val_main_v13, Cert.OddProjRefIdeal.Read.val_main_v14, Cert.OddProjRefIdeal.Read.val_main_v15,
    Cert.OddProjRefIdeal.Read.val_main_v16, Cert.OddProjRefIdeal.Read.val_main_v17, Cert.OddProjRefIdeal.Read.val_main_v18, Cert.OddProjRefIdeal.Read.val_main_v19,
    Cert.OddProjRefIdeal.Read.val_main_v20, Cert.OddProjRefIdeal.Read.val_main_v21, Cert.OddProjRefIdeal.Read.val_main_v22, Cert.OddProjRefIdeal.Read.val_main_v23,
    Cert.OddProjRefIdeal.Read.val_main_v24, Cert.OddProjRefIdeal.Read.val_main_v25, Cert.OddProjRefIdeal.Read.val_main_v26, Cert.OddProjRefIdeal.Read.val_main_v27,
    Cert.OddProjRefIdeal.Read.val_main_v28, Cert.OddProjRefIdeal.Read.val_main_v29, Cert.OddProjRefIdeal.Read.val_main_v30, Cert.OddProjRefIdeal.Read.val_main_v31,
    Cert.OddProjRefIdeal.Read.val_main_v32, Cert.OddProjRefIdeal.Read.val_main_cst, Cert.OddProjRefIdeal.Read.val_main_cst_0, Cert.OddProjRefIdeal.Read.val_main_cst_1,
    Cert.OddProjRefIdeal.Read.val_main_cst_2]
  simp only [blk_h, blk_g, blk_scale, blk_shift, hi]

/-- After every point of a row tile the scratch holds the tile's normalised rows. -/
theorem scratch_norm (c : Dev nD) : ∀ (n : ℕ) (hn : n < cfg0.N) (r : Fin 1024) (k : Fin 2048),
    (outsAt0 m c n hn).2 (ix2 r k) = XN m c (ix3 (img (n / 8) (tile_lt ⟨n, hn⟩) r) (row (n / 8) r) k) := by
  intro n
  induction n with
  | zero =>
    intro hn r k
    rw [norm_first m c ⟨0, hn⟩ rfl]
    exact pay1_eq m c _ r k
  | succ n ih =>
    intro hn r k
    by_cases h0 : (n + 1) % 8 = 0
    · rw [norm_first m c ⟨n + 1, hn⟩ h0]
      exact pay1_eq m c _ r k
    · rw [norm_later m c ⟨n + 1, hn⟩ h0]
      have hd : n / 8 = (n + 1) / 8 := by omega
      have := ih (Nat.lt_of_succ_lt hn) r k
      simp only [hd] at this
      exact this

/-- The reference's array over the kernel's own arguments. -/
abbrev REF (c : Dev nD) : FVec Ideal S8192x8192 .bf16 :=
  Cert.OddProjRefIdeal.Read.val_main_v37 (F := Ideal) (H m c) (MOD m c) (G m c) (W m c)

/-- One block of the output is the reference's array where the block sits. -/
theorem point (c : Dev nD) (t : Fin cfg0.N) (r d : Fin 1024) :
    (outsAt0 m c t.val t.isLt).1 (ix2 r d)
      = REF m c (ix2 ⟨t.val / 8 * 1024 + r, by have := tile_lt t; omega⟩ ⟨t.val % 8 * 1024 + d, by omega⟩) := by
  rw [out_eq m c t]
  pointwise [k0_pay2]
  simp only [scratch_norm, blk_w]
  pointwise [REF, Cert.OddProjRefIdeal.Read.val_main_v37, Cert.OddProjRefIdeal.Read.val_main_v36, Cert.OddProjRefIdeal.Read.val_main_v35,
    Cert.OddProjRefIdeal.Read.val_main_v34, Cert.OddProjRefIdeal.Read.val_main_v33]

/-- The kernel's result array after the run is the reference's array over the same arguments. -/
theorem final (c : Dev nD) : (dats m 0 c).arrAt 5 cfg0.N = REF m c := by
  refine (dats m 0 c).arrAt_eq_of_covers 5 _ (by decide +kernel) fun t hf y => ?_
  obtain ⟨r, d, rfl⟩ : ∃ r d, y = ix2 r d := ⟨y 0, y 1, eq_ix2 y⟩
  have e := (idx_val t).2.2.2.2.2
  blk_simp
  rw [after0_5]
  refine (point m c t r d).trans (congrArg (REF m c) ?_)
  blk_ext [e]

end Cert.OddProjValue

end
-- ==== Proof.OddProj.Claims.lean ====
module

public import proofs.«01_k».proof.Defs
public import proofs.«01_k».proof.Proof.Gen.OddProj
public import proofs.«01_k».proof.Proof.Gen.OddProj.Frame
public import proofs.«01_k».proof.Proof.Gen.OddProjIdeal.Frame
public import proofs.«01_k».proof.Proof.Gen.OddProjRefIdeal.Run
public import proofs.«01_k».proof.Proof.OddProj.Value

@[expose] public section

set_option maxRecDepth 16384

noncomputable section

namespace Cert.OddProjValue

open Idealize.ShloMosaic Idealize.ShloMosaic.TcCoe Idealize.SL.Sem

/-- The program runs, leaves its arguments alone and ends quiet. -/
theorem frame : Cert.quiescent_OddProj := fun m ρ _ => Cert.OddProj.Gen.frame m ρ

/-- So does the idealized program. -/
theorem frame_ideal : Cert.quiescent_OddProjIdeal := fun m ρ _ => Cert.OddProjIdeal.Gen.frame m ρ

/-- So does the reference. -/
theorem frame_ref : Cert.quiescent_OddProjRefIdeal := fun m ρ _ =>
  (θ_run Cert.OddProjRefIdeal.defs _ _).mono (fun r h => ⟨fun c => (h c).2, sem_eq_zero_of_no_sems (by decide) r.2⟩)
    (Cert.OddProjRefIdeal.Value.run m ρ)

/-- Idealizing uses no named constant here. -/
theorem preserves : Cert.preserves_OddProj_OddProjIdeal := trivial

/-- The idealized program and the reference end with the same array. -/
theorem algebraic : Cert.algebraic_OddProjIdeal_OddProjRefIdeal := by
  pair_intro
  · run_from Cert.OddProjIdeal.Gen.run_main m g
  · run_from Cert.OddProjRefIdeal.Value.run m' g'
    exact (final m c).symm

end Cert.OddProjValue

end
-- ==== Proof.EvenProj.Layout.lean ====
module

public import proofs.«01_k».proof.Proof.Gen.EvenProjIdeal.Value
public import proofs.«01_k».proof.Proof.Gen.EvenProjRefIdeal.Read
public import Idealize.ShloMosaic.Lib.Pipeline.ValueKit

@[expose] public section

set_option maxRecDepth 16384

noncomputable section

namespace Cert.EvenProjValue

open Idealize.ShloMosaic Idealize.ShloMosaic.TcCoe Idealize.SL.Sem
open Idealize.ShloMosaic.Pipeline (Dat)
open Cert.EvenProjIdeal Cert.EvenProjIdeal.Gen

/-- The projection's column that stands in column `n` of the call's layout; 5184 where a zero stands. Each head's 192 query columns
are filled up to 256, the neighbourhood attention's columns follow, then the compressed keys and values and the shared rotary key. -/
def src (n : ℕ) : ℕ :=
  if n < 2048 then if n % 256 < 192 then n / 256 * 192 + n % 256 else 5184
  else if n < 5120 then n + 64
  else if n < 5696 then n - 3584
  else 5184

/-- A row laid out as the call lays it out: entry `n` is the row's entry at `src n`, or zero. -/
def laid (f : Fin 5184 → EReal) (n : ℕ) : EReal := if h : src n < 5184 then f ⟨src n, h⟩ else 0

/-- The weights as the kernel reads them: layer 0's columns in the call's layout. -/
def evenW (X : FVec Ideal S2x2048x5184 .f32) : FVec Ideal S2048x6144 .bf16 :=
  let Y : FVec Ideal S2048x5184 .bf16 := truncf .bf16 (shapeCast S2048x5184 (extractStridedSlice S1x2048x5184 ![0, 0, 0] X
    slices_S2x2048x5184_S1x2048x5184_0_0_0) shapeCasts_S1x2048x5184_S2048x5184) bitsLt_bf16_f32
  let Z : FVec Ideal S_ .bf16 := sitofp .bf16 (constantI S_ 32 0#32)
  concatenate S2048x6144 1
    [⟨S2048x2048, shapeCast S2048x2048 (pad S2048x8x256 ![0, 0, 0] ![0, 0, 64] ![0, 0, 0]
        (shapeCast S2048x8x192 (extractStridedSlice S2048x1536 ![0, 0] Y slices_S2048x5184_S2048x1536_0_0) shapeCasts_S2048x1536_S2048x8x192)
        Z pads_S2048x8x192_S2048x8x256_000_000_0640 h_S_) shapeCasts_S2048x8x256_S2048x2048⟩,
     ⟨S2048x3072, extractStridedSlice S2048x3072 ![0, 2112] Y slices_S2048x5184_S2048x3072_0_2112⟩,
     ⟨S2048x512, extractStridedSlice S2048x512 ![0, 1536] Y slices_S2048x5184_S2048x512_0_1536⟩,
     ⟨S2048x512, pad S2048x512 ![0, 0] ![0, 448] ![0, 0] (extractStridedSlice S2048x64 ![0, 2048] Y slices_S2048x5184_S2048x64_0_2048)
        Z pads_S2048x64_S2048x512_000_04480 h_S_⟩]
    concatenates_S2048x2048_S2048x3072_S2048x512_S2048x512_S2048x6144_d1

/-- The weights as the kernel reads them, entry by entry. -/
theorem evenW_at (X : FVec Ideal S2x2048x5184 .f32) (j : S2048x6144.Idx) :
    evenW X j = laid (fun n => X (ix3 0 (j 0) n)) (j 1) := by
  have hn : (j 1 : ℕ) < 6144 := (j 1).isLt
  have z : (FloatOps.sitofp FTy.bf16 0#32 : Ideal .bf16) = (0 : EReal) := by
    show (((0#32 : BitVec 32).toInt : ℝ) : EReal) = 0
    simp
  unfold laid src
  by_cases h1 : (j 1 : ℕ) < 2048
  · have h8 : (j 1 : ℕ) / 256 < 8 := by omega
    by_cases hl : (j 1 : ℕ) % 256 < 192
    · have e : (j 1 : ℕ) / 256 * 192 + (j 1 : ℕ) % 256 < 5184 := by omega
      pointwise [evenW]
      simp only [h1, hl, h8, and_self, dite_true, if_true, e]
    · pointwise [evenW]
      simp only [h1, hl, h8, and_false, dite_true, dite_false, if_true, if_false, lt_irrefl, z]
  have a2 : ((j 1 : ℕ) - 2048 < 3072) = ((j 1 : ℕ) < 5120) := propext (by omega)
  by_cases h2 : (j 1 : ℕ) < 5120
  · have e : (j 1 : ℕ) + 64 < 5184 := by omega
    pointwise [evenW]
    simp only [h1, h2, a2, dite_true, dite_false, if_true, if_false, e]
    reads_congr
    blk_ext
  have h3 : ((j 1 : ℕ) - 2048 - 3072 < 512) = ((j 1 : ℕ) < 5632) := propext (by omega)
  have h4 : ((j 1 : ℕ) - 2048 - 3072 - 512 < 64) = ((j 1 : ℕ) < 5696) := propext (by omega)
  by_cases h5 : (j 1 : ℕ) < 5696
  · have e : (j 1 : ℕ) - 3584 < 5184 := by omega
    by_cases h6 : (j 1 : ℕ) < 5632
    · pointwise [evenW]
      simp only [h1, h2, a2, h3, h5, h6, dite_true, dite_false, if_true, if_false, e]
      reads_congr
      blk_ext
    · pointwise [evenW]
      simp only [h1, h2, a2, h3, h4, h5, h6, dite_true, dite_false, if_true, if_false, e]
      reads_congr
      blk_ext
  · have h6 : ¬ (j 1 : ℕ) < 5632 := by omega
    pointwise [evenW]
    simp only [h1, h2, a2, h3, h4, h5, h6, dite_true, dite_false, if_true, if_false, lt_irrefl, z]

open Cert.EvenProjRefIdeal.Read in
/-- The reference's projection, laid out as the call lays it out. -/
theorem ref_at (x0 : FVec Ideal S4x2048x2048 .f32) (x1 : FVec Ideal S4x12288 .f32) (x2 : FVec Ideal S4x2048 .f32)
    (x3 : FVec Ideal S2x2048x5184 .f32) (j : Cert.EvenProjRefIdeal.S4x2048x6144.Idx) :
    val_main_v63 (F := Ideal) x0 x1 x2 x3 j = laid (fun n => val_main_v35 (F := Ideal) x0 x1 x2 x3 (ix3 (j 0) (j 1) n)) (j 2) := by
  have hn : (j 2 : ℕ) < 6144 := (j 2).isLt
  have z : (Ideal.ofBits .f32 0x00000000#32 : EReal) = 0 := by simp [Ideal.ofBits, Ideal.ieee]
  unfold laid src
  by_cases h1 : (j 2 : ℕ) < 2048
  · by_cases hl : (j 2 : ℕ) % 256 < 192
    · have e : (j 2 : ℕ) / 256 * 192 + (j 2 : ℕ) % 256 < 5184 := by omega
      pointwise [val_main_v63, val_main_v61, val_main_v60, val_main_v58, val_main_v36]
      simp only [h1, hl, dite_true, if_true, e]
    · pointwise [val_main_v63, val_main_v61, val_main_v60, val_main_v59, val_main_cst_6]
      simp only [h1, hl, dite_true, dite_false, if_true, if_false, lt_irrefl, z]
  have a2 : ((j 2 : ℕ) - 2048 < 3072) = ((j 2 : ℕ) < 5120) := propext (by omega)
  by_cases h2 : (j 2 : ℕ) < 5120
  · have e : (j 2 : ℕ) + 64 < 5184 := by omega
    pointwise [val_main_v63, val_main_v39]
    simp only [h1, h2, a2, dite_true, dite_false, if_true, if_false, e]
    reads_congr
    blk_ext
  have h3 : ((j 2 : ℕ) - 2048 - 3072 < 512) = ((j 2 : ℕ) < 5632) := propext (by omega)
  have h4 : ((j 2 : ℕ) - 2048 - 3072 - 512 < 64) = ((j 2 : ℕ) < 5696) := propext (by omega)
  by_cases h5 : (j 2 : ℕ) < 5696
  · have e : (j 2 : ℕ) - 3584 < 5184 := by omega
    by_cases h6 : (j 2 : ℕ) < 5632
    · pointwise [val_main_v63, val_main_v37]
      simp only [h1, h2, a2, h3, h5, h6, dite_true, dite_false, if_true, if_false, e]
      reads_congr
      blk_ext
    · pointwise [val_main_v63, val_main_v38]
      simp only [h1, h2, a2, h3, h4, h5, h6, dite_true, dite_false, if_true, if_false, e]
      reads_congr
      blk_ext
  · have h6 : ¬ (j 2 : ℕ) < 5632 := by omega
    pointwise [val_main_v63, val_main_v62, val_main_cst_7]
    simp only [h1, h2, a2, h3, h4, h5, h6, dite_true, dite_false, if_true, if_false, lt_irrefl, z]

/-- The compressed keys' and values' columns in the call's layout. -/
theorem laid_kv (f : Fin 5184 → EReal) (l : Fin 512) : laid f (5120 + l) = f ⟨1536 + l, by omega⟩ := by
  have e : src (5120 + l) = 1536 + l := by
    have := l.isLt
    unfold src; split_ifs <;> omega
  unfold laid
  rw [dif_pos (by omega)]
  simp only [e]

/-- Products of a row with columns laid out in this way are the products, laid out in this way. -/
theorem sum_laid (a : Fin 2048 → EReal) (g : Fin 2048 → Fin 5184 → EReal) (n : ℕ) :
    (∑ k, a k * laid (g k) n) = laid (fun j => ∑ k, a k * g k j) n := by
  unfold laid
  by_cases h : src n < 5184
  · simp only [h, dite_true]
  · simp only [h, dite_false, mul_zero, Finset.sum_const_zero]

end Cert.EvenProjValue

end
-- ==== Proof.EvenProj.Points.lean ====
module

public import proofs.«01_k».proof.Proof.EvenProj.Layout
public import proofs.«01_k».proof.Proof.Common.Rows
public import Idealize.ShloMosaic.Lib.Pipeline.ReadBack

@[expose] public section

set_option maxRecDepth 16384

noncomputable section

namespace Cert.EvenProjValue

open Idealize.ShloMosaic Idealize.ShloMosaic.TcCoe Idealize.SL.Sem
open Idealize.ShloMosaic.Pipeline (Dat)
open Cert.EvenProjIdeal Cert.EvenProjIdeal.Gen

variable (m : (ℓ : Loc nD τ sig) → Buf (Elt Ideal) ℓ)

/-- The residual stream. -/
abbrev H (c : Dev nD) : FVec Ideal S4x2048x2048 .f32 := m ((c : Thread nD τ).loc main_arg0)
/-- The modulation table. -/
abbrev MOD (c : Dev nD) : FVec Ideal S4x12288 .f32 := m ((c : Thread nD τ).loc main_arg1)
/-- The norm's gains. -/
abbrev G (c : Dev nD) : FVec Ideal S4x2048 .f32 := m ((c : Thread nD τ).loc main_arg2)
/-- The projection's weights. -/
abbrev W (c : Dev nD) : FVec Ideal S2x2048x5184 .f32 := m ((c : Thread nD τ).loc main_arg3)
/-- The gains of the norm of the compressed keys and values. -/
abbrev GK (c : Dev nD) : FVec Ideal S2x512 .f32 := m ((c : Thread nD τ).loc main_arg4)
/-- The weights that expand them. -/
abbrev U (c : Dev nD) : FVec Ideal S2x512x2048 .f32 := m ((c : Thread nD τ).loc main_arg5)

/-- Where each window's block sits in its array: the row tile is the quotient by six, the block of columns the remainder. -/
theorem idx_val : ∀ t : Fin cfg0.N, win0_0.index t = ![t.val / 6, 0] ∧ win0_1.index t = ![0, 0]
    ∧ win0_2.index t = ![t.val / 6 / 2, 0, 0] ∧ win0_3.index t = ![t.val / 6 / 2, 0, 1]
    ∧ win0_4.index t = ![0, t.val % 6] ∧ win0_5.index t = ![0, 0] ∧ win0_6.index t = ![0, 0, 0]
    ∧ win0_7.index t = ![t.val / 6, t.val % 6] ∧ win0_8.index t = ![t.val / 6, 0] :=
  (by decide +kernel : ∀ t : Fin grid0.N, _)

/-- There are eight row tiles. -/
theorem tile_lt (t : Fin cfg0.N) : t.val / 6 < 8 := by
  have hN := lt_of_lt_of_eq t.isLt (show cfg0.N = 48 from N_0)
  omega

/-- The image a row of a tile lies in. -/
abbrev img (q : ℕ) (hq : q < 8) (r : Fin 1024) : Fin 4 := ⟨(q * 1024 + r) / 2048, by omega⟩

/-- A row of a tile, counted within its image. -/
abbrev row (q : ℕ) (r : Fin 1024) : Fin 2048 := ⟨(q * 1024 + r) % 2048, by omega⟩

/-- The first point of a row tile leaves the normalised, modulated rows in the scratch. -/
theorem norm_first (c : Dev nD) (t : Fin cfg0.N) (h0 : t.val % 6 = 0) :
    (outsAt0 m c t.val t.isLt).2.2 = k0_pay1 (F := Ideal) (iblk m c 0 t) (iblk m c 1 t) (iblk m c 3 t) (iblk m c 2 t) := by
  rw [outsAt0_A m c t h0 (by omega)]
  frame_out

/-- A later point keeps them. -/
theorem norm_later (c : Dev nD) (t : Fin cfg0.N) (h0 : ¬t.val % 6 = 0) :
    (outsAt0 m c t.val t.isLt).2.2 = (outsAt0 m c (t.val - 1) (Nat.lt_of_le_of_lt (Nat.sub_le _ _) t.isLt)).2.2 := by
  by_cases h1 : t.val % 6 = 5
  · rw [outsAt0_C m c t h0 h1]
    rfl
  · rw [outsAt0_B m c t h0 h1]
    rfl

/-- Every point writes the product of the scratch with its block of the weights. -/
theorem out_eq (c : Dev nD) (t : Fin cfg0.N) :
    (outsAt0 m c t.val t.isLt).1 = k0_pay3 (F := Ideal) (outsAt0 m c t.val t.isLt).2.2 (iblk m c 4 t) := by
  by_cases h0 : t.val % 6 = 0
  · rw [norm_first m c t h0, outsAt0_A m c t h0 (by omega)]
    frame_out
  · rw [norm_later m c t h0]
    by_cases h1 : t.val % 6 = 5
    · rw [outsAt0_C m c t h0 h1]
      frame_out
      simp only [read_unread_whole]
    · rw [outsAt0_B m c t h0 h1]
      frame_out
      simp only [read_unread_whole]

/-- The last point of a row tile also writes the expanded keys and values. -/
theorem kv_eq (c : Dev nD) (t : Fin cfg0.N) (h1 : t.val % 6 = 5) :
    (outsAt0 m c t.val t.isLt).2.1
      = k0_pay4 (F := Ideal) (outsAt0 m c t.val t.isLt).2.2 (iblk m c 4 t) (iblk m c 5 t) (iblk m c 6 t) := by
  rw [norm_later m c t (by omega), outsAt0_C m c t (by omega) h1]
  frame_out
  simp only [read_unread_whole]

/-- The residual stream as the kernel reads it. -/
theorem V_h (c : Dev nD) : @Eq (FVec Ideal S8192x2048 .f32) (V m c main_v3)
    (shapeCast S8192x2048 (H m c) shapeCasts_S4x2048x2048_S8192x2048) := by
  entry_read; rfl

/-- The norm's gain as the kernel reads it: this layer's row. -/
theorem V_g (c : Dev nD) : @Eq (FVec Ideal S1x2048 .f32) (V m c main_v21)
    (shapeCast S1x2048 (shapeCast S2048 (extractStridedSlice S1x2048 ![0, 0] (G m c) slices_S4x2048_S1x2048_0_0)
      shapeCasts_S1x2048_S2048) shapeCasts_S2048_S1x2048) := by
  entry_read; rfl

/-- The modulation table as the kernel reads it. -/
theorem V_mod (c : Dev nD) : @Eq (FVec Ideal S8x1x12288 .f32) (V m c main_v20)
    (shapeCast S8x1x12288 (concatenate S8x12288 0 [⟨S4x12288, MOD m c⟩,
       ⟨S4x12288, broadcastInDim S4x12288 ![] bcast_S_S4x12288 (constant (F := Ideal) S_ .f32 0x00000000#32)⟩]
      concatenates_S4x12288_S4x12288_S8x12288_d0) shapeCasts_S8x12288_S8x1x12288) := by
  entry_read; rfl

/-- The weights as the kernel reads them. -/
theorem V_w (c : Dev nD) : @Eq (FVec Ideal S2048x6144 .bf16) (V m c main_v17) (evenW (W m c)) := by
  entry_read; rfl

/-- The second norm's gain as the kernel reads it: this layer's row. -/
theorem V_gk (c : Dev nD) : @Eq (FVec Ideal S1x512 .f32) (V m c main_v22)
    (shapeCast S1x512 (shapeCast S512 (extractStridedSlice S1x512 ![0, 0] (GK m c) slices_S2x512_S1x512_0_0)
      shapeCasts_S1x512_S512) shapeCasts_S512_S1x512) := by
  entry_read; rfl

/-- The expanding weights as the kernel reads them. -/
theorem V_u (c : Dev nD) : @Eq (FVec Ideal S2x512x2048 .bf16) (V m c main_v2) (truncf .bf16 (U m c) bitsLt_bf16_f32) := by
  entry_read; rfl

/-- A block of the residual stream. -/
theorem blk_h (c : Dev nD) (t : Fin cfg0.N) (r : Fin 1024) (k : Fin 2048) :
    (iblk m c 0 t : FVec Ideal S1024x2048 .f32) (ix2 r k)
      = H m c (ix3 (img (t.val / 6) (tile_lt t) r) (row (t.val / 6) r) k) := by
  have e := (idx_val t).1
  blk_simp [iblk]
  rw [V_h, Cert.Rows.rows_at]
  blk_ext [e]

/-- The block of the norm's gain. -/
theorem blk_g (c : Dev nD) (t : Fin cfg0.N) (k : Fin 2048) :
    (iblk m c 1 t : FVec Ideal S1x2048 .f32) (ix2 0 k) = G m c (ix2 0 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix2 ⟨t.val / 6 / 2, by have := tile_lt t; omega⟩ ⟨k, by omega⟩) := by
  have e := (idx_val t).2.2.1
  blk_simp [iblk]
  rw [V_mod]
  refine Cert.Rows.mod_at _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix2 ⟨t.val / 6 / 2, by have := tile_lt t; omega⟩ ⟨2048 + k, by omega⟩) := by
  have e := (idx_val t).2.2.2.1
  blk_simp [iblk]
  rw [V_mod]
  refine Cert.Rows.mod_at _ _ _ _ _ _ ?_ ?_
  · blk_simp [e] <;> rfl
  · blk_simp [e] <;> rfl

/-- A block of the weights. -/
theorem blk_w (c : Dev nD) (t : Fin cfg0.N) (k : Fin 2048) (j : Fin 1024) :
    (iblk m c 4 t : FVec Ideal S2048x1024 .bf16) (ix2 k j)
      = laid (fun n => W m c (ix3 0 k n)) (t.val % 6 * 1024 + j) := by
  have e := (idx_val t).2.2.2.2.1
  blk_simp [iblk]
  rw [V_w]
  have e2 := evenW_at (W m c) (ix2 k ⟨t.val % 6 * 1024 + j, by omega⟩)
  refine Eq.trans ?_ e2
  blk_ext [e]

/-- The block of the second norm's gain. -/
theorem blk_gk (c : Dev nD) (t : Fin cfg0.N) (k : Fin 512) :
    (iblk m c 5 t : FVec Ideal S1x512 .f32) (ix2 0 k) = GK m c (ix2 0 k) := by
  have e := (idx_val t).2.2.2.2.2.1
  blk_simp [iblk]
  rw [V_gk]
  pointwise
  blk_ext [e]

/-- The block of the expanding weights. -/
theorem blk_u (c : Dev nD) (t : Fin cfg0.N) (k : Fin 512) (j : Fin 2048) :
    (iblk m c 6 t : FVec Ideal S1x512x2048 .bf16) (ix3 0 k j) = U m c (ix3 0 k j) := by
  have e := (idx_val t).2.2.2.2.2.2.1
  blk_simp [iblk]
  rw [V_u]
  show U m c _ = _
  blk_ext [e]

end Cert.EvenProjValue

end
-- ==== Proof.EvenProj.Value.lean ====
module

public import proofs.«01_k».proof.Proof.EvenProj.Points

@[expose] public section

set_option maxRecDepth 16384

noncomputable section

namespace Cert.EvenProjValue

open Idealize.ShloMosaic Idealize.ShloMosaic.TcCoe Idealize.SL.Sem
open Idealize.ShloMosaic.Pipeline (Dat)
open Cert.EvenProjIdeal Cert.EvenProjIdeal.Gen

variable (m : (ℓ : Loc nD τ sig) → Buf (Elt Ideal) ℓ)

/-- The reference's normalised, modulated input. -/
abbrev XN (c : Dev nD) : FVec Ideal S4x2048x2048 .f32 :=
  Cert.EvenProjRefIdeal.Read.val_main_v32 (F := Ideal) (H m c) (MOD m c) (G m c)

/-- The reference's projection. -/
abbrev P (c : Dev nD) : FVec Ideal Cert.EvenProjRefIdeal.S4x2048x5184 .f32 :=
  Cert.EvenProjRefIdeal.Read.val_main_v35 (F := Ideal) (H m c) (MOD m c) (G m c) (W m c)

/-- What the first point of a tile stores is the reference's normalised input. -/
theorem pay1_eq (c : Dev nD) (t : Fin cfg0.N) (r : Fin 1024) (k : Fin 2048) :
    k0_pay1 (F := Ideal) (iblk m c 0 t) (iblk m c 1 t) (iblk m c 3 t) (iblk m c 2 t) (ix2 r k)
      = XN m c (ix3 (img (t.val / 6) (tile_lt t) r) (row (t.val / 6) r) k) := by
  have hi : (⟨t.val / 6 / 2, by have := tile_lt t; omega⟩ : Fin 4) = img (t.val / 6) (tile_lt t) r :=
    Fin.ext (by show t.val / 6 / 2 = (t.val / 6 * 1024 + r) / 2048; omega)
  pointwise [k0_pay1, XN, Cert.EvenProjRefIdeal.Read.val_main_v0, Cert.EvenProjRefIdeal.Read.val_main_v1,
    Cert.EvenProjRefIdeal.Read.val_main_v2, Cert.EvenProjRefIdeal.Read.val_main_v3, Cert.EvenProjRefIdeal.Read.val_main_v4,
    Cert.EvenProjRefIdeal.Read.val_main_v5, Cert.EvenProjRefIdeal.Read.val_main_v6, Cert.EvenProjRefIdeal.Read.val_main_v7,
    Cert.EvenProjRefIdeal.Read.val_main_v8, Cert.EvenProjRefIdeal.Read.val_main_v9, Cert.EvenProjRefIdeal.Read.val_main_v10,
    Cert.EvenProjRefIdeal.Read.val_main_v11, Cert.EvenProjRefIdeal.Read.val_main_v12, Cert.EvenProjRefIdeal.Read.val_main_v13,
    Cert.EvenProjRefIdeal.Read.val_main_v14, Cert.EvenProjRefIdeal.Read.val_main_v15, Cert.EvenProjRefIdeal.Read.val_main_v16,
    Cert.EvenProjRefIdeal.Read.val_main_v17, Cert.EvenProjRefIdeal.Read.val_main_v18, Cert.EvenProjRefIdeal.Read.val_main_v19,
    Cert.EvenProjRefIdeal.Read.val_main_v20, Cert.EvenProjRefIdeal.Read.val_main_v21, Cert.EvenProjRefIdeal.Read.val_main_v22,
    Cert.EvenProjRefIdeal.Read.val_main_v23, Cert.EvenProjRefIdeal.Read.val_main_v24, Cert.EvenProjRefIdeal.Read.val_main_v25,
    Cert.EvenProjRefIdeal.Read.val_main_v26, Cert.EvenProjRefIdeal.Read.val_main_v27, Cert.EvenProjRefIdeal.Read.val_main_v28,
    Cert.EvenProjRefIdeal.Read.val_main_v29, Cert.EvenProjRefIdeal.Read.val_main_v30, Cert.EvenProjRefIdeal.Read.val_main_v31,
    Cert.EvenProjRefIdeal.Read.val_main_v32, Cert.EvenProjRefIdeal.Read.val_main_cst, Cert.EvenProjRefIdeal.Read.val_main_cst_0,
    Cert.EvenProjRefIdeal.Read.val_main_cst_1, Cert.EvenProjRefIdeal.Read.val_main_cst_2]
  simp only [blk_h, blk_g, blk_scale, blk_shift, hi]

/-- After every point of a row tile the scratch holds the tile's normalised rows. -/
theorem scratch_norm (c : Dev nD) : ∀ (n : ℕ) (hn : n < cfg0.N) (r : Fin 1024) (k : Fin 2048),
    (outsAt0 m c n hn).2.2 (ix2 r k) = XN m c (ix3 (img (n / 6) (tile_lt ⟨n, hn⟩) r) (row (n / 6) r) k) := by
  intro n
  induction n with
  | zero =>
    intro hn r k
    rw [norm_first m c ⟨0, hn⟩ rfl]
    exact pay1_eq m c _ r k
  | succ n ih =>
    intro hn r k
    by_cases h0 : (n + 1) % 6 = 0
    · rw [norm_first m c ⟨n + 1, hn⟩ h0]
      exact pay1_eq m c _ r k
    · rw [norm_later m c ⟨n + 1, hn⟩ h0]
      have hd : n / 6 = (n + 1) / 6 := by omega
      have := ih (Nat.lt_of_succ_lt hn) r k
      simp only [hd] at this
      exact this

/-- The product that a point forms is its block of the reference's projection, laid out as the call lays it out. -/
theorem acc_at (c : Dev nD) (t : Fin cfg0.N) (y : S1024x1024.Idx) :
    k0_pay2 (F := Ideal) (outsAt0 m c t.val t.isLt).2.2 (iblk m c 4 t) y
      = laid (fun n => P m c (ix3 (img (t.val / 6) (tile_lt t) (y 0)) (row (t.val / 6) (y 0)) n)) (t.val % 6 * 1024 + y 1) := by
  obtain ⟨r, d, rfl⟩ : ∃ r d, y = ix2 r d := ⟨y 0, y 1, eq_ix2 y⟩
  show _ = laid (fun n => P m c (ix3 (img (t.val / 6) (tile_lt t) r) (row (t.val / 6) r) n)) (t.val % 6 * 1024 + d)
  pointwise [k0_pay2]
  simp only [scratch_norm, blk_w]
  rw [sum_laid]
  congr 1
  funext n
  pointwise [P, Cert.EvenProjRefIdeal.Read.val_main_v35, Cert.EvenProjRefIdeal.Read.val_main_v34,
    Cert.EvenProjRefIdeal.Read.val_main_v33]

/-- The reference's first array over the kernel's own arguments. -/
abbrev REFP (c : Dev nD) : FVec Ideal S8192x6144 .bf16 :=
  Cert.EvenProjRefIdeal.Read.val_main_v65 (F := Ideal) (H m c) (MOD m c) (G m c) (W m c)

/-- The reference's second array over the kernel's own arguments. -/
abbrev REFK (c : Dev nD) : FVec Ideal S8192x2048 .bf16 :=
  Cert.EvenProjRefIdeal.Read.val_main_v67 (F := Ideal) (H m c) (MOD m c) (G m c) (W m c) (GK m c) (U m c)

/-- One block of the first output is the reference's array where the block sits. -/
theorem point (c : Dev nD) (t : Fin cfg0.N) (r d : Fin 1024) :
    (outsAt0 m c t.val t.isLt).1 (ix2 r d)
      = REFP m c (ix2 ⟨t.val / 6 * 1024 + r, by have := tile_lt t; omega⟩ ⟨t.val % 6 * 1024 + d, by omega⟩) := by
  rw [out_eq m c t]
  refine (acc_at m c t (ix2 r d)).trans ?_
  show _ = shapeCast S8192x6144 (Cert.EvenProjRefIdeal.Read.val_main_v63 (F := Ideal) (H m c) (MOD m c) (G m c) (W m c)) _ _
  rw [Cert.Rows.rows_at, ref_at]
  rfl

/-- One block of the second output is the reference's array where the block sits. -/
theorem point_kv (c : Dev nD) (t : Fin cfg0.N) (h1 : t.val % 6 = 5) (r : Fin 1024) (d : Fin 2048) :
    (outsAt0 m c t.val t.isLt).2.1 (ix2 r d)
      = REFK m c (ix2 ⟨t.val / 6 * 1024 + r, by have := tile_lt t; omega⟩ d) := by
  rw [kv_eq m c t h1]
  pointwise [k0_pay4]
  simp only [acc_at, blk_gk, blk_u, h1]
  pointwise [REFK, Cert.EvenProjRefIdeal.Read.val_main_v67, Cert.EvenProjRefIdeal.Read.val_main_v66,
    Cert.EvenProjRefIdeal.Read.val_main_v57, Cert.EvenProjRefIdeal.Read.val_main_v56, Cert.EvenProjRefIdeal.Read.val_main_v55,
    Cert.EvenProjRefIdeal.Read.val_main_v54, Cert.EvenProjRefIdeal.Read.val_main_v53, Cert.EvenProjRefIdeal.Read.val_main_v52,
    Cert.EvenProjRefIdeal.Read.val_main_v51, Cert.EvenProjRefIdeal.Read.val_main_v50, Cert.EvenProjRefIdeal.Read.val_main_v49,
    Cert.EvenProjRefIdeal.Read.val_main_v48, Cert.EvenProjRefIdeal.Read.val_main_v47, Cert.EvenProjRefIdeal.Read.val_main_v46,
    Cert.EvenProjRefIdeal.Read.val_main_v45, Cert.EvenProjRefIdeal.Read.val_main_v44, Cert.EvenProjRefIdeal.Read.val_main_v43,
    Cert.EvenProjRefIdeal.Read.val_main_v42, Cert.EvenProjRefIdeal.Read.val_main_v41, Cert.EvenProjRefIdeal.Read.val_main_v40,
    Cert.EvenProjRefIdeal.Read.val_main_v37, Cert.EvenProjRefIdeal.Read.val_main_cst_3, Cert.EvenProjRefIdeal.Read.val_main_cst_4,
    Cert.EvenProjRefIdeal.Read.val_main_cst_5]
  simp only [laid_kv]

/-- The first result after the run is the reference's first array over the same arguments. -/
theorem final (c : Dev nD) : (dats m 0 c).arrAt 7 cfg0.N = REFP m c := by
  refine (dats m 0 c).arrAt_eq_of_covers 7 _ (by decide +kernel) fun t hf y => ?_
  obtain ⟨r, d, rfl⟩ : ∃ r d, y = ix2 r d := ⟨y 0, y 1, eq_ix2 y⟩
  have e := (idx_val t).2.2.2.2.2.2.2.1
  blk_simp
  rw [after0_7]
  refine (point m c t r d).trans (congrArg (REFP m c) ?_)
  blk_ext [e]

/-- The second result's block is written back at the last point of a row tile. -/
theorem flush_kv : ∀ t : Fin cfg0.N, (cfg0.win 8).flush t = true → t.val % 6 = 5 :=
  (by decide +kernel : ∀ t : Fin grid0.N, _)

/-- The second result after the run is the reference's second array over the same arguments. -/
theorem final_kv (c : Dev nD) : (dats m 0 c).arrAt 8 cfg0.N = REFK m c := by
  refine (dats m 0 c).arrAt_eq_of_covers 8 _ (by decide +kernel) fun t hf y => ?_
  obtain ⟨r, d, rfl⟩ : ∃ r d, y = ix2 r d := ⟨y 0, y 1, eq_ix2 y⟩
  have e := (idx_val t).2.2.2.2.2.2.2.2
  blk_simp
  rw [after0_8]
  refine (point_kv m c t (flush_kv t hf) r d).trans (congrArg (REFK m c) ?_)
  blk_ext [e]

end Cert.EvenProjValue

end
-- ==== Proof.EvenProj.Claims.lean ====
module

public import proofs.«01_k».proof.Defs
public import proofs.«01_k».proof.Proof.Gen.EvenProj
public import proofs.«01_k».proof.Proof.Gen.EvenProj.Frame
public import proofs.«01_k».proof.Proof.Gen.EvenProjIdeal.Frame
public import proofs.«01_k».proof.Proof.Gen.EvenProjRefIdeal.Run
public import proofs.«01_k».proof.Proof.EvenProj.Value

@[expose] public section

set_option maxRecDepth 16384

noncomputable section

namespace Cert.EvenProjValue

open Idealize.ShloMosaic Idealize.ShloMosaic.TcCoe Idealize.SL.Sem

/-- The program runs, leaves its arguments alone and ends quiet. -/
theorem frame : Cert.quiescent_EvenProj := fun m ρ _ => Cert.EvenProj.Gen.frame m ρ

/-- So does the idealized program. -/
theorem frame_ideal : Cert.quiescent_EvenProjIdeal := fun m ρ _ => Cert.EvenProjIdeal.Gen.frame m ρ

/-- So does the reference. -/
theorem frame_ref : Cert.quiescent_EvenProjRefIdeal := fun m ρ _ =>
  (θ_run Cert.EvenProjRefIdeal.defs _ _).mono (fun r h => ⟨fun c => (h c).2.2, sem_eq_zero_of_no_sems (by decide) r.2⟩)
    (Cert.EvenProjRefIdeal.Value.run m ρ)

/-- Idealizing uses no named constant here. -/
theorem preserves : Cert.preserves_EvenProj_EvenProjIdeal := trivial

/-- The reference's run, its results named. -/
theorem run_ref (m : (ℓ : Loc Cert.EvenProjRefIdeal.nD Cert.EvenProjRefIdeal.τ Cert.EvenProjRefIdeal.sig) → Buf (Elt Ideal) ℓ)
    (g : Dev Cert.EvenProjRefIdeal.nD → PrngReg) :
    θ_run (Cert.EvenProjRefIdeal.defs (F := Ideal)) (onTc (τ := Cert.EvenProjRefIdeal.τ) (Cert.EvenProjRefIdeal.main (F := Ideal)))
      ⟨m, fun _ => 0, g⟩ (fun r => ∀ c : Dev Cert.EvenProjRefIdeal.nD,
        r.2.mem ((c.tc : Thread Cert.EvenProjRefIdeal.nD Cert.EvenProjRefIdeal.τ).loc Cert.EvenProjRefIdeal.main_v65)
          = Cert.EvenProjRefIdeal.Read.val_main_v65 (F := Ideal)
            (m ((c.tc : Thread Cert.EvenProjRefIdeal.nD Cert.EvenProjRefIdeal.τ).loc Cert.EvenProjRefIdeal.main_arg0))
            (m ((c.tc : Thread Cert.EvenProjRefIdeal.nD Cert.EvenProjRefIdeal.τ).loc Cert.EvenProjRefIdeal.main_arg1))
            (m ((c.tc : Thread Cert.EvenProjRefIdeal.nD Cert.EvenProjRefIdeal.τ).loc Cert.EvenProjRefIdeal.main_arg2))
            (m ((c.tc : Thread Cert.EvenProjRefIdeal.nD Cert.EvenProjRefIdeal.τ).loc Cert.EvenProjRefIdeal.main_arg3))
        ∧ r.2.mem ((c.tc : Thread Cert.EvenProjRefIdeal.nD Cert.EvenProjRefIdeal.τ).loc Cert.EvenProjRefIdeal.main_v67)
          = Cert.EvenProjRefIdeal.Read.val_main_v67 (F := Ideal)
            (m ((c.tc : Thread Cert.EvenProjRefIdeal.nD Cert.EvenProjRefIdeal.τ).loc Cert.EvenProjRefIdeal.main_arg0))
            (m ((c.tc : Thread Cert.EvenProjRefIdeal.nD Cert.EvenProjRefIdeal.τ).loc Cert.EvenProjRefIdeal.main_arg1))
            (m ((c.tc : Thread Cert.EvenProjRefIdeal.nD Cert.EvenProjRefIdeal.τ).loc Cert.EvenProjRefIdeal.main_arg2))
            (m ((c.tc : Thread Cert.EvenProjRefIdeal.nD Cert.EvenProjRefIdeal.τ).loc Cert.EvenProjRefIdeal.main_arg3))
            (m ((c.tc : Thread Cert.EvenProjRefIdeal.nD Cert.EvenProjRefIdeal.τ).loc Cert.EvenProjRefIdeal.main_arg4))
            (m ((c.tc : Thread Cert.EvenProjRefIdeal.nD Cert.EvenProjRefIdeal.τ).loc Cert.EvenProjRefIdeal.main_arg5))
        ∧ r.2.mem ((c.tc : Thread Cert.EvenProjRefIdeal.nD Cert.EvenProjRefIdeal.τ).loc Cert.EvenProjRefIdeal.main_arg0)
          = m ((c.tc : Thread Cert.EvenProjRefIdeal.nD Cert.EvenProjRefIdeal.τ).loc Cert.EvenProjRefIdeal.main_arg0)
        ∧ r.2.mem ((c.tc : Thread Cert.EvenProjRefIdeal.nD Cert.EvenProjRefIdeal.τ).loc Cert.EvenProjRefIdeal.main_arg1)
          = m ((c.tc : Thread Cert.EvenProjRefIdeal.nD Cert.EvenProjRefIdeal.τ).loc Cert.EvenProjRefIdeal.main_arg1)
        ∧ r.2.mem ((c.tc : Thread Cert.EvenProjRefIdeal.nD Cert.EvenProjRefIdeal.τ).loc Cert.EvenProjRefIdeal.main_arg2)
          = m ((c.tc : Thread Cert.EvenProjRefIdeal.nD Cert.EvenProjRefIdeal.τ).loc Cert.EvenProjRefIdeal.main_arg2)
        ∧ r.2.mem ((c.tc : Thread Cert.EvenProjRefIdeal.nD Cert.EvenProjRefIdeal.τ).loc Cert.EvenProjRefIdeal.main_arg3)
          = m ((c.tc : Thread Cert.EvenProjRefIdeal.nD Cert.EvenProjRefIdeal.τ).loc Cert.EvenProjRefIdeal.main_arg3)
        ∧ r.2.mem ((c.tc : Thread Cert.EvenProjRefIdeal.nD Cert.EvenProjRefIdeal.τ).loc Cert.EvenProjRefIdeal.main_arg4)
          = m ((c.tc : Thread Cert.EvenProjRefIdeal.nD Cert.EvenProjRefIdeal.τ).loc Cert.EvenProjRefIdeal.main_arg4)
        ∧ r.2.mem ((c.tc : Thread Cert.EvenProjRefIdeal.nD Cert.EvenProjRefIdeal.τ).loc Cert.EvenProjRefIdeal.main_arg5)
          = m ((c.tc : Thread Cert.EvenProjRefIdeal.nD Cert.EvenProjRefIdeal.τ).loc Cert.EvenProjRefIdeal.main_arg5)) :=
  (θ_run Cert.EvenProjRefIdeal.defs _ _).mono
    (fun r h c => ⟨(h c).1.trans (Cert.EvenProjRefIdeal.Read.val_main_v65_eq m c),
      (h c).2.1.trans (Cert.EvenProjRefIdeal.Read.val_main_v67_eq m c), (h c).2.2⟩)
    (Cert.EvenProjRefIdeal.Value.run m g)

/-- The idealized program and the reference end with the same two arrays. -/
theorem algebraic : Cert.algebraic_EvenProjIdeal_EvenProjRefIdeal := by
  intro m g m' g' _ hagree
  refine ⟨fun c => (Cert.EvenProjIdeal.Gen.dats m 0 c).arrAt 7 Cert.EvenProjIdeal.cfg0.N,
    fun c => (Cert.EvenProjIdeal.Gen.dats m 0 c).arrAt 8 Cert.EvenProjIdeal.cfg0.N, Cert.EvenProjIdeal.Value.run_blocks m g,
    (θ_run Cert.EvenProjRefIdeal.defs _ _).mono (fun r h c => ⟨(h c).1.trans ?_, (h c).2.1.trans ?_, (h c).2.2⟩) (run_ref m' g')⟩
  · obtain ⟨h0, h1, h2, h3, h4, h5⟩ := hagree c
    rw [h0, h1, h2, h3]
    exact (final m c).symm
  · obtain ⟨h0, h1, h2, h3, h4, h5⟩ := hagree c
    rw [h0, h1, h2, h3, h4, h5]
    exact (final_kv m c).symm

end Cert.EvenProjValue

end
-- ==== Proof.MlpCtx.Steps.lean ====
module

public import proofs.«01_k».proof.Proof.Gen.MlpCtxIdeal.Value
public import Idealize.ShloMosaic.Lib.Pipeline.ValueKit
public import Idealize.ShloMosaic.Lib.Pipeline.ReadBack

@[expose] public section

set_option maxRecDepth 16384

noncomputable section

namespace Cert.MlpCtxValue

open Idealize.ShloMosaic Idealize.ShloMosaic.TcCoe Idealize.SL.Sem
open Idealize.ShloMosaic.Pipeline (Dat)
open Cert.MlpCtxIdeal Cert.MlpCtxIdeal.Gen

variable (m : (ℓ : Loc nD τ sig) → Buf (Elt Ideal) ℓ)

/-- The first point of a row tile leaves the normalised, modulated rows in the first scratch. -/
theorem norm_first (c : Dev nD) (t : Fin cfg0.N) (h0 : t.val % 8 = 0) :
    (outsAt0 m c t.val t.isLt).2.1 = k0_pay1 (F := Ideal) (iblk m c 0 t) (iblk m c 1 t) (iblk m c 3 t) (iblk m c 2 t) := by
  rw [outsAt0_A m c t h0 (by omega)]
  frame_out

/-- The first point of a row tile starts the accumulator from zero. -/
theorem acc_first (c : Dev nD) (t : Fin cfg0.N) (h0 : t.val % 8 = 0) :
    (outsAt0 m c t.val t.isLt).2.2 = k0_pay3 (F := Ideal)
      (k0_pay1 (F := Ideal) (iblk m c 0 t) (iblk m c 1 t) (iblk m c 3 t) (iblk m c 2 t)) (iblk m c 5 t) (k0_pay2 (F := Ideal)) (iblk m c 6 t) := by
  rw [outsAt0_A m c t h0 (by omega)]
  frame_out

/-- A later point keeps the normalised rows. -/
theorem norm_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]
    rfl
  · rw [outsAt0_B m c t h0 h1]
    rfl

/-- A later point adds its block of hidden units onto the accumulator. -/
theorem acc_later (c : Dev nD) (t : Fin cfg0.N) (h0 : ¬t.val % 8 = 0) :
    (outsAt0 m c t.val t.isLt).2.2 = k0_pay3 (F := Ideal)
      (outsAt0 m c (t.val - 1) (Nat.lt_of_le_of_lt (Nat.sub_le _ _) t.isLt)).2.1 (iblk m c 5 t)
      (outsAt0 m c (t.val - 1) (Nat.lt_of_le_of_lt (Nat.sub_le _ _) t.isLt)).2.2 (iblk m c 6 t) := by
  by_cases h1 : t.val % 8 = 7
  · rw [outsAt0_C m c t h0 h1]
    frame_out
    simp only [read_unread_whole]
  · rw [outsAt0_B m c t h0 h1]
    frame_out
    simp only [read_unread_whole]

/-- The last point of a row tile writes the output block from the finished accumulator. -/
theorem out_last (c : Dev nD) (t : Fin cfg0.N) (h1 : t.val % 8 = 7) :
    (outsAt0 m c t.val t.isLt).1 = k0_pay4 (F := Ideal) (iblk m c 0 t) (iblk m c 4 t)
      (outsAt0 m c t.val t.isLt).2.2 := by
  rw [acc_later m c t (by omega), outsAt0_C m c t (by omega) h1]
  frame_out
  simp only [read_unread_whole]

end Cert.MlpCtxValue

end
-- ==== Proof.MlpCtx.Blocks.lean ====
module

public import proofs.«01_k».proof.Proof.Gen.MlpCtxIdeal.Value
public import Idealize.ShloMosaic.Lib.Pipeline.ValueKit
public import proofs.«01_k».proof.Proof.Common.Rows
public import proofs.«01_k».proof.Proof.Common.MlpRows

@[expose] public section

set_option maxRecDepth 16384

noncomputable section

namespace Cert.MlpCtxValue

open Idealize.ShloMosaic Idealize.ShloMosaic.TcCoe Idealize.SL.Sem
open Idealize.ShloMosaic.Pipeline (Dat)
open Cert.MlpCtxIdeal Cert.MlpCtxIdeal.Gen

variable (m : (ℓ : Loc nD τ sig) → Buf (Elt Ideal) ℓ)

/-- The context's residual stream. -/
abbrev H (c : Dev nD) : FVec Ideal S4x256x2048 .f32 := m ((c : Thread nD τ).loc main_arg0)
/-- The context's modulation. -/
abbrev MOD (c : Dev nD) : FVec Ideal S12288 .f32 := m ((c : Thread nD τ).loc main_arg1)
/-- The norm's gains. -/
abbrev G (c : Dev nD) : FVec Ideal S4x2048 .f32 := m ((c : Thread nD τ).loc main_arg2)
/-- The first weights. -/
abbrev W1 (c : Dev nD) : FVec Ideal S4x2048x8192 .f32 := m ((c : Thread nD τ).loc main_arg3)
/-- The second weights. -/
abbrev W2 (c : Dev nD) : FVec Ideal S4x8192x2048 .f32 := m ((c : Thread nD τ).loc main_arg4)

/-- Where each window's block sits in its array: the row tile is the quotient by eight, the block of hidden units the remainder. -/
theorem idx_val : ∀ t : Fin cfg0.N, win0_0.index t = ![t.val / 8, 0] ∧ win0_1.index t = ![0, 0]
    ∧ win0_2.index t = ![4, 0, 3] ∧ win0_3.index t = ![4, 0, 4] ∧ win0_4.index t = ![4, 0, 5]
    ∧ win0_5.index t = ![0, 0, t.val % 8] ∧ win0_6.index t = ![0, t.val % 8, 0]
    ∧ win0_7.index t = ![t.val / 8, 0] :=
  (by decide +kernel : ∀ t : Fin grid0.N, _)

/-- There are two row tiles. -/
theorem tile_lt (t : Fin cfg0.N) : t.val / 8 < 2 := by
  have hN := lt_of_lt_of_eq t.isLt (show cfg0.N = 16 from N_0)
  omega

/-- The context a row of a tile lies in. -/
abbrev img (q : ℕ) (hq : q < 2) (r : Fin 512) : Fin 4 := ⟨(q * 512 + r) / 256, by omega⟩

/-- A row of a tile, counted within its context. -/
abbrev row (q : ℕ) (r : Fin 512) : Fin 256 := ⟨(q * 512 + r) % 256, by omega⟩

/-- The residual stream as the kernel reads it. -/
theorem V_h (c : Dev nD) : @Eq (FVec Ideal S1024x2048 .f32) (V m c main_v2)
    (shapeCast S1024x2048 (H m c) shapeCasts_S4x256x2048_S1024x2048) := by
  entry_read; rfl

/-- The norm's gain as the kernel reads it: this layer's row. -/
theorem V_g (c : Dev nD) : @Eq (FVec Ideal S1x2048 .f32) (V m c main_v9)
    (shapeCast S1x2048 (shapeCast S2048 (extractStridedSlice S1x2048 ![0, 0] (G m c) slices_S4x2048_S1x2048_0_0)
      shapeCasts_S1x2048_S2048) shapeCasts_S2048_S1x2048) := by
  entry_read; rfl

/-- The modulation table as the kernel reads it. -/
theorem V_mod (c : Dev nD) : @Eq (FVec Ideal S8x1x12288 .f32) (V m c main_v8)
    (shapeCast S8x1x12288 (concatenate S8x12288 0 [
       ⟨S4x12288, broadcastInDim S4x12288 ![] bcast_S_S4x12288 (constant (F := Ideal) S_ .f32 0x00000000#32)⟩,
       ⟨S4x12288, broadcastInDim S4x12288 ![1] bcast_S12288_S4x12288_1 (MOD m c)⟩]
      concatenates_S4x12288_S4x12288_S8x12288_d0) shapeCasts_S8x12288_S8x1x12288) := by
  entry_read; rfl

/-- The first weights as the kernel reads them. -/
theorem V_w1 (c : Dev nD) : @Eq (FVec Ideal S4x2048x8192 .bf16) (V m c main_v0) (truncf .bf16 (W1 m c) bitsLt_bf16_f32) := by
  entry_read; rfl

/-- The second weights as the kernel reads them. -/
theorem V_w2 (c : Dev nD) : @Eq (FVec Ideal S4x8192x2048 .bf16) (V m c main_v1) (truncf .bf16 (W2 m c) bitsLt_bf16_f32) := by
  entry_read; rfl

/-- A block of the residual stream. -/
theorem blk_h (c : Dev nD) (t : Fin cfg0.N) (r : Fin 512) (k : Fin 2048) :
    (iblk m c 0 t : FVec Ideal S512x2048 .f32) (ix2 r k)
      = H m c (ix3 (img (t.val / 8) (tile_lt t) r) (row (t.val / 8) r) k) := by
  have e := (idx_val t).1
  blk_simp [iblk]
  rw [V_h, Cert.Rows.ctx_at]
  blk_ext [e]

/-- The block of the norm's gain. -/
theorem blk_g (c : Dev nD) (t : Fin cfg0.N) (k : Fin 2048) :
    (iblk m c 1 t : FVec Ideal S1x2048 .f32) (ix2 0 k) = G m c (ix2 0 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix1 ⟨6144 + k, by omega⟩) := by
  have e := (idx_val t).2.2.1
  blk_simp [iblk]
  rw [V_mod]
  refine Cert.Rows.mod_ctx_at _ _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix1 ⟨8192 + k, by omega⟩) := by
  have e := (idx_val t).2.2.2.1
  blk_simp [iblk]
  rw [V_mod]
  refine Cert.Rows.mod_ctx_at _ _ _ _ _ _ _ ?_ ?_
  · blk_simp [e] <;> rfl
  · blk_simp [e] <;> rfl

/-- The block of the modulation table that is the gate. -/
theorem blk_gate (c : Dev nD) (t : Fin cfg0.N) (k : Fin 2048) :
    (iblk m c 4 t : FVec Ideal S1x1x2048 .f32) (ix3 0 0 k)
      = MOD m c (ix1 ⟨10240 + k, by omega⟩) := by
  have e := (idx_val t).2.2.2.2.1
  blk_simp [iblk]
  rw [V_mod]
  refine Cert.Rows.mod_ctx_at _ _ _ _ _ _ _ ?_ ?_
  · blk_simp [e] <;> rfl
  · blk_simp [e] <;> rfl

/-- A block of the first weights. -/
theorem blk_w1 (c : Dev nD) (t : Fin cfg0.N) (k : Fin 2048) (j : Fin 1024) :
    (iblk m c 5 t : FVec Ideal S1x2048x1024 .bf16) (ix3 0 k j)
      = W1 m c (ix3 0 k ⟨t.val % 8 * 1024 + j, by omega⟩) := by
  have e := (idx_val t).2.2.2.2.2.1
  blk_simp [iblk]
  rw [V_w1]
  show W1 m c _ = _
  blk_ext [e]

/-- A block of the second weights. -/
theorem blk_w2 (c : Dev nD) (t : Fin cfg0.N) (j : Fin 1024) (d : Fin 2048) :
    (iblk m c 6 t : FVec Ideal S1x1024x2048 .bf16) (ix3 0 j d)
      = W2 m c (ix3 0 ⟨t.val % 8 * 1024 + j, by omega⟩ d) := by
  have e := (idx_val t).2.2.2.2.2.2.1
  blk_simp [iblk]
  rw [V_w2]
  show W2 m c _ = _
  blk_ext [e]

end Cert.MlpCtxValue

end
-- ==== Proof.MlpCtx.Value.lean ====
module

public import proofs.«01_k».proof.Proof.MlpCtx.Steps
public import proofs.«01_k».proof.Proof.MlpCtx.Blocks
public import proofs.«01_k».proof.Proof.Gen.MlpCtxRefIdeal.Read

@[expose] public section

set_option maxRecDepth 16384

noncomputable section

namespace Cert.MlpCtxValue

open Idealize.ShloMosaic Idealize.ShloMosaic.TcCoe Idealize.SL.Sem
open Idealize.ShloMosaic.Pipeline (Dat)
open Cert.MlpCtxIdeal Cert.MlpCtxIdeal.Gen

variable (m : (ℓ : Loc nD τ sig) → Buf (Elt Ideal) ℓ)

/-- A context row: row `r` of context `b`. -/
abbrev ctxRow (c : Dev nD) (b : Fin 4 × Fin 256) (k : Fin 2048) : EReal := H m c (ix3 b.1 b.2 k)

/-- The modulation of a context row: the same for every row. -/
abbrev ctxMod (c : Dev nD) (b : Fin 4 × Fin 256) (k : Fin 12288) : EReal := MOD m c (ix1 k)

/-- The accumulator when the last point of a row tile has run: the multilayer perceptron of the tile's rows. -/
theorem acc_done (c : Dev nD) (t : Fin cfg0.N) (h1 : t.val % 8 = 7) (r : Fin 512) (d : Fin 2048) :
    (outsAt0 m c t.val t.isLt).2.2 (ix2 r d) = Cert.MlpRows.out (ctxRow m c) (ctxMod m c) (G m c) (W1 m c) (W2 m c) 0
      (img (t.val / 8) (tile_lt t) r, row (t.val / 8) r) d :=
  Cert.MlpRows.scratch_run (ctxRow m c) (ctxMod m c) (G m c) (W1 m c) (W2 m c) 0 (T := 2) N_0
    (fun q r => (img q.val q.isLt r, row q.val r))
    (fun n h => (outsAt0 m c n h).2.1) (fun n h => (outsAt0 m c n h).2.2)
    (iblk m c 0) (iblk m c 1) (iblk m c 3) (iblk m c 2) (iblk m c 5) (iblk m c 6)
    (blk_h m c) (blk_g m c) (fun t r k => blk_scale m c t k) (fun t r k => blk_shift m c t k) (blk_w1 m c) (blk_w2 m c)
    (norm_first m c) (norm_later m c)
    (fun t h0 => by rw [norm_first m c t h0]; exact acc_first m c t h0)
    (fun t h0 => by rw [norm_later m c t h0]; exact acc_later m c t h0) t h1 r d

/-- The reference's residual stream after the layer is the layer's formula. -/
theorem ref_resid (c : Dev nD) (b : Fin 4) (r : Fin 256) (d : Fin 2048) :
    Cert.MlpCtxRefIdeal.Read.val_main_v40 (F := Ideal) (H m c) (MOD m c) (G m c) (W1 m c) (W2 m c) (ix3 b r d)
      = Cert.MlpRows.resid (ctxRow m c) (ctxMod m c) (G m c) (W1 m c) (W2 m c) 0 (b, r) d := by
  pointwise [Cert.MlpCtxRefIdeal.Read.val_main_v0, Cert.MlpCtxRefIdeal.Read.val_main_v1, Cert.MlpCtxRefIdeal.Read.val_main_v2, Cert.MlpCtxRefIdeal.Read.val_main_v3,
    Cert.MlpCtxRefIdeal.Read.val_main_v4, Cert.MlpCtxRefIdeal.Read.val_main_v5, Cert.MlpCtxRefIdeal.Read.val_main_v6, Cert.MlpCtxRefIdeal.Read.val_main_v7,
    Cert.MlpCtxRefIdeal.Read.val_main_v8, Cert.MlpCtxRefIdeal.Read.val_main_v9, Cert.MlpCtxRefIdeal.Read.val_main_v10, Cert.MlpCtxRefIdeal.Read.val_main_v11,
    Cert.MlpCtxRefIdeal.Read.val_main_v12, Cert.MlpCtxRefIdeal.Read.val_main_v13, Cert.MlpCtxRefIdeal.Read.val_main_v14, Cert.MlpCtxRefIdeal.Read.val_main_v15,
    Cert.MlpCtxRefIdeal.Read.val_main_v16, Cert.MlpCtxRefIdeal.Read.val_main_v17, Cert.MlpCtxRefIdeal.Read.val_main_v18, Cert.MlpCtxRefIdeal.Read.val_main_v19,
    Cert.MlpCtxRefIdeal.Read.val_main_v20, Cert.MlpCtxRefIdeal.Read.val_main_v21, Cert.MlpCtxRefIdeal.Read.val_main_v22, Cert.MlpCtxRefIdeal.Read.val_main_v23,
    Cert.MlpCtxRefIdeal.Read.val_main_v24, Cert.MlpCtxRefIdeal.Read.val_main_v25, Cert.MlpCtxRefIdeal.Read.val_main_v26, Cert.MlpCtxRefIdeal.Read.val_main_v27,
    Cert.MlpCtxRefIdeal.Read.val_main_v28, Cert.MlpCtxRefIdeal.Read.val_main_v29, Cert.MlpCtxRefIdeal.Read.val_main_v30, Cert.MlpCtxRefIdeal.Read.val_main_v31,
    Cert.MlpCtxRefIdeal.Read.val_main_v32, Cert.MlpCtxRefIdeal.Read.val_main_v33, Cert.MlpCtxRefIdeal.Read.val_main_v34, Cert.MlpCtxRefIdeal.Read.val_main_v35,
    Cert.MlpCtxRefIdeal.Read.val_main_v36, Cert.MlpCtxRefIdeal.Read.val_main_v37, Cert.MlpCtxRefIdeal.Read.val_main_v38, Cert.MlpCtxRefIdeal.Read.val_main_v39,
    Cert.MlpCtxRefIdeal.Read.val_main_v40, Cert.MlpCtxRefIdeal.Read.val_main_cst, Cert.MlpCtxRefIdeal.Read.val_main_cst_0, Cert.MlpCtxRefIdeal.Read.val_main_cst_1,
    Cert.MlpCtxRefIdeal.Read.val_main_cst_2, Cert.MlpCtxRefIdeal.Read.val_main_call0_v0, Cert.MlpCtxRefIdeal.Read.val_main_call0_cst]
  rfl

/-- The reference's array over the kernel's own arguments. -/
abbrev REF (c : Dev nD) : FVec Ideal S1024x2048 .f32 :=
  Cert.MlpCtxRefIdeal.Read.val_main_v41 (F := Ideal) (H m c) (MOD m c) (G m c) (W1 m c) (W2 m c)

/-- One row tile of the output is the reference's array where the tile sits. -/
theorem point (c : Dev nD) (t : Fin cfg0.N) (h1 : t.val % 8 = 7) (r : Fin 512) (d : Fin 2048) :
    (outsAt0 m c t.val t.isLt).1 (ix2 r d)
      = REF m c (ix2 ⟨t.val / 8 * 512 + r, by have := tile_lt t; omega⟩ d) := by
  rw [out_last m c t h1]
  pointwise [k0_pay4]
  simp only [blk_h, blk_gate, acc_done m c t h1]
  pointwise [REF, Cert.MlpCtxRefIdeal.Read.val_main_v41]
  simp only [ref_resid]
  rfl

/-- The kernel's result array after the run is the reference's array over the same arguments. -/
theorem final (c : Dev nD) : (dats m 0 c).arrAt 7 cfg0.N = REF m c := by
  refine (dats m 0 c).arrAt_eq_of_covers 7 _ (by decide +kernel) fun t hf y => ?_
  have h1 : t.val % 8 = 7 := by
    exact (flush0_7 t).mp hf
  obtain ⟨r, d, rfl⟩ : ∃ r d, y = ix2 r d := ⟨y 0, y 1, eq_ix2 y⟩
  have e := (idx_val t).2.2.2.2.2.2.2
  blk_simp
  rw [after0_7]
  refine (point m c t h1 r d).trans (congrArg (REF m c) ?_)
  blk_ext [e]

end Cert.MlpCtxValue

end
-- ==== Proof.MlpCtx.Claims.lean ====
module

public import proofs.«01_k».proof.Defs
public import proofs.«01_k».proof.Proof.Gen.MlpCtx
public import proofs.«01_k».proof.Proof.Gen.MlpCtx.Frame
public import proofs.«01_k».proof.Proof.Gen.MlpCtxIdeal.Frame
public import proofs.«01_k».proof.Proof.Gen.MlpCtxRefIdeal.Run
public import proofs.«01_k».proof.Proof.Gen.MlpCtxRefIdeal.Read
public import proofs.«01_k».proof.Proof.MlpCtx.Value

@[expose] public section

set_option maxRecDepth 16384

noncomputable section

namespace Cert.MlpCtxValue

open Idealize.ShloMosaic Idealize.ShloMosaic.TcCoe Idealize.SL.Sem

/-- The program runs, leaves its arguments alone and ends quiet. -/
theorem frame : Cert.quiescent_MlpCtx := fun m ρ _ => Cert.MlpCtx.Gen.frame m ρ

/-- So does the idealized program. -/
theorem frame_ideal : Cert.quiescent_MlpCtxIdeal := fun m ρ _ => Cert.MlpCtxIdeal.Gen.frame m ρ

/-- So does the reference. -/
theorem frame_ref : Cert.quiescent_MlpCtxRefIdeal := fun m ρ _ =>
  (θ_run Cert.MlpCtxRefIdeal.defs _ _).mono (fun r h => ⟨fun c => (h c).2, sem_eq_zero_of_no_sems (by decide) r.2⟩)
    (Cert.MlpCtxRefIdeal.Value.run m ρ)

/-- Idealizing uses no named constant here. -/
theorem preserves : Cert.preserves_MlpCtx_MlpCtxIdeal := trivial

/-- The idealized program and the reference end with the same array. -/
theorem algebraic : Cert.algebraic_MlpCtxIdeal_MlpCtxRefIdeal := by
  pair_intro
  · run_from Cert.MlpCtxIdeal.Gen.run_main m g
  · run_from Cert.MlpCtxRefIdeal.Value.run m' g'
    obtain ⟨h0, h1, h2, h3, h4⟩ := hagree c
    rw [Cert.MlpCtxRefIdeal.Read.val_main_v41_eq, h0, h1, h2, h3, h4]
    exact (final m c).symm

end Cert.MlpCtxValue

end
-- ==== Proof.OutCtx.Value.lean ====
module

public import proofs.«01_k».proof.Proof.Gen.OutCtxIdeal.Value
public import proofs.«01_k».proof.Proof.Gen.OutCtxRefIdeal.Read
public import Idealize.ShloMosaic.Lib.Pipeline.ValueKit
public import proofs.«01_k».proof.Proof.Common.Rows

@[expose] public section

set_option maxRecDepth 16384

noncomputable section

namespace Cert.OutCtxValue

open Idealize.ShloMosaic Idealize.ShloMosaic.TcCoe Idealize.SL.Sem
open Idealize.ShloMosaic.Pipeline (Dat)
open Cert.OutCtxIdeal Cert.OutCtxIdeal.Gen

variable (m : (ℓ : Loc nD τ sig) → Buf (Elt Ideal) ℓ)

/-- Where each window's block sits in its array, at every point of the grid of row tiles. -/
theorem idx_val : ∀ t : Fin cfg0.N, win0_0.index t = ![t.val, 0] ∧ win0_1.index t = ![t.val, 0]
    ∧ win0_2.index t = ![0, 0, 0] ∧ win0_3.index t = ![t.val, 0]
    ∧ win0_4.index t = ![4, 0, 2] ∧ win0_5.index t = ![t.val, 0] :=
  (by decide +kernel : ∀ t : Fin grid0.N, _)

/-- The reference's array over the kernel's own arguments. -/
abbrev REF (c : Dev nD) : FVec Ideal S1024x2048 .f32 :=
  Cert.OutCtxRefIdeal.Read.val_main_v14 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The first attention half, as the kernel reads it: rows laid under one another. -/
theorem V_y1 (c : Dev nD) : @Eq (FVec Ideal S1024x1024 .bf16) (V m c main_v1)
    (truncf .bf16 (shapeCast S1024x1024 (m ((c : Thread nD τ).loc main_arg0) : FVec Ideal S4x256x1024 .f32)
      shapeCasts_S4x256x1024_S1024x1024) bitsLt_bf16_f32) := by
  entry_read; rfl

/-- The second attention half, as the kernel reads it. -/
theorem V_y2 (c : Dev nD) : @Eq (FVec Ideal S1024x1024 .bf16) (V m c main_v3)
    (truncf .bf16 (shapeCast S1024x1024 (m ((c : Thread nD τ).loc main_arg1) : FVec Ideal S4x256x1024 .f32)
      shapeCasts_S4x256x1024_S1024x1024) bitsLt_bf16_f32) := by
  entry_read; rfl

/-- The output weights, as the kernel reads them. -/
theorem V_w (c : Dev nD) : @Eq (FVec Ideal S4x2048x2048 .bf16) (V m c main_v4)
    (truncf .bf16 (m ((c : Thread nD τ).loc main_arg2) : FVec Ideal S4x2048x2048 .f32) bitsLt_bf16_f32) := by
  entry_read; rfl

/-- The residual stream, as the kernel reads it. -/
theorem V_h (c : Dev nD) : @Eq (FVec Ideal S1024x2048 .f32) (V m c main_v5)
    (shapeCast S1024x2048 (m ((c : Thread nD τ).loc main_arg3) : FVec Ideal S4x256x2048 .f32)
      shapeCasts_S4x256x2048_S1024x2048) := by
  entry_read; rfl

/-- The modulation table, as the kernel reads it. -/
theorem V_mod (c : Dev nD) : @Eq (FVec Ideal S8x1x12288 .f32) (V m c main_v9)
    (shapeCast S8x1x12288 (concatenate S8x12288 0
      [⟨S4x12288, broadcastInDim S4x12288 ![] bcast_S_S4x12288 (constant (F := Ideal) S_ .f32 0x00000000#32)⟩,
       ⟨S4x12288, broadcastInDim S4x12288 ![1] bcast_S12288_S4x12288_1 (m ((c : Thread nD τ).loc main_arg4) : FVec Ideal S12288 .f32)⟩]
      concatenates_S4x12288_S4x12288_S8x12288_d0) shapeCasts_S8x12288_S8x1x12288) := by
  entry_read; rfl

/-- A block of the first attention half. -/
theorem blk_y1 (c : Dev nD) (t : Fin cfg0.N) (y : S512x1024.Idx) (i : S4x256x1024.Idx)
    (h0 : (i 0 : ℕ) = (t.val * 512 + y 0) / 256) (h1 : (i 1 : ℕ) = (t.val * 512 + y 0) % 256) (h2 : (i 2 : ℕ) = y 1) :
    (iblk m c 0 t : FVec Ideal S512x1024 .bf16) y = (m ((c : Thread nD τ).loc main_arg0) : FVec Ideal S4x256x1024 .f32) i := by
  have e := (idx_val t).1
  blk_simp [iblk]
  rw [V_y1]
  show shapeCast S1024x1024 _ _ _ = _
  rw [Cert.Rows.ctx_at]
  blk_ext [e]

/-- A block of the second attention half. -/
theorem blk_y2 (c : Dev nD) (t : Fin cfg0.N) (y : S512x1024.Idx) (i : S4x256x1024.Idx)
    (h0 : (i 0 : ℕ) = (t.val * 512 + y 0) / 256) (h1 : (i 1 : ℕ) = (t.val * 512 + y 0) % 256) (h2 : (i 2 : ℕ) = y 1) :
    (iblk m c 1 t : FVec Ideal S512x1024 .bf16) y = (m ((c : Thread nD τ).loc main_arg1) : FVec Ideal S4x256x1024 .f32) i := by
  have e := (idx_val t).2.1
  blk_simp [iblk]
  rw [V_y2]
  show shapeCast S1024x1024 _ _ _ = _
  rw [Cert.Rows.ctx_at]
  blk_ext [e]

/-- The block of the weights: this layer's matrix. -/
theorem blk_w (c : Dev nD) (t : Fin cfg0.N) (y : S1x2048x2048.Idx) (i : S4x2048x2048.Idx)
    (h0 : (i 0 : ℕ) = y 0) (h1 : (i 1 : ℕ) = y 1) (h2 : (i 2 : ℕ) = y 2) :
    (iblk m c 2 t : FVec Ideal S1x2048x2048 .bf16) y = (m ((c : Thread nD τ).loc main_arg2) : FVec Ideal S4x2048x2048 .f32) i := by
  have e := (idx_val t).2.2.1
  blk_simp [iblk]
  rw [V_w]
  show (m ((c : Thread nD τ).loc main_arg2) : FVec Ideal S4x2048x2048 .f32) _ = _
  blk_ext [e]

/-- A block of the residual stream. -/
theorem blk_h (c : Dev nD) (t : Fin cfg0.N) (y : S512x2048.Idx) (i : S4x256x2048.Idx)
    (h0 : (i 0 : ℕ) = (t.val * 512 + y 0) / 256) (h1 : (i 1 : ℕ) = (t.val * 512 + y 0) % 256) (h2 : (i 2 : ℕ) = y 1) :
    (iblk m c 3 t : FVec Ideal S512x2048 .f32) y = (m ((c : Thread nD τ).loc main_arg3) : FVec Ideal S4x256x2048 .f32) i := by
  have e := (idx_val t).2.2.2.1
  blk_simp [iblk]
  rw [V_h, Cert.Rows.ctx_at]
  blk_ext [e]

/-- The block of the modulation table: the context's gate. -/
theorem blk_mod (c : Dev nD) (t : Fin cfg0.N) (y : S1x1x2048.Idx) (i : S12288.Idx) (h0 : (i 0 : ℕ) = 4096 + y 2) :
    (iblk m c 4 t : FVec Ideal S1x1x2048 .f32) y = (m ((c : Thread nD τ).loc main_arg4) : FVec Ideal S12288 .f32) i := by
  have e := (idx_val t).2.2.2.2.1
  have hy : (y 0 : ℕ) < 1 := (y 0).isLt
  blk_simp [iblk]
  rw [V_mod]
  refine Cert.Rows.mod_ctx_at _ _ _ _ _ _ _ ?_ ?_
  · blk_simp [e]
    try omega
  · blk_simp [e, h0]
    try omega

/-- Where the output's block sits. -/
theorem emb_out (t : Fin cfg0.N) (y : S512x2048.Idx) :
    ((((cfg0.win 5).blk t).view.emb y) 0 : ℕ) = t.val * 512 + y 0 ∧ ((((cfg0.win 5).blk t).view.emb y) 1 : ℕ) = y 1 := by
  have e := (idx_val t).2.2.2.2.2
  constructor <;> blk_simp [e]

/-- One row tile: what the kernel's body computes from its blocks is the reference's array read where the tile sits. -/
theorem point (c : Dev nD) (t : Fin cfg0.N) (y : S512x2048.Idx) (i : S1024x2048.Idx)
    (e0 : (i 0 : ℕ) = t.val * 512 + y 0) (e1 : (i 1 : ℕ) = y 1) :
    k0_pay1 (F := Ideal) (iblk m c 0 t) (View.ld (iblk m c 2 t) r0_1) (iblk m c 1 t)
      (View.ld (iblk m c 2 t) r0_2) (iblk m c 3 t) (iblk m c 4 t) y
    = REF m c i := by
  pointwise [k0_pay1, REF, Cert.OutCtxRefIdeal.Read.val_main_v14, Cert.OutCtxRefIdeal.Read.val_main_v13, Cert.OutCtxRefIdeal.Read.val_main_v12, Cert.OutCtxRefIdeal.Read.val_main_v11, Cert.OutCtxRefIdeal.Read.val_main_v10,
    Cert.OutCtxRefIdeal.Read.val_main_v9, Cert.OutCtxRefIdeal.Read.val_main_v8, Cert.OutCtxRefIdeal.Read.val_main_v7, Cert.OutCtxRefIdeal.Read.val_main_v6, Cert.OutCtxRefIdeal.Read.val_main_v2]
  reads_congr
  · refine blk_h m c t y _ ?_ ?_ ?_ <;> blk_simp [e0, e1]
  · refine blk_mod m c t _ _ ?_ <;> blk_simp [e0, e1]
  · refine blk_y1 m c t _ _ ?_ ?_ ?_ <;> blk_simp [e0, e1]
  · refine blk_w m c t _ _ ?_ ?_ ?_ <;> blk_simp [e0, e1]
    rfl
  · refine blk_y2 m c t _ _ ?_ ?_ ?_ <;> blk_simp [e0, e1]
  · refine blk_w m c t _ _ ?_ ?_ ?_ <;> blk_simp [e0, e1]
    rfl

/-- The kernel's result array after the run is the reference's array over the same arguments. -/
theorem final (c : Dev nD) : (dats m 0 c).arrAt 5 cfg0.N = REF m c := by
  refine (dats m 0 c).arrAt_eq_of_covers 5 _ (by decide +kernel) fun t _ y => ?_
  blk_simp
  rw [after0_5]; frame_out
  exact point m c t y _ (emb_out t y).1 (emb_out t y).2

end Cert.OutCtxValue

end
-- ==== Proof.OutCtx.Claims.lean ====
module

public import proofs.«01_k».proof.Defs
public import proofs.«01_k».proof.Proof.Gen.OutCtx
public import proofs.«01_k».proof.Proof.Gen.OutCtx.Frame
public import proofs.«01_k».proof.Proof.Gen.OutCtxIdeal.Frame
public import proofs.«01_k».proof.Proof.Gen.OutCtxRefIdeal.Run
public import proofs.«01_k».proof.Proof.OutCtx.Value

@[expose] public section

set_option maxRecDepth 16384

noncomputable section

namespace Cert.OutCtxValue

open Idealize.ShloMosaic Idealize.ShloMosaic.TcCoe Idealize.SL.Sem

/-- The program runs, leaves its arguments alone and ends quiet. -/
theorem frame : Cert.quiescent_OutCtx := fun m ρ _ => Cert.OutCtx.Gen.frame m ρ

/-- So does the idealized program. -/
theorem frame_ideal : Cert.quiescent_OutCtxIdeal := fun m ρ _ => Cert.OutCtxIdeal.Gen.frame m ρ

/-- So does the reference. -/
theorem frame_ref : Cert.quiescent_OutCtxRefIdeal := fun m ρ _ =>
  (θ_run Cert.OutCtxRefIdeal.defs _ _).mono (fun r h => ⟨fun c => (h c).2, sem_eq_zero_of_no_sems (by decide) r.2⟩)
    (Cert.OutCtxRefIdeal.Value.run m ρ)

/-- Idealizing uses no named constant here. -/
theorem preserves : Cert.preserves_OutCtx_OutCtxIdeal := trivial

/-- The idealized program and the reference end with the same array. -/
theorem algebraic : Cert.algebraic_OutCtxIdeal_OutCtxRefIdeal := by
  pair_intro
  · run_from Cert.OutCtxIdeal.Gen.run_main m g
  · run_from Cert.OutCtxRefIdeal.Value.run m' g'
    exact (final m c).symm

end Cert.OutCtxValue

end
-- ==== Proof.OddCtx.Value.lean ====
module

public import proofs.«01_k».proof.Proof.Gen.OddCtxIdeal.Value
public import proofs.«01_k».proof.Proof.Gen.OddCtxRefIdeal.Read
public import Idealize.ShloMosaic.Lib.Pipeline.ValueKit
public import Idealize.ShloMosaic.Lib.Pipeline.ReadBack
public import proofs.«01_k».proof.Proof.Common.Rows

@[expose] public section

set_option maxRecDepth 16384

noncomputable section

namespace Cert.OddCtxValue

open Idealize.ShloMosaic Idealize.ShloMosaic.TcCoe Idealize.SL.Sem
open Idealize.ShloMosaic.Pipeline (Dat)
open Cert.OddCtxIdeal Cert.OddCtxIdeal.Gen

variable (m : (ℓ : Loc nD τ sig) → Buf (Elt Ideal) ℓ)

/-- The context's residual stream. -/
abbrev H (c : Dev nD) : FVec Ideal S4x256x2048 .f32 := m ((c : Thread nD τ).loc main_arg0)
/-- The context's modulation. -/
abbrev MOD (c : Dev nD) : FVec Ideal S12288 .f32 := m ((c : Thread nD τ).loc main_arg1)
/-- The norm's gains. -/
abbrev G (c : Dev nD) : FVec Ideal S4x2048 .f32 := m ((c : Thread nD τ).loc main_arg2)
/-- The projection's weights. -/
abbrev W (c : Dev nD) : FVec Ideal S2x2048x8192 .f32 := m ((c : Thread nD τ).loc main_arg3)

/-- Where each window's block sits in its array: the row tile is the quotient by eight, the block of columns the remainder. -/
theorem idx_val : ∀ t : Fin cfg0.N, win0_0.index t = ![t.val / 8, 0] ∧ win0_1.index t = ![0, 0]
    ∧ win0_2.index t = ![4, 0, 0] ∧ win0_3.index t = ![4, 0, 1]
    ∧ win0_4.index t = ![0, 0, t.val % 8] ∧ win0_5.index t = ![t.val / 8, t.val % 8] :=
  (by decide +kernel : ∀ t : Fin grid0.N, _)

/-- There is one row tile. -/
theorem tile_lt (t : Fin cfg0.N) : t.val / 8 < 1 := by
  have hN := lt_of_lt_of_eq t.isLt (show cfg0.N = 8 from N_0)
  omega

/-- The context a row of the tile lies in. -/
abbrev img (q : ℕ) (hq : q < 1) (r : Fin 1024) : Fin 4 := ⟨(q * 1024 + r) / 256, by omega⟩

/-- A row of the tile, counted within its context. -/
abbrev row (q : ℕ) (r : Fin 1024) : Fin 256 := ⟨(q * 1024 + r) % 256, by omega⟩

/-- The first point of a row tile leaves the normalised, modulated rows in the scratch. -/
theorem norm_first (c : Dev nD) (t : Fin cfg0.N) (h0 : t.val % 8 = 0) :
    (outsAt0 m c t.val t.isLt).2 = k0_pay1 (F := Ideal) (iblk m c 0 t) (iblk m c 1 t) (iblk m c 3 t) (iblk m c 2 t) := by
  rw [outsAt0_A m c t h0]
  frame_out

/-- A later point keeps them. -/
theorem norm_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- Every point writes the product of the scratch with its block of the weights. -/
theorem out_eq (c : Dev nD) (t : Fin cfg0.N) :
    (outsAt0 m c t.val t.isLt).1 = k0_pay2 (F := Ideal) (outsAt0 m c t.val t.isLt).2 (iblk m c 4 t) := by
  by_cases h0 : t.val % 8 = 0
  · rw [norm_first m c t h0, outsAt0_A m c t h0]
    frame_out
  · rw [norm_later m c t h0, outsAt0_B m c t h0]
    frame_out
    simp only [read_unread_whole]

/-- The residual stream as the kernel reads it. -/
theorem V_h (c : Dev nD) : @Eq (FVec Ideal S1024x2048 .f32) (V m c main_v0)
    (shapeCast S1024x2048 (H m c) shapeCasts_S4x256x2048_S1024x2048) := by
  entry_read; rfl

/-- The norm's gain as the kernel reads it: this layer's row. -/
theorem V_g (c : Dev nD) : @Eq (FVec Ideal S1x2048 .f32) (V m c main_v8)
    (shapeCast S1x2048 (shapeCast S2048 (extractStridedSlice S1x2048 ![1, 0] (G m c) slices_S4x2048_S1x2048_1_0)
      shapeCasts_S1x2048_S2048) shapeCasts_S2048_S1x2048) := by
  entry_read; rfl

/-- The modulation table as the kernel reads it. -/
theorem V_mod (c : Dev nD) : @Eq (FVec Ideal S8x1x12288 .f32) (V m c main_v7)
    (shapeCast S8x1x12288 (concatenate S8x12288 0 [
       ⟨S4x12288, broadcastInDim S4x12288 ![] bcast_S_S4x12288 (constant (F := Ideal) S_ .f32 0x00000000#32)⟩,
       ⟨S4x12288, broadcastInDim S4x12288 ![1] bcast_S12288_S4x12288_1 (MOD m c)⟩]
      concatenates_S4x12288_S4x12288_S8x12288_d0) shapeCasts_S8x12288_S8x1x12288) := by
  entry_read; rfl

/-- The weights as the kernel reads them. -/
theorem V_w (c : Dev nD) : @Eq (FVec Ideal S2x2048x8192 .bf16) (V m c main_v3) (truncf .bf16 (W m c) bitsLt_bf16_f32) := by
  entry_read; rfl

/-- A block of the residual stream. -/
theorem blk_h (c : Dev nD) (t : Fin cfg0.N) (r : Fin 1024) (k : Fin 2048) :
    (iblk m c 0 t : FVec Ideal S1024x2048 .f32) (ix2 r k)
      = H m c (ix3 (img (t.val / 8) (tile_lt t) r) (row (t.val / 8) r) k) := by
  have e := (idx_val t).1
  blk_simp [iblk]
  rw [V_h, Cert.Rows.ctx_at]
  blk_ext [e]

/-- The block of the norm's gain. -/
theorem blk_g (c : Dev nD) (t : Fin cfg0.N) (k : Fin 2048) :
    (iblk m c 1 t : FVec Ideal S1x2048 .f32) (ix2 0 k) = G m c (ix2 1 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix1 ⟨k, by omega⟩) := by
  have e := (idx_val t).2.2.1
  blk_simp [iblk]
  rw [V_mod]
  refine Cert.Rows.mod_ctx_at _ _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix1 ⟨2048 + k, by omega⟩) := by
  have e := (idx_val t).2.2.2.1
  blk_simp [iblk]
  rw [V_mod]
  refine Cert.Rows.mod_ctx_at _ _ _ _ _ _ _ ?_ ?_
  · blk_simp [e] <;> rfl
  · blk_simp [e] <;> rfl

/-- A block of the weights. -/
theorem blk_w (c : Dev nD) (t : Fin cfg0.N) (k : Fin 2048) (j : Fin 1024) :
    (iblk m c 4 t : FVec Ideal S1x2048x1024 .bf16) (ix3 0 k j)
      = W m c (ix3 0 k ⟨t.val % 8 * 1024 + j, by omega⟩) := by
  have e := (idx_val t).2.2.2.2.1
  blk_simp [iblk]
  rw [V_w]
  show W m c _ = _
  blk_ext [e]

/-- The reference's normalised, modulated input. -/
abbrev XN (c : Dev nD) : FVec Ideal S4x256x2048 .f32 :=
  Cert.OddCtxRefIdeal.Read.val_main_v28 (F := Ideal) (H m c) (MOD m c) (G m c)

/-- What the first point of a tile stores is the reference's normalised input. -/
theorem pay1_eq (c : Dev nD) (t : Fin cfg0.N) (r : Fin 1024) (k : Fin 2048) :
    k0_pay1 (F := Ideal) (iblk m c 0 t) (iblk m c 1 t) (iblk m c 3 t) (iblk m c 2 t) (ix2 r k)
      = XN m c (ix3 (img (t.val / 8) (tile_lt t) r) (row (t.val / 8) r) k) := by
  pointwise [k0_pay1, XN, Cert.OddCtxRefIdeal.Read.val_main_v0, Cert.OddCtxRefIdeal.Read.val_main_v1, Cert.OddCtxRefIdeal.Read.val_main_v6, Cert.OddCtxRefIdeal.Read.val_main_v7,
    Cert.OddCtxRefIdeal.Read.val_main_v8, Cert.OddCtxRefIdeal.Read.val_main_v9, Cert.OddCtxRefIdeal.Read.val_main_v10, Cert.OddCtxRefIdeal.Read.val_main_v11,
    Cert.OddCtxRefIdeal.Read.val_main_v12, Cert.OddCtxRefIdeal.Read.val_main_v13, Cert.OddCtxRefIdeal.Read.val_main_v14, Cert.OddCtxRefIdeal.Read.val_main_v15,
    Cert.OddCtxRefIdeal.Read.val_main_v16, Cert.OddCtxRefIdeal.Read.val_main_v17, Cert.OddCtxRefIdeal.Read.val_main_v18, Cert.OddCtxRefIdeal.Read.val_main_v19,
    Cert.OddCtxRefIdeal.Read.val_main_v20, Cert.OddCtxRefIdeal.Read.val_main_v21, Cert.OddCtxRefIdeal.Read.val_main_v22, Cert.OddCtxRefIdeal.Read.val_main_v23,
    Cert.OddCtxRefIdeal.Read.val_main_v24, Cert.OddCtxRefIdeal.Read.val_main_v25, Cert.OddCtxRefIdeal.Read.val_main_v26, Cert.OddCtxRefIdeal.Read.val_main_v27,
    Cert.OddCtxRefIdeal.Read.val_main_v28, Cert.OddCtxRefIdeal.Read.val_main_cst, Cert.OddCtxRefIdeal.Read.val_main_cst_0, Cert.OddCtxRefIdeal.Read.val_main_cst_1,
    Cert.OddCtxRefIdeal.Read.val_main_cst_2]
  simp only [blk_h, blk_g, blk_scale, blk_shift]

/-- After every point of a row tile the scratch holds the tile's normalised rows. -/
theorem scratch_norm (c : Dev nD) : ∀ (n : ℕ) (hn : n < cfg0.N) (r : Fin 1024) (k : Fin 2048),
    (outsAt0 m c n hn).2 (ix2 r k) = XN m c (ix3 (img (n / 8) (tile_lt ⟨n, hn⟩) r) (row (n / 8) r) k) := by
  intro n
  induction n with
  | zero =>
    intro hn r k
    rw [norm_first m c ⟨0, hn⟩ rfl]
    exact pay1_eq m c _ r k
  | succ n ih =>
    intro hn r k
    by_cases h0 : (n + 1) % 8 = 0
    · rw [norm_first m c ⟨n + 1, hn⟩ h0]
      exact pay1_eq m c _ r k
    · rw [norm_later m c ⟨n + 1, hn⟩ h0]
      have hd : n / 8 = (n + 1) / 8 := by omega
      have := ih (Nat.lt_of_succ_lt hn) r k
      simp only [hd] at this
      exact this

/-- The reference's array over the kernel's own arguments. -/
abbrev REF (c : Dev nD) : FVec Ideal S1024x8192 .bf16 :=
  Cert.OddCtxRefIdeal.Read.val_main_v33 (F := Ideal) (H m c) (MOD m c) (G m c) (W m c)

/-- One block of the output is the reference's array where the block sits. -/
theorem point (c : Dev nD) (t : Fin cfg0.N) (r d : Fin 1024) :
    (outsAt0 m c t.val t.isLt).1 (ix2 r d)
      = REF m c (ix2 ⟨t.val / 8 * 1024 + r, by have := tile_lt t; omega⟩ ⟨t.val % 8 * 1024 + d, by omega⟩) := by
  rw [out_eq m c t]
  pointwise [k0_pay2]
  simp only [scratch_norm, blk_w]
  pointwise [REF, Cert.OddCtxRefIdeal.Read.val_main_v33, Cert.OddCtxRefIdeal.Read.val_main_v32, Cert.OddCtxRefIdeal.Read.val_main_v31, Cert.OddCtxRefIdeal.Read.val_main_v30,
    Cert.OddCtxRefIdeal.Read.val_main_v29]

/-- The kernel's result array after the run is the reference's array over the same arguments. -/
theorem final (c : Dev nD) : (dats m 0 c).arrAt 5 cfg0.N = REF m c := by
  refine (dats m 0 c).arrAt_eq_of_covers 5 _ (by decide +kernel) fun t hf y => ?_
  obtain ⟨r, d, rfl⟩ : ∃ r d, y = ix2 r d := ⟨y 0, y 1, eq_ix2 y⟩
  have e := (idx_val t).2.2.2.2.2
  blk_simp
  rw [after0_5]
  refine (point m c t r d).trans (congrArg (REF m c) ?_)
  blk_ext [e]

end Cert.OddCtxValue

end
-- ==== Proof.OddCtx.Claims.lean ====
module

public import proofs.«01_k».proof.Defs
public import proofs.«01_k».proof.Proof.Gen.OddCtx
public import proofs.«01_k».proof.Proof.Gen.OddCtx.Frame
public import proofs.«01_k».proof.Proof.Gen.OddCtxIdeal.Frame
public import proofs.«01_k».proof.Proof.Gen.OddCtxRefIdeal.Run
public import proofs.«01_k».proof.Proof.OddCtx.Value

@[expose] public section

set_option maxRecDepth 16384

noncomputable section

namespace Cert.OddCtxValue

open Idealize.ShloMosaic Idealize.ShloMosaic.TcCoe Idealize.SL.Sem

/-- The program runs, leaves its arguments alone and ends quiet. -/
theorem frame : Cert.quiescent_OddCtx := fun m ρ _ => Cert.OddCtx.Gen.frame m ρ

/-- So does the idealized program. -/
theorem frame_ideal : Cert.quiescent_OddCtxIdeal := fun m ρ _ => Cert.OddCtxIdeal.Gen.frame m ρ

/-- So does the reference. -/
theorem frame_ref : Cert.quiescent_OddCtxRefIdeal := fun m ρ _ =>
  (θ_run Cert.OddCtxRefIdeal.defs _ _).mono (fun r h => ⟨fun c => (h c).2, sem_eq_zero_of_no_sems (by decide) r.2⟩)
    (Cert.OddCtxRefIdeal.Value.run m ρ)

/-- Idealizing uses no named constant here. -/
theorem preserves : Cert.preserves_OddCtx_OddCtxIdeal := trivial

/-- The idealized program and the reference end with the same array. -/
theorem algebraic : Cert.algebraic_OddCtxIdeal_OddCtxRefIdeal := by
  pair_intro
  · run_from Cert.OddCtxIdeal.Gen.run_main m g
  · run_from Cert.OddCtxRefIdeal.Value.run m' g'
    exact (final m c).symm

end Cert.OddCtxValue

end
-- ==== Proof.EvenCtx.Points.lean ====
module

public import proofs.«01_k».proof.Proof.Gen.EvenCtxIdeal.Value
public import proofs.«01_k».proof.Proof.Gen.EvenCtxRefIdeal.Read
public import proofs.«01_k».proof.Proof.EvenProj.Layout
public import proofs.«01_k».proof.Proof.Common.Rows
public import Idealize.ShloMosaic.Lib.Pipeline.ReadBack

@[expose] public section

set_option maxRecDepth 16384

noncomputable section

namespace Cert.EvenCtxValue

open Idealize.ShloMosaic Idealize.ShloMosaic.TcCoe Idealize.SL.Sem
open Idealize.ShloMosaic.Pipeline (Dat)
open Cert.EvenCtxIdeal Cert.EvenCtxIdeal.Gen
open Cert.EvenProjValue (src laid evenW evenW_at)

open Cert.EvenCtxRefIdeal.Read in
/-- The reference's projection, laid out as the call lays it out. -/
theorem ref_at (x0 : FVec Ideal S4x256x2048 .f32) (x1 : FVec Ideal S12288 .f32) (x2 : FVec Ideal S4x2048 .f32)
    (x3 : FVec Ideal S2x2048x5184 .f32) (j : Cert.EvenCtxRefIdeal.S4x256x6144.Idx) :
    val_main_v59 (F := Ideal) x0 x1 x2 x3 j = laid (fun n => val_main_v31 (F := Ideal) x0 x1 x2 x3 (ix3 (j 0) (j 1) n)) (j 2) := by
  have hn : (j 2 : ℕ) < 6144 := (j 2).isLt
  have z : (Ideal.ofBits .f32 0x00000000#32 : EReal) = 0 := by simp [Ideal.ofBits, Ideal.ieee]
  unfold laid src
  by_cases h1 : (j 2 : ℕ) < 2048
  · by_cases hl : (j 2 : ℕ) % 256 < 192
    · have e : (j 2 : ℕ) / 256 * 192 + (j 2 : ℕ) % 256 < 5184 := by omega
      pointwise [val_main_v59, val_main_v57, val_main_v56, val_main_v54, val_main_v32]
      simp only [h1, hl, dite_true, if_true, e]
    · pointwise [val_main_v59, val_main_v57, val_main_v56, val_main_v55, val_main_cst_6]
      simp only [h1, hl, dite_true, dite_false, if_true, if_false, lt_irrefl, z]
  have a2 : ((j 2 : ℕ) - 2048 < 3072) = ((j 2 : ℕ) < 5120) := propext (by omega)
  by_cases h2 : (j 2 : ℕ) < 5120
  · have e : (j 2 : ℕ) + 64 < 5184 := by omega
    pointwise [val_main_v59, val_main_v35]
    simp only [h1, h2, a2, dite_true, dite_false, if_true, if_false, e]
    reads_congr
    blk_ext
  have h3 : ((j 2 : ℕ) - 2048 - 3072 < 512) = ((j 2 : ℕ) < 5632) := propext (by omega)
  have h4 : ((j 2 : ℕ) - 2048 - 3072 - 512 < 64) = ((j 2 : ℕ) < 5696) := propext (by omega)
  by_cases h5 : (j 2 : ℕ) < 5696
  · have e : (j 2 : ℕ) - 3584 < 5184 := by omega
    by_cases h6 : (j 2 : ℕ) < 5632
    · pointwise [val_main_v59, val_main_v33]
      simp only [h1, h2, a2, h3, h5, h6, dite_true, dite_false, if_true, if_false, e]
      reads_congr
      blk_ext
    · pointwise [val_main_v59, val_main_v34]
      simp only [h1, h2, a2, h3, h4, h5, h6, dite_true, dite_false, if_true, if_false, e]
      reads_congr
      blk_ext
  · have h6 : ¬ (j 2 : ℕ) < 5632 := by omega
    pointwise [val_main_v59, val_main_v58, val_main_cst_7]
    simp only [h1, h2, a2, h3, h4, h5, h6, dite_true, dite_false, if_true, if_false, lt_irrefl, z]

variable (m : (ℓ : Loc nD τ sig) → Buf (Elt Ideal) ℓ)

/-- The context's residual stream. -/
abbrev H (c : Dev nD) : FVec Ideal S4x256x2048 .f32 := m ((c : Thread nD τ).loc main_arg0)
/-- The context's modulation. -/
abbrev MOD (c : Dev nD) : FVec Ideal S12288 .f32 := m ((c : Thread nD τ).loc main_arg1)
/-- The norm's gains. -/
abbrev G (c : Dev nD) : FVec Ideal S4x2048 .f32 := m ((c : Thread nD τ).loc main_arg2)
/-- The projection's weights. -/
abbrev W (c : Dev nD) : FVec Ideal S2x2048x5184 .f32 := m ((c : Thread nD τ).loc main_arg3)
/-- The gains of the norm of the compressed keys and values. -/
abbrev GK (c : Dev nD) : FVec Ideal S2x512 .f32 := m ((c : Thread nD τ).loc main_arg4)
/-- The weights that expand them. -/
abbrev U (c : Dev nD) : FVec Ideal S2x512x2048 .f32 := m ((c : Thread nD τ).loc main_arg5)

/-- Where each window's block sits in its array: the row tile is the quotient by six, the block of columns the remainder. -/
theorem idx_val : ∀ t : Fin cfg0.N, win0_0.index t = ![t.val / 6, 0] ∧ win0_1.index t = ![0, 0]
    ∧ win0_2.index t = ![4, 0, 0] ∧ win0_3.index t = ![4, 0, 1]
    ∧ win0_4.index t = ![0, t.val % 6] ∧ win0_5.index t = ![0, 0] ∧ win0_6.index t = ![0, 0, 0]
    ∧ win0_7.index t = ![t.val / 6, t.val % 6] ∧ win0_8.index t = ![t.val / 6, 0] :=
  (by decide +kernel : ∀ t : Fin grid0.N, _)

/-- There is one row tile. -/
theorem tile_lt (t : Fin cfg0.N) : t.val / 6 < 1 := by
  have hN := lt_of_lt_of_eq t.isLt (show cfg0.N = 6 from N_0)
  omega

/-- The context a row of the tile lies in. -/
abbrev img (q : ℕ) (hq : q < 1) (r : Fin 1024) : Fin 4 := ⟨(q * 1024 + r) / 256, by omega⟩

/-- A row of the tile, counted within its context. -/
abbrev row (q : ℕ) (r : Fin 1024) : Fin 256 := ⟨(q * 1024 + r) % 256, by omega⟩

/-- The first point of a row tile leaves the normalised, modulated rows in the scratch. -/
theorem norm_first (c : Dev nD) (t : Fin cfg0.N) (h0 : t.val % 6 = 0) :
    (outsAt0 m c t.val t.isLt).2.2 = k0_pay1 (F := Ideal) (iblk m c 0 t) (iblk m c 1 t) (iblk m c 3 t) (iblk m c 2 t) := by
  rw [outsAt0_A m c t h0 (by omega)]
  frame_out

/-- A later point keeps them. -/
theorem norm_later (c : Dev nD) (t : Fin cfg0.N) (h0 : ¬t.val % 6 = 0) :
    (outsAt0 m c t.val t.isLt).2.2 = (outsAt0 m c (t.val - 1) (Nat.lt_of_le_of_lt (Nat.sub_le _ _) t.isLt)).2.2 := by
  by_cases h1 : t.val % 6 = 5
  · rw [outsAt0_C m c t h0 h1]
    rfl
  · rw [outsAt0_B m c t h0 h1]
    rfl

/-- Every point writes the product of the scratch with its block of the weights. -/
theorem out_eq (c : Dev nD) (t : Fin cfg0.N) :
    (outsAt0 m c t.val t.isLt).1 = k0_pay3 (F := Ideal) (outsAt0 m c t.val t.isLt).2.2 (iblk m c 4 t) := by
  by_cases h0 : t.val % 6 = 0
  · rw [norm_first m c t h0, outsAt0_A m c t h0 (by omega)]
    frame_out
  · rw [norm_later m c t h0]
    by_cases h1 : t.val % 6 = 5
    · rw [outsAt0_C m c t h0 h1]
      frame_out
      simp only [read_unread_whole]
    · rw [outsAt0_B m c t h0 h1]
      frame_out
      simp only [read_unread_whole]

/-- The last point of a row tile also writes the expanded keys and values. -/
theorem kv_eq (c : Dev nD) (t : Fin cfg0.N) (h1 : t.val % 6 = 5) :
    (outsAt0 m c t.val t.isLt).2.1
      = k0_pay4 (F := Ideal) (outsAt0 m c t.val t.isLt).2.2 (iblk m c 4 t) (iblk m c 5 t) (iblk m c 6 t) := by
  rw [norm_later m c t (by omega), outsAt0_C m c t (by omega) h1]
  frame_out
  simp only [read_unread_whole]

/-- The residual stream as the kernel reads it. -/
theorem V_h (c : Dev nD) : @Eq (FVec Ideal S1024x2048 .f32) (V m c main_v3)
    (shapeCast S1024x2048 (H m c) shapeCasts_S4x256x2048_S1024x2048) := by
  entry_read; rfl

/-- The norm's gain as the kernel reads it: this layer's row. -/
theorem V_g (c : Dev nD) : @Eq (FVec Ideal S1x2048 .f32) (V m c main_v22)
    (shapeCast S1x2048 (shapeCast S2048 (extractStridedSlice S1x2048 ![0, 0] (G m c) slices_S4x2048_S1x2048_0_0)
      shapeCasts_S1x2048_S2048) shapeCasts_S2048_S1x2048) := by
  entry_read; rfl

/-- The modulation table as the kernel reads it. -/
theorem V_mod (c : Dev nD) : @Eq (FVec Ideal S8x1x12288 .f32) (V m c main_v21)
    (shapeCast S8x1x12288 (concatenate S8x12288 0 [
       ⟨S4x12288, broadcastInDim S4x12288 ![] bcast_S_S4x12288 (constant (F := Ideal) S_ .f32 0x00000000#32)⟩,
       ⟨S4x12288, broadcastInDim S4x12288 ![1] bcast_S12288_S4x12288_1 (MOD m c)⟩]
      concatenates_S4x12288_S4x12288_S8x12288_d0) shapeCasts_S8x12288_S8x1x12288) := by
  entry_read; rfl

/-- The weights as the kernel reads them. -/
theorem V_w (c : Dev nD) : @Eq (FVec Ideal S2048x6144 .bf16) (V m c main_v17) (evenW (W m c)) := by
  entry_read; rfl

/-- The second norm's gain as the kernel reads it: this layer's row. -/
theorem V_gk (c : Dev nD) : @Eq (FVec Ideal S1x512 .f32) (V m c main_v23)
    (shapeCast S1x512 (shapeCast S512 (extractStridedSlice S1x512 ![0, 0] (GK m c) slices_S2x512_S1x512_0_0)
      shapeCasts_S1x512_S512) shapeCasts_S512_S1x512) := by
  entry_read; rfl

/-- The expanding weights as the kernel reads them. -/
theorem V_u (c : Dev nD) : @Eq (FVec Ideal S2x512x2048 .bf16) (V m c main_v2) (truncf .bf16 (U m c) bitsLt_bf16_f32) := by
  entry_read; rfl

/-- A block of the residual stream. -/
theorem blk_h (c : Dev nD) (t : Fin cfg0.N) (r : Fin 1024) (k : Fin 2048) :
    (iblk m c 0 t : FVec Ideal S1024x2048 .f32) (ix2 r k)
      = H m c (ix3 (img (t.val / 6) (tile_lt t) r) (row (t.val / 6) r) k) := by
  have e := (idx_val t).1
  blk_simp [iblk]
  rw [V_h, Cert.Rows.ctx_at]
  blk_ext [e]

/-- The block of the norm's gain. -/
theorem blk_g (c : Dev nD) (t : Fin cfg0.N) (k : Fin 2048) :
    (iblk m c 1 t : FVec Ideal S1x2048 .f32) (ix2 0 k) = G m c (ix2 0 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix1 ⟨k, by omega⟩) := by
  have e := (idx_val t).2.2.1
  blk_simp [iblk]
  rw [V_mod]
  refine Cert.Rows.mod_ctx_at _ _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix1 ⟨2048 + k, by omega⟩) := by
  have e := (idx_val t).2.2.2.1
  blk_simp [iblk]
  rw [V_mod]
  refine Cert.Rows.mod_ctx_at _ _ _ _ _ _ _ ?_ ?_
  · blk_simp [e] <;> rfl
  · blk_simp [e] <;> rfl

/-- A block of the weights. -/
theorem blk_w (c : Dev nD) (t : Fin cfg0.N) (k : Fin 2048) (j : Fin 1024) :
    (iblk m c 4 t : FVec Ideal S2048x1024 .bf16) (ix2 k j)
      = laid (fun n => W m c (ix3 0 k n)) (t.val % 6 * 1024 + j) := by
  have e := (idx_val t).2.2.2.2.1
  blk_simp [iblk]
  rw [V_w]
  have e2 := evenW_at (W m c) (ix2 k ⟨t.val % 6 * 1024 + j, by omega⟩)
  refine Eq.trans ?_ e2
  blk_ext [e]

/-- The block of the second norm's gain. -/
theorem blk_gk (c : Dev nD) (t : Fin cfg0.N) (k : Fin 512) :
    (iblk m c 5 t : FVec Ideal S1x512 .f32) (ix2 0 k) = GK m c (ix2 0 k) := by
  have e := (idx_val t).2.2.2.2.2.1
  blk_simp [iblk]
  rw [V_gk]
  pointwise
  blk_ext [e]

/-- The block of the expanding weights. -/
theorem blk_u (c : Dev nD) (t : Fin cfg0.N) (k : Fin 512) (j : Fin 2048) :
    (iblk m c 6 t : FVec Ideal S1x512x2048 .bf16) (ix3 0 k j) = U m c (ix3 0 k j) := by
  have e := (idx_val t).2.2.2.2.2.2.1
  blk_simp [iblk]
  rw [V_u]
  show U m c _ = _
  blk_ext [e]

end Cert.EvenCtxValue

end
-- ==== Proof.EvenCtx.Value.lean ====
module

public import proofs.«01_k».proof.Proof.EvenCtx.Points

@[expose] public section

set_option maxRecDepth 16384

noncomputable section

namespace Cert.EvenCtxValue

open Idealize.ShloMosaic Idealize.ShloMosaic.TcCoe Idealize.SL.Sem
open Idealize.ShloMosaic.Pipeline (Dat)
open Cert.EvenCtxIdeal Cert.EvenCtxIdeal.Gen
open Cert.EvenProjValue (laid laid_kv sum_laid)

variable (m : (ℓ : Loc nD τ sig) → Buf (Elt Ideal) ℓ)

/-- The reference's normalised, modulated input. -/
abbrev XN (c : Dev nD) : FVec Ideal S4x256x2048 .f32 :=
  Cert.EvenCtxRefIdeal.Read.val_main_v28 (F := Ideal) (H m c) (MOD m c) (G m c)

/-- The reference's projection. -/
abbrev P (c : Dev nD) : FVec Ideal Cert.EvenCtxRefIdeal.S4x256x5184 .f32 :=
  Cert.EvenCtxRefIdeal.Read.val_main_v31 (F := Ideal) (H m c) (MOD m c) (G m c) (W m c)

/-- What the first point of a tile stores is the reference's normalised input. -/
theorem pay1_eq (c : Dev nD) (t : Fin cfg0.N) (r : Fin 1024) (k : Fin 2048) :
    k0_pay1 (F := Ideal) (iblk m c 0 t) (iblk m c 1 t) (iblk m c 3 t) (iblk m c 2 t) (ix2 r k)
      = XN m c (ix3 (img (t.val / 6) (tile_lt t) r) (row (t.val / 6) r) k) := by
  pointwise [k0_pay1, XN,
    Cert.EvenCtxRefIdeal.Read.val_main_v0, Cert.EvenCtxRefIdeal.Read.val_main_v1, Cert.EvenCtxRefIdeal.Read.val_main_v6,
    Cert.EvenCtxRefIdeal.Read.val_main_v7, Cert.EvenCtxRefIdeal.Read.val_main_v8, Cert.EvenCtxRefIdeal.Read.val_main_v9,
    Cert.EvenCtxRefIdeal.Read.val_main_v10, Cert.EvenCtxRefIdeal.Read.val_main_v11, Cert.EvenCtxRefIdeal.Read.val_main_v12,
    Cert.EvenCtxRefIdeal.Read.val_main_v13, Cert.EvenCtxRefIdeal.Read.val_main_v14, Cert.EvenCtxRefIdeal.Read.val_main_v15,
    Cert.EvenCtxRefIdeal.Read.val_main_v16, Cert.EvenCtxRefIdeal.Read.val_main_v17, Cert.EvenCtxRefIdeal.Read.val_main_v18,
    Cert.EvenCtxRefIdeal.Read.val_main_v19, Cert.EvenCtxRefIdeal.Read.val_main_v20, Cert.EvenCtxRefIdeal.Read.val_main_v21,
    Cert.EvenCtxRefIdeal.Read.val_main_v22, Cert.EvenCtxRefIdeal.Read.val_main_v23, Cert.EvenCtxRefIdeal.Read.val_main_v24,
    Cert.EvenCtxRefIdeal.Read.val_main_v25, Cert.EvenCtxRefIdeal.Read.val_main_v26, Cert.EvenCtxRefIdeal.Read.val_main_v27,
    Cert.EvenCtxRefIdeal.Read.val_main_v28, Cert.EvenCtxRefIdeal.Read.val_main_cst, Cert.EvenCtxRefIdeal.Read.val_main_cst_0,
    Cert.EvenCtxRefIdeal.Read.val_main_cst_1, Cert.EvenCtxRefIdeal.Read.val_main_cst_2]
  simp only [blk_h, blk_g, blk_scale, blk_shift]

/-- After every point of a row tile the scratch holds the tile's normalised rows. -/
theorem scratch_norm (c : Dev nD) : ∀ (n : ℕ) (hn : n < cfg0.N) (r : Fin 1024) (k : Fin 2048),
    (outsAt0 m c n hn).2.2 (ix2 r k) = XN m c (ix3 (img (n / 6) (tile_lt ⟨n, hn⟩) r) (row (n / 6) r) k) := by
  intro n
  induction n with
  | zero =>
    intro hn r k
    rw [norm_first m c ⟨0, hn⟩ rfl]
    exact pay1_eq m c _ r k
  | succ n ih =>
    intro hn r k
    by_cases h0 : (n + 1) % 6 = 0
    · rw [norm_first m c ⟨n + 1, hn⟩ h0]
      exact pay1_eq m c _ r k
    · rw [norm_later m c ⟨n + 1, hn⟩ h0]
      have hd : n / 6 = (n + 1) / 6 := by omega
      have := ih (Nat.lt_of_succ_lt hn) r k
      simp only [hd] at this
      exact this

/-- The product that a point forms is its block of the reference's projection, laid out as the call lays it out. -/
theorem acc_at (c : Dev nD) (t : Fin cfg0.N) (y : S1024x1024.Idx) :
    k0_pay2 (F := Ideal) (outsAt0 m c t.val t.isLt).2.2 (iblk m c 4 t) y
      = laid (fun n => P m c (ix3 (img (t.val / 6) (tile_lt t) (y 0)) (row (t.val / 6) (y 0)) n)) (t.val % 6 * 1024 + y 1) := by
  obtain ⟨r, d, rfl⟩ : ∃ r d, y = ix2 r d := ⟨y 0, y 1, eq_ix2 y⟩
  show _ = laid (fun n => P m c (ix3 (img (t.val / 6) (tile_lt t) r) (row (t.val / 6) r) n)) (t.val % 6 * 1024 + d)
  pointwise [k0_pay2]
  simp only [scratch_norm, blk_w]
  rw [sum_laid]
  congr 1
  funext n
  pointwise [P, Cert.EvenCtxRefIdeal.Read.val_main_v31, Cert.EvenCtxRefIdeal.Read.val_main_v30,
    Cert.EvenCtxRefIdeal.Read.val_main_v29]

/-- The reference's first array over the kernel's own arguments. -/
abbrev REFP (c : Dev nD) : FVec Ideal S1024x6144 .bf16 :=
  Cert.EvenCtxRefIdeal.Read.val_main_v61 (F := Ideal) (H m c) (MOD m c) (G m c) (W m c)

/-- The reference's second array over the kernel's own arguments. -/
abbrev REFK (c : Dev nD) : FVec Ideal S1024x2048 .bf16 :=
  Cert.EvenCtxRefIdeal.Read.val_main_v63 (F := Ideal) (H m c) (MOD m c) (G m c) (W m c) (GK m c) (U m c)

/-- One block of the first output is the reference's array where the block sits. -/
theorem point (c : Dev nD) (t : Fin cfg0.N) (r d : Fin 1024) :
    (outsAt0 m c t.val t.isLt).1 (ix2 r d)
      = REFP m c (ix2 ⟨t.val / 6 * 1024 + r, by have := tile_lt t; omega⟩ ⟨t.val % 6 * 1024 + d, by omega⟩) := by
  rw [out_eq m c t]
  refine (acc_at m c t (ix2 r d)).trans ?_
  show _ = shapeCast S1024x6144 (Cert.EvenCtxRefIdeal.Read.val_main_v59 (F := Ideal) (H m c) (MOD m c) (G m c) (W m c)) _ _
  rw [Cert.Rows.ctx_at, ref_at]
  rfl

/-- One block of the second output is the reference's array where the block sits. -/
theorem point_kv (c : Dev nD) (t : Fin cfg0.N) (h1 : t.val % 6 = 5) (r : Fin 1024) (d : Fin 2048) :
    (outsAt0 m c t.val t.isLt).2.1 (ix2 r d)
      = REFK m c (ix2 ⟨t.val / 6 * 1024 + r, by have := tile_lt t; omega⟩ d) := by
  rw [kv_eq m c t h1]
  pointwise [k0_pay4]
  simp only [acc_at, blk_gk, blk_u, h1]
  pointwise [REFK, Cert.EvenCtxRefIdeal.Read.val_main_v63, Cert.EvenCtxRefIdeal.Read.val_main_v62,
    Cert.EvenCtxRefIdeal.Read.val_main_v53, Cert.EvenCtxRefIdeal.Read.val_main_v52, Cert.EvenCtxRefIdeal.Read.val_main_v51,
    Cert.EvenCtxRefIdeal.Read.val_main_v50, Cert.EvenCtxRefIdeal.Read.val_main_v49, Cert.EvenCtxRefIdeal.Read.val_main_v48,
    Cert.EvenCtxRefIdeal.Read.val_main_v47, Cert.EvenCtxRefIdeal.Read.val_main_v46, Cert.EvenCtxRefIdeal.Read.val_main_v45,
    Cert.EvenCtxRefIdeal.Read.val_main_v44, Cert.EvenCtxRefIdeal.Read.val_main_v43, Cert.EvenCtxRefIdeal.Read.val_main_v42,
    Cert.EvenCtxRefIdeal.Read.val_main_v41, Cert.EvenCtxRefIdeal.Read.val_main_v40, Cert.EvenCtxRefIdeal.Read.val_main_v39,
    Cert.EvenCtxRefIdeal.Read.val_main_v38, Cert.EvenCtxRefIdeal.Read.val_main_v37, Cert.EvenCtxRefIdeal.Read.val_main_v36,
    Cert.EvenCtxRefIdeal.Read.val_main_v33, Cert.EvenCtxRefIdeal.Read.val_main_cst_3, Cert.EvenCtxRefIdeal.Read.val_main_cst_4,
    Cert.EvenCtxRefIdeal.Read.val_main_cst_5]
  simp only [laid_kv]

/-- The first result after the run is the reference's first array over the same arguments. -/
theorem final (c : Dev nD) : (dats m 0 c).arrAt 7 cfg0.N = REFP m c := by
  refine (dats m 0 c).arrAt_eq_of_covers 7 _ (by decide +kernel) fun t hf y => ?_
  obtain ⟨r, d, rfl⟩ : ∃ r d, y = ix2 r d := ⟨y 0, y 1, eq_ix2 y⟩
  have e := (idx_val t).2.2.2.2.2.2.2.1
  blk_simp
  rw [after0_7]
  refine (point m c t r d).trans (congrArg (REFP m c) ?_)
  blk_ext [e]

/-- The second result's block is written back at the last point of a row tile. -/
theorem flush_kv : ∀ t : Fin cfg0.N, (cfg0.win 8).flush t = true → t.val % 6 = 5 :=
  (by decide +kernel : ∀ t : Fin grid0.N, _)

/-- The second result after the run is the reference's second array over the same arguments. -/
theorem final_kv (c : Dev nD) : (dats m 0 c).arrAt 8 cfg0.N = REFK m c := by
  refine (dats m 0 c).arrAt_eq_of_covers 8 _ (by decide +kernel) fun t hf y => ?_
  obtain ⟨r, d, rfl⟩ : ∃ r d, y = ix2 r d := ⟨y 0, y 1, eq_ix2 y⟩
  have e := (idx_val t).2.2.2.2.2.2.2.2
  blk_simp
  rw [after0_8]
  refine (point_kv m c t (flush_kv t hf) r d).trans (congrArg (REFK m c) ?_)
  blk_ext [e]

end Cert.EvenCtxValue

end
-- ==== Proof.EvenCtx.Claims.lean ====
module

public import proofs.«01_k».proof.Defs
public import proofs.«01_k».proof.Proof.Gen.EvenCtx
public import proofs.«01_k».proof.Proof.Gen.EvenCtx.Frame
public import proofs.«01_k».proof.Proof.Gen.EvenCtxIdeal.Frame
public import proofs.«01_k».proof.Proof.Gen.EvenCtxRefIdeal.Run
public import proofs.«01_k».proof.Proof.EvenCtx.Value

@[expose] public section

set_option maxRecDepth 16384

noncomputable section

namespace Cert.EvenCtxValue

open Idealize.ShloMosaic Idealize.ShloMosaic.TcCoe Idealize.SL.Sem

/-- The program runs, leaves its arguments alone and ends quiet. -/
theorem frame : Cert.quiescent_EvenCtx := fun m ρ _ => Cert.EvenCtx.Gen.frame m ρ

/-- So does the idealized program. -/
theorem frame_ideal : Cert.quiescent_EvenCtxIdeal := fun m ρ _ => Cert.EvenCtxIdeal.Gen.frame m ρ

/-- So does the reference. -/
theorem frame_ref : Cert.quiescent_EvenCtxRefIdeal := fun m ρ _ =>
  (θ_run Cert.EvenCtxRefIdeal.defs _ _).mono (fun r h => ⟨fun c => (h c).2.2, sem_eq_zero_of_no_sems (by decide) r.2⟩)
    (Cert.EvenCtxRefIdeal.Value.run m ρ)

/-- Idealizing uses no named constant here. -/
theorem preserves : Cert.preserves_EvenCtx_EvenCtxIdeal := trivial

/-- The reference's run, its results named. -/
theorem run_ref (m : (ℓ : Loc Cert.EvenCtxRefIdeal.nD Cert.EvenCtxRefIdeal.τ Cert.EvenCtxRefIdeal.sig) → Buf (Elt Ideal) ℓ)
    (g : Dev Cert.EvenCtxRefIdeal.nD → PrngReg) :
    θ_run (Cert.EvenCtxRefIdeal.defs (F := Ideal)) (onTc (τ := Cert.EvenCtxRefIdeal.τ) (Cert.EvenCtxRefIdeal.main (F := Ideal)))
      ⟨m, fun _ => 0, g⟩ (fun r => ∀ c : Dev Cert.EvenCtxRefIdeal.nD,
        r.2.mem ((c.tc : Thread Cert.EvenCtxRefIdeal.nD Cert.EvenCtxRefIdeal.τ).loc Cert.EvenCtxRefIdeal.main_v61)
          = Cert.EvenCtxRefIdeal.Read.val_main_v61 (F := Ideal)
            (m ((c.tc : Thread Cert.EvenCtxRefIdeal.nD Cert.EvenCtxRefIdeal.τ).loc Cert.EvenCtxRefIdeal.main_arg0))
            (m ((c.tc : Thread Cert.EvenCtxRefIdeal.nD Cert.EvenCtxRefIdeal.τ).loc Cert.EvenCtxRefIdeal.main_arg1))
            (m ((c.tc : Thread Cert.EvenCtxRefIdeal.nD Cert.EvenCtxRefIdeal.τ).loc Cert.EvenCtxRefIdeal.main_arg2))
            (m ((c.tc : Thread Cert.EvenCtxRefIdeal.nD Cert.EvenCtxRefIdeal.τ).loc Cert.EvenCtxRefIdeal.main_arg3))
        ∧ r.2.mem ((c.tc : Thread Cert.EvenCtxRefIdeal.nD Cert.EvenCtxRefIdeal.τ).loc Cert.EvenCtxRefIdeal.main_v63)
          = Cert.EvenCtxRefIdeal.Read.val_main_v63 (F := Ideal)
            (m ((c.tc : Thread Cert.EvenCtxRefIdeal.nD Cert.EvenCtxRefIdeal.τ).loc Cert.EvenCtxRefIdeal.main_arg0))
            (m ((c.tc : Thread Cert.EvenCtxRefIdeal.nD Cert.EvenCtxRefIdeal.τ).loc Cert.EvenCtxRefIdeal.main_arg1))
            (m ((c.tc : Thread Cert.EvenCtxRefIdeal.nD Cert.EvenCtxRefIdeal.τ).loc Cert.EvenCtxRefIdeal.main_arg2))
            (m ((c.tc : Thread Cert.EvenCtxRefIdeal.nD Cert.EvenCtxRefIdeal.τ).loc Cert.EvenCtxRefIdeal.main_arg3))
            (m ((c.tc : Thread Cert.EvenCtxRefIdeal.nD Cert.EvenCtxRefIdeal.τ).loc Cert.EvenCtxRefIdeal.main_arg4))
            (m ((c.tc : Thread Cert.EvenCtxRefIdeal.nD Cert.EvenCtxRefIdeal.τ).loc Cert.EvenCtxRefIdeal.main_arg5))
        ∧ r.2.mem ((c.tc : Thread Cert.EvenCtxRefIdeal.nD Cert.EvenCtxRefIdeal.τ).loc Cert.EvenCtxRefIdeal.main_arg0)
          = m ((c.tc : Thread Cert.EvenCtxRefIdeal.nD Cert.EvenCtxRefIdeal.τ).loc Cert.EvenCtxRefIdeal.main_arg0)
        ∧ r.2.mem ((c.tc : Thread Cert.EvenCtxRefIdeal.nD Cert.EvenCtxRefIdeal.τ).loc Cert.EvenCtxRefIdeal.main_arg1)
          = m ((c.tc : Thread Cert.EvenCtxRefIdeal.nD Cert.EvenCtxRefIdeal.τ).loc Cert.EvenCtxRefIdeal.main_arg1)
        ∧ r.2.mem ((c.tc : Thread Cert.EvenCtxRefIdeal.nD Cert.EvenCtxRefIdeal.τ).loc Cert.EvenCtxRefIdeal.main_arg2)
          = m ((c.tc : Thread Cert.EvenCtxRefIdeal.nD Cert.EvenCtxRefIdeal.τ).loc Cert.EvenCtxRefIdeal.main_arg2)
        ∧ r.2.mem ((c.tc : Thread Cert.EvenCtxRefIdeal.nD Cert.EvenCtxRefIdeal.τ).loc Cert.EvenCtxRefIdeal.main_arg3)
          = m ((c.tc : Thread Cert.EvenCtxRefIdeal.nD Cert.EvenCtxRefIdeal.τ).loc Cert.EvenCtxRefIdeal.main_arg3)
        ∧ r.2.mem ((c.tc : Thread Cert.EvenCtxRefIdeal.nD Cert.EvenCtxRefIdeal.τ).loc Cert.EvenCtxRefIdeal.main_arg4)
          = m ((c.tc : Thread Cert.EvenCtxRefIdeal.nD Cert.EvenCtxRefIdeal.τ).loc Cert.EvenCtxRefIdeal.main_arg4)
        ∧ r.2.mem ((c.tc : Thread Cert.EvenCtxRefIdeal.nD Cert.EvenCtxRefIdeal.τ).loc Cert.EvenCtxRefIdeal.main_arg5)
          = m ((c.tc : Thread Cert.EvenCtxRefIdeal.nD Cert.EvenCtxRefIdeal.τ).loc Cert.EvenCtxRefIdeal.main_arg5)) :=
  (θ_run Cert.EvenCtxRefIdeal.defs _ _).mono
    (fun r h c => ⟨(h c).1.trans (Cert.EvenCtxRefIdeal.Read.val_main_v61_eq m c),
      (h c).2.1.trans (Cert.EvenCtxRefIdeal.Read.val_main_v63_eq m c), (h c).2.2⟩)
    (Cert.EvenCtxRefIdeal.Value.run m g)

/-- The idealized program and the reference end with the same two arrays. -/
theorem algebraic : Cert.algebraic_EvenCtxIdeal_EvenCtxRefIdeal := by
  intro m g m' g' _ hagree
  refine ⟨fun c => (Cert.EvenCtxIdeal.Gen.dats m 0 c).arrAt 7 Cert.EvenCtxIdeal.cfg0.N,
    fun c => (Cert.EvenCtxIdeal.Gen.dats m 0 c).arrAt 8 Cert.EvenCtxIdeal.cfg0.N, Cert.EvenCtxIdeal.Value.run_blocks m g,
    (θ_run Cert.EvenCtxRefIdeal.defs _ _).mono (fun r h c => ⟨(h c).1.trans ?_, (h c).2.1.trans ?_, (h c).2.2⟩) (run_ref m' g')⟩
  · obtain ⟨h0, h1, h2, h3, h4, h5⟩ := hagree c
    rw [h0, h1, h2, h3]
    exact (final m c).symm
  · obtain ⟨h0, h1, h2, h3, h4, h5⟩ := hagree c
    rw [h0, h1, h2, h3, h4, h5]
    exact (final_kv m c).symm

end Cert.EvenCtxValue

end
-- ==== Proof.Ada.Value.lean ====
module

public import proofs.«01_k».proof.Proof.Gen.AdaIdeal.Value
public import proofs.«01_k».proof.Proof.Gen.AdaRefIdeal.Read
public import Idealize.ShloMosaic.Lib.Pipeline.ValueKit

@[expose] public section

set_option maxRecDepth 16384

noncomputable section

namespace Cert.AdaValue

open Idealize.ShloMosaic Idealize.ShloMosaic.TcCoe Idealize.SL.Sem
open Idealize.ShloMosaic.Pipeline (Dat)
open Cert.AdaIdeal Cert.AdaIdeal.Gen

variable (m : (ℓ : Loc nD τ sig) → Buf (Elt Ideal) ℓ)

/-- The latents' conditioning vectors. -/
abbrev C (c : Dev nD) : FVec Ideal S4x2048 .f32 := m ((c : Thread nD τ).loc main_arg0)
/-- The context's conditioning vector. -/
abbrev CC (c : Dev nD) : FVec Ideal S2048 .f32 := m ((c : Thread nD τ).loc main_arg1)
/-- The weights of the four layers. -/
abbrev W (c : Dev nD) : FVec Ideal S4x2048x12288 .f32 := m ((c : Thread nD τ).loc main_arg2)
/-- The biases of the four layers. -/
abbrev B (c : Dev nD) : FVec Ideal S4x12288 .f32 := m ((c : Thread nD τ).loc main_arg3)

/-- Where each window's block sits in its array: the layer is the quotient by twelve, the block of columns the remainder. -/
theorem idx_val : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- There are four layers. -/
theorem layer_lt (t : Fin cfg0.N) : t.val / 12 < 4 := by
  have hN := lt_of_lt_of_eq t.isLt (show cfg0.N = 48 from N_0)
  omega

/-- The eight rows of conditioning vectors. -/
abbrev X (c : Dev nD) : FVec Ideal S8x2048 .f32 := Cert.AdaRefIdeal.Read.val_main_v3 (F := Ideal) (C m c) (CC m c)

/-- The reference's activated rows. -/
abbrev A (c : Dev nD) : FVec Ideal S8x2048 .f32 := Cert.AdaRefIdeal.Read.val_main_v4 (F := Ideal) (C m c) (CC m c)

/-- The rows as the kernel reads them. -/
theorem V_x (c : Dev nD) : @Eq (FVec Ideal S8x2048 .f32) (V m c main_v3) (X m c) := by
  entry_read; rfl

/-- The biases as the kernel reads them. -/
theorem V_b (c : Dev nD) : @Eq (FVec Ideal S4x1x12288 .f32) (V m c main_v4)
    (shapeCast S4x1x12288 (B m c) shapeCasts_S4x12288_S4x1x12288) := by
  entry_read; rfl

/-- The block of the rows: all of them. -/
theorem blk_x (c : Dev nD) (t : Fin cfg0.N) (r : Fin 8) (k : Fin 2048) :
    (iblk m c 0 t : FVec Ideal S8x2048 .f32) (ix2 r k) = X m c (ix2 r k) := by
  have e := (idx_val t).1
  blk_simp [iblk]
  rw [V_x]
  blk_ext [e]

/-- A block of the weights. -/
theorem blk_w (c : Dev nD) (t : Fin cfg0.N) (k : Fin 2048) (j : Fin 1024) :
    (iblk m c 1 t : FVec Ideal S1x2048x1024 .f32) (ix3 0 k j)
      = W m c (ix3 ⟨t.val / 12, layer_lt t⟩ k ⟨t.val % 12 * 1024 + j, by omega⟩) := by
  have e := (idx_val t).2.1
  blk_simp [iblk]
  rw [V_main_arg2]
  blk_ext [e]

/-- A block of the biases. -/
theorem blk_b (c : Dev nD) (t : Fin cfg0.N) (j : Fin 1024) :
    (iblk m c 2 t : FVec Ideal S1x1x1024 .f32) (ix3 0 0 j)
      = B m c (ix2 ⟨t.val / 12, layer_lt t⟩ ⟨t.val % 12 * 1024 + j, by omega⟩) := by
  have e := (idx_val t).2.2.1
  blk_simp [iblk]
  rw [V_b]
  pointwise
  blk_ext [e]

/-- The reference's array over the kernel's own arguments. -/
abbrev REF (c : Dev nD) : FVec Ideal S4x8x12288 .f32 :=
  Cert.AdaRefIdeal.Read.val_main_v41 (F := Ideal) (C m c) (CC m c) (W m c) (B m c)

open Cert.AdaRefIdeal.Read in
/-- The reference's array entry by entry: a layer's product with the activated rows, and its bias. -/
theorem ref_at (c : Dev nD) (l : Fin 4) (r : Fin 8) (n : Fin 12288) :
    REF m c (ix3 l r n) = (∑ k : Fin 2048, A m c (ix2 r k) * W m c (ix3 l k n)) + B m c (ix2 l n) := by
  fin_cases l
  · pointwise [REF, val_main_v41, val_main_v37, val_main_v12, val_main_v11, val_main_v10, val_main_v9, val_main_v8,
      val_main_v7, val_main_v6, val_main_v5]
  · pointwise [REF, val_main_v41, val_main_v38, val_main_v20, val_main_v19, val_main_v18, val_main_v17, val_main_v16,
      val_main_v15, val_main_v14, val_main_v13]
  · pointwise [REF, val_main_v41, val_main_v39, val_main_v28, val_main_v27, val_main_v26, val_main_v25, val_main_v24,
      val_main_v23, val_main_v22, val_main_v21]
  · pointwise [REF, val_main_v41, val_main_v40, val_main_v36, val_main_v35, val_main_v34, val_main_v33, val_main_v32,
      val_main_v31, val_main_v30, val_main_v29]

open Cert.AdaRefIdeal.Read in
/-- One block of the output is the reference's array where the block sits. -/
theorem point (c : Dev nD) (t : Fin cfg0.N) (r : Fin 8) (j : Fin 1024) :
    k0_pay1 (F := Ideal) (iblk m c 0 t) (iblk m c 1 t) (iblk m c 2 t) (ix3 0 r j)
      = REF m c (ix3 ⟨t.val / 12, layer_lt t⟩ r ⟨t.val % 12 * 1024 + j, by omega⟩) := by
  rw [ref_at]
  pointwise [k0_pay1, A, val_main_v4, val_main_call0_v5, val_main_call0_v4, val_main_call0_v3, val_main_call0_v2,
    val_main_call0_v1, val_main_call0_v0, val_main_call0_cst, val_main_call0_cst_0]
  simp only [blk_x, blk_w, blk_b, zero_sub]

/-- The kernel's result array after the run is the reference's array over the same arguments. -/
theorem final (c : Dev nD) : (dats m 0 c).arrAt 3 cfg0.N = REF m c := by
  refine (dats m 0 c).arrAt_eq_of_covers 3 _ (by decide +kernel) fun t _ y => ?_
  obtain ⟨z, r, j, rfl⟩ : ∃ z r j, y = ix3 z r j := ⟨y 0, y 1, y 2, eq_ix3 y⟩
  obtain rfl : z = 0 := Subsingleton.elim _ _
  have e := (idx_val t).2.2.2
  blk_simp
  rw [after0_3]; frame_out
  refine (point m c t r j).trans (congrArg (REF m c) ?_)
  blk_ext [e]

end Cert.AdaValue

end
-- ==== Proof.Ada.Claims.lean ====
module

public import proofs.«01_k».proof.Defs
public import proofs.«01_k».proof.Proof.Gen.Ada
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaRefIdeal.Read
public import proofs.«01_k».proof.Proof.Ada.Value

@[expose] public section

set_option maxRecDepth 16384

noncomputable section

namespace Cert.AdaValue

open Idealize.ShloMosaic Idealize.ShloMosaic.TcCoe Idealize.SL.Sem

/-- The program runs, leaves its arguments alone and ends quiet. -/
theorem frame : Cert.quiescent_Ada := fun m ρ _ => Cert.Ada.Gen.frame m ρ

/-- So does the idealized program. -/
theorem frame_ideal : Cert.quiescent_AdaIdeal := fun m ρ _ => Cert.AdaIdeal.Gen.frame m ρ

/-- So does the reference. -/
theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run m ρ)

/-- Idealizing uses no named constant here. -/
theorem preserves : Cert.preserves_Ada_AdaIdeal := trivial

/-- The idealized program and the reference end with the same array. -/
theorem algebraic : Cert.algebraic_AdaIdeal_AdaRefIdeal := by
  pair_intro
  · run_from Cert.AdaIdeal.Gen.run_main m g
  · run_from Cert.AdaRefIdeal.Value.run m' g'
    obtain ⟨h0, h1, h2, h3⟩ := hagree c
    rw [Cert.AdaRefIdeal.Read.val_main_v41_eq, h0, h1, h2, h3]
    exact (final m c).symm

end Cert.AdaValue

end
-- ==== Proof.OddCtxLast.Value.lean ====
module

public import proofs.«01_k».proof.Proof.Gen.OddCtxLastIdeal.Value
public import proofs.«01_k».proof.Proof.Gen.OddCtxLastRefIdeal.Read
public import Idealize.ShloMosaic.Lib.Pipeline.ValueKit
public import Idealize.ShloMosaic.Lib.Pipeline.ReadBack
public import proofs.«01_k».proof.Proof.Common.Rows

@[expose] public section

set_option maxRecDepth 16384

noncomputable section

namespace Cert.OddCtxLastValue

open Idealize.ShloMosaic Idealize.ShloMosaic.TcCoe Idealize.SL.Sem
open Idealize.ShloMosaic.Pipeline (Dat)
open Cert.OddCtxLastIdeal Cert.OddCtxLastIdeal.Gen

variable (m : (ℓ : Loc nD τ sig) → Buf (Elt Ideal) ℓ)

/-- The context's residual stream. -/
abbrev H (c : Dev nD) : FVec Ideal S4x256x2048 .f32 := m ((c : Thread nD τ).loc main_arg0)
/-- The context's modulation. -/
abbrev MOD (c : Dev nD) : FVec Ideal S12288 .f32 := m ((c : Thread nD τ).loc main_arg1)
/-- The norm's gains. -/
abbrev G (c : Dev nD) : FVec Ideal S4x2048 .f32 := m ((c : Thread nD τ).loc main_arg2)
/-- The projection's weights. -/
abbrev W (c : Dev nD) : FVec Ideal S2x2048x8192 .f32 := m ((c : Thread nD τ).loc main_arg3)

/-- Where each window's block sits in its array: the row tile is the quotient by five, the block of columns the remainder. -/
theorem idx_val : ∀ t : Fin cfg0.N, win0_0.index t = ![t.val / 5, 0] ∧ win0_1.index t = ![0, 0]
    ∧ win0_2.index t = ![4, 0, 0] ∧ win0_3.index t = ![4, 0, 1]
    ∧ win0_4.index t = ![1, 0, t.val % 5] ∧ win0_5.index t = ![t.val / 5, t.val % 5] :=
  (by decide +kernel : ∀ t : Fin grid0.N, _)

/-- There is one row tile. -/
theorem tile_lt (t : Fin cfg0.N) : t.val / 5 < 1 := by
  have hN := lt_of_lt_of_eq t.isLt (show cfg0.N = 5 from N_0)
  omega

/-- The context a row of the tile lies in. -/
abbrev img (q : ℕ) (hq : q < 1) (r : Fin 1024) : Fin 4 := ⟨(q * 1024 + r) / 256, by omega⟩

/-- A row of the tile, counted within its context. -/
abbrev row (q : ℕ) (r : Fin 1024) : Fin 256 := ⟨(q * 1024 + r) % 256, by omega⟩

/-- The first point of a row tile leaves the normalised, modulated rows in the scratch. -/
theorem norm_first (c : Dev nD) (t : Fin cfg0.N) (h0 : t.val % 5 = 0) :
    (outsAt0 m c t.val t.isLt).2 = k0_pay1 (F := Ideal) (iblk m c 0 t) (iblk m c 1 t) (iblk m c 3 t) (iblk m c 2 t) := by
  rw [outsAt0_A m c t h0]
  frame_out

/-- A later point keeps them. -/
theorem norm_later (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  rfl

/-- Every point writes the product of the scratch with its block of the weights. -/
theorem out_eq (c : Dev nD) (t : Fin cfg0.N) :
    (outsAt0 m c t.val t.isLt).1 = k0_pay2 (F := Ideal) (outsAt0 m c t.val t.isLt).2 (iblk m c 4 t) := by
  by_cases h0 : t.val % 5 = 0
  · rw [norm_first m c t h0, outsAt0_A m c t h0]
    frame_out
  · rw [norm_later m c t h0, outsAt0_B m c t h0]
    frame_out
    simp only [read_unread_whole]

/-- The residual stream as the kernel reads it. -/
theorem V_h (c : Dev nD) : @Eq (FVec Ideal S1024x2048 .f32) (V m c main_v0)
    (shapeCast S1024x2048 (H m c) shapeCasts_S4x256x2048_S1024x2048) := by
  entry_read; rfl

/-- The norm's gain as the kernel reads it: this layer's row. -/
theorem V_g (c : Dev nD) : @Eq (FVec Ideal S1x2048 .f32) (V m c main_v8)
    (shapeCast S1x2048 (shapeCast S2048 (extractStridedSlice S1x2048 ![3, 0] (G m c) slices_S4x2048_S1x2048_3_0)
      shapeCasts_S1x2048_S2048) shapeCasts_S2048_S1x2048) := by
  entry_read; rfl

/-- The modulation table as the kernel reads it. -/
theorem V_mod (c : Dev nD) : @Eq (FVec Ideal S8x1x12288 .f32) (V m c main_v7)
    (shapeCast S8x1x12288 (concatenate S8x12288 0 [
       ⟨S4x12288, broadcastInDim S4x12288 ![] bcast_S_S4x12288 (constant (F := Ideal) S_ .f32 0x00000000#32)⟩,
       ⟨S4x12288, broadcastInDim S4x12288 ![1] bcast_S12288_S4x12288_1 (MOD m c)⟩]
      concatenates_S4x12288_S4x12288_S8x12288_d0) shapeCasts_S8x12288_S8x1x12288) := by
  entry_read; rfl

/-- The weights as the kernel reads them. -/
theorem V_w (c : Dev nD) : @Eq (FVec Ideal S2x2048x8192 .bf16) (V m c main_v3) (truncf .bf16 (W m c) bitsLt_bf16_f32) := by
  entry_read; rfl

/-- A block of the residual stream. -/
theorem blk_h (c : Dev nD) (t : Fin cfg0.N) (r : Fin 1024) (k : Fin 2048) :
    (iblk m c 0 t : FVec Ideal S1024x2048 .f32) (ix2 r k)
      = H m c (ix3 (img (t.val / 5) (tile_lt t) r) (row (t.val / 5) r) k) := by
  have e := (idx_val t).1
  blk_simp [iblk]
  rw [V_h, Cert.Rows.ctx_at]
  blk_ext [e]

/-- The block of the norm's gain. -/
theorem blk_g (c : Dev nD) (t : Fin cfg0.N) (k : Fin 2048) :
    (iblk m c 1 t : FVec Ideal S1x2048 .f32) (ix2 0 k) = G m c (ix2 3 k) := by
  have e := (idx_val t).2.1
  blk_simp [iblk]
  rw [V_g]
  pointwise
  blk_ext [e]

/-- The block of the modulation table that is the shift. -/
theorem blk_shift (c : Dev nD) (t : Fin cfg0.N) (k : Fin 2048) :
    (iblk m c 2 t : FVec Ideal S1x1x2048 .f32) (ix3 0 0 k)
      = MOD m c (ix1 ⟨k, by omega⟩) := by
  have e := (idx_val t).2.2.1
  blk_simp [iblk]
  rw [V_mod]
  refine Cert.Rows.mod_ctx_at _ _ _ _ _ _ _ ?_ ?_
  · blk_simp [e] <;> rfl
  · blk_simp [e] <;> rfl

/-- The block of the modulation table that is the scale. -/
theorem blk_scale (c : Dev nD) (t : Fin cfg0.N) (k : Fin 2048) :
    (iblk m c 3 t : FVec Ideal S1x1x2048 .f32) (ix3 0 0 k)
      = MOD m c (ix1 ⟨2048 + k, by omega⟩) := by
  have e := (idx_val t).2.2.2.1
  blk_simp [iblk]
  rw [V_mod]
  refine Cert.Rows.mod_ctx_at _ _ _ _ _ _ _ ?_ ?_
  · blk_simp [e] <;> rfl
  · blk_simp [e] <;> rfl

/-- A block of the weights. -/
theorem blk_w (c : Dev nD) (t : Fin cfg0.N) (k : Fin 2048) (j : Fin 1024) :
    (iblk m c 4 t : FVec Ideal S1x2048x1024 .bf16) (ix3 0 k j)
      = W m c (ix3 1 k ⟨t.val % 5 * 1024 + j, by omega⟩) := by
  have e := (idx_val t).2.2.2.2.1
  blk_simp [iblk]
  rw [V_w]
  show W m c _ = _
  blk_ext [e]

/-- The reference's normalised, modulated input. -/
abbrev XN (c : Dev nD) : FVec Ideal S4x256x2048 .f32 :=
  Cert.OddCtxLastRefIdeal.Read.val_main_v28 (F := Ideal) (H m c) (MOD m c) (G m c)

/-- What the first point of a tile stores is the reference's normalised input. -/
theorem pay1_eq (c : Dev nD) (t : Fin cfg0.N) (r : Fin 1024) (k : Fin 2048) :
    k0_pay1 (F := Ideal) (iblk m c 0 t) (iblk m c 1 t) (iblk m c 3 t) (iblk m c 2 t) (ix2 r k)
      = XN m c (ix3 (img (t.val / 5) (tile_lt t) r) (row (t.val / 5) r) k) := by
  pointwise [k0_pay1, XN, Cert.OddCtxLastRefIdeal.Read.val_main_v0, Cert.OddCtxLastRefIdeal.Read.val_main_v1, Cert.OddCtxLastRefIdeal.Read.val_main_v6, Cert.OddCtxLastRefIdeal.Read.val_main_v7,
    Cert.OddCtxLastRefIdeal.Read.val_main_v8, Cert.OddCtxLastRefIdeal.Read.val_main_v9, Cert.OddCtxLastRefIdeal.Read.val_main_v10, Cert.OddCtxLastRefIdeal.Read.val_main_v11,
    Cert.OddCtxLastRefIdeal.Read.val_main_v12, Cert.OddCtxLastRefIdeal.Read.val_main_v13, Cert.OddCtxLastRefIdeal.Read.val_main_v14, Cert.OddCtxLastRefIdeal.Read.val_main_v15,
    Cert.OddCtxLastRefIdeal.Read.val_main_v16, Cert.OddCtxLastRefIdeal.Read.val_main_v17, Cert.OddCtxLastRefIdeal.Read.val_main_v18, Cert.OddCtxLastRefIdeal.Read.val_main_v19,
    Cert.OddCtxLastRefIdeal.Read.val_main_v20, Cert.OddCtxLastRefIdeal.Read.val_main_v21, Cert.OddCtxLastRefIdeal.Read.val_main_v22, Cert.OddCtxLastRefIdeal.Read.val_main_v23,
    Cert.OddCtxLastRefIdeal.Read.val_main_v24, Cert.OddCtxLastRefIdeal.Read.val_main_v25, Cert.OddCtxLastRefIdeal.Read.val_main_v26, Cert.OddCtxLastRefIdeal.Read.val_main_v27,
    Cert.OddCtxLastRefIdeal.Read.val_main_v28, Cert.OddCtxLastRefIdeal.Read.val_main_cst, Cert.OddCtxLastRefIdeal.Read.val_main_cst_0, Cert.OddCtxLastRefIdeal.Read.val_main_cst_1,
    Cert.OddCtxLastRefIdeal.Read.val_main_cst_2]
  simp only [blk_h, blk_g, blk_scale, blk_shift]

/-- After every point of a row tile the scratch holds the tile's normalised rows. -/
theorem scratch_norm (c : Dev nD) : ∀ (n : ℕ) (hn : n < cfg0.N) (r : Fin 1024) (k : Fin 2048),
    (outsAt0 m c n hn).2 (ix2 r k) = XN m c (ix3 (img (n / 5) (tile_lt ⟨n, hn⟩) r) (row (n / 5) r) k) := by
  intro n
  induction n with
  | zero =>
    intro hn r k
    rw [norm_first m c ⟨0, hn⟩ rfl]
    exact pay1_eq m c _ r k
  | succ n ih =>
    intro hn r k
    by_cases h0 : (n + 1) % 5 = 0
    · rw [norm_first m c ⟨n + 1, hn⟩ h0]
      exact pay1_eq m c _ r k
    · rw [norm_later m c ⟨n + 1, hn⟩ h0]
      have hd : n / 5 = (n + 1) / 5 := by omega
      have := ih (Nat.lt_of_succ_lt hn) r k
      simp only [hd] at this
      exact this

/-- The reference's array over the kernel's own arguments. -/
abbrev REF (c : Dev nD) : FVec Ideal S1024x5120 .bf16 :=
  Cert.OddCtxLastRefIdeal.Read.val_main_v34 (F := Ideal) (H m c) (MOD m c) (G m c) (W m c)

/-- One block of the output is the reference's array where the block sits. -/
theorem point (c : Dev nD) (t : Fin cfg0.N) (r d : Fin 1024) :
    (outsAt0 m c t.val t.isLt).1 (ix2 r d)
      = REF m c (ix2 ⟨t.val / 5 * 1024 + r, by have := tile_lt t; omega⟩ ⟨t.val % 5 * 1024 + d, by omega⟩) := by
  rw [out_eq m c t]
  pointwise [k0_pay2]
  simp only [scratch_norm, blk_w]
  pointwise [REF, Cert.OddCtxLastRefIdeal.Read.val_main_v34, Cert.OddCtxLastRefIdeal.Read.val_main_v33, Cert.OddCtxLastRefIdeal.Read.val_main_v32, Cert.OddCtxLastRefIdeal.Read.val_main_v31, Cert.OddCtxLastRefIdeal.Read.val_main_v30,
    Cert.OddCtxLastRefIdeal.Read.val_main_v29]

/-- The kernel's result array after the run is the reference's array over the same arguments. -/
theorem final (c : Dev nD) : (dats m 0 c).arrAt 5 cfg0.N = REF m c := by
  refine (dats m 0 c).arrAt_eq_of_covers 5 _ (by decide +kernel) fun t hf y => ?_
  obtain ⟨r, d, rfl⟩ : ∃ r d, y = ix2 r d := ⟨y 0, y 1, eq_ix2 y⟩
  have e := (idx_val t).2.2.2.2.2
  blk_simp
  rw [after0_5]
  refine (point m c t r d).trans (congrArg (REF m c) ?_)
  blk_ext [e]

end Cert.OddCtxLastValue

end
-- ==== Proof.OddCtxLast.Claims.lean ====
module

public import proofs.«01_k».proof.Defs
public import proofs.«01_k».proof.Proof.Gen.OddCtxLast
public import proofs.«01_k».proof.Proof.Gen.OddCtxLast.Frame
public import proofs.«01_k».proof.Proof.Gen.OddCtxLastIdeal.Frame
public import proofs.«01_k».proof.Proof.Gen.OddCtxLastRefIdeal.Run
public import proofs.«01_k».proof.Proof.OddCtxLast.Value

@[expose] public section

set_option maxRecDepth 16384

noncomputable section

namespace Cert.OddCtxLastValue

open Idealize.ShloMosaic Idealize.ShloMosaic.TcCoe Idealize.SL.Sem

/-- The program runs, leaves its arguments alone and ends quiet. -/
theorem frame : Cert.quiescent_OddCtxLast := fun m ρ _ => Cert.OddCtxLast.Gen.frame m ρ

/-- So does the idealized program. -/
theorem frame_ideal : Cert.quiescent_OddCtxLastIdeal := fun m ρ _ => Cert.OddCtxLastIdeal.Gen.frame m ρ

/-- So does the reference. -/
theorem frame_ref : Cert.quiescent_OddCtxLastRefIdeal := fun m ρ _ =>
  (θ_run Cert.OddCtxLastRefIdeal.defs _ _).mono (fun r h => ⟨fun c => (h c).2, sem_eq_zero_of_no_sems (by decide) r.2⟩)
    (Cert.OddCtxLastRefIdeal.Value.run m ρ)

/-- Idealizing uses no named constant here. -/
theorem preserves : Cert.preserves_OddCtxLast_OddCtxLastIdeal := trivial

/-- The idealized program and the reference end with the same array. -/
theorem algebraic : Cert.algebraic_OddCtxLastIdeal_OddCtxLastRefIdeal := by
  pair_intro
  · run_from Cert.OddCtxLastIdeal.Gen.run_main m g
  · run_from Cert.OddCtxLastRefIdeal.Value.run m' g'
    exact (final m c).symm

end Cert.OddCtxLastValue

end
-- ==== Proof.CtxAttn.Heads.lean ====
module

public import proofs.«01_k».proof.Proof.Gen.CtxAttnRefIdeal.Read
public import Idealize.ShloMosaic.Lib.Pipeline.ValueKit

@[expose] public section

set_option maxRecDepth 16384

noncomputable section

namespace Cert.CtxHeads

open Idealize.ShloMosaic Idealize.ShloMosaic.TcCoe Idealize.SL.Sem
open Cert.CtxAttnRefIdeal Cert.CtxAttnRefIdeal.Gen Cert.CtxAttnRefIdeal.Read

/-- Values weighed by the softmax of scores divided by `d`: each score's exponential, less the largest, over the sum of them. -/
def soft (d : EReal) (s v : Fin 256 → EReal) : EReal :=
  ∑ k, Ideal.div (Ideal.exp (Ideal.div (s k) d - max ⊥ (Finset.univ.fold max (⊥ : EReal) fun j => Ideal.div (s j) d)))
    (∑ n, Ideal.exp (Ideal.div (s n) d - max ⊥ (Finset.univ.fold max (⊥ : EReal) fun j => Ideal.div (s j) d))) * v k

/-- Head `h`'s latent query at position `r` of image `b`. -/
def query (P : FVec Ideal S4x256x5184 .f32) (b : Fin 4) (h : Fin 8) (r : Fin 256) (l : Fin 192) : EReal :=
  P (ix3 b r ⟨h.val * 192 + l.val, by omega⟩)

/-- Head `h`'s latent key number `j` of image `b`: its own lanes, then the lanes that all heads share. -/
def key (P : FVec Ideal S4x256x5184 .f32) (K : FVec Ideal S4x256x2048 .f32) (b : Fin 4) (h : Fin 8) (j : Fin 256) (l : Fin 192) : EReal :=
  if hl : l.val < 128 then K (ix3 b j ⟨h.val * 256 + l.val, by omega⟩) else P (ix3 b j ⟨2048 + (l.val - 128), by omega⟩)

/-- Head `h`'s latent value number `j` of image `b`, lane `d`. -/
def value (K : FVec Ideal S4x256x2048 .f32) (b : Fin 4) (h : Fin 8) (j : Fin 256) (d : Fin 128) : EReal :=
  K (ix3 b j ⟨h.val * 256 + 128 + d.val, by omega⟩)

/-- The neighbourhood heads' queries (`o = 0`), keys (`o = 1`) and values (`o = 2`). -/
def near (o : Fin 3) (P : FVec Ideal S4x256x5184 .f32) (b : Fin 4) (h : Fin 8) (r : Fin 256) (l : Fin 128) : EReal :=
  P (ix3 b r ⟨2112 + o.val * 1024 + h.val * 128 + l.val, by omega⟩)

/-- The product of a latent query with a latent key. -/
def score (P : FVec Ideal S4x256x5184 .f32) (K : FVec Ideal S4x256x2048 .f32) (b : Fin 4) (h : Fin 8) (r j : Fin 256) : EReal :=
  ∑ l : Fin 192, query P b h r l * key P K b h j l

/-- The product of a neighbourhood head's query with its key. -/
def nearScore (P : FVec Ideal S4x256x5184 .f32) (b : Fin 4) (h : Fin 8) (r j : Fin 256) : EReal :=
  ∑ l : Fin 128, near 0 P b h r l * near 1 P b h j l

/-- The reference's latent queries, head by head. -/
theorem query_at (x0 : FVec Ideal S4x256x5184 .f32) (i : S4x8x256x192.Idx) :
    val_main_v14 (F := Ideal) x0 i = query x0 (i 0) (i 1) (i 2) (i 3) := by
  have h3 : (i 3 : ℕ) < 192 := (i 3).isLt
  pointwise [val_main_v14, val_main_v11, val_main_v6, val_main_v5, val_main_v4, val_main_v0, query]
  by_cases h : (i 3 : ℕ) < 128
  · simp only [h, dite_true]
  · simp only [h, dite_false]
    reads_congr <;> blk_ext

/-- The reference's latent keys, head by head. -/
theorem key_at (x0 : FVec Ideal S4x256x5184 .f32) (x1 : FVec Ideal S4x256x2048 .f32) (i : S4x8x256x192.Idx) :
    val_main_v15 (F := Ideal) x0 x1 i = key x0 x1 (i 0) (i 1) (i 2) (i 3) := by
  have h3 : (i 3 : ℕ) < 192 := (i 3).isLt
  pointwise [val_main_v15, val_main_v13, val_main_v12, val_main_v9, val_main_v8, val_main_v7, val_main_v2, key]

/-- The reference's latent values, head by head. -/
theorem value_at (x1 : FVec Ideal S4x256x2048 .f32) (i : S4x8x256x128.Idx) :
    val_main_v16 (F := Ideal) x1 i = value x1 (i 0) (i 1) (i 2) (i 3) := by
  pointwise [val_main_v16, val_main_v10, val_main_v8, value]
  reads_congr <;> blk_ext

/-- The reference's neighbourhood queries, head by head. -/
theorem near_query_at (x0 : FVec Ideal S4x256x5184 .f32) (i : S4x8x256x128.Idx) :
    val_main_v41 (F := Ideal) x0 i = near 0 x0 (i 0) (i 1) (i 2) (i 3) := by
  pointwise [val_main_v41, val_main_v40, val_main_v18, near]
  reads_congr <;> blk_ext

/-- The reference's neighbourhood keys, head by head. -/
theorem near_key_at (x0 : FVec Ideal S4x256x5184 .f32) (i : S4x8x256x128.Idx) :
    val_main_v43 (F := Ideal) x0 i = near 1 x0 (i 0) (i 1) (i 2) (i 3) := by
  pointwise [val_main_v43, val_main_v42, val_main_v19, near]
  reads_congr <;> blk_ext

/-- The reference's neighbourhood values, head by head. -/
theorem near_value_at (x0 : FVec Ideal S4x256x5184 .f32) (i : S4x8x256x128.Idx) :
    val_main_v45 (F := Ideal) x0 i = near 2 x0 (i 0) (i 1) (i 2) (i 3) := by
  pointwise [val_main_v45, val_main_v44, val_main_v20, near]
  reads_congr <;> blk_ext

/-- The reference's products of latent queries with latent keys. -/
theorem score_at (x0 : FVec Ideal S4x256x5184 .f32) (x1 : FVec Ideal S4x256x2048 .f32) (i : S4x8x256x256.Idx) :
    val_main_v21 (F := Ideal) x0 x1 i = score x0 x1 (i 0) (i 1) (i 2) (i 3) := by
  pointwise [val_main_v21, score]
  exact Finset.sum_congr rfl fun l _ => congrArg₂ _ (query_at x0 _) (key_at x0 x1 _)

/-- The reference's products of neighbourhood queries with neighbourhood keys. -/
theorem nearScore_at (x0 : FVec Ideal S4x256x5184 .f32) (i : S4x8x256x256.Idx) :
    val_main_v46 (F := Ideal) x0 i = nearScore x0 (i 0) (i 1) (i 2) (i 3) := by
  pointwise [val_main_v46, nearScore]
  exact Finset.sum_congr rfl fun l _ => congrArg₂ _ (near_query_at x0 _) (near_key_at x0 _)

/-- The square root of 192 as the reference has it. -/
theorem sqrt192 : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, -EReal.coe_mul]; norm_num
  rw [e, Ideal.sqrt_coe, if_neg (by norm_num)]

/-- The square root of 128 as the reference has it. -/
theorem sqrt128 : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

/-- The bits of −∞. -/
theorem bits_bot : Ideal.ofBits .f32 0xFF800000#32 = (⊥ : EReal) := by
  simp [Ideal.ofBits, Ideal.ieee]

/-- A row's maximum, read at an index. -/
theorem row_max (x : FVec Ideal S4x8x256x256 .f32) (z : FVec Ideal S_ .f32) (i : S4x8x256.Idx) :
    Host.reduce FloatOps.maximumf x z reducesTo_S4x8x256x256_S4x8x256_d3 h_S_ i
      = Finset.univ.fold max (z (Shape.Idx.first h_S_)) fun k : Fin 256 => x (ix4 (i 0) (i 1) (i 2) k) :=
  (Host.reduce_eq_fold _ x z _ _ i).trans (Shape.ReducesTo.fold_fiber_r4_a3 _ _ _ _ _)

/-- The reference's latent products divided by the square root of their length. -/
theorem scaled_at (x0 : FVec Ideal S4x256x5184 .f32) (x1 : FVec Ideal S4x256x2048 .f32) (i : S4x8x256x256.Idx) :
    val_main_v24 (F := Ideal) x0 x1 i = Ideal.div (score x0 x1 (i 0) (i 1) (i 2) (i 3)) ((Real.sqrt 192 : ℝ) : EReal) := by
  rw [← score_at, ← sqrt192]
  pointwise [val_main_v24, val_main_v23, val_main_v22, val_main_cst]

/-- The reference's neighbourhood products divided by the square root of their length. -/
theorem nearScaled_at (x0 : FVec Ideal S4x256x5184 .f32) (i : S4x8x256x256.Idx) :
    val_main_v49 (F := Ideal) x0 i = Ideal.div (nearScore x0 (i 0) (i 1) (i 2) (i 3)) ((Real.sqrt 128 : ℝ) : EReal) := by
  rw [← nearScore_at, ← sqrt128]
  pointwise [val_main_v49, val_main_v48, val_main_v47, val_main_cst_3]

/-- The reference's largest scaled latent product of a row. -/
theorem largest_at (x0 : FVec Ideal S4x256x5184 .f32) (x1 : FVec Ideal S4x256x2048 .f32) (i : S4x8x256.Idx) :
    val_main_v27 (F := Ideal) x0 x1 i
      = max ⊥ (Finset.univ.fold max (⊥ : EReal)
          fun j => Ideal.div (score x0 x1 (i 0) (i 1) (i 2) j) ((Real.sqrt 192 : ℝ) : EReal)) := by
  have e : (fun k : Fin 256 => val_main_v24 (F := Ideal) x0 x1 (ix4 (i 0) (i 1) (i 2) k))
      = fun j => Ideal.div (score x0 x1 (i 0) (i 1) (i 2) j) ((Real.sqrt 192 : ℝ) : EReal) :=
    funext fun k => scaled_at x0 x1 _
  rw [← e, val_main_v27_apply, val_main_v26_apply]
  unfold val_main_v25
  generalize val_main_v24 (F := Ideal) x0 x1 = y
  rw [row_max, val_main_cst_0_apply, val_main_cst_1_apply]
  show max (Ideal.ofBits .f32 0xFF800000#32) (Finset.univ.fold max (Ideal.ofBits .f32 0xFF800000#32) _) = _
  rw [bits_bot]

/-- The reference's largest scaled neighbourhood product of a row. -/
theorem nearLargest_at (x0 : FVec Ideal S4x256x5184 .f32) (i : S4x8x256.Idx) :
    val_main_v52 (F := Ideal) x0 i
      = max ⊥ (Finset.univ.fold max (⊥ : EReal)
          fun j => Ideal.div (nearScore x0 (i 0) (i 1) (i 2) j) ((Real.sqrt 128 : ℝ) : EReal)) := by
  have e : (fun k : Fin 256 => val_main_v49 (F := Ideal) x0 (ix4 (i 0) (i 1) (i 2) k))
      = fun j => Ideal.div (nearScore x0 (i 0) (i 1) (i 2) j) ((Real.sqrt 128 : ℝ) : EReal) :=
    funext fun k => nearScaled_at x0 _
  rw [← e, val_main_v52_apply, val_main_v51_apply]
  unfold val_main_v50
  generalize val_main_v49 (F := Ideal) x0 = y
  rw [row_max, val_main_cst_4_apply, val_main_cst_5_apply]
  show max (Ideal.ofBits .f32 0xFF800000#32) (Finset.univ.fold max (Ideal.ofBits .f32 0xFF800000#32) _) = _
  rw [bits_bot]

/-- The reference's exponential of a scaled latent product less the row's largest. -/
theorem weight_at (x0 : FVec Ideal S4x256x5184 .f32) (x1 : FVec Ideal S4x256x2048 .f32) (i : S4x8x256x256.Idx) :
    val_main_v31 (F := Ideal) x0 x1 i
      = Ideal.exp (Ideal.div (score x0 x1 (i 0) (i 1) (i 2) (i 3)) ((Real.sqrt 192 : ℝ) : EReal)
        - max ⊥ (Finset.univ.fold max (⊥ : EReal)
          fun j => Ideal.div (score x0 x1 (i 0) (i 1) (i 2) j) ((Real.sqrt 192 : ℝ) : EReal))) := by
  pointwise [val_main_v31, val_main_v30, val_main_v29, val_main_v28]
  rw [scaled_at, largest_at]
  rfl

/-- The reference's exponential of a scaled neighbourhood product less the row's largest. -/
theorem nearWeight_at (x0 : FVec Ideal S4x256x5184 .f32) (i : S4x8x256x256.Idx) :
    val_main_v56 (F := Ideal) x0 i
      = Ideal.exp (Ideal.div (nearScore x0 (i 0) (i 1) (i 2) (i 3)) ((Real.sqrt 128 : ℝ) : EReal)
        - max ⊥ (Finset.univ.fold max (⊥ : EReal)
          fun j => Ideal.div (nearScore x0 (i 0) (i 1) (i 2) j) ((Real.sqrt 128 : ℝ) : EReal))) := by
  pointwise [val_main_v56, val_main_v55, val_main_v54, val_main_v53]
  rw [nearScaled_at, nearLargest_at]
  rfl

/-- The reference's sum of a latent row's exponentials. -/
theorem total_at (x0 : FVec Ideal S4x256x5184 .f32) (x1 : FVec Ideal S4x256x2048 .f32) (i : S4x8x256.Idx) :
    val_main_v32 (F := Ideal) x0 x1 i
      = ∑ k, Ideal.exp (Ideal.div (score x0 x1 (i 0) (i 1) (i 2) k) ((Real.sqrt 192 : ℝ) : EReal)
        - max ⊥ (Finset.univ.fold max (⊥ : EReal)
          fun j => Ideal.div (score x0 x1 (i 0) (i 1) (i 2) j) ((Real.sqrt 192 : ℝ) : EReal))) := by
  pointwise [val_main_v32, val_main_cst_2]
  exact Finset.sum_congr rfl fun k _ => weight_at x0 x1 _

/-- The reference's sum of a neighbourhood row's exponentials. -/
theorem nearTotal_at (x0 : FVec Ideal S4x256x5184 .f32) (i : S4x8x256.Idx) :
    val_main_v57 (F := Ideal) x0 i
      = ∑ k, Ideal.exp (Ideal.div (nearScore x0 (i 0) (i 1) (i 2) k) ((Real.sqrt 128 : ℝ) : EReal)
        - max ⊥ (Finset.univ.fold max (⊥ : EReal)
          fun j => Ideal.div (nearScore x0 (i 0) (i 1) (i 2) j) ((Real.sqrt 128 : ℝ) : EReal))) := by
  pointwise [val_main_v57, val_main_cst_6]
  exact Finset.sum_congr rfl fun k _ => nearWeight_at x0 _

/-- The reference's weighed latent values, head by head. -/
theorem attended_at (x0 : FVec Ideal S4x256x5184 .f32) (x1 : FVec Ideal S4x256x2048 .f32) (i : S4x8x256x128.Idx) :
    val_main_v36 (F := Ideal) x0 x1 i
      = soft ((Real.sqrt 192 : ℝ) : EReal) (score x0 x1 (i 0) (i 1) (i 2)) (fun k => value x1 (i 0) (i 1) k (i 3)) := by
  rw [val_main_v36_apply]
  refine Finset.sum_congr rfl fun k _ => ?_
  rw [val_main_v35_apply, val_main_v34_apply, val_main_v33_apply, weight_at, total_at, value_at]
  rfl

/-- The reference's weighed neighbourhood values, head by head. -/
theorem nearAttended_at (x0 : FVec Ideal S4x256x5184 .f32) (i : S4x8x256x128.Idx) :
    val_main_v61 (F := Ideal) x0 i
      = soft ((Real.sqrt 128 : ℝ) : EReal) (nearScore x0 (i 0) (i 1) (i 2)) (fun k => near 2 x0 (i 0) (i 1) k (i 3)) := by
  rw [val_main_v61_apply]
  refine Finset.sum_congr rfl fun k _ => ?_
  rw [val_main_v60_apply, val_main_v59_apply, val_main_v58_apply, nearWeight_at, nearTotal_at, near_value_at]
  rfl

/-- The reference's first result at row `i 0` and lane `i 1`. -/
theorem result_at (x0 : FVec Ideal S4x256x5184 .f32) (x1 : FVec Ideal S4x256x2048 .f32) (i : S1024x1024.Idx) (b : Fin 4) (h : Fin 8)
    (r : Fin 256) (d : Fin 128) (hb : (b : ℕ) = i 0 / 256) (hr : (r : ℕ) = i 0 % 256) (hh : (h : ℕ) = i 1 / 128) (hd : (d : ℕ) = i 1 % 128) :
    val_main_v39 (F := Ideal) x0 x1 i = soft ((Real.sqrt 192 : ℝ) : EReal) (score x0 x1 b h r) (fun k => value x1 b h k d) := by
  refine Eq.trans ?_ (attended_at x0 x1 (ix4 b h r d))
  pointwise [val_main_v39, val_main_v38, val_main_v37]
  reads_congr
  blk_ext [hb, hr, hh, hd]

/-- The reference's second result at row `i 0` and lane `i 1`. -/
theorem nearResult_at (x0 : FVec Ideal S4x256x5184 .f32) (i : S1024x1024.Idx) (b : Fin 4) (h : Fin 8)
    (r : Fin 256) (d : Fin 128) (hb : (b : ℕ) = i 0 / 256) (hr : (r : ℕ) = i 0 % 256) (hh : (h : ℕ) = i 1 / 128) (hd : (d : ℕ) = i 1 % 128) :
    val_main_v64 (F := Ideal) x0 i = soft ((Real.sqrt 128 : ℝ) : EReal) (nearScore x0 b h r) (fun k => near 2 x0 b h k d) := by
  refine Eq.trans ?_ (nearAttended_at x0 (ix4 b h r d))
  pointwise [val_main_v64, val_main_v63, val_main_v62]
  reads_congr
  blk_ext [hb, hr, hh, hd]

end Cert.CtxHeads

end
-- ==== Proof.CtxAttn.Tile.lean ====
module

public import proofs.«01_k».proof.Proof.Gen.CtxAttnIdeal.Value
public import proofs.«01_k».proof.Proof.Mla.Softmax
public import proofs.«01_k».proof.Proof.CtxAttn.Heads
public import Idealize.ShloMosaic.Lib.Pipeline.ValueKit

@[expose] public section

set_option maxRecDepth 16384

noncomputable section

namespace Cert.CtxTile

open Idealize.ShloMosaic Idealize.ShloMosaic.TcCoe Idealize.SL.Sem
open Cert.CtxAttnIdeal Cert.CtxAttnIdeal.Gen
open Cert.CtxHeads (soft)

/-- The kernel's form of attention over 256 scores, which scales after subtracting the largest score, raises two, and divides once, is the
softmax of the scaled scores applied to the values. -/
theorem soft_of_kernel (s : Fin 256 → EReal) (hs : ∀ j, ∃ x : ℝ, s j = x) (v : Fin 256 → EReal) (d : ℝ) (hd : 0 < d) :
    Ideal.div
      (∑ j, Ideal.exp2 ((s j - Finset.univ.fold max (⊥ : EReal) s) * ((d⁻¹ * (Real.log 2)⁻¹ : ℝ) : EReal)) * v j)
      (∑ j, Ideal.exp2 ((s j - Finset.univ.fold max (⊥ : EReal) s) * ((d⁻¹ * (Real.log 2)⁻¹ : ℝ) : EReal)))
    = soft (d : EReal) s v := by
  have h := Cert.MlaSoftmax.attend (by norm_num) s hs v d hd
  simp only [mul_one] at h
  exact h

/-- A product of 256 lanes in two halves, the last sixty-four lanes of one factor zero: it is the product of the first 192 lanes. -/
theorem sum_lanes (q : Fin 256 → EReal) (k0 k1 : Fin 128 → EReal) (Q K : Fin 192 → EReal) (hQ : ∀ l : Fin 192, q ⟨l, by omega⟩ = Q l)
    (hQ0 : ∀ l : Fin 64, q ⟨192 + l, by omega⟩ = 0)
    (hk : ∀ l : Fin 192, (if h : l.val < 128 then k0 ⟨l, h⟩ else k1 ⟨l.val - 128, by omega⟩) = K l) :
    ((∑ l : Fin 128, q ⟨l, by omega⟩ * k0 l) + ∑ l : Fin 128, q ⟨128 + l, by omega⟩ * k1 l) = ∑ l, Q l * K l := by
  have eh : (∑ l : Fin 128, q ⟨128 + l, by omega⟩ * k1 l) = ∑ l : Fin 64, q ⟨128 + l, by omega⟩ * k1 ⟨l, by omega⟩ := by
    refine (Fin.sum_univ_add (a := 64) (b := 64) (fun l : Fin 128 => q ⟨128 + l, by omega⟩ * k1 l)).trans ?_
    have e0 : ∀ l : Fin 64, q ⟨128 + (Fin.natAdd 64 l : Fin 128).val, by omega⟩ * k1 (Fin.natAdd 64 l) = 0 := fun l => by
      have := hQ0 l
      rw [show (⟨128 + (Fin.natAdd 64 l : Fin 128).val, by omega⟩ : Fin 256) = ⟨192 + l, by omega⟩ from
        Fin.ext (by simp only [Fin.val_natAdd]; omega), this, zero_mul]
    rw [Finset.sum_congr rfl fun l _ => e0 l, Finset.sum_const_zero, add_zero]
    rfl
  rw [eh]
  refine Eq.trans ?_ (Fin.sum_univ_add (a := 128) (b := 64) (fun l : Fin 192 => Q l * K l)).symm
  refine congrArg₂ _ (Finset.sum_congr rfl fun l _ => ?_) (Finset.sum_congr rfl fun l _ => ?_)
  · have h := hk (Fin.castAdd 64 l)
    rw [dif_pos (show (Fin.castAdd 64 l).val < 128 from l.isLt)] at h
    exact congrArg₂ _ (hQ (Fin.castAdd 64 l)) h
  · have h := hk (Fin.natAdd 128 l)
    rw [dif_neg (show ¬ (Fin.natAdd 128 l).val < 128 from by simp only [Fin.val_natAdd]; omega)] at h
    refine congrArg₂ _ (hQ (Fin.natAdd 128 l)) (Eq.trans (congrArg k1 (Fin.ext ?_)) h)
    simp only [Fin.val_natAdd]; omega

/-- The latent head's block of results. -/
theorem latent_at (kn kp : Vec Ideal S256x128 .bf16) (q : Vec Ideal S256x256 .bf16) (v : Vec Ideal S256x128 .bf16) (y : S256x128.Idx)
    (Q : Fin 192 → EReal) (K : Fin 256 → Fin 192 → EReal) (V : Fin 256 → EReal)
    (hQ : ∀ l : Fin 192, q (ix2 (y 0) ⟨l, by omega⟩) = Q l)
    (hQ0 : ∀ l : Fin 64, q (ix2 (y 0) ⟨192 + l, by omega⟩) = (0 : EReal))
    (hk : ∀ (j : Fin 256) (l : Fin 192),
      (if h : l.val < 128 then (kn (ix2 j ⟨l, h⟩) : EReal) else kp (ix2 j ⟨l.val - 128, by omega⟩)) = K j l)
    (hv : ∀ j : Fin 256, v (ix2 j (y 1)) = V j)
    (hs : ∀ j, ∃ x : ℝ, (∑ l, Q l * K j l : EReal) = x) :
    k0_pay2 (F := Ideal) kn kp q v y = soft ((Real.sqrt 192 : ℝ) : EReal) (fun j => ∑ l, Q l * K j l) V := by
  have hp : ∀ j : Fin 256, ((∑ l : Fin 128, q (ix2 (y 0) ⟨l, by omega⟩) * kn (ix2 j l) : EReal)
      + ∑ l : Fin 128, q (ix2 (y 0) ⟨128 + l, by omega⟩) * kp (ix2 j l)) = ∑ l, Q l * K j l := fun j =>
    sum_lanes (fun l => q (ix2 (y 0) l)) _ _ Q (K j) hQ hQ0 (hk j)
  have hb : Ideal.ofBits .f32 0xFF800000#32 = (⊥ : EReal) := by simp [Ideal.ofBits, Ideal.ieee]
  have hn : Named.named (F := Ideal) (φ := .f32) κ "mla_scale_log2e" 0x3DD53B95#32 = _ :=
    IdealRules.named_const.ideal_named_scalar _ _ _ _ rfl
  rw [← soft_of_kernel _ hs V _ (Real.sqrt_pos.2 (by norm_num))]
  pointwise [k0_pay2]
  simp only [hp, hb, hn, hv]
  rfl

/-- The neighbourhood head's block of results. -/
theorem near_at (q k v : Vec Ideal S256x128 .bf16) (y : S256x128.Idx)
    (Q : Fin 128 → EReal) (K : Fin 256 → Fin 128 → EReal) (V : Fin 256 → EReal)
    (hQ : ∀ l : Fin 128, q (ix2 (y 0) l) = Q l) (hk : ∀ (j : Fin 256) (l : Fin 128), k (ix2 j l) = K j l)
    (hv : ∀ j : Fin 256, v (ix2 j (y 1)) = V j) (hs : ∀ j, ∃ x : ℝ, (∑ l, Q l * K j l : EReal) = x) :
    k0_pay1 (F := Ideal) (k0_pay3 q k) (k0_pay4 v) (k0_pay5 q k) y
      = soft ((Real.sqrt 128 : ℝ) : EReal) (fun j => ∑ l, Q l * K j l) V := by
  have hb : Ideal.ofBits .f32 0xFF800000#32 = (⊥ : EReal) := by simp [Ideal.ofBits, Ideal.ieee]
  have hn : Named.named (F := Ideal) (φ := .f32) κ "na_scale_log2e" 0x3E0293EE#32 = _ :=
    IdealRules.named_const.ideal_named_scalar _ _ _ _ rfl
  rw [← soft_of_kernel _ hs V _ (Real.sqrt_pos.2 (by norm_num))]
  pointwise [k0_pay1, k0_pay3, k0_pay4, k0_pay5]
  simp only [hQ, hk, hb, hn, hv]
  rfl

end Cert.CtxTile

end
-- ==== Proof.CtxAttn.Layout.lean ====
module

public import proofs.«01_k».proof.Proof.Mla.Reads

@[expose] public section

set_option maxRecDepth 16384

noncomputable section

namespace Cert.MlaValue

open Idealize.ShloMosaic Idealize.ShloMosaic.TcCoe Idealize.SL.Sem
open Cert.MlaIdeal Cert.MlaIdeal.Gen

/-- The query lanes of the context projection in the kernel's layout. -/
theorem evenCtx_q (X : FVec Ideal S4x256x5184 .f32) (j : S1024x6144.Idx) (i : S4x256x5184.Idx)
    (hj : (j 1 : ℕ) < 2048) (hl : (j 1 : ℕ) % 256 < 192) (h0 : (i 0 : ℕ) = j 0 / 256) (h1 : (i 1 : ℕ) = j 0 % 256)
    (h2 : (i 2 : ℕ) = j 1 / 256 * 192 + j 1 % 256) : evenCtx X j = X i := by
  have h8 : (j 1 : ℕ) / 256 < 8 := by omega
  pointwise [evenCtx]
  simp only [hj, hl, h8, and_self, dite_true]
  reads_congr
  blk_ext [h0, h1, h2]

/-- The lanes the kernel's layout adds to a head's query are zero. -/
theorem evenCtx_pad (X : FVec Ideal S4x256x5184 .f32) (j : S1024x6144.Idx)
    (hj : (j 1 : ℕ) < 2048) (hl : 192 ≤ (j 1 : ℕ) % 256) : evenCtx X j = (0 : EReal) := by
  have h8 : (j 1 : ℕ) / 256 < 8 := by omega
  have hl' : ¬ (j 1 : ℕ) % 256 < 192 := by omega
  pointwise [evenCtx]
  simp only [hj, hl', h8, and_false, and_true, dite_true, dite_false]
  show (((0#32 : BitVec 32).toInt : ℝ) : EReal) = 0
  simp

/-- The neighbourhood heads' lanes of the context projection in the kernel's layout. -/
theorem evenCtx_near (X : FVec Ideal S4x256x5184 .f32) (j : S1024x6144.Idx) (i : S4x256x5184.Idx)
    (hj : 2048 ≤ (j 1 : ℕ)) (hl : (j 1 : ℕ) < 5120) (h0 : (i 0 : ℕ) = j 0 / 256) (h1 : (i 1 : ℕ) = j 0 % 256)
    (h2 : (i 2 : ℕ) = 2112 + (j 1 - 2048)) : evenCtx X j = X i := by
  have a1 : ¬ (j 1 : ℕ) < 2048 := by omega
  have a2 : (j 1 : ℕ) - 2048 < 3072 := by omega
  pointwise [evenCtx]
  simp only [a1, a2, dite_true, dite_false]
  reads_congr
  blk_ext [h0, h1, h2]

end Cert.MlaValue

end
-- ==== Proof.CtxAttn.Value.lean ====
module

public import proofs.«01_k».proof.Proof.CtxAttn.Tile
public import proofs.«01_k».proof.Proof.CtxAttn.Layout
public import proofs.«01_k».proof.Proof.Mla.Finite

@[expose] public section

set_option maxRecDepth 16384

noncomputable section

namespace Cert.CtxAttnValue

open Idealize.ShloMosaic Idealize.ShloMosaic.TcCoe Idealize.SL.Sem
open Idealize.ShloMosaic.Pipeline (Dat)
open Cert.CtxAttnIdeal Cert.CtxAttnIdeal.Gen
open Cert.CtxHeads
open Cert.MlaHeads (IsReal)
open Cert.MlaValue (evenCtx)

variable (m : (ℓ : Loc nD τ sig) → Buf (Elt Ideal) ℓ)

/-- The context projection the kernel is given. -/
abbrev argP (c : Dev nD) : FVec Ideal S4x256x5184 .f32 := m ((c : Thread nD τ).loc main_arg0)

/-- The context keys and values the kernel is given. -/
abbrev argK (c : Dev nD) : FVec Ideal S4x256x2048 .f32 := m ((c : Thread nD τ).loc main_arg1)

/-- The reference's first array over the kernel's arguments. -/
abbrev REF (c : Dev nD) : FVec Ideal S1024x1024 .bf16 := Cert.CtxAttnRefIdeal.Read.val_main_v39 (F := Ideal) (argP m c) (argK m c)

/-- The reference's second array over the kernel's arguments. -/
abbrev REFN (c : Dev nD) : FVec Ideal S1024x1024 .bf16 := Cert.CtxAttnRefIdeal.Read.val_main_v64 (F := Ideal) (argP m c)

/-- What the kernel finds where it reads the context projection. -/
theorem V_p (c : Dev nD) : @Eq (FVec Ideal S1024x6144 .bf16) (V m c main_v10) (evenCtx (argP m c)) := by
  entry_read; rfl

/-- The keys and values of the context, as the kernel reads them. -/
theorem V_kv (c : Dev nD) : @Eq (FVec Ideal S1024x2048 .bf16) (V m c main_v12)
    (truncf .bf16 (shapeCast S1024x2048 (argK m c) shapeCasts_S4x256x2048_S1024x2048) bitsLt_bf16_f32) := by
  entry_read; rfl

/-- Where each window's block sits in its array, at every point of the grid of images and heads. -/
theorem idx_val : ∀ t : Fin cfg0.N, win0_0.index t = ![t.val / 8, t.val % 8] ∧ win0_1.index t = ![t.val / 8, 2 * (t.val % 8)]
    ∧ win0_2.index t = ![t.val / 8, 44] ∧ win0_3.index t = ![t.val / 8, 2 * (t.val % 8) + 1]
    ∧ win0_4.index t = ![t.val / 8, 16 + t.val % 8] ∧ win0_5.index t = ![t.val / 8, 24 + t.val % 8]
    ∧ win0_6.index t = ![t.val / 8, 32 + t.val % 8]
    ∧ win0_7.index t = ![t.val / 8, t.val % 8] ∧ win0_8.index t = ![t.val / 8, t.val % 8] :=
  (by decide +kernel : ∀ t : Fin grid0.N, _)

/-- The block of latent queries: a head's 192 lanes. -/
theorem blk_q (c : Dev nD) (t : Fin cfg0.N) (y : S256x256.Idx) (i : S4x256x5184.Idx) (hy : (y 1 : ℕ) < 192)
    (h0 : (i 0 : ℕ) = t.val / 8) (h1 : (i 1 : ℕ) = y 0) (h2 : (i 2 : ℕ) = t.val % 8 * 192 + y 1) :
    (iblk m c 0 t : FVec Ideal S256x256 .bf16) y = argP m c i := by
  have e := (idx_val t).1
  have b0 : (y 0 : ℕ) < 256 := (y 0).isLt
  blk_simp [iblk]
  rw [V_p]
  refine Cert.MlaValue.evenCtx_q _ _ _ ?_ ?_ ?_ ?_ ?_ <;> blk_simp [e, h0, h1, h2] <;> omega

/-- The block of latent queries: the other lanes are zero. -/
theorem blk_pad (c : Dev nD) (t : Fin cfg0.N) (y : S256x256.Idx) (hy : 192 ≤ (y 1 : ℕ)) :
    (iblk m c 0 t : FVec Ideal S256x256 .bf16) y = (0 : EReal) := by
  have e := (idx_val t).1
  have b1 : (y 1 : ℕ) < 256 := (y 1).isLt
  blk_simp [iblk]
  rw [V_p]
  refine Cert.MlaValue.evenCtx_pad _ _ ?_ ?_ <;> blk_simp [e] <;> omega

/-- The latent keys' own lanes. -/
theorem blk_kn (c : Dev nD) (t : Fin cfg0.N) (y : S256x128.Idx) (i : S4x256x2048.Idx)
    (h0 : (i 0 : ℕ) = t.val / 8) (h1 : (i 1 : ℕ) = y 0) (h2 : (i 2 : ℕ) = t.val % 8 * 256 + y 1) :
    (iblk m c 1 t : FVec Ideal S256x128 .bf16) y = argK m c i := by
  have e := (idx_val t).2.1
  have b0 : (y 0 : ℕ) < 256 := (y 0).isLt
  blk_simp [iblk]
  rw [V_kv]
  show shapeCast S1024x2048 _ _ _ = _
  rw [Cert.MlaValue.ctxRows_at]
  blk_ext [e, h0, h1, h2]

/-- The latent keys' shared lanes. -/
theorem blk_kp (c : Dev nD) (t : Fin cfg0.N) (y : S256x128.Idx) (i : S4x256x5184.Idx) (hy : (y 1 : ℕ) < 64)
    (h0 : (i 0 : ℕ) = t.val / 8) (h1 : (i 1 : ℕ) = y 0) (h2 : (i 2 : ℕ) = 2048 + y 1) :
    (iblk m c 2 t : FVec Ideal S256x128 .bf16) y = argP m c i := by
  have e := (idx_val t).2.2.1
  have b0 : (y 0 : ℕ) < 256 := (y 0).isLt
  blk_simp [iblk]
  rw [V_p]
  refine Cert.MlaValue.evenCtx_k _ _ _ ?_ ?_ ?_ ?_ ?_ <;> blk_simp [e, h0, h1, h2] <;> omega

/-- The latent values. -/
theorem blk_v (c : Dev nD) (t : Fin cfg0.N) (y : S256x128.Idx) (i : S4x256x2048.Idx)
    (h0 : (i 0 : ℕ) = t.val / 8) (h1 : (i 1 : ℕ) = y 0) (h2 : (i 2 : ℕ) = t.val % 8 * 256 + 128 + y 1) :
    (iblk m c 3 t : FVec Ideal S256x128 .bf16) y = argK m c i := by
  have e := (idx_val t).2.2.2.1
  have b0 : (y 0 : ℕ) < 256 := (y 0).isLt
  blk_simp [iblk]
  rw [V_kv]
  show shapeCast S1024x2048 _ _ _ = _
  rw [Cert.MlaValue.ctxRows_at]
  blk_ext [e, h0, h1, h2]

/-- The neighbourhood queries. -/
theorem blk_nq (c : Dev nD) (t : Fin cfg0.N) (y : S256x128.Idx) (i : S4x256x5184.Idx)
    (h0 : (i 0 : ℕ) = t.val / 8) (h1 : (i 1 : ℕ) = y 0) (h2 : (i 2 : ℕ) = 2112 + t.val % 8 * 128 + y 1) :
    (iblk m c 4 t : FVec Ideal S256x128 .bf16) y = argP m c i := by
  have e := (idx_val t).2.2.2.2.1
  have b0 : (y 0 : ℕ) < 256 := (y 0).isLt
  have b1 : (y 1 : ℕ) < 128 := (y 1).isLt
  blk_simp [iblk]
  rw [V_p]
  refine Cert.MlaValue.evenCtx_near _ _ _ ?_ ?_ ?_ ?_ ?_ <;> blk_simp [e, h0, h1, h2] <;> omega

/-- The neighbourhood keys. -/
theorem blk_nk (c : Dev nD) (t : Fin cfg0.N) (y : S256x128.Idx) (i : S4x256x5184.Idx)
    (h0 : (i 0 : ℕ) = t.val / 8) (h1 : (i 1 : ℕ) = y 0) (h2 : (i 2 : ℕ) = 3136 + t.val % 8 * 128 + y 1) :
    (iblk m c 5 t : FVec Ideal S256x128 .bf16) y = argP m c i := by
  have e := (idx_val t).2.2.2.2.2.1
  have b0 : (y 0 : ℕ) < 256 := (y 0).isLt
  have b1 : (y 1 : ℕ) < 128 := (y 1).isLt
  blk_simp [iblk]
  rw [V_p]
  refine Cert.MlaValue.evenCtx_near _ _ _ ?_ ?_ ?_ ?_ ?_ <;> blk_simp [e, h0, h1, h2] <;> omega

/-- The neighbourhood values. -/
theorem blk_nv (c : Dev nD) (t : Fin cfg0.N) (y : S256x128.Idx) (i : S4x256x5184.Idx)
    (h0 : (i 0 : ℕ) = t.val / 8) (h1 : (i 1 : ℕ) = y 0) (h2 : (i 2 : ℕ) = 4160 + t.val % 8 * 128 + y 1) :
    (iblk m c 6 t : FVec Ideal S256x128 .bf16) y = argP m c i := by
  have e := (idx_val t).2.2.2.2.2.2.1
  have b0 : (y 0 : ℕ) < 256 := (y 0).isLt
  have b1 : (y 1 : ℕ) < 128 := (y 1).isLt
  blk_simp [iblk]
  rw [V_p]
  refine Cert.MlaValue.evenCtx_near _ _ _ ?_ ?_ ?_ ?_ ?_ <;> blk_simp [e, h0, h1, h2] <;> omega

/-- Products of real latent queries with real latent keys are real. -/
theorem score_real (P : FVec Ideal S4x256x5184 .f32) (K : FVec Ideal S4x256x2048 .f32) (hP : ∀ i, IsReal (P i)) (hK : ∀ i, IsReal (K i))
    (b : Fin 4) (h : Fin 8) (r j : Fin 256) : IsReal (score P K b h r j) :=
  IsReal.sum fun l => (hP _).mul (by unfold key; split_ifs <;> first | exact hK _ | exact hP _)

/-- Products of real neighbourhood queries with real neighbourhood keys are real. -/
theorem nearScore_real (P : FVec Ideal S4x256x5184 .f32) (hP : ∀ i, IsReal (P i)) (b : Fin 4) (h : Fin 8) (r j : Fin 256) :
    IsReal (nearScore P b h r j) :=
  IsReal.sum fun l => (hP _).mul (hP _)

/-- What the kernel writes to its first result at a grid point. -/
theorem point (c : Dev nD) (hP : ∀ i, IsReal (argP m c i)) (hK : ∀ i, IsReal (argK m c i)) (t : Fin cfg0.N) (y : S256x128.Idx)
    (i : S1024x1024.Idx) (e0 : (i 0 : ℕ) = t.val / 8 * 256 + y 0) (e1 : (i 1 : ℕ) = t.val % 8 * 128 + y 1) :
    k0_pay2 (F := Ideal) (iblk m c 1 t) (iblk m c 2 t) (iblk m c 0 t) (iblk m c 3 t) y = REF m c i := by
  have ht : t.val < 32 := t.isLt
  have y0 : (y 0 : ℕ) < 256 := (y 0).isLt
  have y1 : (y 1 : ℕ) < 128 := (y 1).isLt
  refine Eq.trans ?_ (result_at (argP m c) (argK m c) i ⟨t.val / 8, by omega⟩ ⟨t.val % 8, by omega⟩ (y 0) (y 1) ?_ ?_ ?_ ?_).symm
  · refine Cert.CtxTile.latent_at _ _ _ _ y (query (argP m c) ⟨t.val / 8, by omega⟩ ⟨t.val % 8, by omega⟩ (y 0))
      (key (argP m c) (argK m c) ⟨t.val / 8, by omega⟩ ⟨t.val % 8, by omega⟩) _ ?_ ?_ ?_ ?_
      fun j => score_real (argP m c) (argK m c) hP hK _ _ (y 0) j
    · exact fun l => blk_q m c t _ _ l.isLt rfl rfl rfl
    · exact fun l => blk_pad m c t _ (by show 192 ≤ 192 + l.val; omega)
    · intro j l
      unfold key
      by_cases hl : l.val < 128
      · rw [dif_pos hl, dif_pos hl]
        exact blk_kn m c t _ _ rfl rfl rfl
      · rw [dif_neg hl, dif_neg hl]
        exact blk_kp m c t _ _ (by show l.val - 128 < 64; omega) rfl rfl rfl
    · exact fun j => blk_v m c t _ _ rfl rfl rfl
  · show t.val / 8 = _; rw [e0]; omega
  · rw [e0]; omega
  · show t.val % 8 = _; rw [e1]; omega
  · rw [e1]; omega

/-- What the kernel writes to its second result at a grid point. -/
theorem point_near (c : Dev nD) (hP : ∀ i, IsReal (argP m c i)) (t : Fin cfg0.N) (y : S256x128.Idx)
    (i : S1024x1024.Idx) (e0 : (i 0 : ℕ) = t.val / 8 * 256 + y 0) (e1 : (i 1 : ℕ) = t.val % 8 * 128 + y 1) :
    k0_pay1 (F := Ideal) (k0_pay3 (iblk m c 4 t) (iblk m c 5 t)) (k0_pay4 (iblk m c 6 t)) (k0_pay5 (iblk m c 4 t) (iblk m c 5 t)) y
      = REFN m c i := by
  have ht : t.val < 32 := t.isLt
  have y0 : (y 0 : ℕ) < 256 := (y 0).isLt
  have y1 : (y 1 : ℕ) < 128 := (y 1).isLt
  refine Eq.trans ?_ (nearResult_at (argP m c) i ⟨t.val / 8, by omega⟩ ⟨t.val % 8, by omega⟩ (y 0) (y 1) ?_ ?_ ?_ ?_).symm
  · refine Cert.CtxTile.near_at _ _ _ y (near 0 (argP m c) ⟨t.val / 8, by omega⟩ ⟨t.val % 8, by omega⟩ (y 0))
      (near 1 (argP m c) ⟨t.val / 8, by omega⟩ ⟨t.val % 8, by omega⟩) _ ?_ ?_ ?_
      fun j => nearScore_real (argP m c) hP _ _ (y 0) j
    · exact fun l => blk_nq m c t _ _ rfl rfl rfl
    · exact fun j l => blk_nk m c t _ _ rfl rfl rfl
    · exact fun j => blk_nv m c t _ _ rfl rfl rfl
  · show t.val / 8 = _; rw [e0]; omega
  · rw [e0]; omega
  · show t.val % 8 = _; rw [e1]; omega
  · rw [e1]; omega

/-- Where a grid point's block of the first result sits. -/
theorem emb_out (t : Fin cfg0.N) (y : S256x128.Idx) :
    ((((cfg0.win 7).blk t).view.emb y) 0 : ℕ) = t.val / 8 * 256 + y 0
    ∧ ((((cfg0.win 7).blk t).view.emb y) 1 : ℕ) = t.val % 8 * 128 + y 1 := by
  have e := (idx_val t).2.2.2.2.2.2.2.1
  constructor <;> blk_simp [e]

/-- Where a grid point's block of the second result sits. -/
theorem emb_near (t : Fin cfg0.N) (y : S256x128.Idx) :
    ((((cfg0.win 8).blk t).view.emb y) 0 : ℕ) = t.val / 8 * 256 + y 0
    ∧ ((((cfg0.win 8).blk t).view.emb y) 1 : ℕ) = t.val % 8 * 128 + y 1 := by
  have e := (idx_val t).2.2.2.2.2.2.2.2
  constructor <;> blk_simp [e]

/-- The first result after the run is the reference's first array over the same arguments, when these are finite. -/
theorem final (c : Dev nD) (hP : ∀ i, IsReal (argP m c i)) (hK : ∀ i, IsReal (argK m c i)) :
    (dats m 0 c).arrAt 7 cfg0.N = REF m c := by
  refine (dats m 0 c).arrAt_eq_of_covers 7 _ (by decide +kernel) fun t _ y => ?_
  blk_simp
  rw [after0_7]
  frame_out
  exact point m c hP hK t y _ (emb_out t y).1 (emb_out t y).2

/-- The second result after the run is the reference's second array over the same arguments, when these are finite. -/
theorem final_near (c : Dev nD) (hP : ∀ i, IsReal (argP m c i)) : (dats m 0 c).arrAt 8 cfg0.N = REFN m c := by
  refine (dats m 0 c).arrAt_eq_of_covers 8 _ (by decide +kernel) fun t _ y => ?_
  blk_simp
  rw [after0_8]
  frame_out
  exact point_near m c hP t y _ (emb_near t y).1 (emb_near t y).2

end Cert.CtxAttnValue

end
-- ==== Proof.CtxAttn.Claims.lean ====
module

public import proofs.«01_k».proof.Defs
public import proofs.«01_k».proof.Proof.Gen.CtxAttn
public import proofs.«01_k».proof.Proof.Gen.CtxAttn.Frame
public import proofs.«01_k».proof.Proof.Gen.CtxAttnIdeal.Frame
public import proofs.«01_k».proof.Proof.Gen.CtxAttnRefIdeal.Run
public import proofs.«01_k».proof.Proof.Gen.Pre_finite_ctx
public import proofs.«01_k».proof.Proof.CtxAttn.Value
public import proofs.«01_k».proof.Proof.Mla.Claims

@[expose] public section

set_option maxRecDepth 16384

noncomputable section

namespace Cert.CtxAttnValue

open Idealize.ShloMosaic Idealize.ShloMosaic.TcCoe Idealize.SL.Sem
open Cert.MlaHeads (IsReal)
open Cert.MlaValue (real_of_below)

/-- The precondition says that every entry of the two arguments is a real number. -/
theorem args_real (m : (ℓ : Loc Cert.CtxAttnIdeal.nD Cert.CtxAttnIdeal.τ Cert.CtxAttnIdeal.sig) → Buf (Elt Ideal) ℓ)
    (h : Cert.Pre_CtxAttnIdeal m) (c : Dev Cert.CtxAttnIdeal.nD) : (∀ i, IsReal (argP m c i)) ∧ (∀ i, IsReal (argK m c i)) := by
  haveI : Subsingleton Cert.Pre_finite_ctx.S_.Idx := ⟨fun a b => funext fun k => k.elim0⟩
  have e := congrFun (h c) (fun k => k.elim0)
  unfold Cert.Pre_finite_ctx.fn at e
  obtain ⟨e0, e1⟩ := IntOp.andi_eq_one.1 e
  exact ⟨fun i => real_of_below _ (Host.reduce_andi_all _ _ _ _ _ e0 i), fun i => real_of_below _ (Host.reduce_andi_all _ _ _ _ _ e1 i)⟩

/-- The program runs, leaves its arguments alone and ends quiet. -/
theorem frame : Cert.quiescent_CtxAttn := fun m ρ _ => Cert.CtxAttn.Gen.frame m ρ

/-- So it does of any arguments. -/
theorem frame_any : Cert.quiescent_CtxAttn_pre_none := fun m ρ _ => Cert.CtxAttn.Gen.frame m ρ

/-- So does the idealized program. -/
theorem frame_ideal : Cert.quiescent_CtxAttnIdeal := fun m ρ _ => Cert.CtxAttnIdeal.Gen.frame m ρ

/-- So does the idealized program of any arguments. -/
theorem frame_ideal_any : Cert.quiescent_CtxAttnIdeal_pre_none := fun m ρ _ => Cert.CtxAttnIdeal.Gen.frame m ρ

/-- So does the reference. -/
theorem frame_ref : Cert.quiescent_CtxAttnRefIdeal := fun m ρ _ =>
  (θ_run Cert.CtxAttnRefIdeal.defs _ _).mono (fun r h => ⟨fun c => (h c).2.2, sem_eq_zero_of_no_sems (by decide) r.2⟩)
    (Cert.CtxAttnRefIdeal.Value.run m ρ)

/-- The two named constants: the inverse roots of 192 and of 128 over the logarithm of two. -/
theorem preserves : Cert.preserves_CtxAttn_CtxAttnIdeal :=
  ⟨IdealRules.named_const.statement Cert.CtxAttnIdeal.κ "mla_scale_log2e" .f32 0x3DD53B95#32 _ rfl,
    IdealRules.named_const.statement Cert.CtxAttnIdeal.κ "na_scale_log2e" .f32 0x3E0293EE#32 _ rfl⟩

/-- The reference's run, its results named. -/
theorem run_ref (m : (ℓ : Loc Cert.CtxAttnRefIdeal.nD Cert.CtxAttnRefIdeal.τ Cert.CtxAttnRefIdeal.sig) → Buf (Elt Ideal) ℓ)
    (g : Dev Cert.CtxAttnRefIdeal.nD → PrngReg) :
    θ_run (Cert.CtxAttnRefIdeal.defs (F := Ideal)) (onTc (τ := Cert.CtxAttnRefIdeal.τ) (Cert.CtxAttnRefIdeal.main (F := Ideal)))
      ⟨m, fun _ => 0, g⟩ (fun r => ∀ c : Dev Cert.CtxAttnRefIdeal.nD,
        r.2.mem ((c.tc : Thread Cert.CtxAttnRefIdeal.nD Cert.CtxAttnRefIdeal.τ).loc Cert.CtxAttnRefIdeal.main_v39)
          = Cert.CtxAttnRefIdeal.Read.val_main_v39 (F := Ideal)
            (m ((c.tc : Thread Cert.CtxAttnRefIdeal.nD Cert.CtxAttnRefIdeal.τ).loc Cert.CtxAttnRefIdeal.main_arg0))
            (m ((c.tc : Thread Cert.CtxAttnRefIdeal.nD Cert.CtxAttnRefIdeal.τ).loc Cert.CtxAttnRefIdeal.main_arg1))
        ∧ r.2.mem ((c.tc : Thread Cert.CtxAttnRefIdeal.nD Cert.CtxAttnRefIdeal.τ).loc Cert.CtxAttnRefIdeal.main_v64)
          = Cert.CtxAttnRefIdeal.Read.val_main_v64 (F := Ideal)
            (m ((c.tc : Thread Cert.CtxAttnRefIdeal.nD Cert.CtxAttnRefIdeal.τ).loc Cert.CtxAttnRefIdeal.main_arg0))
        ∧ r.2.mem ((c.tc : Thread Cert.CtxAttnRefIdeal.nD Cert.CtxAttnRefIdeal.τ).loc Cert.CtxAttnRefIdeal.main_arg0)
          = m ((c.tc : Thread Cert.CtxAttnRefIdeal.nD Cert.CtxAttnRefIdeal.τ).loc Cert.CtxAttnRefIdeal.main_arg0)
        ∧ r.2.mem ((c.tc : Thread Cert.CtxAttnRefIdeal.nD Cert.CtxAttnRefIdeal.τ).loc Cert.CtxAttnRefIdeal.main_arg1)
          = m ((c.tc : Thread Cert.CtxAttnRefIdeal.nD Cert.CtxAttnRefIdeal.τ).loc Cert.CtxAttnRefIdeal.main_arg1)) :=
  (θ_run Cert.CtxAttnRefIdeal.defs _ _).mono
    (fun r h c => ⟨(h c).1.trans (Cert.CtxAttnRefIdeal.Read.val_main_v39_eq m c),
      (h c).2.1.trans (Cert.CtxAttnRefIdeal.Read.val_main_v64_eq m c), (h c).2.2⟩)
    (Cert.CtxAttnRefIdeal.Value.run m g)

/-- The idealized program and the reference end with the same two arrays, when the arguments are finite. -/
theorem algebraic : Cert.algebraic_CtxAttnIdeal_CtxAttnRefIdeal := by
  intro m g m' g' hpre hagree
  refine ⟨fun c => (Cert.CtxAttnIdeal.Gen.dats m 0 c).arrAt 7 Cert.CtxAttnIdeal.cfg0.N,
    fun c => (Cert.CtxAttnIdeal.Gen.dats m 0 c).arrAt 8 Cert.CtxAttnIdeal.cfg0.N, Cert.CtxAttnIdeal.Value.run_blocks m g,
    (θ_run Cert.CtxAttnRefIdeal.defs _ _).mono (fun r h c => ⟨(h c).1.trans ?_, (h c).2.1.trans ?_, (h c).2.2⟩) (run_ref m' g')⟩
  · obtain ⟨h0, h1⟩ := hagree c
    obtain ⟨hP, hK⟩ := args_real m hpre c
    rw [h0, h1]
    exact (final m c hP hK).symm
  · obtain ⟨h0, h1⟩ := hagree c
    obtain ⟨hP, hK⟩ := args_real m hpre c
    rw [h0]
    exact (final_near m c hP).symm

end Cert.CtxAttnValue

end
-- ==== Proof.lean ====
/- The claims about the calls of the layer, assembled: each is proved in its own module under Proof/. -/
module

public import proofs.«01_k».proof.Defs
public import proofs.«01_k».proof.Proof.Mla.Claims
public import proofs.«01_k».proof.Proof.MlpLast.Claims
public import proofs.«01_k».proof.Proof.MlpFirst.Claims
public import proofs.«01_k».proof.Proof.OutProj.Claims
public import proofs.«01_k».proof.Proof.OddProj.Claims
public import proofs.«01_k».proof.Proof.EvenProj.Claims
public import proofs.«01_k».proof.Proof.MlpCtx.Claims
public import proofs.«01_k».proof.Proof.OutCtx.Claims
public import proofs.«01_k».proof.Proof.OddCtx.Claims
public import proofs.«01_k».proof.Proof.EvenCtx.Claims
public import proofs.«01_k».proof.Proof.Ada.Claims
public import proofs.«01_k».proof.Proof.OddCtxLast.Claims
public import proofs.«01_k».proof.Proof.CtxAttn.Claims

@[expose] public section

noncomputable section

namespace Cert.Proof

/-- Every claim of the file. -/
theorem claim : Cert.Claim :=
  ⟨Cert.Mla.Gen.facts, Cert.MlaIdeal.Gen.facts, Cert.MlaRefIdeal.Gen.facts, Cert.MlpLast.Gen.facts, Cert.MlpLastIdeal.Gen.facts, Cert.MlpLastRefIdeal.Gen.facts, Cert.MlpFirst.Gen.facts, Cert.MlpFirstIdeal.Gen.facts, Cert.MlpFirstRefIdeal.Gen.facts, Cert.OutProj.Gen.facts, Cert.OutProjIdeal.Gen.facts, Cert.OutProjRefIdeal.Gen.facts, Cert.OddProj.Gen.facts, Cert.OddProjIdeal.Gen.facts, Cert.OddProjRefIdeal.Gen.facts, Cert.EvenProj.Gen.facts, Cert.EvenProjIdeal.Gen.facts, Cert.EvenProjRefIdeal.Gen.facts, Cert.MlpCtx.Gen.facts, Cert.MlpCtxIdeal.Gen.facts, Cert.MlpCtxRefIdeal.Gen.facts, Cert.OutCtx.Gen.facts, Cert.OutCtxIdeal.Gen.facts, Cert.OutCtxRefIdeal.Gen.facts, Cert.OddCtx.Gen.facts, Cert.OddCtxIdeal.Gen.facts, Cert.OddCtxRefIdeal.Gen.facts, Cert.EvenCtx.Gen.facts, Cert.EvenCtxIdeal.Gen.facts, Cert.EvenCtxRefIdeal.Gen.facts, Cert.Ada.Gen.facts, Cert.AdaIdeal.Gen.facts, Cert.AdaRefIdeal.Gen.facts, Cert.OddCtxLast.Gen.facts, Cert.OddCtxLastIdeal.Gen.facts, Cert.OddCtxLastRefIdeal.Gen.facts, Cert.CtxAttn.Gen.facts, Cert.CtxAttnIdeal.Gen.facts, Cert.CtxAttnRefIdeal.Gen.facts, Cert.Pre_finite.Gen.facts, Cert.Pre_finite_ctx.Gen.facts,
   Cert.MlaValue.frame, Cert.MlaValue.frame_any, Cert.MlaValue.frame_ideal, Cert.MlaValue.frame_ideal_any, Cert.MlaValue.frame_ref,
   Cert.MlpLastValue.frame, Cert.MlpLastValue.frame_ideal, Cert.MlpLastValue.frame_ref,
   Cert.MlpFirstValue.frame, Cert.MlpFirstValue.frame_ideal, Cert.MlpFirstValue.frame_ref,
   Cert.OutProjValue.frame, Cert.OutProjValue.frame_ideal, Cert.OutProjValue.frame_ref,
   Cert.OddProjValue.frame, Cert.OddProjValue.frame_ideal, Cert.OddProjValue.frame_ref,
   Cert.EvenProjValue.frame, Cert.EvenProjValue.frame_ideal, Cert.EvenProjValue.frame_ref,
   Cert.MlpCtxValue.frame, Cert.MlpCtxValue.frame_ideal, Cert.MlpCtxValue.frame_ref,
   Cert.OutCtxValue.frame, Cert.OutCtxValue.frame_ideal, Cert.OutCtxValue.frame_ref,
   Cert.OddCtxValue.frame, Cert.OddCtxValue.frame_ideal, Cert.OddCtxValue.frame_ref,
   Cert.EvenCtxValue.frame, Cert.EvenCtxValue.frame_ideal, Cert.EvenCtxValue.frame_ref,
   Cert.AdaValue.frame, Cert.AdaValue.frame_ideal, Cert.AdaValue.frame_ref,
   Cert.OddCtxLastValue.frame, Cert.OddCtxLastValue.frame_ideal, Cert.OddCtxLastValue.frame_ref,
   Cert.CtxAttnValue.frame, Cert.CtxAttnValue.frame_any, Cert.CtxAttnValue.frame_ideal, Cert.CtxAttnValue.frame_ideal_any, Cert.CtxAttnValue.frame_ref,
   Cert.MlaValue.preserves, Cert.MlaValue.algebraic,
   Cert.MlpLastValue.preserves, Cert.MlpLastValue.algebraic,
   Cert.MlpFirstValue.preserves, Cert.MlpFirstValue.algebraic,
   Cert.OutProjValue.preserves, Cert.OutProjValue.algebraic,
   Cert.OddProjValue.preserves, Cert.OddProjValue.algebraic,
   Cert.EvenProjValue.preserves, Cert.EvenProjValue.algebraic,
   Cert.MlpCtxValue.preserves, Cert.MlpCtxValue.algebraic,
   Cert.OutCtxValue.preserves, Cert.OutCtxValue.algebraic,
   Cert.OddCtxValue.preserves, Cert.OddCtxValue.algebraic,
   Cert.EvenCtxValue.preserves, Cert.EvenCtxValue.algebraic,
   Cert.AdaValue.preserves, Cert.AdaValue.algebraic,
   Cert.OddCtxLastValue.preserves, Cert.OddCtxLastValue.algebraic,
   Cert.CtxAttnValue.preserves, Cert.CtxAttnValue.algebraic⟩

end Cert.Proof

end
